-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mla_inputs [hPre_mla_inputs : Cert.Pre_mla_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_mla_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mla_inputs [hPre_mla_inputs : Cert.Pre_mla_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mla_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_sb_inputs [hPre_sb_inputs : Cert.Pre_sb_inputs.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_sb_inputs.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_sb_inputs [hPre_sb_inputs : Cert.Pre_sb_inputs.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_sb_inputs.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_prep_inputs [hPre_prep_inputs : Cert.Pre_prep_inputs.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_prep_inputs.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_prep_inputs [hPre_prep_inputs : Cert.Pre_prep_inputs.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_prep_inputs.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_mla_inputs [hKernelIdeal : Cert.KernelIdeal.Facts] [hPre_mla_inputs : Cert.Pre_mla_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mla_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_mla_inputs [hReferenceIdeal : Cert.ReferenceIdeal.Facts] [hPre_mla_inputs : Cert.Pre_mla_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mla_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_sb_inputs [hKernel5Ideal : Cert.Kernel5Ideal.Facts] [hPre_sb_inputs : Cert.Pre_sb_inputs.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_sb_inputs m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_sb_inputs [hReference5Ideal : Cert.Reference5Ideal.Facts] [hPre_sb_inputs : Cert.Pre_sb_inputs.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_sb_inputs m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_prep_inputs [hKernel6Ideal : Cert.Kernel6Ideal.Facts] [hPre_prep_inputs : Cert.Pre_prep_inputs.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_prep_inputs m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_prep_inputs [hReference6Ideal : Cert.Reference6Ideal.Facts] [hPre_prep_inputs : Cert.Pre_prep_inputs.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_prep_inputs m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_mla_inputs [hKernelIdeal : Cert.KernelIdeal.Facts] [hReferenceIdeal : Cert.ReferenceIdeal.Facts] [hPre_mla_inputs : Cert.Pre_mla_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mla_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_v21) = v2 c
          ∧ r.2.mem ((c.tc : Thread Cert.Reference2Ideal.nD Cert.Reference2Ideal.τ).loc Cert.Reference2Ideal.main_v22) = v3 c
          ∧ r.2.mem ((c.tc : Thread Cert.Reference2Ideal.nD Cert.Reference2Ideal.τ).loc Cert.Reference2Ideal.main_v23) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_sb_inputs [hKernel5Ideal : Cert.Kernel5Ideal.Facts] [hReference5Ideal : Cert.Reference5Ideal.Facts] [hPre_sb_inputs : Cert.Pre_sb_inputs.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_sb_inputs m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_prep_inputs [hKernel6Ideal : Cert.Kernel6Ideal.Facts] [hReference6Ideal : Cert.Reference6Ideal.Facts] [hPre_prep_inputs : Cert.Pre_prep_inputs.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_prep_inputs m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v41_0)) (v1 : (c : Dev Cert.Kernel6Ideal.nD) → Buf (Elt Ideal) ((c.tc : Thread Cert.Kernel6Ideal.nD Cert.Kernel6Ideal.τ).loc Cert.Kernel6Ideal.main_v41_1)) (v2 : (c : Dev Cert.Kernel6Ideal.nD) → Buf (Elt Ideal) ((c.tc : Thread Cert.Kernel6Ideal.nD Cert.Kernel6Ideal.τ).loc Cert.Kernel6Ideal.main_v41_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v41_0) = v0 c
          ∧ r.2.mem ((c.tc : Thread Cert.Kernel6Ideal.nD Cert.Kernel6Ideal.τ).loc Cert.Kernel6Ideal.main_v41_1) = v1 c
          ∧ r.2.mem ((c.tc : Thread Cert.Kernel6Ideal.nD Cert.Kernel6Ideal.τ).loc Cert.Kernel6Ideal.main_v41_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v60) = v0 c
          ∧ r.2.mem ((c.tc : Thread Cert.Reference6Ideal.nD Cert.Reference6Ideal.τ).loc Cert.Reference6Ideal.main_v94) = v1 c
          ∧ r.2.mem ((c.tc : Thread Cert.Reference6Ideal.nD Cert.Reference6Ideal.τ).loc Cert.Reference6Ideal.main_v99) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v66) = v0 c
          ∧ r.2.mem ((c.tc : Thread Cert.Reference7Ideal.nD Cert.Reference7Ideal.τ).loc Cert.Reference7Ideal.main_v54) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_mla_inputs : Cert.Pre_mla_inputs.Facts) (hPre_sb_inputs : Cert.Pre_sb_inputs.Facts) (hPre_prep_inputs : Cert.Pre_prep_inputs.Facts),
    quiescent_Kernel (hKernel := hKernel)
    ∧ quiescent_KernelIdeal (hKernelIdeal := hKernelIdeal)
    ∧ quiescent_KernelIdeal_pre_mla_inputs (hKernelIdeal := hKernelIdeal) (hPre_mla_inputs := hPre_mla_inputs)
    ∧ quiescent_ReferenceIdeal (hReferenceIdeal := hReferenceIdeal)
    ∧ quiescent_ReferenceIdeal_pre_mla_inputs (hReferenceIdeal := hReferenceIdeal) (hPre_mla_inputs := hPre_mla_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_sb_inputs (hKernel5Ideal := hKernel5Ideal) (hPre_sb_inputs := hPre_sb_inputs)
    ∧ quiescent_Reference5Ideal (hReference5Ideal := hReference5Ideal)
    ∧ quiescent_Reference5Ideal_pre_sb_inputs (hReference5Ideal := hReference5Ideal) (hPre_sb_inputs := hPre_sb_inputs)
    ∧ quiescent_Kernel6 (hKernel6 := hKernel6)
    ∧ quiescent_Kernel6Ideal (hKernel6Ideal := hKernel6Ideal)
    ∧ quiescent_Kernel6Ideal_pre_prep_inputs (hKernel6Ideal := hKernel6Ideal) (hPre_prep_inputs := hPre_prep_inputs)
    ∧ quiescent_Reference6Ideal (hReference6Ideal := hReference6Ideal)
    ∧ quiescent_Reference6Ideal_pre_prep_inputs (hReference6Ideal := hReference6Ideal) (hPre_prep_inputs := hPre_prep_inputs)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_mla_inputs (hKernelIdeal := hKernelIdeal) (hReferenceIdeal := hReferenceIdeal) (hPre_mla_inputs := hPre_mla_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_sb_inputs (hKernel5Ideal := hKernel5Ideal) (hReference5Ideal := hReference5Ideal) (hPre_sb_inputs := hPre_sb_inputs)
    ∧ preserves_Kernel6_Kernel6Ideal
    ∧ algebraic_Kernel6Ideal_Reference6Ideal_pre_prep_inputs (hKernel6Ideal := hKernel6Ideal) (hReference6Ideal := hReference6Ideal) (hPre_prep_inputs := hPre_prep_inputs)
    ∧ preserves_Kernel7_Kernel7Ideal
    ∧ algebraic_Kernel7Ideal_Reference7Ideal (hKernel7Ideal := hKernel7Ideal) (hReference7Ideal := hReference7Ideal)
-- ==== Pre_mla_inputs.lean ====
abbrev S8x32768x160 : Shape := ⟨3, ![8, 32768, 160]⟩
abbrev S16x168x2048 : Shape := ⟨3, ![16, 168, 2048]⟩
abbrev S_ : Shape := ⟨0, ![]⟩
abbrev S16x1x2048 : Shape := ⟨3, ![16, 1, 2048]⟩
abbrev S16x2048 : Shape := ⟨2, ![16, 2048]⟩

class Facts : Prop where
  bitsLt_bf16_f32 : FTy.bits .bf16 < FTy.bits .f32
  bcast_S_S8x32768x160 : S_.BroadcastsInDim S8x32768x160 (![] : Fin 0 → Fin S8x32768x160.rank)
  reducesTo_S8x32768x160_S_d0_1_2 : S8x32768x160.ReducesTo [0, 1, 2] S_
  h_S_ : 0 < S_.numel
  bcast_S_S16x168x2048 : S_.BroadcastsInDim S16x168x2048 (![] : Fin 0 → Fin S16x168x2048.rank)
  reducesTo_S16x168x2048_S_d0_1_2 : S16x168x2048.ReducesTo [0, 1, 2] S_
  slices_S16x168x2048_S16x1x2048_0_160_0 : S16x168x2048.Slices ![0, 160, 0] S16x1x2048
  shapeCasts_S16x1x2048_S16x2048 : S16x1x2048.ShapeCasts S16x2048
  bcast_S_S16x2048 : S_.BroadcastsInDim S16x2048 (![] : Fin 0 → Fin S16x2048.rank)
  reducesTo_S16x2048_S_d0_1 : S16x2048.ReducesTo [0, 1] S_

variable [Facts]

def fn {F : FTy → Type} [FloatOps F] (main_arg0 : FVec F S8x32768x160 .bf16) (main_arg1 : FVec F S16x168x2048 .bf16) : IVec S_ 1 :=
  let main_v0 : FVec F S8x32768x160 .f32 := (extf .f32 · bitsLt_bf16_f32) main_arg0
  let main_v1 : FVec F S16x168x2048 .f32 := (extf .f32 · bitsLt_bf16_f32) main_arg1
  let main_v2 : FVec F S8x32768x160 .f32 := Host.absf main_v0
  let main_cst : FVec F S_ .f32 := constant S_ .f32 0x7F800000#32
  let main_v3 : FVec F S8x32768x160 .f32 := broadcastInDim S8x32768x160 ![] bcast_S_S8x32768x160 main_cst
  let main_v4 : IVec S8x32768x160 1 := cmpf .olt main_v2 main_v3
  let main_c : IVec S_ 1 := constantI S_ 1 1#1
  let main_v5 : IVec S_ 1 := (fun x v => Host.reduce IntOp.andi x v reducesTo_S8x32768x160_S_d0_1_2 h_S_) main_v4 main_c
  let main_v6 : FVec F S16x168x2048 .f32 := Host.absf main_v1
  let main_cst_0 : FVec F S_ .f32 := constant S_ .f32 0x7F800000#32
  let main_v7 : FVec F S16x168x2048 .f32 := broadcastInDim S16x168x2048 ![] bcast_S_S16x168x2048 main_cst_0
  let main_v8 : IVec S16x168x2048 1 := cmpf .olt main_v6 main_v7
  let main_c_1 : IVec S_ 1 := constantI S_ 1 1#1
  let main_v9 : IVec S_ 1 := (fun x v => Host.reduce IntOp.andi x v reducesTo_S16x168x2048_S_d0_1_2 h_S_) main_v8 main_c_1
  let main_v10 : IVec S_ 1 := andi main_v5 main_v9
  let main_v11 : FVec F S16x1x2048 .f32 := (extractStridedSlice S16x1x2048 ![0, 160, 0] · slices_S16x168x2048_S16x1x2048_0_160_0) main_v1
  let main_v12 : FVec F S16x2048 .f32 := shapeCast S16x2048 main_v11 shapeCasts_S16x1x2048_S16x2048
  let main_cst_2 : FVec F S_ .f32 := constant S_ .f32 0x3F800000#32
  let main_v13 : FVec F S16x2048 .f32 := broadcastInDim S16x2048 ![] bcast_S_S16x2048 main_cst_2
  let main_v14 : IVec S16x2048 1 := cmpf .oeq main_v12 main_v13
  let main_c_3 : IVec S_ 1 := constantI S_ 1 1#1
  let main_v15 : IVec S_ 1 := (fun x v => Host.reduce IntOp.andi x v reducesTo_S16x2048_S_d0_1 h_S_) main_v14 main_c_3
  let main_v16 : IVec S_ 1 := andi main_v10 main_v15
  main_v16
-- ==== Pre_prep_inputs.lean ====
abbrev S32768x4480 : Shape := ⟨2, ![32768, 4480]⟩
abbrev S16x192x2048 : Shape := ⟨3, ![16, 192, 2048]⟩
abbrev S256 : Shape := ⟨1, ![256]⟩
abbrev S256x768 : Shape := ⟨2, ![256, 768]⟩
abbrev S128 : Shape := ⟨1, ![128]⟩
abbrev S128x8x64 : Shape := ⟨3, ![128, 8, 64]⟩
abbrev S256x8x96 : Shape := ⟨3, ![256, 8, 96]⟩
abbrev S256x8x16 : Shape := ⟨3, ![256, 8, 16]⟩
abbrev S32768x256 : Shape := ⟨2, ![32768, 256]⟩
abbrev S_ : Shape := ⟨0, ![]⟩
abbrev S16x16x2048 : Shape := ⟨3, ![16, 16, 2048]⟩

class Facts : Prop where
  shapeCasts_S256x768_S256x8x96 : S256x768.ShapeCasts S256x8x96
  slices_S256x8x96_S256x8x16_0_0_80 : S256x8x96.Slices ![0, 0, 80] S256x8x16
  slices_S32768x4480_S32768x256_0_4096 : S32768x4480.Slices ![0, 4096] S32768x256
  bcast_S_S32768x256 : S_.BroadcastsInDim S32768x256 (![] : Fin 0 → Fin S32768x256.rank)
  reducesTo_S32768x256_S_d0_1 : S32768x256.ReducesTo [0, 1] S_
  h_S_ : 0 < S_.numel
  bcast_S_S256 : S_.BroadcastsInDim S256 (![] : Fin 0 → Fin S256.rank)
  reducesTo_S256_S_d0 : S256.ReducesTo [0] S_
  bcast_S_S256x8x16 : S_.BroadcastsInDim S256x8x16 (![] : Fin 0 → Fin S256x8x16.rank)
  reducesTo_S256x8x16_S_d0_1_2 : S256x8x16.ReducesTo [0, 1, 2] S_
  slices_S16x192x2048_S16x16x2048_0_160_0 : S16x192x2048.Slices ![0, 160, 0] S16x16x2048
  slices_S16x192x2048_S16x16x2048_0_144_0 : S16x192x2048.Slices ![0, 144, 0] S16x16x2048
  reducesTo_S16x16x2048_S_d0_1_2 : S16x16x2048.ReducesTo [0, 1, 2] S_
  slices_S16x192x2048_S16x16x2048_0_176_0 : S16x192x2048.Slices ![0, 176, 0] S16x16x2048
  slices_S16x192x2048_S16x16x2048_0_128_0 : S16x192x2048.Slices ![0, 128, 0] S16x16x2048

variable [Facts]

def fn_part1 {F : FTy → Type} [FloatOps F] (main_arg1 : FVec F S16x192x2048 .f32) (main_v16 : IVec S_ 1) (main_v17 : FVec F S16x16x2048 .f32) : IVec S_ 1 :=
  let main_v18 : FVec F S16x16x2048 .f32 := (extractStridedSlice S16x16x2048 ![0, 144, 0] · slices_S16x192x2048_S16x16x2048_0_144_0) main_arg1
  let main_v19 : FVec F S16x16x2048 .f32 := Host.negf main_v18
  let main_v20 : IVec S16x16x2048 1 := cmpf .oeq main_v17 main_v19
  let main_c_4 : IVec S_ 1 := constantI S_ 1 1#1
  let main_v21 : IVec S_ 1 := (fun x v => Host.reduce IntOp.andi x v reducesTo_S16x16x2048_S_d0_1_2 h_S_) main_v20 main_c_4
  let main_v22 : IVec S_ 1 := andi main_v16 main_v21
  let main_v23 : FVec F S16x16x2048 .f32 := (extractStridedSlice S16x16x2048 ![0, 176, 0] · slices_S16x192x2048_S16x16x2048_0_176_0) main_arg1
  let main_v24 : FVec F S16x16x2048 .f32 := (extractStridedSlice S16x16x2048 ![0, 128, 0] · slices_S16x192x2048_S16x16x2048_0_128_0) main_arg1
  let main_v25 : IVec S16x16x2048 1 := cmpf .oeq main_v23 main_v24
  let main_c_5 : IVec S_ 1 := constantI S_ 1 1#1
  let main_v26 : IVec S_ 1 := (fun x v => Host.reduce IntOp.andi x v reducesTo_S16x16x2048_S_d0_1_2 h_S_) main_v25 main_c_5
  let main_v27 : IVec S_ 1 := andi main_v22 main_v26
  main_v27

def fn {F : FTy → Type} [FloatOps F] (main_arg0 : FVec F S32768x4480 .f32) (main_arg1 : FVec F S16x192x2048 .f32) (main_arg2 : FVec F S256 .f32) (main_arg3 : FVec F S256x768 .f32) (main_arg4 : FVec F S128 .f32) (main_arg5 : FVec F S128x8x64 .f32) : IVec S_ 1 :=
  let main_v0 : FVec F S256x8x96 .f32 := shapeCast S256x8x96 main_arg3 shapeCasts_S256x768_S256x8x96
  let main_v1 : FVec F S256x8x16 .f32 := (extractStridedSlice S256x8x16 ![0, 0, 80] · slices_S256x8x96_S256x8x16_0_0_80) main_v0
  let main_v2 : FVec F S32768x256 .f32 := (extractStridedSlice S32768x256 ![0, 4096] · slices_S32768x4480_S32768x256_0_4096) main_arg0
  let main_v3 : FVec F S32768x256 .f32 := Host.absf main_v2
  let main_cst : FVec F S_ .f32 := constant S_ .f32 0x7F800000#32
  let main_v4 : FVec F S32768x256 .f32 := broadcastInDim S32768x256 ![] bcast_S_S32768x256 main_cst
  let main_v5 : IVec S32768x256 1 := cmpf .olt main_v3 main_v4
  let main_c : IVec S_ 1 := constantI S_ 1 1#1
  let main_v6 : IVec S_ 1 := (fun x v => Host.reduce IntOp.andi x v reducesTo_S32768x256_S_d0_1 h_S_) main_v5 main_c
  let main_v7 : FVec F S256 .f32 := Host.absf main_arg2
  let main_cst_0 : FVec F S_ .f32 := constant S_ .f32 0x7F800000#32
  let main_v8 : FVec F S256 .f32 := broadcastInDim S256 ![] bcast_S_S256 main_cst_0
  let main_v9 : IVec S256 1 := cmpf .olt main_v7 main_v8
  let main_c_1 : IVec S_ 1 := constantI S_ 1 1#1
  let main_v10 : IVec S_ 1 := (fun x v => Host.reduce IntOp.andi x v reducesTo_S256_S_d0 h_S_) main_v9 main_c_1
  let main_v11 : IVec S_ 1 := andi main_v6 main_v10
  let main_v12 : FVec F S256x8x16 .f32 := Host.absf main_v1
  let main_cst_2 : FVec F S_ .f32 := constant S_ .f32 0x7F800000#32
  let main_v13 : FVec F S256x8x16 .f32 := broadcastInDim S256x8x16 ![] bcast_S_S256x8x16 main_cst_2
  let main_v14 : IVec S256x8x16 1 := cmpf .olt main_v12 main_v13
  let main_c_3 : IVec S_ 1 := constantI S_ 1 1#1
  let main_v15 : IVec S_ 1 := (fun x v => Host.reduce IntOp.andi x v reducesTo_S256x8x16_S_d0_1_2 h_S_) main_v14 main_c_3
  let main_v16 : IVec S_ 1 := andi main_v11 main_v15
  let main_v17 : FVec F S16x16x2048 .f32 := (extractStridedSlice S16x16x2048 ![0, 160, 0] · slices_S16x192x2048_S16x16x2048_0_160_0) main_arg1
  fn_part1 (F := F) main_arg1 main_v16 main_v17
-- ==== Pre_sb_inputs.lean ====
abbrev S32768x4480 : Shape := ⟨2, ![32768, 4480]⟩
abbrev S16x256x2048 : Shape := ⟨3, ![16, 256, 2048]⟩
abbrev S32768x512 : Shape := ⟨2, ![32768, 512]⟩
abbrev S_ : Shape := ⟨0, ![]⟩
abbrev S16x128x2048 : Shape := ⟨3, ![16, 128, 2048]⟩

class Facts : Prop where
  slices_S32768x4480_S32768x512_0_3584 : S32768x4480.Slices ![0, 3584] S32768x512
  bcast_S_S32768x512 : S_.BroadcastsInDim S32768x512 (![] : Fin 0 → Fin S32768x512.rank)
  reducesTo_S32768x512_S_d0_1 : S32768x512.ReducesTo [0, 1] S_
  h_S_ : 0 < S_.numel
  slices_S16x256x2048_S16x128x2048_0_0_0 : S16x256x2048.Slices ![0, 0, 0] S16x128x2048
  bcast_S_S16x128x2048 : S_.BroadcastsInDim S16x128x2048 (![] : Fin 0 → Fin S16x128x2048.rank)
  reducesTo_S16x128x2048_S_d0_1_2 : S16x128x2048.ReducesTo [0, 1, 2] S_

variable [Facts]

def fn {F : FTy → Type} [FloatOps F] (main_arg0 : FVec F S32768x4480 .f32) (main_arg1 : FVec F S16x256x2048 .f32) : IVec S_ 1 :=
  let main_v0 : FVec F S32768x512 .f32 := (extractStridedSlice S32768x512 ![0, 3584] · slices_S32768x4480_S32768x512_0_3584) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_c : IVec S_ 1 := constantI S_ 1 1#1
  let main_v4 : IVec S_ 1 := (fun x v => Host.reduce IntOp.andi x v reducesTo_S32768x512_S_d0_1 h_S_) main_v3 main_c
  let main_v5 : FVec F S16x128x2048 .f32 := (extractStridedSlice S16x128x2048 ![0, 0, 0] · slices_S16x256x2048_S16x128x2048_0_0_0) main_arg1
  let main_v6 : FVec F S16x128x2048 .f32 := Host.absf main_v5
  let main_cst_0 : FVec F S_ .f32 := constant S_ .f32 0x7F800000#32
  let main_v7 : FVec F S16x128x2048 .f32 := broadcastInDim S16x128x2048 ![] bcast_S_S16x128x2048 main_cst_0
  let main_v8 : IVec S16x128x2048 1 := cmpf .olt main_v6 main_v7
  let main_c_1 : IVec S_ 1 := constantI S_ 1 1#1
  let main_v9 : IVec S_ 1 := (fun x v => Host.reduce IntOp.andi x v reducesTo_S16x128x2048_S_d0_1_2 h_S_) main_v8 main_c_1
  let main_v10 : IVec S_ 1 := andi main_v4 main_v9
  main_v10
-- ==== Kernel.lean ====
abbrev S8x32768x160 : Shape := ⟨3, ![8, 32768, 160]⟩
abbrev S16x168x2048 : Shape := ⟨3, ![16, 168, 2048]⟩
abbrev S8x32768x128 : Shape := ⟨3, ![8, 32768, 128]⟩
abbrev S8x256x160 : Shape := ⟨3, ![8, 256, 160]⟩
abbrev S1x168x2048 : Shape := ⟨3, ![1, 168, 2048]⟩
abbrev S8x256x128 : Shape := ⟨3, ![8, 256, 128]⟩
abbrev S2048x1 : Shape := ⟨2, ![2048, 1]⟩
abbrev S2048x168 : Shape := ⟨2, ![2048, 168]⟩
abbrev S2048x160 : Shape := ⟨2, ![2048, 160]⟩
abbrev S1x168x512 : Shape := ⟨3, ![1, 168, 512]⟩
abbrev S168x512 : Shape := ⟨2, ![168, 512]⟩
abbrev S512x160 : Shape := ⟨2, ![512, 160]⟩
abbrev S160x512 : Shape := ⟨2, ![160, 512]⟩
abbrev S512x512 : Shape := ⟨2, ![512, 512]⟩
abbrev S512x1 : Shape := ⟨2, ![512, 1]⟩
abbrev S512x128 : Shape := ⟨2, ![512, 128]⟩
abbrev S512 : Shape := ⟨1, ![512]⟩
abbrev S512x168 : Shape := ⟨2, ![512, 168]⟩
abbrev S1x256x1 : Shape := ⟨3, ![1, 256, 1]⟩
abbrev S1x1x512 : Shape := ⟨3, ![1, 1, 512]⟩
abbrev S1x256x512 : Shape := ⟨3, ![1, 256, 512]⟩
abbrev S2x256x512 : Shape := ⟨3, ![2, 256, 512]⟩
abbrev S2048x128 : Shape := ⟨2, ![2048, 128]⟩

abbrev nBuf : Space → Nat
  | .hbm => 3
  | .vmem => 8
  | .smem => 0
  | _ => 0

abbrev bufTy : (tb : Table) → Fin (tcTables nBuf tb) → BufTy
  | .hbm, ⟨0, _⟩ => ⟨S8x32768x160, .bf16⟩
  | .hbm, ⟨1, _⟩ => ⟨S16x168x2048, .bf16⟩
  | .hbm, ⟨2, _⟩ => ⟨S8x32768x128, .bf16⟩
  | .local _ .vmem, ⟨0, _⟩ => ⟨S8x256x160, .bf16⟩
  | .local _ .vmem, ⟨1, _⟩ => ⟨S8x256x160, .bf16⟩
  | .local _ .vmem, ⟨2, _⟩ => ⟨S1x168x2048, .bf16⟩
  | .local _ .vmem, ⟨3, _⟩ => ⟨S1x168x2048, .bf16⟩
  | .local _ .vmem, ⟨4, _⟩ => ⟨S8x256x128, .bf16⟩
  | .local _ .vmem, ⟨5, _⟩ => ⟨S8x256x128, .bf16⟩
  | .local _ .vmem, ⟨6, _⟩ => ⟨S2048x1, .f32⟩
  | .local _ .vmem, ⟨7, _⟩ => ⟨S2048x168, .f32⟩
  | _, _ => ⟨S8x32768x160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_12 : BitVec 32 := 0#32
  let arg1 : BitVec 32 := BitVec.ofNat 32 (i 1).val
  let c256_i32 : BitVec 32 := 256#32
  let v10 : BitVec 32 := Scalar.muli arg1 c256_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v10 c512_i32
  let c0_i32_10 : BitVec 32 := 0#32
  let v24 : BitVec 1 := Scalar.cmpi .ne v23 c0_i32_10
  let v25 : BitVec 1 := Scalar.andi v22 v24
  let v11 : BitVec 32 := Scalar.divsi v10 c512_i32
  let c1_i32 : BitVec 32 := 1#32
  let v26 : BitVec 32 := Scalar.subi v11 c1_i32
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_14 : BitVec 32 := 1#32
  ⟨c0_i32_12, v32, c1_i32_14⟩
def k0_mult1 (i : grid0.Coords) (k0_t1 : Fin (k0_t1_loop i).trips) : BitVec 32 :=
  let c0_i32_12 : BitVec 32 := 0#32
  let c1_i32_14 : BitVec 32 := 1#32
  let arg7 : BitVec 32 := Scf.iv c0_i32_12 c1_i32_14 k0_t1
  let c512_i32_70 : BitVec 32 := 512#32
  let v204 : BitVec 32 := Scalar.muli arg7 c512_i32_70
  v204
def k0_off1 (i : grid0.Coords) (k0_t1 : Fin (k0_t1_loop i).trips) : Fin 3 → Nat :=
  let c0_71 : Index := 0#32
  let c0_72 : Index := 0#32
  let c0_i32_12 : BitVec 32 := 0#32
  let c1_i32_14 : BitVec 32 := 1#32
  let arg7 : BitVec 32 := Scf.iv c0_i32_12 c1_i32_14 k0_t1
  let c512_i32_70 : BitVec 32 := 512#32
  let v204 : BitVec 32 := Scalar.muli arg7 c512_i32_70
  let v205 : BitVec 32 := v204
  let v206 : Index := Scalar.indexCast v205
  ![0, 0, v206.toNat]
@[reducible] def k0_t2_loop (i : grid0.Coords) : Scf.Loop 32 :=
  let c0_i32_12 : BitVec 32 := 0#32
  let arg1 : BitVec 32 := BitVec.ofNat 32 (i 1).val
  let c256_i32 : BitVec 32 := 256#32
  let v10 : BitVec 32 := Scalar.muli arg1 c256_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v10 c512_i32
  let c0_i32_10 : BitVec 32 := 0#32
  let v24 : BitVec 1 := Scalar.cmpi .ne v23 c0_i32_10
  let v25 : BitVec 1 := Scalar.andi v22 v24
  let v11 : BitVec 32 := Scalar.divsi v10 c512_i32
  let c1_i32 : BitVec 32 := 1#32
  let v26 : BitVec 32 := Scalar.subi v11 c1_i32
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let v29 : BitVec 32 := Scalar.addi c0_i32_12 v28
  let c1_i32_15 : BitVec 32 := 1#32
  ⟨v32, v29, c1_i32_15⟩
def k0_mult2 (i : grid0.Coords) (k0_t2 : Fin (k0_t2_loop i).trips) : BitVec 32 :=
  let c0_i32_12 : BitVec 32 := 0#32
  let arg1 : BitVec 32 := BitVec.ofNat 32 (i 1).val
  let c256_i32 : BitVec 32 := 256#32
  let v10 : BitVec 32 := Scalar.muli arg1 c256_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v10 c512_i32
  let c0_i32_10 : BitVec 32 := 0#32
  let v24 : BitVec 1 := Scalar.cmpi .ne v23 c0_i32_10
  let v25 : BitVec 1 := Scalar.andi v22 v24
  let v11 : BitVec 32 := Scalar.divsi v10 c512_i32
  let c1_i32 : BitVec 32 := 1#32
  let v26 : BitVec 32 := Scalar.subi v11 c1_i32
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg7 : BitVec 32 := Scf.iv v32 c1_i32_15 k0_t2
  let c512_i32_70 : BitVec 32 := 512#32
  let v204 : BitVec 32 := Scalar.muli arg7 c512_i32_70
  v204
def k0_off2 (i : grid0.Coords) (k0_t2 : Fin (k0_t2_loop i).trips) : Fin 3 → Nat :=
  let c0_71 : Index := 0#32
  let c0_72 : Index := 0#32
  let c0_i32_12 : BitVec 32 := 0#32
  let arg1 : BitVec 32 := BitVec.ofNat 32 (i 1).val
  let c256_i32 : BitVec 32 := 256#32
  let v10 : BitVec 32 := Scalar.muli arg1 c256_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v10 c512_i32
  let c0_i32_10 : BitVec 32 := 0#32
  let v24 : BitVec 1 := Scalar.cmpi .ne v23 c0_i32_10
  let v25 : BitVec 1 := Scalar.andi v22 v24
  let v11 : BitVec 32 := Scalar.divsi v10 c512_i32
  let c1_i32 : BitVec 32 := 1#32
  let v26 : BitVec 32 := Scalar.subi v11 c1_i32
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg7 : BitVec 32 := Scf.iv v32 c1_i32_15 k0_t2
  let c512_i32_70 : BitVec 32 := 512#32
  let v204 : BitVec 32 := Scalar.muli arg7 c512_i32_70
  let v205 : BitVec 32 := v204
  let v206 : Index := Scalar.indexCast v205
  ![0, 0, v206.toNat]
def k0_mult3 (i : grid0.Coords) : BitVec 32 :=
  let arg1 : BitVec 32 := BitVec.ofNat 32 (i 1).val
  let c256_i32 : BitVec 32 := 256#32
  let v10 : BitVec 32 := Scalar.muli arg1 c256_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v10 c512_i32
  let c0_i32_10 : BitVec 32 := 0#32
  let v24 : BitVec 1 := Scalar.cmpi .ne v23 c0_i32_10
  let v25 : BitVec 1 := Scalar.andi v22 v24
  let v11 : BitVec 32 := Scalar.divsi v10 c512_i32
  let c1_i32 : BitVec 32 := 1#32
  let v26 : BitVec 32 := Scalar.subi v11 c1_i32
  let v27 : BitVec 32 := Scalar.select v25 v26 v11
  let c512_i32_16 : BitVec 32 := 512#32
  let v33 : BitVec 32 := Scalar.muli v27 c512_i32_16
  v33
def k0_off3 (i : grid0.Coords) : Fin 3 → Nat :=
  let c0_17 : Index := 0#32
  let c0_18 : Index := 0#32
  let arg1 : BitVec 32 := BitVec.ofNat 32 (i 1).val
  let c256_i32 : BitVec 32 := 256#32
  let v10 : BitVec 32 := Scalar.muli arg1 c256_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v10 c512_i32
  let c0_i32_10 : BitVec 32 := 0#32
  let v24 : BitVec 1 := Scalar.cmpi .ne v23 c0_i32_10
  let v25 : BitVec 1 := Scalar.andi v22 v24
  let v11 : BitVec 32 := Scalar.divsi v10 c512_i32
  let c1_i32 : BitVec 32 := 1#32
  let v26 : BitVec 32 := Scalar.subi v11 c1_i32
  let v27 : BitVec 32 := Scalar.select v25 v26 v11
  let c512_i32_16 : BitVec 32 := 512#32
  let v33 : BitVec 32 := Scalar.muli v27 c512_i32_16
  let v34 : BitVec 32 := v33
  let v35 : Index := Scalar.indexCast v34
  ![0, 0, v35.toNat]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S8x256x160 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x168x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x32768x160 : Shape := ⟨3, ![8, 32768, 160]⟩
abbrev S16x168x2048 : Shape := ⟨3, ![16, 168, 2048]⟩
abbrev S8x32768x128 : Shape := ⟨3, ![8, 32768, 128]⟩
abbrev S8x16x2048x128 : Shape := ⟨4, ![8, 16, 2048, 128]⟩
abbrev S8x32768x32 : Shape := ⟨3, ![8, 32768, 32]⟩
abbrev S8x16x2048x32 : Shape := ⟨4, ![8, 16, 2048, 32]⟩
abbrev S16x128x2048 : Shape := ⟨3, ![16, 128, 2048]⟩
abbrev S16x2048x128 : Shape := ⟨3, ![16, 2048, 128]⟩
abbrev S16x32x2048 : Shape := ⟨3, ![16, 32, 2048]⟩
abbrev S16x2048x32 : Shape := ⟨3, ![16, 2048, 32]⟩
abbrev S2048 : Shape := ⟨1, ![2048]⟩
abbrev S16x8x2048x2048 : Shape := ⟨4, ![16, 8, 2048, 2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S16x8x2048 : Shape := ⟨3, ![16, 8, 2048]⟩
abbrev S16x8x2048x1 : Shape := ⟨4, ![16, 8, 2048, 1]⟩
abbrev S16x128x8x2048 : Shape := ⟨4, ![16, 128, 8, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8x32768x160, .bf16⟩
  | .hbm, ⟨1, _⟩ => ⟨S16x168x2048, .bf16⟩
  | .hbm, ⟨2, _⟩ => ⟨S8x32768x128, .bf16⟩
  | .hbm, ⟨3, _⟩ => ⟨S8x32768x128, .f32⟩
  | .hbm, ⟨4, _⟩ => ⟨S8x16x2048x128, .f32⟩
  | .hbm, ⟨5, _⟩ => ⟨S8x32768x32, .bf16⟩
  | .hbm, ⟨6, _⟩ => ⟨S8x32768x32, .f32⟩
  | .hbm, ⟨7, _⟩ => ⟨S8x16x2048x32, .f32⟩
  | .hbm, ⟨8, _⟩ => ⟨S16x128x2048, .bf16⟩
  | .hbm, ⟨9, _⟩ => ⟨S16x128x2048, .f32⟩
  | .hbm, ⟨10, _⟩ => ⟨S16x2048x128, .f32⟩
  | .hbm, ⟨11, _⟩ => ⟨S16x32x2048, .bf16⟩
  | .hbm, ⟨12, _⟩ => ⟨S16x32x2048, .f32⟩
  | .hbm, ⟨13, _⟩ => ⟨S16x2048x32, .f32⟩
  | .hbm, ⟨14, _⟩ => ⟨S2048, .i32⟩
  | .hbm, ⟨15, _⟩ => ⟨S16x8x2048x2048, .f32⟩
  | .hbm, ⟨16, _⟩ => ⟨S16x8x2048x2048, .f32⟩
  | .hbm, ⟨17, _⟩ => ⟨S16x8x2048x2048, .f32⟩
  | .hbm, ⟨18, _⟩ => ⟨S1x2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S_, .f32⟩
  | .hbm, ⟨24, _⟩ => ⟨S_, .f32⟩
  | .hbm, ⟨25, _⟩ => ⟨S16x8x2048x2048, .i1⟩
  | .hbm, ⟨26, _⟩ => ⟨S16x8x2048x2048, .f32⟩
  | .hbm, ⟨27, _⟩ => ⟨S16x8x2048x2048, .f32⟩
  | .hbm, ⟨28, _⟩ => ⟨S_, .f32⟩
  | .hbm, ⟨29, _⟩ => ⟨S16x8x2048, .f32⟩
  | .hbm, ⟨30, _⟩ => ⟨S_, .f32⟩
  | .hbm, ⟨31, _⟩ => ⟨S16x8x2048, .f32⟩
  | .hbm, ⟨32, _⟩ => ⟨S16x8x2048, .f32⟩
  | .hbm, ⟨33, _⟩ => ⟨S16x8x2048x1, .f32⟩
  | .hbm, ⟨34, _⟩ => ⟨S16x8x2048x2048, .f32⟩
  | .hbm, ⟨35, _⟩ => ⟨S16x8x2048x2048, .f32⟩
  | .hbm, ⟨36, _⟩ => ⟨S16x8x2048x2048, .f32⟩
  | .hbm, ⟨37, _⟩ => ⟨S_, .f32⟩
  | .hbm, ⟨38, _⟩ => ⟨S16x8x2048, .f32⟩
  | .hbm, ⟨39, _⟩ => ⟨S16x8x2048x1, .f32⟩
  | .hbm, ⟨40, _⟩ => ⟨S16x8x2048x2048, .f32⟩
  | .hbm, ⟨41, _⟩ => ⟨S16x8x2048x2048, .f32⟩
  | .hbm, ⟨42, _⟩ => ⟨S_, .f32⟩
  | .hbm, ⟨43, _⟩ => ⟨S_, .f32⟩
  | .hbm, ⟨44, _⟩ => ⟨S16x8x2048x2048, .i1⟩
  | .hbm, ⟨45, _⟩ => ⟨S16x8x2048x2048, .f32⟩
  | .hbm, ⟨46, _⟩ => ⟨S16x8x2048x2048, .f32⟩
  | .hbm, ⟨47, _⟩ => ⟨S16x128x8x2048, .f32⟩
  | .hbm, ⟨48, _⟩ => ⟨S8x16x2048x128, .f32⟩
  | .hbm, ⟨49, _⟩ => ⟨S8x32768x128, .f32⟩
  | .hbm, ⟨50, _⟩ => ⟨S8x32768x128, .bf16⟩
  | _, _ => ⟨S8x32768x160, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel2.lean ====
abbrev S32768x1024 : Shape := ⟨2, ![32768, 1024]⟩
abbrev S1x1024 : Shape := ⟨2, ![1, 1024]⟩
abbrev S4480x1024 : Shape := ⟨2, ![4480, 1024]⟩
abbrev S832x1024 : Shape := ⟨2, ![832, 1024]⟩
abbrev S32768x4480 : Shape := ⟨2, ![32768, 4480]⟩
abbrev S16x256x2048 : Shape := ⟨3, ![16, 256, 2048]⟩
abbrev S16x128x2048 : Shape := ⟨3, ![16, 128, 2048]⟩
abbrev S16x192x2048 : Shape := ⟨3, ![16, 192, 2048]⟩
abbrev S256x1024 : Shape := ⟨2, ![256, 1024]⟩
abbrev S256x4480 : Shape := ⟨2, ![256, 4480]⟩
abbrev S1x256x256 : Shape := ⟨3, ![1, 256, 256]⟩
abbrev S1x128x256 : Shape := ⟨3, ![1, 128, 256]⟩
abbrev S1x192x256 : Shape := ⟨3, ![1, 192, 256]⟩
abbrev S256 : Shape := ⟨1, ![256]⟩
abbrev S256x1 : Shape := ⟨2, ![256, 1]⟩
abbrev S832x256 : Shape := ⟨2, ![832, 256]⟩
abbrev S256x256 : Shape := ⟨2, ![256, 256]⟩
abbrev S128x256 : Shape := ⟨2, ![128, 256]⟩
abbrev S192x256 : Shape := ⟨2, ![192, 256]⟩

abbrev nBuf : Space → Nat
  | .hbm => 9
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S4480x1024, .bf16⟩
  | .hbm, ⟨3, _⟩ => ⟨S832x1024, .bf16⟩
  | .hbm, ⟨4, _⟩ => ⟨S32768x4480, .f32⟩
  | .hbm, ⟨5, _⟩ => ⟨S16x256x2048, .f32⟩
  | .hbm, ⟨6, _⟩ => ⟨S16x256x2048, .f32⟩
  | .hbm, ⟨7, _⟩ => ⟨S16x128x2048, .f32⟩
  | .hbm, ⟨8, _⟩ => ⟨S16x192x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4480x1024, .bf16⟩
  | .local _ .vmem, ⟨4, _⟩ => ⟨S832x1024, .bf16⟩
  | .local _ .vmem, ⟨5, _⟩ => ⟨S256x4480, .f32⟩
  | .local _ .vmem, ⟨6, _⟩ => ⟨S256x4480, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x128x256, .f32⟩
  | .local _ .vmem, ⟨12, _⟩ => ⟨S1x128x256, .f32⟩
  | .local _ .vmem, ⟨13, _⟩ => ⟨S1x192x256, .f32⟩
  | .local _ .vmem, ⟨14, _⟩ => ⟨S1x192x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4480x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S832x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4480 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x192x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S32768x1024 : Shape := ⟨2, ![32768, 1024]⟩
abbrev S1x1024 : Shape := ⟨2, ![1, 1024]⟩
abbrev S4480x1024 : Shape := ⟨2, ![4480, 1024]⟩
abbrev S832x1024 : Shape := ⟨2, ![832, 1024]⟩
abbrev S_ : Shape := ⟨0, ![]⟩
abbrev S32768 : Shape := ⟨1, ![32768]⟩
abbrev S32768x1 : Shape := ⟨2, ![32768, 1]⟩
abbrev S1024x4480 : Shape := ⟨2, ![1024, 4480]⟩
abbrev S32768x4480 : Shape := ⟨2, ![32768, 4480]⟩
abbrev S1024x832 : Shape := ⟨2, ![1024, 832]⟩
abbrev S32768x832 : Shape := ⟨2, ![32768, 832]⟩
abbrev S16x2048x832 : Shape := ⟨3, ![16, 2048, 832]⟩
abbrev S16x832x2048 : Shape := ⟨3, ![16, 832, 2048]⟩
abbrev S16x256x2048 : Shape := ⟨3, ![16, 256, 2048]⟩
abbrev S16x128x2048 : Shape := ⟨3, ![16, 128, 2048]⟩
abbrev S16x192x2048 : Shape := ⟨3, ![16, 192, 2048]⟩

abbrev nBuf : Space → Nat
  | .hbm => 31
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S4480x1024, .bf16⟩
  | .hbm, ⟨3, _⟩ => ⟨S832x1024, .bf16⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S4480x1024, .f32⟩
  | .hbm, ⟨20, _⟩ => ⟨S1024x4480, .f32⟩
  | .hbm, ⟨21, _⟩ => ⟨S32768x4480, .f32⟩
  | .hbm, ⟨22, _⟩ => ⟨S832x1024, .f32⟩
  | .hbm, ⟨23, _⟩ => ⟨S1024x832, .f32⟩
  | .hbm, ⟨24, _⟩ => ⟨S32768x832, .f32⟩
  | .hbm, ⟨25, _⟩ => ⟨S16x2048x832, .f32⟩
  | .hbm, ⟨26, _⟩ => ⟨S16x832x2048, .f32⟩
  | .hbm, ⟨27, _⟩ => ⟨S16x256x2048, .f32⟩
  | .hbm, ⟨28, _⟩ => ⟨S16x256x2048, .f32⟩
  | .hbm, ⟨29, _⟩ => ⟨S16x128x2048, .f32⟩
  | .hbm, ⟨30, _⟩ => ⟨S16x192x2048, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel3.lean ====
abbrev S8x32768x128 : Shape := ⟨3, ![8, 32768, 128]⟩
abbrev S32768x512 : Shape := ⟨2, ![32768, 512]⟩
abbrev S32768x4480 : Shape := ⟨2, ![32768, 4480]⟩
abbrev S32768x1024 : Shape := ⟨2, ![32768, 1024]⟩
abbrev S8x64x128 : Shape := ⟨3, ![8, 64, 128]⟩
abbrev S512x1024 : Shape := ⟨2, ![512, 1024]⟩
abbrev S1024x1024 : Shape := ⟨2, ![1024, 1024]⟩
abbrev S8x256x128 : Shape := ⟨3, ![8, 256, 128]⟩
abbrev S256x512 : Shape := ⟨2, ![256, 512]⟩
abbrev S256x3072 : Shape := ⟨2, ![256, 3072]⟩
abbrev S256x1024 : Shape := ⟨2, ![256, 1024]⟩
abbrev S1x256x128 : Shape := ⟨3, ![1, 256, 128]⟩
abbrev S256x128 : Shape := ⟨2, ![256, 128]⟩
abbrev S1x64x128 : Shape := ⟨3, ![1, 64, 128]⟩
abbrev S64x128 : Shape := ⟨2, ![64, 128]⟩
abbrev S256x64 : Shape := ⟨2, ![256, 64]⟩

abbrev nBuf : Space → Nat
  | .hbm => 11
  | .vmem => 17
  | .smem => 0
  | _ => 0

abbrev bufTy : (tb : Table) → Fin (tcTables nBuf tb) → BufTy
  | .hbm, ⟨0, _⟩ => ⟨S8x32768x128, .bf16⟩
  | .hbm, ⟨1, _⟩ => ⟨S32768x512, .bf16⟩
  | .hbm, ⟨2, _⟩ => ⟨S32768x512, .bf16⟩
  | .hbm, ⟨3, _⟩ => ⟨S32768x4480, .f32⟩
  | .hbm, ⟨4, _⟩ => ⟨S32768x1024, .f32⟩
  | .hbm, ⟨5, _⟩ => ⟨S8x64x128, .bf16⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S32768x1024, .f32⟩
  | .local _ .vmem, ⟨0, _⟩ => ⟨S8x256x128, .bf16⟩
  | .local _ .vmem, ⟨1, _⟩ => ⟨S8x256x128, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x3072, .f32⟩
  | .local _ .vmem, ⟨7, _⟩ => ⟨S256x3072, .f32⟩
  | .local _ .vmem, ⟨8, _⟩ => ⟨S256x1024, .f32⟩
  | .local _ .vmem, ⟨9, _⟩ => ⟨S256x1024, .f32⟩
  | .local _ .vmem, ⟨10, _⟩ => ⟨S8x64x128, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | _, _ => ⟨S8x32768x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S8x32768x128 : Shape := ⟨3, ![8, 32768, 128]⟩
abbrev S32768x512 : Shape := ⟨2, ![32768, 512]⟩
abbrev S32768x4480 : Shape := ⟨2, ![32768, 4480]⟩
abbrev S32768x1024 : Shape := ⟨2, ![32768, 1024]⟩
abbrev S8x64x128 : Shape := ⟨3, ![8, 64, 128]⟩
abbrev S512x1024 : Shape := ⟨2, ![512, 1024]⟩
abbrev S1024x1024 : Shape := ⟨2, ![1024, 1024]⟩
abbrev S8x64x32768 : Shape := ⟨3, ![8, 64, 32768]⟩
abbrev S32768x8x64 : Shape := ⟨3, ![32768, 8, 64]⟩
abbrev S32768x3072 : Shape := ⟨2, ![32768, 3072]⟩
abbrev S_ : Shape := ⟨0, ![]⟩
abbrev S32768x3x1024 : Shape := ⟨3, ![32768, 3, 1024]⟩
abbrev S32768x1x1024 : Shape := ⟨3, ![32768, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x32768x128, .bf16⟩
  | .hbm, ⟨1, _⟩ => ⟨S32768x512, .bf16⟩
  | .hbm, ⟨2, _⟩ => ⟨S32768x512, .bf16⟩
  | .hbm, ⟨3, _⟩ => ⟨S32768x4480, .f32⟩
  | .hbm, ⟨4, _⟩ => ⟨S32768x1024, .f32⟩
  | .hbm, ⟨5, _⟩ => ⟨S8x64x128, .bf16⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S8x32768x128, .f32⟩
  | .hbm, ⟨11, _⟩ => ⟨S8x64x128, .f32⟩
  | .hbm, ⟨12, _⟩ => ⟨S8x64x32768, .f32⟩
  | .hbm, ⟨13, _⟩ => ⟨S32768x8x64, .f32⟩
  | .hbm, ⟨14, _⟩ => ⟨S32768x512, .f32⟩
  | .hbm, ⟨15, _⟩ => ⟨S32768x3072, .f32⟩
  | .hbm, ⟨16, _⟩ => ⟨S32768x3072, .f32⟩
  | .hbm, ⟨17, _⟩ => ⟨S32768x3072, .f32⟩
  | .hbm, ⟨18, _⟩ => ⟨S_, .f32⟩
  | .hbm, ⟨19, _⟩ => ⟨S32768x3072, .f32⟩
  | .hbm, ⟨20, _⟩ => ⟨S32768x3072, .f32⟩
  | .hbm, ⟨21, _⟩ => ⟨S_, .f32⟩
  | .hbm, ⟨22, _⟩ => ⟨S32768x3072, .f32⟩
  | .hbm, ⟨23, _⟩ => ⟨S32768x3072, .f32⟩
  | .hbm, ⟨24, _⟩ => ⟨S32768x3x1024, .f32⟩
  | .hbm, ⟨25, _⟩ => ⟨S32768x1x1024, .f32⟩
  | .hbm, ⟨26, _⟩ => ⟨S32768x1024, .f32⟩
  | .hbm, ⟨27, _⟩ => ⟨S512x1024, .f32⟩
  | .hbm, ⟨28, _⟩ => ⟨S32768x1024, .f32⟩
  | .hbm, ⟨29, _⟩ => ⟨S32768x1024, .f32⟩
  | .hbm, ⟨30, _⟩ => ⟨S32768x1x1024, .f32⟩
  | .hbm, ⟨31, _⟩ => ⟨S32768x1024, .f32⟩
  | .hbm, ⟨32, _⟩ => ⟨S32768x512, .f32⟩
  | .hbm, ⟨33, _⟩ => ⟨S512x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1x1024, .f32⟩
  | .hbm, ⟨38, _⟩ => ⟨S32768x1024, .f32⟩
  | .hbm, ⟨39, _⟩ => ⟨S32768x512, .f32⟩
  | .hbm, ⟨40, _⟩ => ⟨S512x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S1024x1024, .f32⟩
  | .hbm, ⟨45, _⟩ => ⟨S32768x1024, .f32⟩
  | .hbm, ⟨46, _⟩ => ⟨S32768x1024, .f32⟩
  | _, _ => ⟨S8x32768x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel4.lean ====
abbrev S32768x1024 : Shape := ⟨2, ![32768, 1024]⟩
abbrev S1x1024 : Shape := ⟨2, ![1, 1024]⟩
abbrev S1024x2816 : Shape := ⟨2, ![1024, 2816]⟩
abbrev S3x2816 : Shape := ⟨2, ![3, 2816]⟩
abbrev S1x2816 : Shape := ⟨2, ![1, 2816]⟩
abbrev S2816x1024 : Shape := ⟨2, ![2816, 1024]⟩
abbrev S16x2x2816 : Shape := ⟨3, ![16, 2, 2816]⟩
abbrev S512x1024 : Shape := ⟨2, ![512, 1024]⟩
abbrev S1x2x2816 : Shape := ⟨3, ![1, 2, 2816]⟩
abbrev S520x256 : Shape := ⟨2, ![520, 256]⟩
abbrev S2x2816 : Shape := ⟨2, ![2, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S2x256 : Shape := ⟨2, ![2, 256]⟩
abbrev S1x256 : Shape := ⟨2, ![1, 256]⟩
abbrev S256x1024 : Shape := ⟨2, ![256, 1024]⟩

abbrev nBuf : Space → Nat
  | .hbm => 11
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S3x2816, .f32⟩
  | .hbm, ⟨5, _⟩ => ⟨S1x2816, .f32⟩
  | .hbm, ⟨6, _⟩ => ⟨S2816x1024, .bf16⟩
  | .hbm, ⟨7, _⟩ => ⟨S1x1024, .f32⟩
  | .hbm, ⟨8, _⟩ => ⟨S16x2x2816, .f32⟩
  | .hbm, ⟨9, _⟩ => ⟨S32768x1024, .f32⟩
  | .hbm, ⟨10, _⟩ => ⟨S16x2x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S3x2816, .f32⟩
  | .local _ .vmem, ⟨6, _⟩ => ⟨S1x2816, .f32⟩
  | .local _ .vmem, ⟨7, _⟩ => ⟨S2816x1024, .bf16⟩
  | .local _ .vmem, ⟨8, _⟩ => ⟨S1x1024, .f32⟩
  | .local _ .vmem, ⟨9, _⟩ => ⟨S1x2x2816, .f32⟩
  | .local _ .vmem, ⟨10, _⟩ => ⟨S1x2x2816, .f32⟩
  | .local _ .vmem, ⟨11, _⟩ => ⟨S512x1024, .f32⟩
  | .local _ .vmem, ⟨12, _⟩ => ⟨S512x1024, .f32⟩
  | .local _ .vmem, ⟨13, _⟩ => ⟨S1x2x2816, .f32⟩
  | .local _ .vmem, ⟨14, _⟩ => ⟨S1x2x2816, .f32⟩
  | .local _ .vmem, ⟨15, _⟩ => ⟨S520x256, .f32⟩
  | .local _ .vmem, ⟨16, _⟩ => ⟨S2x2816, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S32768x1024 : Shape := ⟨2, ![32768, 1024]⟩
abbrev S1x1024 : Shape := ⟨2, ![1, 1024]⟩
abbrev S1024x2816 : Shape := ⟨2, ![1024, 2816]⟩
abbrev S3x2816 : Shape := ⟨2, ![3, 2816]⟩
abbrev S1x2816 : Shape := ⟨2, ![1, 2816]⟩
abbrev S2816x1024 : Shape := ⟨2, ![2816, 1024]⟩
abbrev S16x2x2816 : Shape := ⟨3, ![16, 2, 2816]⟩
abbrev S_ : Shape := ⟨0, ![]⟩
abbrev S32768 : Shape := ⟨1, ![32768]⟩
abbrev S32768x1 : Shape := ⟨2, ![32768, 1]⟩
abbrev S32768x2816 : Shape := ⟨2, ![32768, 2816]⟩
abbrev S16x2048x2816 : Shape := ⟨3, ![16, 2048, 2816]⟩
abbrev S16x2050x2816 : Shape := ⟨3, ![16, 2050, 2816]⟩
abbrev S2816 : Shape := ⟨1, ![2816]⟩
abbrev S1x1x2816 : Shape := ⟨3, ![1, 1, 2816]⟩

abbrev nBuf : Space → Nat
  | .hbm => 69
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S3x2816, .f32⟩
  | .hbm, ⟨5, _⟩ => ⟨S1x2816, .f32⟩
  | .hbm, ⟨6, _⟩ => ⟨S2816x1024, .bf16⟩
  | .hbm, ⟨7, _⟩ => ⟨S1x1024, .f32⟩
  | .hbm, ⟨8, _⟩ => ⟨S16x2x2816, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S1024x2816, .f32⟩
  | .hbm, ⟨25, _⟩ => ⟨S32768x2816, .f32⟩
  | .hbm, ⟨26, _⟩ => ⟨S16x2048x2816, .f32⟩
  | .hbm, ⟨27, _⟩ => ⟨S1024x2816, .f32⟩
  | .hbm, ⟨28, _⟩ => ⟨S32768x2816, .f32⟩
  | .hbm, ⟨29, _⟩ => ⟨S16x2048x2816, .f32⟩
  | .hbm, ⟨30, _⟩ => ⟨S16x2050x2816, .f32⟩
  | .hbm, ⟨31, _⟩ => ⟨S1x2816, .f32⟩
  | .hbm, ⟨32, _⟩ => ⟨S2816, .f32⟩
  | .hbm, ⟨33, _⟩ => ⟨S16x2048x2816, .f32⟩
  | .hbm, ⟨34, _⟩ => ⟨S1x1x2816, .f32⟩
  | .hbm, ⟨35, _⟩ => ⟨S16x2048x2816, .f32⟩
  | .hbm, ⟨36, _⟩ => ⟨S16x2048x2816, .f32⟩
  | .hbm, ⟨37, _⟩ => ⟨S1x1x2816, .f32⟩
  | .hbm, ⟨38, _⟩ => ⟨S16x2048x2816, .f32⟩
  | .hbm, ⟨39, _⟩ => ⟨S16x2048x2816, .f32⟩
  | .hbm, ⟨40, _⟩ => ⟨S1x2816, .f32⟩
  | .hbm, ⟨41, _⟩ => ⟨S2816, .f32⟩
  | .hbm, ⟨42, _⟩ => ⟨S16x2048x2816, .f32⟩
  | .hbm, ⟨43, _⟩ => ⟨S1x1x2816, .f32⟩
  | .hbm, ⟨44, _⟩ => ⟨S16x2048x2816, .f32⟩
  | .hbm, ⟨45, _⟩ => ⟨S16x2048x2816, .f32⟩
  | .hbm, ⟨46, _⟩ => ⟨S16x2048x2816, .f32⟩
  | .hbm, ⟨47, _⟩ => ⟨S1x2816, .f32⟩
  | .hbm, ⟨48, _⟩ => ⟨S2816, .f32⟩
  | .hbm, ⟨49, _⟩ => ⟨S16x2048x2816, .f32⟩
  | .hbm, ⟨50, _⟩ => ⟨S1x1x2816, .f32⟩
  | .hbm, ⟨51, _⟩ => ⟨S16x2048x2816, .f32⟩
  | .hbm, ⟨52, _⟩ => ⟨S16x2048x2816, .f32⟩
  | .hbm, ⟨53, _⟩ => ⟨S16x2048x2816, .f32⟩
  | .hbm, ⟨54, _⟩ => ⟨S_, .f32⟩
  | .hbm, ⟨55, _⟩ => ⟨S16x2048x2816, .f32⟩
  | .hbm, ⟨56, _⟩ => ⟨S16x2048x2816, .f32⟩
  | .hbm, ⟨57, _⟩ => ⟨S16x2048x2816, .f32⟩
  | .hbm, ⟨58, _⟩ => ⟨S_, .f32⟩
  | .hbm, ⟨59, _⟩ => ⟨S16x2048x2816, .f32⟩
  | .hbm, ⟨60, _⟩ => ⟨S16x2048x2816, .f32⟩
  | .hbm, ⟨61, _⟩ => ⟨S16x2048x2816, .f32⟩
  | .hbm, ⟨62, _⟩ => ⟨S16x2048x2816, .f32⟩
  | .hbm, ⟨63, _⟩ => ⟨S16x2048x2816, .f32⟩
  | .hbm, ⟨64, _⟩ => ⟨S32768x2816, .f32⟩
  | .hbm, ⟨65, _⟩ => ⟨S2816x1024, .f32⟩
  | .hbm, ⟨66, _⟩ => ⟨S32768x1024, .f32⟩
  | .hbm, ⟨67, _⟩ => ⟨S32768x1024, .f32⟩
  | .hbm, ⟨68, _⟩ => ⟨S16x2x2816, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Kernel5.lean ====
abbrev S32768x4480 : Shape := ⟨2, ![32768, 4480]⟩
abbrev S16x256x2048 : Shape := ⟨3, ![16, 256, 2048]⟩
abbrev S32768x512 : Shape := ⟨2, ![32768, 512]⟩
abbrev S256x512 : Shape := ⟨2, ![256, 512]⟩
abbrev S1x256x2048 : Shape := ⟨3, ![1, 256, 2048]⟩
abbrev S2x1024x1 : Shape := ⟨3, ![2, 1024, 1]⟩
abbrev S2x1024x64 : Shape := ⟨3, ![2, 1024, 64]⟩
abbrev S256x256 : Shape := ⟨2, ![256, 256]⟩
abbrev S256x64 : Shape := ⟨2, ![256, 64]⟩
abbrev S1024x64 : Shape := ⟨2, ![1024, 64]⟩
abbrev S1x256x1 : Shape := ⟨3, ![1, 256, 1]⟩
abbrev S1x1x256 : Shape := ⟨3, ![1, 1, 256]⟩
abbrev S1x256x256 : Shape := ⟨3, ![1, 256, 256]⟩
abbrev S1x64x256 : Shape := ⟨3, ![1, 64, 256]⟩
abbrev S64x256 : Shape := ⟨2, ![64, 256]⟩
abbrev S1024x256 : Shape := ⟨2, ![1024, 256]⟩
abbrev S4x256x256 : Shape := ⟨3, ![4, 256, 256]⟩
abbrev S1x1024x1 : Shape := ⟨3, ![1, 1024, 1]⟩
abbrev S1024x1 : Shape := ⟨2, ![1024, 1]⟩
abbrev S1x1024x64 : Shape := ⟨3, ![1, 1024, 64]⟩
abbrev S1x256x64 : Shape := ⟨3, ![1, 256, 64]⟩

abbrev nBuf : Space → Nat
  | .hbm => 3
  | .vmem => 8
  | .smem => 0
  | _ => 0

abbrev bufTy : (tb : Table) → Fin (tcTables nBuf tb) → BufTy
  | .hbm, ⟨0, _⟩ => ⟨S32768x4480, .f32⟩
  | .hbm, ⟨1, _⟩ => ⟨S16x256x2048, .f32⟩
  | .hbm, ⟨2, _⟩ => ⟨S32768x512, .bf16⟩
  | .local _ .vmem, ⟨0, _⟩ => ⟨S256x512, .f32⟩
  | .local _ .vmem, ⟨1, _⟩ => ⟨S256x512, .f32⟩
  | .local _ .vmem, ⟨2, _⟩ => ⟨S1x256x2048, .f32⟩
  | .local _ .vmem, ⟨3, _⟩ => ⟨S1x256x2048, .f32⟩
  | .local _ .vmem, ⟨4, _⟩ => ⟨S256x512, .bf16⟩
  | .local _ .vmem, ⟨5, _⟩ => ⟨S256x512, .bf16⟩
  | .local _ .vmem, ⟨6, _⟩ => ⟨S2x1024x1, .f32⟩
  | .local _ .vmem, ⟨7, _⟩ => ⟨S2x1024x64, .f32⟩
  | _, _ => ⟨S32768x4480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c256_i32 : BitVec 32 := 256#32
  let v31 : BitVec 32 := Scalar.muli arg1 c256_i32
  let c256_i32_9 : BitVec 32 := 256#32
  let v32 : BitVec 32 := Scalar.addi v31 c256_i32_9
  let c1_i32 : BitVec 32 := 1#32
  let v33 : BitVec 32 := Scalar.subi v32 c1_i32
  let c0_i32 : BitVec 32 := 0#32
  let v35 : BitVec 1 := Scalar.cmpi .sgt v33 c0_i32
  let v36 : BitVec 32 := Scalar.extui v35
  let c0_i32_11 : BitVec 32 := 0#32
  let v37 : BitVec 1 := Scalar.cmpi .slt v33 c0_i32_11
  let v38 : BitVec 32 := Scalar.extui v37
  let v39 : BitVec 32 := Scalar.subi v36 v38
  let c256_i32_10 : BitVec 32 := 256#32
  let c0_i32_12 : BitVec 32 := 0#32
  let v40 : BitVec 1 := Scalar.cmpi .sgt c256_i32_10 c0_i32_12
  let v41 : BitVec 32 := Scalar.extui v40
  let c0_i32_13 : BitVec 32 := 0#32
  let v42 : BitVec 1 := Scalar.cmpi .slt c256_i32_10 c0_i32_13
  let v43 : BitVec 32 := Scalar.extui v42
  let v44 : BitVec 32 := Scalar.subi v41 v43
  let v45 : BitVec 1 := Scalar.cmpi .ne v39 v44
  let v46 : BitVec 32 := Scalar.remsi v33 c256_i32_10
  let c0_i32_14 : BitVec 32 := 0#32
  let v47 : BitVec 1 := Scalar.cmpi .ne v46 c0_i32_14
  let v48 : BitVec 1 := Scalar.andi v45 v47
  let v34 : BitVec 32 := Scalar.divsi v33 c256_i32_10
  let c1_i32_15 : BitVec 32 := 1#32
  let v49 : BitVec 32 := Scalar.subi v34 c1_i32_15
  let v50 : BitVec 32 := Scalar.select v48 v49 v34
  let c256_i32_16 : BitVec 32 := 256#32
  let v51 : BitVec 32 := Scalar.muli v50 c256_i32_16
  v51
def k0_off1 (i : grid0.Coords) : Fin 3 → Nat :=
  let c0_19 : Index := 0#32
  let c0_20 : Index := 0#32
  let arg1 : BitVec 32 := BitVec.ofNat 32 (i 1).val
  let c256_i32 : BitVec 32 := 256#32
  let v31 : BitVec 32 := Scalar.muli arg1 c256_i32
  let c256_i32_9 : BitVec 32 := 256#32
  let v32 : BitVec 32 := Scalar.addi v31 c256_i32_9
  let c1_i32 : BitVec 32 := 1#32
  let v33 : BitVec 32 := Scalar.subi v32 c1_i32
  let c0_i32 : BitVec 32 := 0#32
  let v35 : BitVec 1 := Scalar.cmpi .sgt v33 c0_i32
  let v36 : BitVec 32 := Scalar.extui v35
  let c0_i32_11 : BitVec 32 := 0#32
  let v37 : BitVec 1 := Scalar.cmpi .slt v33 c0_i32_11
  let v38 : BitVec 32 := Scalar.extui v37
  let v39 : BitVec 32 := Scalar.subi v36 v38
  let c256_i32_10 : BitVec 32 := 256#32
  let c0_i32_12 : BitVec 32 := 0#32
  let v40 : BitVec 1 := Scalar.cmpi .sgt c256_i32_10 c0_i32_12
  let v41 : BitVec 32 := Scalar.extui v40
  let c0_i32_13 : BitVec 32 := 0#32
  let v42 : BitVec 1 := Scalar.cmpi .slt c256_i32_10 c0_i32_13
  let v43 : BitVec 32 := Scalar.extui v42
  let v44 : BitVec 32 := Scalar.subi v41 v43
  let v45 : BitVec 1 := Scalar.cmpi .ne v39 v44
  let v46 : BitVec 32 := Scalar.remsi v33 c256_i32_10
  let c0_i32_14 : BitVec 32 := 0#32
  let v47 : BitVec 1 := Scalar.cmpi .ne v46 c0_i32_14
  let v48 : BitVec 1 := Scalar.andi v45 v47
  let v34 : BitVec 32 := Scalar.divsi v33 c256_i32_10
  let c1_i32_15 : BitVec 32 := 1#32
  let v49 : BitVec 32 := Scalar.subi v34 c1_i32_15
  let v50 : BitVec 32 := Scalar.select v48 v49 v34
  let c256_i32_16 : BitVec 32 := 256#32
  let v51 : BitVec 32 := Scalar.muli v50 c256_i32_16
  let v52 : BitVec 32 := v51
  let v64 : Index := Scalar.indexCast v52
  ![0, 0, v64.toNat]
def k0_off2 (i : grid0.Coords) : Fin 3 → Nat :=
  let c0_21 : Index := 0#32
  let c128 : Index := 128#32
  let arg1 : BitVec 32 := BitVec.ofNat 32 (i 1).val
  let c256_i32 : BitVec 32 := 256#32
  let v31 : BitVec 32 := Scalar.muli arg1 c256_i32
  let c256_i32_9 : BitVec 32 := 256#32
  let v32 : BitVec 32 := Scalar.addi v31 c256_i32_9
  let c1_i32 : BitVec 32 := 1#32
  let v33 : BitVec 32 := Scalar.subi v32 c1_i32
  let c0_i32 : BitVec 32 := 0#32
  let v35 : BitVec 1 := Scalar.cmpi .sgt v33 c0_i32
  let v36 : BitVec 32 := Scalar.extui v35
  let c0_i32_11 : BitVec 32 := 0#32
  let v37 : BitVec 1 := Scalar.cmpi .slt v33 c0_i32_11
  let v38 : BitVec 32 := Scalar.extui v37
  let v39 : BitVec 32 := Scalar.subi v36 v38
  let c256_i32_10 : BitVec 32 := 256#32
  let c0_i32_12 : BitVec 32 := 0#32
  let v40 : BitVec 1 := Scalar.cmpi .sgt c256_i32_10 c0_i32_12
  let v41 : BitVec 32 := Scalar.extui v40
  let c0_i32_13 : BitVec 32 := 0#32
  let v42 : BitVec 1 := Scalar.cmpi .slt c256_i32_10 c0_i32_13
  let v43 : BitVec 32 := Scalar.extui v42
  let v44 : BitVec 32 := Scalar.subi v41 v43
  let v45 : BitVec 1 := Scalar.cmpi .ne v39 v44
  let v46 : BitVec 32 := Scalar.remsi v33 c256_i32_10
  let c0_i32_14 : BitVec 32 := 0#32
  let v47 : BitVec 1 := Scalar.cmpi .ne v46 c0_i32_14
  let v48 : BitVec 1 := Scalar.andi v45 v47
  let v34 : BitVec 32 := Scalar.divsi v33 c256_i32_10
  let c1_i32_15 : BitVec 32 := 1#32
  let v49 : BitVec 32 := Scalar.subi v34 c1_i32_15
  let v50 : BitVec 32 := Scalar.select v48 v49 v34
  let c256_i32_16 : BitVec 32 := 256#32
  let v51 : BitVec 32 := Scalar.muli v50 c256_i32_16
  let v52 : BitVec 32 := v51
  let v68 : Index := Scalar.indexCast v52
  ![0, 128, v68.toNat]
def k0_off3 (i : grid0.Coords) : Fin 3 → Nat :=
  let c0_43 : Index := 0#32
  let c64 : Index := 64#32
  let arg1 : BitVec 32 := BitVec.ofNat 32 (i 1).val
  let c256_i32 : BitVec 32 := 256#32
  let v31 : BitVec 32 := Scalar.muli arg1 c256_i32
  let c256_i32_9 : BitVec 32 := 256#32
  let v32 : BitVec 32 := Scalar.addi v31 c256_i32_9
  let c1_i32 : BitVec 32 := 1#32
  let v33 : BitVec 32 := Scalar.subi v32 c1_i32
  let c0_i32 : BitVec 32 := 0#32
  let v35 : BitVec 1 := Scalar.cmpi .sgt v33 c0_i32
  let v36 : BitVec 32 := Scalar.extui v35
  let c0_i32_11 : BitVec 32 := 0#32
  let v37 : BitVec 1 := Scalar.cmpi .slt v33 c0_i32_11
  let v38 : BitVec 32 := Scalar.extui v37
  let v39 : BitVec 32 := Scalar.subi v36 v38
  let c256_i32_10 : BitVec 32 := 256#32
  let c0_i32_12 : BitVec 32 := 0#32
  let v40 : BitVec 1 := Scalar.cmpi .sgt c256_i32_10 c0_i32_12
  let v41 : BitVec 32 := Scalar.extui v40
  let c0_i32_13 : BitVec 32 := 0#32
  let v42 : BitVec 1 := Scalar.cmpi .slt c256_i32_10 c0_i32_13
  let v43 : BitVec 32 := Scalar.extui v42
  let v44 : BitVec 32 := Scalar.subi v41 v43
  let v45 : BitVec 1 := Scalar.cmpi .ne v39 v44
  let v46 : BitVec 32 := Scalar.remsi v33 c256_i32_10
  let c0_i32_14 : BitVec 32 := 0#32
  let v47 : BitVec 1 := Scalar.cmpi .ne v46 c0_i32_14
  let v48 : BitVec 1 := Scalar.andi v45 v47
  let v34 : BitVec 32 := Scalar.divsi v33 c256_i32_10
  let c1_i32_15 : BitVec 32 := 1#32
  let v49 : BitVec 32 := Scalar.subi v34 c1_i32_15
  let v50 : BitVec 32 := Scalar.select v48 v49 v34
  let c256_i32_16 : BitVec 32 := 256#32
  let v51 : BitVec 32 := Scalar.muli v50 c256_i32_16
  let v52 : BitVec 32 := v51
  let v124 : Index := Scalar.indexCast v52
  ![0, 64, v124.toNat]
def k0_off4 (i : grid0.Coords) : Fin 3 → Nat :=
  let c0_44 : Index := 0#32
  let c192 : Index := 192#32
  let arg1 : BitVec 32 := BitVec.ofNat 32 (i 1).val
  let c256_i32 : BitVec 32 := 256#32
  let v31 : BitVec 32 := Scalar.muli arg1 c256_i32
  let c256_i32_9 : BitVec 32 := 256#32
  let v32 : BitVec 32 := Scalar.addi v31 c256_i32_9
  let c1_i32 : BitVec 32 := 1#32
  let v33 : BitVec 32 := Scalar.subi v32 c1_i32
  let c0_i32 : BitVec 32 := 0#32
  let v35 : BitVec 1 := Scalar.cmpi .sgt v33 c0_i32
  let v36 : BitVec 32 := Scalar.extui v35
  let c0_i32_11 : BitVec 32 := 0#32
  let v37 : BitVec 1 := Scalar.cmpi .slt v33 c0_i32_11
  let v38 : BitVec 32 := Scalar.extui v37
  let v39 : BitVec 32 := Scalar.subi v36 v38
  let c256_i32_10 : BitVec 32 := 256#32
  let c0_i32_12 : BitVec 32 := 0#32
  let v40 : BitVec 1 := Scalar.cmpi .sgt c256_i32_10 c0_i32_12
  let v41 : BitVec 32 := Scalar.extui v40
  let c0_i32_13 : BitVec 32 := 0#32
  let v42 : BitVec 1 := Scalar.cmpi .slt c256_i32_10 c0_i32_13
  let v43 : BitVec 32 := Scalar.extui v42
  let v44 : BitVec 32 := Scalar.subi v41 v43
  let v45 : BitVec 1 := Scalar.cmpi .ne v39 v44
  let v46 : BitVec 32 := Scalar.remsi v33 c256_i32_10
  let c0_i32_14 : BitVec 32 := 0#32
  let v47 : BitVec 1 := Scalar.cmpi .ne v46 c0_i32_14
  let v48 : BitVec 1 := Scalar.andi v45 v47
  let v34 : BitVec 32 := Scalar.divsi v33 c256_i32_10
  let c1_i32_15 : BitVec 32 := 1#32
  let v49 : BitVec 32 := Scalar.subi v34 c1_i32_15
  let v50 : BitVec 32 := Scalar.select v48 v49 v34
  let c256_i32_16 : BitVec 32 := 256#32
  let v51 : BitVec 32 := Scalar.muli v50 c256_i32_16
  let v52 : BitVec 32 := v51
  let v128 : Index := Scalar.indexCast v52
  ![0, 192, v128.toNat]
@[reducible] def k0_t1_loop (i : grid0.Coords) : Scf.Loop 32 :=
  let c0_i32_66 : BitVec 32 := 0#32
  let arg1 : BitVec 32 := BitVec.ofNat 32 (i 1).val
  let c256_i32 : BitVec 32 := 256#32
  let v31 : BitVec 32 := Scalar.muli arg1 c256_i32
  let c256_i32_9 : BitVec 32 := 256#32
  let v32 : BitVec 32 := Scalar.addi v31 c256_i32_9
  let c1_i32 : BitVec 32 := 1#32
  let v33 : BitVec 32 := Scalar.subi v32 c1_i32
  let c0_i32 : BitVec 32 := 0#32
  let v35 : BitVec 1 := Scalar.cmpi .sgt v33 c0_i32
  let v36 : BitVec 32 := Scalar.extui v35
  let c0_i32_11 : BitVec 32 := 0#32
  let v37 : BitVec 1 := Scalar.cmpi .slt v33 c0_i32_11
  let v38 : BitVec 32 := Scalar.extui v37
  let v39 : BitVec 32 := Scalar.subi v36 v38
  let c256_i32_10 : BitVec 32 := 256#32
  let c0_i32_12 : BitVec 32 := 0#32
  let v40 : BitVec 1 := Scalar.cmpi .sgt c256_i32_10 c0_i32_12
  let v41 : BitVec 32 := Scalar.extui v40
  let c0_i32_13 : BitVec 32 := 0#32
  let v42 : BitVec 1 := Scalar.cmpi .slt c256_i32_10 c0_i32_13
  let v43 : BitVec 32 := Scalar.extui v42
  let v44 : BitVec 32 := Scalar.subi v41 v43
  let v45 : BitVec 1 := Scalar.cmpi .ne v39 v44
  let v46 : BitVec 32 := Scalar.remsi v33 c256_i32_10
  let c0_i32_14 : BitVec 32 := 0#32
  let v47 : BitVec 1 := Scalar.cmpi .ne v46 c0_i32_14
  let v48 : BitVec 1 := Scalar.andi v45 v47
  let v34 : BitVec 32 := Scalar.divsi v33 c256_i32_10
  let c1_i32_15 : BitVec 32 := 1#32
  let v49 : BitVec 32 := Scalar.subi v34 c1_i32_15
  let v50 : BitVec 32 := Scalar.select v48 v49 v34
  let v184 : BitVec 32 := Scalar.subi v50 c0_i32_66
  let c1_i32_67 : BitVec 32 := 1#32
  let v186 : BitVec 32 := Scalar.divsi v184 c1_i32_67
  let v187 : BitVec 32 := Scalar.muli v186 c1_i32_67
  let v188 : BitVec 32 := Scalar.addi c0_i32_66 v187
  let c1_i32_68 : BitVec 32 := 1#32
  ⟨c0_i32_66, v188, c1_i32_68⟩
def k0_mult2 (i : grid0.Coords) (k0_t1 : Fin (k0_t1_loop i).trips) : BitVec 32 :=
  let arg1 : BitVec 32 := BitVec.ofNat 32 (i 1).val
  let c256_i32 : BitVec 32 := 256#32
  let v31 : BitVec 32 := Scalar.muli arg1 c256_i32
  let c256_i32_9 : BitVec 32 := 256#32
  let v32 : BitVec 32 := Scalar.addi v31 c256_i32_9
  let c1_i32 : BitVec 32 := 1#32
  let v33 : BitVec 32 := Scalar.subi v32 c1_i32
  let c0_i32 : BitVec 32 := 0#32
  let v35 : BitVec 1 := Scalar.cmpi .sgt v33 c0_i32
  let v36 : BitVec 32 := Scalar.extui v35
  let c0_i32_11 : BitVec 32 := 0#32
  let v37 : BitVec 1 := Scalar.cmpi .slt v33 c0_i32_11
  let v38 : BitVec 32 := Scalar.extui v37
  let v39 : BitVec 32 := Scalar.subi v36 v38
  let c256_i32_10 : BitVec 32 := 256#32
  let c0_i32_12 : BitVec 32 := 0#32
  let v40 : BitVec 1 := Scalar.cmpi .sgt c256_i32_10 c0_i32_12
  let v41 : BitVec 32 := Scalar.extui v40
  let c0_i32_13 : BitVec 32 := 0#32
  let v42 : BitVec 1 := Scalar.cmpi .slt c256_i32_10 c0_i32_13
  let v43 : BitVec 32 := Scalar.extui v42
  let v44 : BitVec 32 := Scalar.subi v41 v43
  let v45 : BitVec 1 := Scalar.cmpi .ne v39 v44
  let v46 : BitVec 32 := Scalar.remsi v33 c256_i32_10
  let c0_i32_14 : BitVec 32 := 0#32
  let v47 : BitVec 1 := Scalar.cmpi .ne v46 c0_i32_14
  let v48 : BitVec 1 := Scalar.andi v45 v47
  let v34 : BitVec 32 := Scalar.divsi v33 c256_i32_10
  let c1_i32_15 : BitVec 32 := 1#32
  let v49 : BitVec 32 := Scalar.subi v34 c1_i32_15
  let v50 : BitVec 32 := Scalar.select v48 v49 v34
  let c1_i32_93 : BitVec 32 := 1#32
  let v208 : BitVec 32 := Scalar.subi v50 c1_i32_93
  let c0_i32_66 : BitVec 32 := 0#32
  let c1_i32_68 : BitVec 32 := 1#32
  let arg7 : BitVec 32 := Scf.iv c0_i32_66 c1_i32_68 k0_t1
  let v209 : BitVec 32 := Scalar.subi v208 arg7
  let c256_i32_94 : BitVec 32 := 256#32
  let v210 : BitVec 32 := Scalar.muli v209 c256_i32_94
  v210
def k0_off5 (i : grid0.Coords) (k0_t1 : Fin (k0_t1_loop i).trips) : Fin 3 → Nat :=
  let c0_95 : Index := 0#32
  let c0_96 : Index := 0#32
  let arg1 : BitVec 32 := BitVec.ofNat 32 (i 1).val
  let c256_i32 : BitVec 32 := 256#32
  let v31 : BitVec 32 := Scalar.muli arg1 c256_i32
  let c256_i32_9 : BitVec 32 := 256#32
  let v32 : BitVec 32 := Scalar.addi v31 c256_i32_9
  let c1_i32 : BitVec 32 := 1#32
  let v33 : BitVec 32 := Scalar.subi v32 c1_i32
  let c0_i32 : BitVec 32 := 0#32
  let v35 : BitVec 1 := Scalar.cmpi .sgt v33 c0_i32
  let v36 : BitVec 32 := Scalar.extui v35
  let c0_i32_11 : BitVec 32 := 0#32
  let v37 : BitVec 1 := Scalar.cmpi .slt v33 c0_i32_11
  let v38 : BitVec 32 := Scalar.extui v37
  let v39 : BitVec 32 := Scalar.subi v36 v38
  let c256_i32_10 : BitVec 32 := 256#32
  let c0_i32_12 : BitVec 32 := 0#32
  let v40 : BitVec 1 := Scalar.cmpi .sgt c256_i32_10 c0_i32_12
  let v41 : BitVec 32 := Scalar.extui v40
  let c0_i32_13 : BitVec 32 := 0#32
  let v42 : BitVec 1 := Scalar.cmpi .slt c256_i32_10 c0_i32_13
  let v43 : BitVec 32 := Scalar.extui v42
  let v44 : BitVec 32 := Scalar.subi v41 v43
  let v45 : BitVec 1 := Scalar.cmpi .ne v39 v44
  let v46 : BitVec 32 := Scalar.remsi v33 c256_i32_10
  let c0_i32_14 : BitVec 32 := 0#32
  let v47 : BitVec 1 := Scalar.cmpi .ne v46 c0_i32_14
  let v48 : BitVec 1 := Scalar.andi v45 v47
  let v34 : BitVec 32 := Scalar.divsi v33 c256_i32_10
  let c1_i32_15 : BitVec 32 := 1#32
  let v49 : BitVec 32 := Scalar.subi v34 c1_i32_15
  let v50 : BitVec 32 := Scalar.select v48 v49 v34
  let c1_i32_93 : BitVec 32 := 1#32
  let v208 : BitVec 32 := Scalar.subi v50 c1_i32_93
  let c0_i32_66 : BitVec 32 := 0#32
  let c1_i32_68 : BitVec 32 := 1#32
  let arg7 : BitVec 32 := Scf.iv c0_i32_66 c1_i32_68 k0_t1
  let v209 : BitVec 32 := Scalar.subi v208 arg7
  let c256_i32_94 : BitVec 32 := 256#32
  let v210 : BitVec 32 := Scalar.muli v209 c256_i32_94
  let v211 : BitVec 32 := v210
  let v212 : Index := Scalar.indexCast v211
  ![0, 0, v212.toNat]
def k0_off6 (i : grid0.Coords) (k0_t1 : Fin (k0_t1_loop i).trips) : Fin 3 → Nat :=
  let c0_97 : Index := 0#32
  let c128_98 : Index := 128#32
  let arg1 : BitVec 32 := BitVec.ofNat 32 (i 1).val
  let c256_i32 : BitVec 32 := 256#32
  let v31 : BitVec 32 := Scalar.muli arg1 c256_i32
  let c256_i32_9 : BitVec 32 := 256#32
  let v32 : BitVec 32 := Scalar.addi v31 c256_i32_9
  let c1_i32 : BitVec 32 := 1#32
  let v33 : BitVec 32 := Scalar.subi v32 c1_i32
  let c0_i32 : BitVec 32 := 0#32
  let v35 : BitVec 1 := Scalar.cmpi .sgt v33 c0_i32
  let v36 : BitVec 32 := Scalar.extui v35
  let c0_i32_11 : BitVec 32 := 0#32
  let v37 : BitVec 1 := Scalar.cmpi .slt v33 c0_i32_11
  let v38 : BitVec 32 := Scalar.extui v37
  let v39 : BitVec 32 := Scalar.subi v36 v38
  let c256_i32_10 : BitVec 32 := 256#32
  let c0_i32_12 : BitVec 32 := 0#32
  let v40 : BitVec 1 := Scalar.cmpi .sgt c256_i32_10 c0_i32_12
  let v41 : BitVec 32 := Scalar.extui v40
  let c0_i32_13 : BitVec 32 := 0#32
  let v42 : BitVec 1 := Scalar.cmpi .slt c256_i32_10 c0_i32_13
  let v43 : BitVec 32 := Scalar.extui v42
  let v44 : BitVec 32 := Scalar.subi v41 v43
  let v45 : BitVec 1 := Scalar.cmpi .ne v39 v44
  let v46 : BitVec 32 := Scalar.remsi v33 c256_i32_10
  let c0_i32_14 : BitVec 32 := 0#32
  let v47 : BitVec 1 := Scalar.cmpi .ne v46 c0_i32_14
  let v48 : BitVec 1 := Scalar.andi v45 v47
  let v34 : BitVec 32 := Scalar.divsi v33 c256_i32_10
  let c1_i32_15 : BitVec 32 := 1#32
  let v49 : BitVec 32 := Scalar.subi v34 c1_i32_15
  let v50 : BitVec 32 := Scalar.select v48 v49 v34
  let c1_i32_93 : BitVec 32 := 1#32
  let v208 : BitVec 32 := Scalar.subi v50 c1_i32_93
  let c0_i32_66 : BitVec 32 := 0#32
  let c1_i32_68 : BitVec 32 := 1#32
  let arg7 : BitVec 32 := Scf.iv c0_i32_66 c1_i32_68 k0_t1
  let v209 : BitVec 32 := Scalar.subi v208 arg7
  let c256_i32_94 : BitVec 32 := 256#32
  let v210 : BitVec 32 := Scalar.muli v209 c256_i32_94
  let v211 : BitVec 32 := v210
  let v216 : Index := Scalar.indexCast v211
  ![0, 128, v216.toNat]
def k0_off7 (i : grid0.Coords) (k0_t1 : Fin (k0_t1_loop i).trips) : Fin 3 → Nat :=
  let c0_118 : Index := 0#32
  let c64_119 : Index := 64#32
  let arg1 : BitVec 32 := BitVec.ofNat 32 (i 1).val
  let c256_i32 : BitVec 32 := 256#32
  let v31 : BitVec 32 := Scalar.muli arg1 c256_i32
  let c256_i32_9 : BitVec 32 := 256#32
  let v32 : BitVec 32 := Scalar.addi v31 c256_i32_9
  let c1_i32 : BitVec 32 := 1#32
  let v33 : BitVec 32 := Scalar.subi v32 c1_i32
  let c0_i32 : BitVec 32 := 0#32
  let v35 : BitVec 1 := Scalar.cmpi .sgt v33 c0_i32
  let v36 : BitVec 32 := Scalar.extui v35
  let c0_i32_11 : BitVec 32 := 0#32
  let v37 : BitVec 1 := Scalar.cmpi .slt v33 c0_i32_11
  let v38 : BitVec 32 := Scalar.extui v37
  let v39 : BitVec 32 := Scalar.subi v36 v38
  let c256_i32_10 : BitVec 32 := 256#32
  let c0_i32_12 : BitVec 32 := 0#32
  let v40 : BitVec 1 := Scalar.cmpi .sgt c256_i32_10 c0_i32_12
  let v41 : BitVec 32 := Scalar.extui v40
  let c0_i32_13 : BitVec 32 := 0#32
  let v42 : BitVec 1 := Scalar.cmpi .slt c256_i32_10 c0_i32_13
  let v43 : BitVec 32 := Scalar.extui v42
  let v44 : BitVec 32 := Scalar.subi v41 v43
  let v45 : BitVec 1 := Scalar.cmpi .ne v39 v44
  let v46 : BitVec 32 := Scalar.remsi v33 c256_i32_10
  let c0_i32_14 : BitVec 32 := 0#32
  let v47 : BitVec 1 := Scalar.cmpi .ne v46 c0_i32_14
  let v48 : BitVec 1 := Scalar.andi v45 v47
  let v34 : BitVec 32 := Scalar.divsi v33 c256_i32_10
  let c1_i32_15 : BitVec 32 := 1#32
  let v49 : BitVec 32 := Scalar.subi v34 c1_i32_15
  let v50 : BitVec 32 := Scalar.select v48 v49 v34
  let c1_i32_93 : BitVec 32 := 1#32
  let v208 : BitVec 32 := Scalar.subi v50 c1_i32_93
  let c0_i32_66 : BitVec 32 := 0#32
  let c1_i32_68 : BitVec 32 := 1#32
  let arg7 : BitVec 32 := Scf.iv c0_i32_66 c1_i32_68 k0_t1
  let v209 : BitVec 32 := Scalar.subi v208 arg7
  let c256_i32_94 : BitVec 32 := 256#32
  let v210 : BitVec 32 := Scalar.muli v209 c256_i32_94
  let v211 : BitVec 32 := v210
  let v260 : Index := Scalar.indexCast v211
  ![0, 64, v260.toNat]
def k0_off8 (i : grid0.Coords) (k0_t1 : Fin (k0_t1_loop i).trips) : Fin 3 → Nat :=
  let c0_120 : Index := 0#32
  let c192_121 : Index := 192#32
  let arg1 : BitVec 32 := BitVec.ofNat 32 (i 1).val
  let c256_i32 : BitVec 32 := 256#32
  let v31 : BitVec 32 := Scalar.muli arg1 c256_i32
  let c256_i32_9 : BitVec 32 := 256#32
  let v32 : BitVec 32 := Scalar.addi v31 c256_i32_9
  let c1_i32 : BitVec 32 := 1#32
  let v33 : BitVec 32 := Scalar.subi v32 c1_i32
  let c0_i32 : BitVec 32 := 0#32
  let v35 : BitVec 1 := Scalar.cmpi .sgt v33 c0_i32
  let v36 : BitVec 32 := Scalar.extui v35
  let c0_i32_11 : BitVec 32 := 0#32
  let v37 : BitVec 1 := Scalar.cmpi .slt v33 c0_i32_11
  let v38 : BitVec 32 := Scalar.extui v37
  let v39 : BitVec 32 := Scalar.subi v36 v38
  let c256_i32_10 : BitVec 32 := 256#32
  let c0_i32_12 : BitVec 32 := 0#32
  let v40 : BitVec 1 := Scalar.cmpi .sgt c256_i32_10 c0_i32_12
  let v41 : BitVec 32 := Scalar.extui v40
  let c0_i32_13 : BitVec 32 := 0#32
  let v42 : BitVec 1 := Scalar.cmpi .slt c256_i32_10 c0_i32_13
  let v43 : BitVec 32 := Scalar.extui v42
  let v44 : BitVec 32 := Scalar.subi v41 v43
  let v45 : BitVec 1 := Scalar.cmpi .ne v39 v44
  let v46 : BitVec 32 := Scalar.remsi v33 c256_i32_10
  let c0_i32_14 : BitVec 32 := 0#32
  let v47 : BitVec 1 := Scalar.cmpi .ne v46 c0_i32_14
  let v48 : BitVec 1 := Scalar.andi v45 v47
  let v34 : BitVec 32 := Scalar.divsi v33 c256_i32_10
  let c1_i32_15 : BitVec 32 := 1#32
  let v49 : BitVec 32 := Scalar.subi v34 c1_i32_15
  let v50 : BitVec 32 := Scalar.select v48 v49 v34
  let c1_i32_93 : BitVec 32 := 1#32
  let v208 : BitVec 32 := Scalar.subi v50 c1_i32_93
  let c0_i32_66 : BitVec 32 := 0#32
  let c1_i32_68 : BitVec 32 := 1#32
  let arg7 : BitVec 32 := Scf.iv c0_i32_66 c1_i32_68 k0_t1
  let v209 : BitVec 32 := Scalar.subi v208 arg7
  let c256_i32_94 : BitVec 32 := 256#32
  let v210 : BitVec 32 := Scalar.muli v209 c256_i32_94
  let v211 : BitVec 32 := v210
  let v264 : Index := Scalar.indexCast v211
  ![0, 192, v264.toNat]
@[reducible] def k0_t2_loop (i : grid0.Coords) : Scf.Loop 32 :=
  let c0_i32_66 : BitVec 32 := 0#32
  let arg1 : BitVec 32 := BitVec.ofNat 32 (i 1).val
  let c256_i32 : BitVec 32 := 256#32
  let v31 : BitVec 32 := Scalar.muli arg1 c256_i32
  let c256_i32_9 : BitVec 32 := 256#32
  let v32 : BitVec 32 := Scalar.addi v31 c256_i32_9
  let c1_i32 : BitVec 32 := 1#32
  let v33 : BitVec 32 := Scalar.subi v32 c1_i32
  let c0_i32 : BitVec 32 := 0#32
  let v35 : BitVec 1 := Scalar.cmpi .sgt v33 c0_i32
  let v36 : BitVec 32 := Scalar.extui v35
  let c0_i32_11 : BitVec 32 := 0#32
  let v37 : BitVec 1 := Scalar.cmpi .slt v33 c0_i32_11
  let v38 : BitVec 32 := Scalar.extui v37
  let v39 : BitVec 32 := Scalar.subi v36 v38
  let c256_i32_10 : BitVec 32 := 256#32
  let c0_i32_12 : BitVec 32 := 0#32
  let v40 : BitVec 1 := Scalar.cmpi .sgt c256_i32_10 c0_i32_12
  let v41 : BitVec 32 := Scalar.extui v40
  let c0_i32_13 : BitVec 32 := 0#32
  let v42 : BitVec 1 := Scalar.cmpi .slt c256_i32_10 c0_i32_13
  let v43 : BitVec 32 := Scalar.extui v42
  let v44 : BitVec 32 := Scalar.subi v41 v43
  let v45 : BitVec 1 := Scalar.cmpi .ne v39 v44
  let v46 : BitVec 32 := Scalar.remsi v33 c256_i32_10
  let c0_i32_14 : BitVec 32 := 0#32
  let v47 : BitVec 1 := Scalar.cmpi .ne v46 c0_i32_14
  let v48 : BitVec 1 := Scalar.andi v45 v47
  let v34 : BitVec 32 := Scalar.divsi v33 c256_i32_10
  let c1_i32_15 : BitVec 32 := 1#32
  let v49 : BitVec 32 := Scalar.subi v34 c1_i32_15
  let v50 : BitVec 32 := Scalar.select v48 v49 v34
  let v184 : BitVec 32 := Scalar.subi v50 c0_i32_66
  let c1_i32_67 : BitVec 32 := 1#32
  let v186 : BitVec 32 := Scalar.divsi v184 c1_i32_67
  let v187 : BitVec 32 := Scalar.muli v186 c1_i32_67
  let v188 : BitVec 32 := Scalar.addi c0_i32_66 v187
  let v185 : BitVec 32 := Scalar.addi c0_i32_66 v184
  let c1_i32_69 : BitVec 32 := 1#32
  ⟨v188, v185, c1_i32_69⟩
def k0_mult3 (i : grid0.Coords) (k0_t2 : Fin (k0_t2_loop i).trips) : BitVec 32 :=
  let arg1 : BitVec 32 := BitVec.ofNat 32 (i 1).val
  let c256_i32 : BitVec 32 := 256#32
  let v31 : BitVec 32 := Scalar.muli arg1 c256_i32
  let c256_i32_9 : BitVec 32 := 256#32
  let v32 : BitVec 32 := Scalar.addi v31 c256_i32_9
  let c1_i32 : BitVec 32 := 1#32
  let v33 : BitVec 32 := Scalar.subi v32 c1_i32
  let c0_i32 : BitVec 32 := 0#32
  let v35 : BitVec 1 := Scalar.cmpi .sgt v33 c0_i32
  let v36 : BitVec 32 := Scalar.extui v35
  let c0_i32_11 : BitVec 32 := 0#32
  let v37 : BitVec 1 := Scalar.cmpi .slt v33 c0_i32_11
  let v38 : BitVec 32 := Scalar.extui v37
  let v39 : BitVec 32 := Scalar.subi v36 v38
  let c256_i32_10 : BitVec 32 := 256#32
  let c0_i32_12 : BitVec 32 := 0#32
  let v40 : BitVec 1 := Scalar.cmpi .sgt c256_i32_10 c0_i32_12
  let v41 : BitVec 32 := Scalar.extui v40
  let c0_i32_13 : BitVec 32 := 0#32
  let v42 : BitVec 1 := Scalar.cmpi .slt c256_i32_10 c0_i32_13
  let v43 : BitVec 32 := Scalar.extui v42
  let v44 : BitVec 32 := Scalar.subi v41 v43
  let v45 : BitVec 1 := Scalar.cmpi .ne v39 v44
  let v46 : BitVec 32 := Scalar.remsi v33 c256_i32_10
  let c0_i32_14 : BitVec 32 := 0#32
  let v47 : BitVec 1 := Scalar.cmpi .ne v46 c0_i32_14
  let v48 : BitVec 1 := Scalar.andi v45 v47
  let v34 : BitVec 32 := Scalar.divsi v33 c256_i32_10
  let c1_i32_15 : BitVec 32 := 1#32
  let v49 : BitVec 32 := Scalar.subi v34 c1_i32_15
  let v50 : BitVec 32 := Scalar.select v48 v49 v34
  let c1_i32_93 : BitVec 32 := 1#32
  let v208 : BitVec 32 := Scalar.subi v50 c1_i32_93
  let c0_i32_66 : BitVec 32 := 0#32
  let v184 : BitVec 32 := Scalar.subi v50 c0_i32_66
  let c1_i32_67 : BitVec 32 := 1#32
  let v186 : BitVec 32 := Scalar.divsi v184 c1_i32_67
  let v187 : BitVec 32 := Scalar.muli v186 c1_i32_67
  let v188 : BitVec 32 := Scalar.addi c0_i32_66 v187
  let c1_i32_69 : BitVec 32 := 1#32
  let arg7 : BitVec 32 := Scf.iv v188 c1_i32_69 k0_t2
  let v209 : BitVec 32 := Scalar.subi v208 arg7
  let c256_i32_94 : BitVec 32 := 256#32
  let v210 : BitVec 32 := Scalar.muli v209 c256_i32_94
  v210
def k0_off9 (i : grid0.Coords) (k0_t2 : Fin (k0_t2_loop i).trips) : Fin 3 → Nat :=
  let c0_95 : Index := 0#32
  let c0_96 : Index := 0#32
  let arg1 : BitVec 32 := BitVec.ofNat 32 (i 1).val
  let c256_i32 : BitVec 32 := 256#32
  let v31 : BitVec 32 := Scalar.muli arg1 c256_i32
  let c256_i32_9 : BitVec 32 := 256#32
  let v32 : BitVec 32 := Scalar.addi v31 c256_i32_9
  let c1_i32 : BitVec 32 := 1#32
  let v33 : BitVec 32 := Scalar.subi v32 c1_i32
  let c0_i32 : BitVec 32 := 0#32
  let v35 : BitVec 1 := Scalar.cmpi .sgt v33 c0_i32
  let v36 : BitVec 32 := Scalar.extui v35
  let c0_i32_11 : BitVec 32 := 0#32
  let v37 : BitVec 1 := Scalar.cmpi .slt v33 c0_i32_11
  let v38 : BitVec 32 := Scalar.extui v37
  let v39 : BitVec 32 := Scalar.subi v36 v38
  let c256_i32_10 : BitVec 32 := 256#32
  let c0_i32_12 : BitVec 32 := 0#32
  let v40 : BitVec 1 := Scalar.cmpi .sgt c256_i32_10 c0_i32_12
  let v41 : BitVec 32 := Scalar.extui v40
  let c0_i32_13 : BitVec 32 := 0#32
  let v42 : BitVec 1 := Scalar.cmpi .slt c256_i32_10 c0_i32_13
  let v43 : BitVec 32 := Scalar.extui v42
  let v44 : BitVec 32 := Scalar.subi v41 v43
  let v45 : BitVec 1 := Scalar.cmpi .ne v39 v44
  let v46 : BitVec 32 := Scalar.remsi v33 c256_i32_10
  let c0_i32_14 : BitVec 32 := 0#32
  let v47 : BitVec 1 := Scalar.cmpi .ne v46 c0_i32_14
  let v48 : BitVec 1 := Scalar.andi v45 v47
  let v34 : BitVec 32 := Scalar.divsi v33 c256_i32_10
  let c1_i32_15 : BitVec 32 := 1#32
  let v49 : BitVec 32 := Scalar.subi v34 c1_i32_15
  let v50 : BitVec 32 := Scalar.select v48 v49 v34
  let c1_i32_93 : BitVec 32 := 1#32
  let v208 : BitVec 32 := Scalar.subi v50 c1_i32_93
  let c0_i32_66 : BitVec 32 := 0#32
  let v184 : BitVec 32 := Scalar.subi v50 c0_i32_66
  let c1_i32_67 : BitVec 32 := 1#32
  let v186 : BitVec 32 := Scalar.divsi v184 c1_i32_67
  let v187 : BitVec 32 := Scalar.muli v186 c1_i32_67
  let v188 : BitVec 32 := Scalar.addi c0_i32_66 v187
  let c1_i32_69 : BitVec 32 := 1#32
  let arg7 : BitVec 32 := Scf.iv v188 c1_i32_69 k0_t2
  let v209 : BitVec 32 := Scalar.subi v208 arg7
  let c256_i32_94 : BitVec 32 := 256#32
  let v210 : BitVec 32 := Scalar.muli v209 c256_i32_94
  let v211 : BitVec 32 := v210
  let v212 : Index := Scalar.indexCast v211
  ![0, 0, v212.toNat]
def k0_off10 (i : grid0.Coords) (k0_t2 : Fin (k0_t2_loop i).trips) : Fin 3 → Nat :=
  let c0_97 : Index := 0#32
  let c128_98 : Index := 128#32
  let arg1 : BitVec 32 := BitVec.ofNat 32 (i 1).val
  let c256_i32 : BitVec 32 := 256#32
  let v31 : BitVec 32 := Scalar.muli arg1 c256_i32
  let c256_i32_9 : BitVec 32 := 256#32
  let v32 : BitVec 32 := Scalar.addi v31 c256_i32_9
  let c1_i32 : BitVec 32 := 1#32
  let v33 : BitVec 32 := Scalar.subi v32 c1_i32
  let c0_i32 : BitVec 32 := 0#32
  let v35 : BitVec 1 := Scalar.cmpi .sgt v33 c0_i32
  let v36 : BitVec 32 := Scalar.extui v35
  let c0_i32_11 : BitVec 32 := 0#32
  let v37 : BitVec 1 := Scalar.cmpi .slt v33 c0_i32_11
  let v38 : BitVec 32 := Scalar.extui v37
  let v39 : BitVec 32 := Scalar.subi v36 v38
  let c256_i32_10 : BitVec 32 := 256#32
  let c0_i32_12 : BitVec 32 := 0#32
  let v40 : BitVec 1 := Scalar.cmpi .sgt c256_i32_10 c0_i32_12
  let v41 : BitVec 32 := Scalar.extui v40
  let c0_i32_13 : BitVec 32 := 0#32
  let v42 : BitVec 1 := Scalar.cmpi .slt c256_i32_10 c0_i32_13
  let v43 : BitVec 32 := Scalar.extui v42
  let v44 : BitVec 32 := Scalar.subi v41 v43
  let v45 : BitVec 1 := Scalar.cmpi .ne v39 v44
  let v46 : BitVec 32 := Scalar.remsi v33 c256_i32_10
  let c0_i32_14 : BitVec 32 := 0#32
  let v47 : BitVec 1 := Scalar.cmpi .ne v46 c0_i32_14
  let v48 : BitVec 1 := Scalar.andi v45 v47
  let v34 : BitVec 32 := Scalar.divsi v33 c256_i32_10
  let c1_i32_15 : BitVec 32 := 1#32
  let v49 : BitVec 32 := Scalar.subi v34 c1_i32_15
  let v50 : BitVec 32 := Scalar.select v48 v49 v34
  let c1_i32_93 : BitVec 32 := 1#32
  let v208 : BitVec 32 := Scalar.subi v50 c1_i32_93
  let c0_i32_66 : BitVec 32 := 0#32
  let v184 : BitVec 32 := Scalar.subi v50 c0_i32_66
  let c1_i32_67 : BitVec 32 := 1#32
  let v186 : BitVec 32 := Scalar.divsi v184 c1_i32_67
  let v187 : BitVec 32 := Scalar.muli v186 c1_i32_67
  let v188 : BitVec 32 := Scalar.addi c0_i32_66 v187
  let c1_i32_69 : BitVec 32 := 1#32
  let arg7 : BitVec 32 := Scf.iv v188 c1_i32_69 k0_t2
  let v209 : BitVec 32 := Scalar.subi v208 arg7
  let c256_i32_94 : BitVec 32 := 256#32
  let v210 : BitVec 32 := Scalar.muli v209 c256_i32_94
  let v211 : BitVec 32 := v210
  let v216 : Index := Scalar.indexCast v211
  ![0, 128, v216.toNat]
def k0_off11 (i : grid0.Coords) (k0_t2 : Fin (k0_t2_loop i).trips) : Fin 3 → Nat :=
  let c0_118 : Index := 0#32
  let c64_119 : Index := 64#32
  let arg1 : BitVec 32 := BitVec.ofNat 32 (i 1).val
  let c256_i32 : BitVec 32 := 256#32
  let v31 : BitVec 32 := Scalar.muli arg1 c256_i32
  let c256_i32_9 : BitVec 32 := 256#32
  let v32 : BitVec 32 := Scalar.addi v31 c256_i32_9
  let c1_i32 : BitVec 32 := 1#32
  let v33 : BitVec 32 := Scalar.subi v32 c1_i32
  let c0_i32 : BitVec 32 := 0#32
  let v35 : BitVec 1 := Scalar.cmpi .sgt v33 c0_i32
  let v36 : BitVec 32 := Scalar.extui v35
  let c0_i32_11 : BitVec 32 := 0#32
  let v37 : BitVec 1 := Scalar.cmpi .slt v33 c0_i32_11
  let v38 : BitVec 32 := Scalar.extui v37
  let v39 : BitVec 32 := Scalar.subi v36 v38
  let c256_i32_10 : BitVec 32 := 256#32
  let c0_i32_12 : BitVec 32 := 0#32
  let v40 : BitVec 1 := Scalar.cmpi .sgt c256_i32_10 c0_i32_12
  let v41 : BitVec 32 := Scalar.extui v40
  let c0_i32_13 : BitVec 32 := 0#32
  let v42 : BitVec 1 := Scalar.cmpi .slt c256_i32_10 c0_i32_13
  let v43 : BitVec 32 := Scalar.extui v42
  let v44 : BitVec 32 := Scalar.subi v41 v43
  let v45 : BitVec 1 := Scalar.cmpi .ne v39 v44
  let v46 : BitVec 32 := Scalar.remsi v33 c256_i32_10
  let c0_i32_14 : BitVec 32 := 0#32
  let v47 : BitVec 1 := Scalar.cmpi .ne v46 c0_i32_14
  let v48 : BitVec 1 := Scalar.andi v45 v47
  let v34 : BitVec 32 := Scalar.divsi v33 c256_i32_10
  let c1_i32_15 : BitVec 32 := 1#32
  let v49 : BitVec 32 := Scalar.subi v34 c1_i32_15
  let v50 : BitVec 32 := Scalar.select v48 v49 v34
  let c1_i32_93 : BitVec 32 := 1#32
  let v208 : BitVec 32 := Scalar.subi v50 c1_i32_93
  let c0_i32_66 : BitVec 32 := 0#32
  let v184 : BitVec 32 := Scalar.subi v50 c0_i32_66
  let c1_i32_67 : BitVec 32 := 1#32
  let v186 : BitVec 32 := Scalar.divsi v184 c1_i32_67
  let v187 : BitVec 32 := Scalar.muli v186 c1_i32_67
  let v188 : BitVec 32 := Scalar.addi c0_i32_66 v187
  let c1_i32_69 : BitVec 32 := 1#32
  let arg7 : BitVec 32 := Scf.iv v188 c1_i32_69 k0_t2
  let v209 : BitVec 32 := Scalar.subi v208 arg7
  let c256_i32_94 : BitVec 32 := 256#32
  let v210 : BitVec 32 := Scalar.muli v209 c256_i32_94
  let v211 : BitVec 32 := v210
  let v260 : Index := Scalar.indexCast v211
  ![0, 64, v260.toNat]
def k0_off12 (i : grid0.Coords) (k0_t2 : Fin (k0_t2_loop i).trips) : Fin 3 → Nat :=
  let c0_120 : Index := 0#32
  let c192_121 : Index := 192#32
  let arg1 : BitVec 32 := BitVec.ofNat 32 (i 1).val
  let c256_i32 : BitVec 32 := 256#32
  let v31 : BitVec 32 := Scalar.muli arg1 c256_i32
  let c256_i32_9 : BitVec 32 := 256#32
  let v32 : BitVec 32 := Scalar.addi v31 c256_i32_9
  let c1_i32 : BitVec 32 := 1#32
  let v33 : BitVec 32 := Scalar.subi v32 c1_i32
  let c0_i32 : BitVec 32 := 0#32
  let v35 : BitVec 1 := Scalar.cmpi .sgt v33 c0_i32
  let v36 : BitVec 32 := Scalar.extui v35
  let c0_i32_11 : BitVec 32 := 0#32
  let v37 : BitVec 1 := Scalar.cmpi .slt v33 c0_i32_11
  let v38 : BitVec 32 := Scalar.extui v37
  let v39 : BitVec 32 := Scalar.subi v36 v38
  let c256_i32_10 : BitVec 32 := 256#32
  let c0_i32_12 : BitVec 32 := 0#32
  let v40 : BitVec 1 := Scalar.cmpi .sgt c256_i32_10 c0_i32_12
  let v41 : BitVec 32 := Scalar.extui v40
  let c0_i32_13 : BitVec 32 := 0#32
  let v42 : BitVec 1 := Scalar.cmpi .slt c256_i32_10 c0_i32_13
  let v43 : BitVec 32 := Scalar.extui v42
  let v44 : BitVec 32 := Scalar.subi v41 v43
  let v45 : BitVec 1 := Scalar.cmpi .ne v39 v44
  let v46 : BitVec 32 := Scalar.remsi v33 c256_i32_10
  let c0_i32_14 : BitVec 32 := 0#32
  let v47 : BitVec 1 := Scalar.cmpi .ne v46 c0_i32_14
  let v48 : BitVec 1 := Scalar.andi v45 v47
  let v34 : BitVec 32 := Scalar.divsi v33 c256_i32_10
  let c1_i32_15 : BitVec 32 := 1#32
  let v49 : BitVec 32 := Scalar.subi v34 c1_i32_15
  let v50 : BitVec 32 := Scalar.select v48 v49 v34
  let c1_i32_93 : BitVec 32 := 1#32
  let v208 : BitVec 32 := Scalar.subi v50 c1_i32_93
  let c0_i32_66 : BitVec 32 := 0#32
  let v184 : BitVec 32 := Scalar.subi v50 c0_i32_66
  let c1_i32_67 : BitVec 32 := 1#32
  let v186 : BitVec 32 := Scalar.divsi v184 c1_i32_67
  let v187 : BitVec 32 := Scalar.muli v186 c1_i32_67
  let v188 : BitVec 32 := Scalar.addi c0_i32_66 v187
  let c1_i32_69 : BitVec 32 := 1#32
  let arg7 : BitVec 32 := Scf.iv v188 c1_i32_69 k0_t2
  let v209 : BitVec 32 := Scalar.subi v208 arg7
  let c256_i32_94 : BitVec 32 := 256#32
  let v210 : BitVec 32 := Scalar.muli v209 c256_i32_94
  let v211 : BitVec 32 := v210
  let v264 : Index := Scalar.indexCast v211
  ![0, 192, v264.toNat]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c7_i32 : BitVec 32 := 7#32
  let c0_i32 : BitVec 32 := 0#32
  ![v1.toNat, c7_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S32768x4480 : Shape := ⟨2, ![32768, 4480]⟩
abbrev S16x256x2048 : Shape := ⟨3, ![16, 256, 2048]⟩
abbrev S32768x512 : Shape := ⟨2, ![32768, 512]⟩
abbrev S16x2048x2x4x64 : Shape := ⟨5, ![16, 2048, 2, 4, 64]⟩
abbrev S16x2048x256 : Shape := ⟨3, ![16, 2048, 256]⟩
abbrev S16x2048x2x2x64 : Shape := ⟨5, ![16, 2048, 2, 2, 64]⟩
abbrev S16x2048x1x2x64 : Shape := ⟨5, ![16, 2048, 1, 2, 64]⟩
abbrev S16x2048x2x64 : Shape := ⟨4, ![16, 2048, 2, 64]⟩
abbrev S2048 : Shape := ⟨1, ![2048]⟩
abbrev S16x2x2048x2048x4 : Shape := ⟨5, ![16, 2, 2048, 2048, 4]⟩
abbrev S16x2x4x2048x2048 : Shape := ⟨5, ![16, 2, 4, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S16x2x64x4x2048 : Shape := ⟨5, ![16, 2, 64, 4, 2048]⟩

abbrev nBuf : Space → Nat
  | .hbm => 74
  | .vmem => 0
  | .smem => 0
  | _ => 0

abbrev bufTy : (tb : Table) → Fin (tcTables nBuf tb) → BufTy
  | .hbm, ⟨0, _⟩ => ⟨S32768x4480, .f32⟩
  | .hbm, ⟨1, _⟩ => ⟨S16x256x2048, .f32⟩
  | .hbm, ⟨2, _⟩ => ⟨S32768x512, .f32⟩
  | .hbm, ⟨3, _⟩ => ⟨S16x2048x2x4x64, .f32⟩
  | .hbm, ⟨4, _⟩ => ⟨S16x2048x256, .f32⟩
  | .hbm, ⟨5, _⟩ => ⟨S16x2048x2x2x64, .f32⟩
  | .hbm, ⟨6, _⟩ => ⟨S16x2048x1x2x64, .f32⟩
  | .hbm, ⟨7, _⟩ => ⟨S16x2048x2x64, .f32⟩
  | .hbm, ⟨8, _⟩ => ⟨S16x2048x1x2x64, .f32⟩
  | .hbm, ⟨9, _⟩ => ⟨S16x2048x2x64, .f32⟩
  | .hbm, ⟨10, _⟩ => ⟨S2048, .i32⟩
  | .hbm, ⟨11, _⟩ => ⟨S16x2x2048x2048x4, .f32⟩
  | .hbm, ⟨12, _⟩ => ⟨S16x2x4x2048x2048, .f32⟩
  | .hbm, ⟨13, _⟩ => ⟨S_, .f32⟩
  | .hbm, ⟨14, _⟩ => ⟨S16x2x4x2048x2048, .f32⟩
  | .hbm, ⟨15, _⟩ => ⟨S16x2x4x2048x2048, .f32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S16x2x4x2048x2048, .f32⟩
  | .hbm, ⟨22, _⟩ => ⟨S16x2x4x2048x2048, .f32⟩
  | .hbm, ⟨23, _⟩ => ⟨S_, .f32⟩
  | .hbm, ⟨24, _⟩ => ⟨S16x2x4x2048x2048, .f32⟩
  | .hbm, ⟨25, _⟩ => ⟨S16x2x4x2048x2048, .f32⟩
  | .hbm, ⟨26, _⟩ => ⟨S16x2x4x2048x2048, .f32⟩
  | .hbm, ⟨27, _⟩ => ⟨S16x2x4x2048x2048, .f32⟩
  | .hbm, ⟨28, _⟩ => ⟨S16x2x4x2048x2048, .i1⟩
  | .hbm, ⟨29, _⟩ => ⟨S16x2x4x2048x2048, .f32⟩
  | .hbm, ⟨30, _⟩ => ⟨S16x2x4x2048x2048, .f32⟩
  | .hbm, ⟨31, _⟩ => ⟨S16x2x4x2048x2048, .f32⟩
  | .hbm, ⟨32, _⟩ => ⟨S16x2x4x2048x2048, .f32⟩
  | .hbm, ⟨33, _⟩ => ⟨S16x2x4x2048x2048, .f32⟩
  | .hbm, ⟨34, _⟩ => ⟨S16x2x4x2048x2048, .f32⟩
  | .hbm, ⟨35, _⟩ => ⟨S16x2x4x2048x2048, .f32⟩
  | .hbm, ⟨36, _⟩ => ⟨S16x2x4x2048x2048, .f32⟩
  | .hbm, ⟨37, _⟩ => ⟨S16x2x4x2048x2048, .f32⟩
  | .hbm, ⟨38, _⟩ => ⟨S_, .f32⟩
  | .hbm, ⟨39, _⟩ => ⟨S_, .f32⟩
  | .hbm, ⟨40, _⟩ => ⟨S16x2x4x2048x2048, .i1⟩
  | .hbm, ⟨41, _⟩ => ⟨S16x2x4x2048x2048, .f32⟩
  | .hbm, ⟨42, _⟩ => ⟨S16x2x4x2048x2048, .f32⟩
  | .hbm, ⟨43, _⟩ => ⟨S_, .f32⟩
  | .hbm, ⟨44, _⟩ => ⟨S_, .f32⟩
  | .hbm, ⟨45, _⟩ => ⟨S16x2x4x2048x2048, .f32⟩
  | .hbm, ⟨46, _⟩ => ⟨S16x2x4x2048x2048, .f32⟩
  | .hbm, ⟨47, _⟩ => ⟨S16x2x4x2048x2048, .f32⟩
  | .hbm, ⟨48, _⟩ => ⟨S_, .f32⟩
  | .hbm, ⟨49, _⟩ => ⟨S16x2x4x2048x2048, .f32⟩
  | .hbm, ⟨50, _⟩ => ⟨S16x2x4x2048x2048, .f32⟩
  | .hbm, ⟨51, _⟩ => ⟨S16x2x4x2048x2048, .f32⟩
  | .hbm, ⟨52, _⟩ => ⟨S16x2x4x2048x2048, .f32⟩
  | .hbm, ⟨53, _⟩ => ⟨S16x2x4x2048x2048, .i1⟩
  | .hbm, ⟨54, _⟩ => ⟨S16x2x4x2048x2048, .f32⟩
  | .hbm, ⟨55, _⟩ => ⟨S16x2x4x2048x2048, .f32⟩
  | .hbm, ⟨56, _⟩ => ⟨S16x2x4x2048x2048, .f32⟩
  | .hbm, ⟨57, _⟩ => ⟨S16x2x4x2048x2048, .f32⟩
  | .hbm, ⟨58, _⟩ => ⟨S16x2x4x2048x2048, .f32⟩
  | .hbm, ⟨59, _⟩ => ⟨S16x2x4x2048x2048, .f32⟩
  | .hbm, ⟨60, _⟩ => ⟨S16x2x4x2048x2048, .f32⟩
  | .hbm, ⟨61, _⟩ => ⟨S16x2x4x2048x2048, .f32⟩
  | .hbm, ⟨62, _⟩ => ⟨S16x2x4x2048x2048, .f32⟩
  | .hbm, ⟨63, _⟩ => ⟨S16x2x4x2048x2048, .f32⟩
  | .hbm, ⟨64, _⟩ => ⟨S16x2x4x2048x2048, .f32⟩
  | .hbm, ⟨65, _⟩ => ⟨S_, .f32⟩
  | .hbm, ⟨66, _⟩ => ⟨S_, .f32⟩
  | .hbm, ⟨67, _⟩ => ⟨S16x2x4x2048x2048, .i1⟩
  | .hbm, ⟨68, _⟩ => ⟨S16x2x4x2048x2048, .f32⟩
  | .hbm, ⟨69, _⟩ => ⟨S16x2x4x2048x2048, .f32⟩
  | .hbm, ⟨70, _⟩ => ⟨S16x2x64x4x2048, .f32⟩
  | .hbm, ⟨71, _⟩ => ⟨S16x2048x2x4x64, .f32⟩
  | .hbm, ⟨72, _⟩ => ⟨S32768x512, .f32⟩
  | .hbm, ⟨73, _⟩ => ⟨S32768x512, .bf16⟩
  | _, _ => ⟨S32768x4480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v19 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v20 : Ref sig .tc := ⟨.hbm, 42, rfl⟩
abbrev main_call2_cst : Ref sig .tc := ⟨.hbm, 43, rfl⟩
abbrev main_call2_v0 : Ref sig .tc := ⟨.hbm, 44, rfl⟩
abbrev main_v21 : Ref sig .tc := ⟨.hbm, 45, rfl⟩
abbrev main_v22 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩

abbrev nD : Nat := 1
abbrev τ : Topo := Topo.v7x

variable {F : FTy → Type} [FloatOps F]
-- ==== Kernel6.lean ====
abbrev S32768x4480 : Shape := ⟨2, ![32768, 4480]⟩
abbrev S16x192x2048 : Shape := ⟨3, ![16, 192, 2048]⟩
abbrev S256 : Shape := ⟨1, ![256]⟩
abbrev S256x768 : Shape := ⟨2, ![256, 768]⟩
abbrev S128 : Shape := ⟨1, ![128]⟩
abbrev S128x8x64 : Shape := ⟨3, ![128, 8, 64]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S1x2048x1x32 : Shape := ⟨4, ![1, 2048, 1, 32]⟩
abbrev S1x2048x8x32 : Shape := ⟨4, ![1, 2048, 8, 32]⟩
abbrev S2048x256 : Shape := ⟨2, ![2048, 256]⟩
abbrev S32x2048 : Shape := ⟨2, ![32, 2048]⟩
abbrev S256x8x96 : Shape := ⟨3, ![256, 8, 96]⟩
abbrev S256x8x32 : Shape := ⟨3, ![256, 8, 32]⟩
abbrev S256x8x16 : Shape := ⟨3, ![256, 8, 16]⟩
abbrev S256x8x64 : Shape := ⟨3, ![256, 8, 64]⟩
abbrev S256x512 : Shape := ⟨2, ![256, 512]⟩
abbrev S256x256 : Shape := ⟨2, ![256, 256]⟩
abbrev S256x1024 : Shape := ⟨2, ![256, 1024]⟩
abbrev S8x64x128 : Shape := ⟨3, ![8, 64, 128]⟩
abbrev S1x256 : Shape := ⟨2, ![1, 256]⟩
abbrev S128x1 : Shape := ⟨2, ![128, 1]⟩
abbrev S8x32768x160 : Shape := ⟨3, ![8, 32768, 160]⟩
abbrev S16x160x2048 : Shape := ⟨3, ![16, 160, 2048]⟩
abbrev S16x168x2048 : Shape := ⟨3, ![16, 168, 2048]⟩
abbrev S1x192x256 : Shape := ⟨3, ![1, 192, 256]⟩
abbrev S32x256 : Shape := ⟨2, ![32, 256]⟩
abbrev S8x256x160 : Shape := ⟨3, ![8, 256, 160]⟩
abbrev S1x160x256 : Shape := ⟨3, ![1, 160, 256]⟩
abbrev S1x168x256 : Shape := ⟨3, ![1, 168, 256]⟩
abbrev S256x1 : Shape := ⟨2, ![256, 1]⟩
abbrev S256x64 : Shape := ⟨2, ![256, 64]⟩
abbrev S1x64x128 : Shape := ⟨3, ![1, 64, 128]⟩
abbrev S64x128 : Shape := ⟨2, ![64, 128]⟩
abbrev S256x128 : Shape := ⟨2, ![256, 128]⟩
abbrev S1x256x128 : Shape := ⟨3, ![1, 256, 128]⟩
abbrev S256x32 : Shape := ⟨2, ![256, 32]⟩
abbrev S1x256x32 : Shape := ⟨3, ![1, 256, 32]⟩
abbrev S192x256 : Shape := ⟨2, ![192, 256]⟩
abbrev S128x256 : Shape := ⟨2, ![128, 256]⟩
abbrev S1x128x256 : Shape := ⟨3, ![1, 128, 256]⟩
abbrev S1x32x256 : Shape := ⟨3, ![1, 32, 256]⟩
abbrev S8x256 : Shape := ⟨2, ![8, 256]⟩
abbrev S1x8x256 : Shape := ⟨3, ![1, 8, 256]⟩

abbrev nBuf : Space → Nat
  | .hbm => 52
  | .vmem => 22
  | .smem => 0
  | _ => 0

abbrev bufTy : (tb : Table) → Fin (tcTables nBuf tb) → BufTy
  | .hbm, ⟨0, _⟩ => ⟨S32768x4480, .f32⟩
  | .hbm, ⟨1, _⟩ => ⟨S16x192x2048, .f32⟩
  | .hbm, ⟨2, _⟩ => ⟨S256, .f32⟩
  | .hbm, ⟨3, _⟩ => ⟨S256x768, .f32⟩
  | .hbm, ⟨4, _⟩ => ⟨S128, .f32⟩
  | .hbm, ⟨5, _⟩ => ⟨S128x8x64, .f32⟩
  | .hbm, ⟨6, _⟩ => ⟨S2048, .i32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S2048, .f32⟩
  | .hbm, ⟨16, _⟩ => ⟨S2048x1, .f32⟩
  | .hbm, ⟨17, _⟩ => ⟨S1x16, .f32⟩
  | .hbm, ⟨18, _⟩ => ⟨S2048x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S2048x32, .f32⟩
  | .hbm, ⟨23, _⟩ => ⟨S2048x16, .f32⟩
  | .hbm, ⟨24, _⟩ => ⟨S2048x32, .f32⟩
  | .hbm, ⟨25, _⟩ => ⟨S1x2048x1x32, .f32⟩
  | .hbm, ⟨26, _⟩ => ⟨S1x2048x8x32, .f32⟩
  | .hbm, ⟨27, _⟩ => ⟨S2048x256, .f32⟩
  | .hbm, ⟨28, _⟩ => ⟨S1x2048x1x32, .f32⟩
  | .hbm, ⟨29, _⟩ => ⟨S1x2048x8x32, .f32⟩
  | .hbm, ⟨30, _⟩ => ⟨S2048x256, .f32⟩
  | .hbm, ⟨31, _⟩ => ⟨S32x2048, .f32⟩
  | .hbm, ⟨32, _⟩ => ⟨S32x2048, .f32⟩
  | .hbm, ⟨33, _⟩ => ⟨S256x8x96, .f32⟩
  | .hbm, ⟨34, _⟩ => ⟨S256x8x32, .f32⟩
  | .hbm, ⟨35, _⟩ => ⟨S256x8x16, .f32⟩
  | .hbm, ⟨36, _⟩ => ⟨S256x8x16, .f32⟩
  | .hbm, ⟨37, _⟩ => ⟨S256x8x16, .f32⟩
  | .hbm, ⟨38, _⟩ => ⟨S256x8x32, .f32⟩
  | .hbm, ⟨39, _⟩ => ⟨S256x8x64, .f32⟩
  | .hbm, ⟨40, _⟩ => ⟨S256x512, .f32⟩
  | .hbm, ⟨41, _⟩ => ⟨S256x256, .f32⟩
  | .hbm, ⟨42, _⟩ => ⟨S256x256, .f32⟩
  | .hbm, ⟨43, _⟩ => ⟨S256x1024, .f32⟩
  | .hbm, ⟨44, _⟩ => ⟨S256x1024, .bf16⟩
  | .hbm, ⟨45, _⟩ => ⟨S8x64x128, .f32⟩
  | .hbm, ⟨46, _⟩ => ⟨S8x64x128, .bf16⟩
  | .hbm, ⟨47, _⟩ => ⟨S1x256, .f32⟩
  | .hbm, ⟨48, _⟩ => ⟨S128x1, .f32⟩
  | .hbm, ⟨49, _⟩ => ⟨S8x32768x160, .bf16⟩
  | .hbm, ⟨50, _⟩ => ⟨S16x160x2048, .f32⟩
  | .hbm, ⟨51, _⟩ => ⟨S16x168x2048, .bf16⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1x192x256, .f32⟩
  | .local _ .vmem, ⟨7, _⟩ => ⟨S1x192x256, .f32⟩
  | .local _ .vmem, ⟨8, _⟩ => ⟨S32x256, .f32⟩
  | .local _ .vmem, ⟨9, _⟩ => ⟨S32x256, .f32⟩
  | .local _ .vmem, ⟨10, _⟩ => ⟨S32x256, .f32⟩
  | .local _ .vmem, ⟨11, _⟩ => ⟨S32x256, .f32⟩
  | .local _ .vmem, ⟨12, _⟩ => ⟨S1x256, .f32⟩
  | .local _ .vmem, ⟨13, _⟩ => ⟨S256x1024, .bf16⟩
  | .local _ .vmem, ⟨14, _⟩ => ⟨S128x1, .f32⟩
  | .local _ .vmem, ⟨15, _⟩ => ⟨S8x64x128, .bf16⟩
  | .local _ .vmem, ⟨16, _⟩ => ⟨S8x256x160, .bf16⟩
  | .local _ .vmem, ⟨17, _⟩ => ⟨S8x256x160, .bf16⟩
  | .local _ .vmem, ⟨18, _⟩ => ⟨S1x160x256, .f32⟩
  | .local _ .vmem, ⟨19, _⟩ => ⟨S1x160x256, .f32⟩
  | .local _ .vmem, ⟨20, _⟩ => ⟨S1x168x256, .bf16⟩
  | .local _ .vmem, ⟨21, _⟩ => ⟨S1x168x256, .bf16⟩
  | _, _ => ⟨S32768x4480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41_0 : Ref sig .tc := ⟨.hbm, 49, rfl⟩
abbrev main_v41_1 : Ref sig .tc := ⟨.hbm, 50, rfl⟩
abbrev main_v41_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x192x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x64x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x256x160 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x160x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x168x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S32768x4480 : Shape := ⟨2, ![32768, 4480]⟩
abbrev S16x192x2048 : Shape := ⟨3, ![16, 192, 2048]⟩
abbrev S256 : Shape := ⟨1, ![256]⟩
abbrev S256x768 : Shape := ⟨2, ![256, 768]⟩
abbrev S128 : Shape := ⟨1, ![128]⟩
abbrev S128x8x64 : Shape := ⟨3, ![128, 8, 64]⟩
abbrev S2048 : Shape := ⟨1, ![2048]⟩
abbrev S2048x1 : Shape := ⟨2, ![2048, 1]⟩
abbrev S16 : Shape := ⟨1, ![16]⟩
abbrev S_ : Shape := ⟨0, ![]⟩
abbrev S1x16 : Shape := ⟨2, ![1, 16]⟩
abbrev S2048x16 : Shape := ⟨2, ![2048, 16]⟩
abbrev S32768x256 : Shape := ⟨2, ![32768, 256]⟩
abbrev S32768 : Shape := ⟨1, ![32768]⟩
abbrev S32768x1 : Shape := ⟨2, ![32768, 1]⟩
abbrev S1x256 : Shape := ⟨2, ![1, 256]⟩
abbrev S32768x768 : Shape := ⟨2, ![32768, 768]⟩
abbrev S16x2048x8x96 : Shape := ⟨4, ![16, 2048, 8, 96]⟩
abbrev S16x2048x8x64 : Shape := ⟨4, ![16, 2048, 8, 64]⟩
abbrev S8x128x16x2048 : Shape := ⟨4, ![8, 128, 16, 2048]⟩
abbrev S16x2048x8x128 : Shape := ⟨4, ![16, 2048, 8, 128]⟩
abbrev S16x2048x8x16 : Shape := ⟨4, ![16, 2048, 8, 16]⟩
abbrev S2048x1x16 : Shape := ⟨3, ![2048, 1, 16]⟩
abbrev S1x2048x1x16 : Shape := ⟨4, ![1, 2048, 1, 16]⟩
abbrev S16x2048x8x32 : Shape := ⟨4, ![16, 2048, 8, 32]⟩
abbrev S16x2048x8x160 : Shape := ⟨4, ![16, 2048, 8, 160]⟩
abbrev S32768x8x160 : Shape := ⟨3, ![32768, 8, 160]⟩
abbrev S8x32768x160 : Shape := ⟨3, ![8, 32768, 160]⟩
abbrev S16x160x2048 : Shape := ⟨3, ![16, 160, 2048]⟩
abbrev S16x2048x160 : Shape := ⟨3, ![16, 2048, 160]⟩
abbrev S16x2048x16 : Shape := ⟨3, ![16, 2048, 16]⟩
abbrev S16x2048x128 : Shape := ⟨3, ![16, 2048, 128]⟩
abbrev S16x2048 : Shape := ⟨2, ![16, 2048]⟩
abbrev S16x2048x1 : Shape := ⟨3, ![16, 2048, 1]⟩
abbrev S1x1x128 : Shape := ⟨3, ![1, 1, 128]⟩
abbrev S1x2048x16 : Shape := ⟨3, ![1, 2048, 16]⟩
abbrev S16x1x2048 : Shape := ⟨3, ![16, 1, 2048]⟩
abbrev S16x7x2048 : Shape := ⟨3, ![16, 7, 2048]⟩
abbrev S16x8x2048 : Shape := ⟨3, ![16, 8, 2048]⟩
abbrev S16x168x2048 : Shape := ⟨3, ![16, 168, 2048]⟩

abbrev nBuf : Space → Nat
  | .hbm => 118
  | .vmem => 0
  | .smem => 0
  | _ => 0

abbrev bufTy : (tb : Table) → Fin (tcTables nBuf tb) → BufTy
  | .hbm, ⟨0, _⟩ => ⟨S32768x4480, .f32⟩
  | .hbm, ⟨1, _⟩ => ⟨S16x192x2048, .f32⟩
  | .hbm, ⟨2, _⟩ => ⟨S256, .f32⟩
  | .hbm, ⟨3, _⟩ => ⟨S256x768, .f32⟩
  | .hbm, ⟨4, _⟩ => ⟨S128, .f32⟩
  | .hbm, ⟨5, _⟩ => ⟨S128x8x64, .f32⟩
  | .hbm, ⟨6, _⟩ => ⟨S2048, .i32⟩
  | .hbm, ⟨7, _⟩ => ⟨S2048, .f32⟩
  | .hbm, ⟨8, _⟩ => ⟨S2048x1, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S1x16, .f32⟩
  | .hbm, ⟨18, _⟩ => ⟨S2048x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S32768x256, .f32⟩
  | .hbm, ⟨24, _⟩ => ⟨S32768x256, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x256, .f32⟩
  | .hbm, ⟨36, _⟩ => ⟨S32768x256, .f32⟩
  | .hbm, ⟨37, _⟩ => ⟨S1x256, .f32⟩
  | .hbm, ⟨38, _⟩ => ⟨S32768x256, .f32⟩
  | .hbm, ⟨39, _⟩ => ⟨S32768x256, .f32⟩
  | .hbm, ⟨40, _⟩ => ⟨S32768x768, .f32⟩
  | .hbm, ⟨41, _⟩ => ⟨S16x2048x8x96, .f32⟩
  | .hbm, ⟨42, _⟩ => ⟨S16x2048x8x64, .f32⟩
  | .hbm, ⟨43, _⟩ => ⟨S8x128x16x2048, .f32⟩
  | .hbm, ⟨44, _⟩ => ⟨S16x2048x8x128, .f32⟩
  | .hbm, ⟨45, _⟩ => ⟨S_, .f32⟩
  | .hbm, ⟨46, _⟩ => ⟨S16x2048x8x128, .f32⟩
  | .hbm, ⟨47, _⟩ => ⟨S16x2048x8x128, .f32⟩
  | .hbm, ⟨48, _⟩ => ⟨S16x2048x8x16, .f32⟩
  | .hbm, ⟨49, _⟩ => ⟨S16x2048x8x16, .f32⟩
  | .hbm, ⟨50, _⟩ => ⟨S2048x1x16, .f32⟩
  | .hbm, ⟨51, _⟩ => ⟨S2048x1x16, .f32⟩
  | .hbm, ⟨52, _⟩ => ⟨S1x2048x1x16, .f32⟩
  | .hbm, ⟨53, _⟩ => ⟨S16x2048x8x16, .f32⟩
  | .hbm, ⟨54, _⟩ => ⟨S16x2048x8x16, .f32⟩
  | .hbm, ⟨55, _⟩ => ⟨S1x2048x1x16, .f32⟩
  | .hbm, ⟨56, _⟩ => ⟨S16x2048x8x16, .f32⟩
  | .hbm, ⟨57, _⟩ => ⟨S16x2048x8x16, .f32⟩
  | .hbm, ⟨58, _⟩ => ⟨S16x2048x8x16, .f32⟩
  | .hbm, ⟨59, _⟩ => ⟨S1x2048x1x16, .f32⟩
  | .hbm, ⟨60, _⟩ => ⟨S16x2048x8x16, .f32⟩
  | .hbm, ⟨61, _⟩ => ⟨S16x2048x8x16, .f32⟩
  | .hbm, ⟨62, _⟩ => ⟨S1x2048x1x16, .f32⟩
  | .hbm, ⟨63, _⟩ => ⟨S16x2048x8x16, .f32⟩
  | .hbm, ⟨64, _⟩ => ⟨S16x2048x8x16, .f32⟩
  | .hbm, ⟨65, _⟩ => ⟨S16x2048x8x16, .f32⟩
  | .hbm, ⟨66, _⟩ => ⟨S16x2048x8x32, .f32⟩
  | .hbm, ⟨67, _⟩ => ⟨S_, .f32⟩
  | .hbm, ⟨68, _⟩ => ⟨S16x2048x8x32, .f32⟩
  | .hbm, ⟨69, _⟩ => ⟨S16x2048x8x32, .f32⟩
  | .hbm, ⟨70, _⟩ => ⟨S16x2048x8x160, .f32⟩
  | .hbm, ⟨71, _⟩ => ⟨S32768x8x160, .f32⟩
  | .hbm, ⟨72, _⟩ => ⟨S8x32768x160, .f32⟩
  | .hbm, ⟨73, _⟩ => ⟨S8x32768x160, .bf16⟩
  | .hbm, ⟨74, _⟩ => ⟨S16x160x2048, .f32⟩
  | .hbm, ⟨75, _⟩ => ⟨S16x2048x160, .f32⟩
  | .hbm, ⟨76, _⟩ => ⟨S16x2048x16, .f32⟩
  | .hbm, ⟨77, _⟩ => ⟨S16x2048x16, .f32⟩
  | .hbm, ⟨78, _⟩ => ⟨S16x2048x128, .f32⟩
  | .hbm, ⟨79, _⟩ => ⟨S16x2048x128, .f32⟩
  | .hbm, ⟨80, _⟩ => ⟨S_, .f32⟩
  | .hbm, ⟨81, _⟩ => ⟨S16x2048, .f32⟩
  | .hbm, ⟨82, _⟩ => ⟨S16x2048x1, .f32⟩
  | .hbm, ⟨83, _⟩ => ⟨S_, .f32⟩
  | .hbm, ⟨84, _⟩ => ⟨S16x2048x1, .f32⟩
  | .hbm, ⟨85, _⟩ => ⟨S16x2048x1, .f32⟩
  | .hbm, ⟨86, _⟩ => ⟨S_, .f32⟩
  | .hbm, ⟨87, _⟩ => ⟨S16x2048x1, .f32⟩
  | .hbm, ⟨88, _⟩ => ⟨S16x2048x1, .f32⟩
  | .hbm, ⟨89, _⟩ => ⟨S16x2048x1, .f32⟩
  | .hbm, ⟨90, _⟩ => ⟨S16x2048x128, .f32⟩
  | .hbm, ⟨91, _⟩ => ⟨S16x2048x128, .f32⟩
  | .hbm, ⟨92, _⟩ => ⟨S1x1x128, .f32⟩
  | .hbm, ⟨93, _⟩ => ⟨S16x2048x128, .f32⟩
  | .hbm, ⟨94, _⟩ => ⟨S16x2048x128, .f32⟩
  | .hbm, ⟨95, _⟩ => ⟨S1x2048x16, .f32⟩
  | .hbm, ⟨96, _⟩ => ⟨S16x2048x16, .f32⟩
  | .hbm, ⟨97, _⟩ => ⟨S16x2048x16, .f32⟩
  | .hbm, ⟨98, _⟩ => ⟨S1x2048x16, .f32⟩
  | .hbm, ⟨99, _⟩ => ⟨S16x2048x16, .f32⟩
  | .hbm, ⟨100, _⟩ => ⟨S16x2048x16, .f32⟩
  | .hbm, ⟨101, _⟩ => ⟨S16x2048x16, .f32⟩
  | .hbm, ⟨102, _⟩ => ⟨S1x2048x16, .f32⟩
  | .hbm, ⟨103, _⟩ => ⟨S16x2048x16, .f32⟩
  | .hbm, ⟨104, _⟩ => ⟨S16x2048x16, .f32⟩
  | .hbm, ⟨105, _⟩ => ⟨S1x2048x16, .f32⟩
  | .hbm, ⟨106, _⟩ => ⟨S16x2048x16, .f32⟩
  | .hbm, ⟨107, _⟩ => ⟨S16x2048x16, .f32⟩
  | .hbm, ⟨108, _⟩ => ⟨S16x2048x16, .f32⟩
  | .hbm, ⟨109, _⟩ => ⟨S16x2048x160, .f32⟩
  | .hbm, ⟨110, _⟩ => ⟨S16x160x2048, .f32⟩
  | .hbm, ⟨111, _⟩ => ⟨S_, .f32⟩
  | .hbm, ⟨112, _⟩ => ⟨S16x1x2048, .f32⟩
  | .hbm, ⟨113, _⟩ => ⟨S_, .f32⟩
  | .hbm, ⟨114, _⟩ => ⟨S16x7x2048, .f32⟩
  | .hbm, ⟨115, _⟩ => ⟨S16x8x2048, .f32⟩
  | .hbm, ⟨116, _⟩ => ⟨S16x168x2048, .f32⟩
  | .hbm, ⟨117, _⟩ => ⟨S16x168x2048, .bf16⟩
  | _, _ => ⟨S32768x4480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_5 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_6 : Ref sig .tc := ⟨.hbm, 80, rfl⟩
abbrev main_v67 : Ref sig .tc := ⟨.hbm, 81, rfl⟩
abbrev main_v68 : Ref sig .tc := ⟨.hbm, 82, rfl⟩
abbrev main_cst_7 : Ref sig .tc := ⟨.hbm, 83, rfl⟩
abbrev main_v69 : Ref sig .tc := ⟨.hbm, 84, rfl⟩
abbrev main_v70 : Ref sig .tc := ⟨.hbm, 85, rfl⟩
abbrev main_cst_8 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_cst_9 : Ref sig .tc := ⟨.hbm, 111, rfl⟩
abbrev main_v95 : Ref sig .tc := ⟨.hbm, 112, rfl⟩
abbrev main_cst_10 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩

abbrev nD : Nat := 1
abbrev τ : Topo := Topo.v7x

variable {F : FTy → Type} [FloatOps F]
-- ==== Kernel7.lean ====
abbrev S32768x1024 : Shape := ⟨2, ![32768, 1024]⟩
abbrev S1x1024 : Shape := ⟨2, ![1, 1024]⟩
abbrev S1024x2816 : Shape := ⟨2, ![1024, 2816]⟩
abbrev S3x2816 : Shape := ⟨2, ![3, 2816]⟩
abbrev S1x2816 : Shape := ⟨2, ![1, 2816]⟩
abbrev S2816x1024 : Shape := ⟨2, ![2816, 1024]⟩
abbrev S16x2x2816 : Shape := ⟨3, ![16, 2, 2816]⟩
abbrev S512x1024 : Shape := ⟨2, ![512, 1024]⟩
abbrev S1x2x2816 : Shape := ⟨3, ![1, 2, 2816]⟩
abbrev S520x256 : Shape := ⟨2, ![520, 256]⟩
abbrev S2x2816 : Shape := ⟨2, ![2, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S2x256 : Shape := ⟨2, ![2, 256]⟩
abbrev S1x256 : Shape := ⟨2, ![1, 256]⟩
abbrev S256x1024 : Shape := ⟨2, ![256, 1024]⟩

abbrev nBuf : Space → Nat
  | .hbm => 11
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S3x2816, .f32⟩
  | .hbm, ⟨5, _⟩ => ⟨S1x2816, .f32⟩
  | .hbm, ⟨6, _⟩ => ⟨S2816x1024, .bf16⟩
  | .hbm, ⟨7, _⟩ => ⟨S1x1024, .f32⟩
  | .hbm, ⟨8, _⟩ => ⟨S16x2x2816, .f32⟩
  | .hbm, ⟨9, _⟩ => ⟨S32768x1024, .f32⟩
  | .hbm, ⟨10, _⟩ => ⟨S16x2x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S3x2816, .f32⟩
  | .local _ .vmem, ⟨6, _⟩ => ⟨S1x2816, .f32⟩
  | .local _ .vmem, ⟨7, _⟩ => ⟨S2816x1024, .bf16⟩
  | .local _ .vmem, ⟨8, _⟩ => ⟨S1x1024, .f32⟩
  | .local _ .vmem, ⟨9, _⟩ => ⟨S1x2x2816, .f32⟩
  | .local _ .vmem, ⟨10, _⟩ => ⟨S1x2x2816, .f32⟩
  | .local _ .vmem, ⟨11, _⟩ => ⟨S512x1024, .f32⟩
  | .local _ .vmem, ⟨12, _⟩ => ⟨S512x1024, .f32⟩
  | .local _ .vmem, ⟨13, _⟩ => ⟨S1x2x2816, .f32⟩
  | .local _ .vmem, ⟨14, _⟩ => ⟨S1x2x2816, .f32⟩
  | .local _ .vmem, ⟨15, _⟩ => ⟨S520x256, .f32⟩
  | .local _ .vmem, ⟨16, _⟩ => ⟨S2x2816, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S32768x1024 : Shape := ⟨2, ![32768, 1024]⟩
abbrev S1x1024 : Shape := ⟨2, ![1, 1024]⟩
abbrev S1024x2816 : Shape := ⟨2, ![1024, 2816]⟩
abbrev S3x2816 : Shape := ⟨2, ![3, 2816]⟩
abbrev S1x2816 : Shape := ⟨2, ![1, 2816]⟩
abbrev S2816x1024 : Shape := ⟨2, ![2816, 1024]⟩
abbrev S16x2x2816 : Shape := ⟨3, ![16, 2, 2816]⟩
abbrev S_ : Shape := ⟨0, ![]⟩
abbrev S32768 : Shape := ⟨1, ![32768]⟩
abbrev S32768x1 : Shape := ⟨2, ![32768, 1]⟩
abbrev S32768x2816 : Shape := ⟨2, ![32768, 2816]⟩
abbrev S16x2048x2816 : Shape := ⟨3, ![16, 2048, 2816]⟩
abbrev S16x2050x2816 : Shape := ⟨3, ![16, 2050, 2816]⟩
abbrev S2816 : Shape := ⟨1, ![2816]⟩
abbrev S1x1x2816 : Shape := ⟨3, ![1, 1, 2816]⟩

abbrev nBuf : Space → Nat
  | .hbm => 84
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S3x2816, .f32⟩
  | .hbm, ⟨5, _⟩ => ⟨S1x2816, .f32⟩
  | .hbm, ⟨6, _⟩ => ⟨S2816x1024, .bf16⟩
  | .hbm, ⟨7, _⟩ => ⟨S1x1024, .f32⟩
  | .hbm, ⟨8, _⟩ => ⟨S16x2x2816, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S1024x2816, .f32⟩
  | .hbm, ⟨25, _⟩ => ⟨S32768x2816, .f32⟩
  | .hbm, ⟨26, _⟩ => ⟨S16x2048x2816, .f32⟩
  | .hbm, ⟨27, _⟩ => ⟨S1024x2816, .f32⟩
  | .hbm, ⟨28, _⟩ => ⟨S32768x2816, .f32⟩
  | .hbm, ⟨29, _⟩ => ⟨S16x2048x2816, .f32⟩
  | .hbm, ⟨30, _⟩ => ⟨S16x2050x2816, .f32⟩
  | .hbm, ⟨31, _⟩ => ⟨S1x2816, .f32⟩
  | .hbm, ⟨32, _⟩ => ⟨S2816, .f32⟩
  | .hbm, ⟨33, _⟩ => ⟨S16x2048x2816, .f32⟩
  | .hbm, ⟨34, _⟩ => ⟨S1x1x2816, .f32⟩
  | .hbm, ⟨35, _⟩ => ⟨S16x2048x2816, .f32⟩
  | .hbm, ⟨36, _⟩ => ⟨S16x2048x2816, .f32⟩
  | .hbm, ⟨37, _⟩ => ⟨S1x1x2816, .f32⟩
  | .hbm, ⟨38, _⟩ => ⟨S16x2048x2816, .f32⟩
  | .hbm, ⟨39, _⟩ => ⟨S16x2048x2816, .f32⟩
  | .hbm, ⟨40, _⟩ => ⟨S1x2816, .f32⟩
  | .hbm, ⟨41, _⟩ => ⟨S2816, .f32⟩
  | .hbm, ⟨42, _⟩ => ⟨S16x2048x2816, .f32⟩
  | .hbm, ⟨43, _⟩ => ⟨S1x1x2816, .f32⟩
  | .hbm, ⟨44, _⟩ => ⟨S16x2048x2816, .f32⟩
  | .hbm, ⟨45, _⟩ => ⟨S16x2048x2816, .f32⟩
  | .hbm, ⟨46, _⟩ => ⟨S16x2048x2816, .f32⟩
  | .hbm, ⟨47, _⟩ => ⟨S1x2816, .f32⟩
  | .hbm, ⟨48, _⟩ => ⟨S2816, .f32⟩
  | .hbm, ⟨49, _⟩ => ⟨S16x2048x2816, .f32⟩
  | .hbm, ⟨50, _⟩ => ⟨S1x1x2816, .f32⟩
  | .hbm, ⟨51, _⟩ => ⟨S16x2048x2816, .f32⟩
  | .hbm, ⟨52, _⟩ => ⟨S16x2048x2816, .f32⟩
  | .hbm, ⟨53, _⟩ => ⟨S16x2048x2816, .f32⟩
  | .hbm, ⟨54, _⟩ => ⟨S_, .f32⟩
  | .hbm, ⟨55, _⟩ => ⟨S16x2048x2816, .f32⟩
  | .hbm, ⟨56, _⟩ => ⟨S16x2048x2816, .f32⟩
  | .hbm, ⟨57, _⟩ => ⟨S16x2048x2816, .f32⟩
  | .hbm, ⟨58, _⟩ => ⟨S_, .f32⟩
  | .hbm, ⟨59, _⟩ => ⟨S16x2048x2816, .f32⟩
  | .hbm, ⟨60, _⟩ => ⟨S16x2048x2816, .f32⟩
  | .hbm, ⟨61, _⟩ => ⟨S16x2048x2816, .f32⟩
  | .hbm, ⟨62, _⟩ => ⟨S16x2048x2816, .f32⟩
  | .hbm, ⟨63, _⟩ => ⟨S16x2048x2816, .f32⟩
  | .hbm, ⟨64, _⟩ => ⟨S32768x2816, .f32⟩
  | .hbm, ⟨65, _⟩ => ⟨S2816x1024, .f32⟩
  | .hbm, ⟨66, _⟩ => ⟨S32768x1024, .f32⟩
  | .hbm, ⟨67, _⟩ => ⟨S32768x1024, .f32⟩
  | .hbm, ⟨68, _⟩ => ⟨S16x2x2816, .f32⟩
  | .hbm, ⟨69, _⟩ => ⟨S32768x1024, .f32⟩
  | .hbm, ⟨70, _⟩ => ⟨S_, .f32⟩
  | .hbm, ⟨71, _⟩ => ⟨S32768, .f32⟩
  | .hbm, ⟨72, _⟩ => ⟨S32768x1, .f32⟩
  | .hbm, ⟨73, _⟩ => ⟨S_, .f32⟩
  | .hbm, ⟨74, _⟩ => ⟨S32768x1, .f32⟩
  | .hbm, ⟨75, _⟩ => ⟨S32768x1, .f32⟩
  | .hbm, ⟨76, _⟩ => ⟨S_, .f32⟩
  | .hbm, ⟨77, _⟩ => ⟨S32768x1, .f32⟩
  | .hbm, ⟨78, _⟩ => ⟨S32768x1, .f32⟩
  | .hbm, ⟨79, _⟩ => ⟨S32768x1, .f32⟩
  | .hbm, ⟨80, _⟩ => ⟨S32768x1024, .f32⟩
  | .hbm, ⟨81, _⟩ => ⟨S32768x1024, .f32⟩
  | .hbm, ⟨82, _⟩ => ⟨S32768x1024, .f32⟩
  | .hbm, ⟨83, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_4 : Ref sig .tc := ⟨.hbm, 70, rfl⟩
abbrev main_v56 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_v59 : Ref sig .tc := ⟨.hbm, 75, rfl⟩
abbrev main_cst_6 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Proof.Mla.Pass.lean ====
/-
  One pass of the attention kernel over one block of keys: the payloads it stores, named once for the four passes of a
  block and for both the unmasked and the masked block, and what each holds at an index over the extended reals.
-/
module

public import proofs.«01_k».proof.Proof.Gen.KernelIdeal.Frame
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.KernelIdeal.Mla

open Cert.KernelIdeal Cert.KernelIdeal.Gen

section Defs
variable {F : FTy → Type} [FloatOps F] [Named F]

/-- The scores of 512 query rows against 512 keys: `q · kt[0:160]`. -/
def score (q : FVec F S512x160 .bf16) (kt : FVec F S168x512 .bf16) : FVec F S512x512 .f32 :=
  matmul dot_S512x160_S160x512_S512x512_1_0_0_1_n_n none q
    (extractStridedSlice S160x512 ![0, 0] kt slices_S168x512_o0_0_S160x512) (constant S512x512 .f32 0x00000000#32)

/-- The scores with the keys a query does not see set to the mask constant. -/
def maskScore (s : FVec F S512x512 .f32) (vis : IVec S1x256x512 1) : FVec F S512x512 .f32 :=
  shapeCast S512x512
    (select (broadcastTo S2x256x512 (shapeCast S1x256x512 vis shapeCasts_S1x256x512_S1x256x512) broadcasts_S1x256x512_S2x256x512)
      (shapeCast S2x256x512 s shapeCasts_S512x512_S2x256x512)
      (broadcast S2x256x512 (Named.named κ "mask" 0xF149F2CA#32)))
    shapeCasts_S2x256x512_S512x512

/-- The greatest score of each row, by lanes of 128. -/
def rowMax (s : FVec F S512x512 .f32) : FVec F S512x1 .f32 :=
  shapeCast S512x1
    (multiReduction .maximumf [1] S512
      (maximumf (maximumf (maximumf (extractStridedSlice S512x128 ![0, 0] s slices_S512x512_o0_0_S512x128)
        (extractStridedSlice S512x128 ![0, 128] s slices_S512x512_o0_128_S512x128))
        (extractStridedSlice S512x128 ![0, 256] s slices_S512x512_o0_256_S512x128))
        (extractStridedSlice S512x128 ![0, 384] s slices_S512x512_o0_384_S512x128))
      0xFF800000#32 reduces_S512x128_S512 (.inl rfl) rfl) shapeCasts_S512_S512x1

/-- The running maximum after the block. -/
def passM (s : FVec F S512x512 .f32) (mp : Vec F S512x1 .f32) : FVec F S512x1 .f32 :=
  maximumf mp (rowMax s)

/-- The accumulator after the block: the old one rescaled, plus `exp (s - m)` times the keys' rows. -/
def passA (kt : FVec F S168x512 .bf16) (s : FVec F S512x512 .f32) (mp : Vec F S512x1 .f32) (ap : Vec F S512x168 .f32) :
    FVec F S512x168 .f32 :=
  addf (mulf (broadcastTo S512x168 (exp (subf mp (passM s mp))) broadcasts_S512x1_S512x168) ap)
    (matmul dot_S512x512_S168x512_S512x168_1_1_0_0_n_n none
      (truncf .bf16 (exp (subf s (broadcastTo S512x512 (passM s mp) broadcasts_S512x1_S512x512))) bitsLt_bf16_f32) kt
      (constant S512x168 .f32 0x00000000#32))

end Defs

/-- The mask constant is `-∞`. -/
theorem mask_eq : (Named.named κ "mask" 0xF149F2CA#32 : Ideal .f32) = ⊥ := rfl

/-- A score is the product of a query row and a key column over the 160 latent and rope coordinates. -/
theorem score_apply (q : FVec Ideal S512x160 .bf16) (kt : FVec Ideal S168x512 .bf16) (x : Fin 512) (j : Fin 512) :
    score q kt (ix2 x j) = ∑ a : Fin 160, q (ix2 x a) * kt (ix2 ⟨a.val, by omega⟩ j) := by
  unfold score
  pointwise

/-- A masked score is the score where the query sees the key, and `-∞` elsewhere. -/
theorem maskScore_apply (s : FVec Ideal S512x512 .f32) (vis : IVec S1x256x512 1) (x : Fin 512) (j : Fin 512) :
    maskScore s vis (ix2 x j) = if vis (ix3 0 ⟨x.val % 256, by omega⟩ j) = 1#1 then s (ix2 x j) else ⊥ := by
  unfold maskScore
  pointwise
  rw [mask_eq]
  rfl

/-- The row maximum as a fold of `max` over the lanes. -/
theorem rowMax_apply (s : FVec Ideal S512x512 .f32) (x : Fin 512) :
    rowMax s (ix2 x 0) = Finset.fold max (⊥ : EReal)
      (fun y : Fin 128 => max (max (max (s (ix2 x ⟨y.val, by omega⟩)) (s (ix2 x ⟨128 + y.val, by omega⟩)))
        (s (ix2 x ⟨256 + y.val, by omega⟩))) (s (ix2 x ⟨384 + y.val, by omega⟩))) Finset.univ := by
  unfold rowMax
  pointwise
  rw [show Ideal.ofBits .f32 0xFF800000#32 = (⊥ : EReal) by first | rfl | simp [Ideal.ofBits] | decide]

/-- No row maximum is `⊤` where no score is. -/
theorem rowMax_ne_top (s : FVec Ideal S512x512 .f32) (x : Fin 512) (h : ∀ j, s (ix2 x j) ≠ ⊤) : rowMax s (ix2 x 0) ≠ ⊤ := by
  rw [rowMax_apply, ← lt_top_iff_ne_top, Finset.fold_max_lt]
  refine ⟨bot_lt_top, fun y _ => ?_⟩
  have h' : ∀ j, s (ix2 x j) < ⊤ := fun j => lt_top_iff_ne_top.2 (h j)
  exact max_lt (max_lt (max_lt (h' _) (h' _)) (h' _)) (h' _)

/-- A row maximum is at least every score of its row. -/
theorem le_rowMax (s : FVec Ideal S512x512 .f32) (x j : Fin 512) : s (ix2 x j) ≤ rowMax s (ix2 x 0) := by
  rw [rowMax_apply, Finset.le_fold_max]
  refine Or.inr ⟨⟨j.val % 128, by omega⟩, Finset.mem_univ _, ?_⟩
  have h : j.val / 128 = 0 ∨ j.val / 128 = 1 ∨ j.val / 128 = 2 ∨ j.val / 128 = 3 := by omega
  have e := Nat.div_add_mod j.val 128
  simp only [le_max_iff]
  rcases h with h | h | h | h <;> rw [h] at e
  · exact Or.inl (Or.inl (Or.inl (le_of_eq (congrArg s (congrArg (ix2 x) (Fin.ext (by dsimp only; omega)))))))
  · exact Or.inl (Or.inl (Or.inr (le_of_eq (congrArg s (congrArg (ix2 x) (Fin.ext (by dsimp only; omega)))))))
  · exact Or.inl (Or.inr (le_of_eq (congrArg s (congrArg (ix2 x) (Fin.ext (by dsimp only; omega))))))
  · exact Or.inr (le_of_eq (congrArg s (congrArg (ix2 x) (Fin.ext (by dsimp only; omega)))))

/-- A row maximum is not `⊥` where some score of its row is not. -/
theorem rowMax_ne_bot (s : FVec Ideal S512x512 .f32) (x j : Fin 512) (h : s (ix2 x j) ≠ ⊥) : rowMax s (ix2 x 0) ≠ ⊥ :=
  fun e => h (le_bot_iff.1 (e ▸ le_rowMax s x j))

/-- The new running maximum of a row. -/
theorem passM_apply (s : FVec Ideal S512x512 .f32) (mp : Vec Ideal S512x1 .f32) (x : Fin 512) :
    passM s mp (ix2 x 0) = max (mp (ix2 x 0)) (rowMax s (ix2 x 0)) := rfl

/-- The new accumulator at an index. -/
theorem passA_apply (kt : FVec Ideal S168x512 .bf16) (s : FVec Ideal S512x512 .f32) (mp : Vec Ideal S512x1 .f32)
    (ap : Vec Ideal S512x168 .f32) (x : Fin 512) (r : Fin 168) :
    passA kt s mp ap (ix2 x r) = Ideal.exp (mp (ix2 x 0) - passM s mp (ix2 x 0)) * ap (ix2 x r)
      + ∑ j : Fin 512, Ideal.exp (s (ix2 x j) - passM s mp (ix2 x 0)) * kt (ix2 r j) := by
  unfold passA
  generalize passM s mp = M
  pointwise

end Cert.KernelIdeal.Mla
-- ==== Proof.Mla.Trip.lean ====
/-
  One unmasked block of keys: what a trip of the kernel's loop stores into the running maximum and the accumulator.
-/
module

public import proofs.«01_k».proof.Proof.Mla.Pass

@[expose] public section

set_option maxRecDepth 16384

noncomputable section

open Idealize.ShloMosaic Idealize.ShloMosaic.TcCoe Idealize.SL.Sem

namespace Cert.KernelIdeal.Mla

open Cert.KernelIdeal Cert.KernelIdeal.Gen

section
variable {F : FTy → Type} [FloatOps F] [Named F]

/-- The block of 512 keys that starts at column `o` of the sequence's keys, as the kernel reads it. -/
def keys (a3 : Memref sig .tc .vmem S1x168x2048 .bf16) (X : BufTy.Contents (Elt F) a3.view.ty) (o : Fin 3 → ℕ)
    (h : ∀ a, o a + S1x168x512.size a ≤ S1x168x2048.size a) : FVec F S168x512 .bf16 :=
  shapeCast S168x512 (View.readAt (Elt F) a3.view (Rect.unit (s := S1x168x2048) o S1x168x512.size h).toLoadRect X) shapeCasts_S1x168x512_S168x512

/-- 512 rows of the running maximum. -/
def rowsM (a5 : Memref sig .tc .vmem S2048x1 .f32) (f : BufTy.Contents (Elt F) a5.view.ty) (o : Fin 2 → ℕ)
    (h : ∀ a, o a + S512x1.size a ≤ S2048x1.size a) : Vec F S512x1 .f32 :=
  View.readAt (Elt F) a5.view (Rect.unit (s := S2048x1) o S512x1.size h).toLoadRect f

/-- 512 rows of the accumulator. -/
def rowsA (a6 : Memref sig .tc .vmem S2048x168 .f32) (f : BufTy.Contents (Elt F) a6.view.ty) (o : Fin 2 → ℕ)
    (h : ∀ a, o a + S512x168.size a ≤ S2048x168.size a) : Vec F S512x168 .f32 :=
  View.readAt (Elt F) a6.view (Rect.unit (s := S2048x168) o S512x168.size h).toLoadRect f

/-- The piece of the running maximum one pass stores. -/
def pieceM (o : Fin 2 → ℕ) (h : ∀ a, o a + S512x1.size a ≤ S2048x1.size a) (s : FVec F S512x512 .f32) (mp : Vec F S512x1 .f32) :
    View.Piece (Elt F) S2048x1 .f32 :=
  ⟨Rect.unit (s := S2048x1) o S512x1.size h, shapeCast S512x1 (passM s mp) shapeCasts_S512x1_S512x1⟩

/-- The piece of the accumulator one pass stores. -/
def pieceA (o : Fin 2 → ℕ) (h : ∀ a, o a + S512x168.size a ≤ S2048x168.size a) (kt : FVec F S168x512 .bf16)
    (s : FVec F S512x512 .f32) (mp : Vec F S512x1 .f32) (ap : Vec F S512x168 .f32) : View.Piece (Elt F) S2048x168 .f32 :=
  ⟨Rect.unit (s := S2048x168) o S512x168.size h, shapeCast S512x168 (passA kt s mp ap) shapeCasts_S512x168_S512x168⟩

variable (𝒱 : Variants) (c : Dev nD) (bd : Option 𝒱.V) (i : grid0.Coords) (arg2 : Memref sig .tc .vmem S8x256x160 .bf16) (harg2 : arg2.IsWhole) (arg3 : Memref sig .tc .vmem S1x168x2048 .bf16) (harg3 : arg3.IsWhole) (arg4 : Memref sig .tc .vmem S8x256x128 .bf16) (harg4 : arg4.IsWhole) (arg5 : Memref sig .tc .vmem S2048x1 .f32) (harg5 : arg5.IsWhole) (arg6 : Memref sig .tc .vmem S2048x168 .f32) (harg6 : arg6.IsWhole)

/-- A trip's stores are the four passes' pieces, each from its own rows of what the trip finds. -/
theorem tripL_eq (v8 : Vec F S8x256x160 .bf16) (X : BufTy.Contents (Elt F) arg3.view.ty) (k : Fin (k0_t1_loop i).trips)
    (f5 : BufTy.Contents (Elt F) arg5.view.ty) (f6 : BufTy.Contents (Elt F) arg6.view.ty) :
    tripL_k0_t1 (F := F) 𝒱 c bd i arg2 harg2 arg3 harg3 arg4 harg4 arg5 harg5 arg6 harg6 v8 X k f5 f6
    = (let kt := keys arg3 X (k0_off1 i k) (k0_off1_inb i k)
       let s0 := score (extractStridedSlice S512x160 ![0, 0] (k0_pay39 v8) slices_S2048x160_o0_0_S512x160) kt
       let s1 := score (extractStridedSlice S512x160 ![512, 0] (k0_pay39 v8) slices_S2048x160_o512_0_S512x160) kt
       let s2 := score (extractStridedSlice S512x160 ![1024, 0] (k0_pay39 v8) slices_S2048x160_o1024_0_S512x160) kt
       let s3 := score (extractStridedSlice S512x160 ![1536, 0] (k0_pay39 v8) slices_S2048x160_o1536_0_S512x160) kt
       let m0 := rowsM arg5 f5 ![0, 0] inb_S2048x1_S512x1_0_0
       let m1 := rowsM arg5 f5 ![512, 0] inb_S2048x1_S512x1_512_0
       let m2 := rowsM arg5 f5 ![1024, 0] inb_S2048x1_S512x1_1024_0
       let m3 := rowsM arg5 f5 ![1536, 0] inb_S2048x1_S512x1_1536_0
       let a0 := rowsA arg6 f6 ![0, 0] inb_S2048x168_S512x168_0_0
       let a1 := rowsA arg6 f6 ![512, 0] inb_S2048x168_S512x168_512_0
       let a2 := rowsA arg6 f6 ![1024, 0] inb_S2048x168_S512x168_1024_0
       let a3 := rowsA arg6 f6 ![1536, 0] inb_S2048x168_S512x168_1536_0
       ([pieceM ![1536, 0] inb_S2048x1_S512x1_1536_0 s3 m3, pieceM ![1024, 0] inb_S2048x1_S512x1_1024_0 s2 m2,
         pieceM ![512, 0] inb_S2048x1_S512x1_512_0 s1 m1, pieceM ![0, 0] inb_S2048x1_S512x1_0_0 s0 m0],
        [pieceA ![1536, 0] inb_S2048x168_S512x168_1536_0 kt s3 m3 a3, pieceA ![1024, 0] inb_S2048x168_S512x168_1024_0 kt s2 m2 a2,
         pieceA ![512, 0] inb_S2048x168_S512x168_512_0 kt s1 m1 a1, pieceA ![0, 0] inb_S2048x168_S512x168_0_0 kt s0 m0 a0])) := by
  unfold tripL_k0_t1 trip_k0_t1
  dsimp only
  rfl

end

end Cert.KernelIdeal.Mla
-- ==== Proof.Mla.Online.lean ====
/-
  The running softmax over the extended reals: a maximum (of which only that it is real is used) and sums weighted by
  exponentials, taken block by block, end at the weighted mean that the softmax of the whole row gives.
-/
module

public import Idealize.ShloMosaic.PureOps.Ideal

@[expose] public section

noncomputable section

open Idealize.ShloMosaic

namespace Cert.Mla

/-- After the keys `T`, with scores `σ` and values `κ`, the running maximum is `M` and the weighted sum is `A`: nothing
seen yet, or `M` is some real `μ` and `A` is the sum of `exp (σ t - μ) * κ t`. -/
def Holds (σ κ : ℕ → ℝ) (T : Finset ℕ) (M A : EReal) : Prop :=
  (T = ∅ ∧ M = ⊥ ∧ A = 0) ∨ ∃ μ : ℝ, M = μ ∧ A = ((∑ t ∈ T, Real.exp (σ t - μ) * κ t : ℝ) : EReal)

/-- A finite sum of reals, taken in the extended reals. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The mean of `κ` over the first `n` keys, weighted by `exp σ`. -/
def mean (σ κ : ℕ → ℝ) (n : ℕ) : ℝ :=
  (∑ t ∈ Finset.range n, Real.exp (σ t) * κ t) / ∑ t ∈ Finset.range n, Real.exp (σ t)

theorem sum_exp_pos (σ : ℕ → ℝ) {n : ℕ} (hn : 0 < n) : 0 < ∑ t ∈ Finset.range n, Real.exp (σ t) :=
  Finset.sum_pos (fun t _ => Real.exp_pos _) ⟨0, Finset.mem_range.2 hn⟩

/-- A shift of every score by one real leaves the mean as it was. -/
theorem mean_shift (σ κ : ℕ → ℝ) (n : ℕ) (μ : ℝ) :
    (∑ t ∈ Finset.range n, Real.exp (σ t - μ) * κ t) / ∑ t ∈ Finset.range n, Real.exp (σ t - μ) = mean σ κ n := by
  unfold mean
  have h1 : ∀ t, Real.exp (σ t - μ) = Real.exp (-μ) * Real.exp (σ t) := fun t => by
    rw [← Real.exp_add]; congr 1; ring
  simp only [h1, mul_assoc, ← Finset.mul_sum]
  exact mul_div_mul_left _ _ (Real.exp_pos _).ne'

/-- A maximum with a real is real, unless the other is `⊤`. -/
theorem max_real {M R : EReal} (hM : M = ⊥ ∨ ∃ μ : ℝ, M = μ) (h1 : R ≠ ⊤) (h2 : R ≠ ⊥) : ∃ ν : ℝ, max M R = ν := by
  lift R to ℝ using ⟨h1, h2⟩
  rcases hM with rfl | ⟨μ, rfl⟩
  · exact ⟨R, bot_sup_eq _⟩
  · rcases le_total (μ : EReal) R with h | h
    · exact ⟨R, max_eq_right h⟩
    · exact ⟨μ, max_eq_left h⟩

/-- ONE BLOCK: the old sum rescaled to the new maximum, plus the block's own terms, is the sum over the keys seen by
then. -/
theorem Holds.step {σ κ : ℕ → ℝ} {T T' : Finset ℕ} {M A : EReal} (h : Holds σ κ T M A) (off : ℕ)
    (vis : Fin 512 → Prop) [DecidablePred vis] (s kt : Fin 512 → EReal)
    (hs : ∀ j, s j = if vis j then (σ (off + j.val) : EReal) else ⊥) (hk : ∀ j, kt j = (κ (off + j.val) : EReal))
    {R : EReal} (h1 : R ≠ ⊤) (h2 : R ≠ ⊥)
    (hT : ∀ f : ℕ → ℝ, ∑ t ∈ T', f t = ∑ t ∈ T, f t + ∑ j : Fin 512, if vis j then f (off + j.val) else 0) :
    Holds σ κ T' (max M R) (Ideal.exp (M - max M R) * A + ∑ j : Fin 512, Ideal.exp (s j - max M R) * kt j) := by
  obtain ⟨ν, hν⟩ := max_real (M := M) (R := R) (h.imp (·.2.1) fun ⟨μ, hμ, _⟩ => ⟨μ, hμ⟩) h1 h2
  refine Or.inr ⟨ν, hν, ?_⟩
  rw [hν, hT]
  have hsum : ∑ j : Fin 512, Ideal.exp (s j - (ν : EReal)) * kt j
      = ((∑ j : Fin 512, if vis j then Real.exp (σ (off + j.val) - ν) * κ (off + j.val) else 0 : ℝ) : EReal) := by
    rw [coe_sum]
    refine Finset.sum_congr rfl fun j _ => ?_
    rw [hs, hk]
    split_ifs with hv
    · rw [← EReal.coe_sub, Ideal.exp_coe, ← EReal.coe_mul]
    · rw [show (⊥ : EReal) - (ν : EReal) = ⊥ from rfl, Ideal.exp_bot, zero_mul, EReal.coe_zero]
  rw [hsum, EReal.coe_add]
  congr 1
  rcases h with ⟨rfl, rfl, rfl⟩ | ⟨μ, rfl, rfl⟩
  · rw [mul_zero, Finset.sum_empty, EReal.coe_zero]
  · rw [← EReal.coe_sub, Ideal.exp_coe, ← EReal.coe_mul, Finset.mul_sum]
    congr 1
    refine Finset.sum_congr rfl fun t _ => ?_
    rw [← mul_assoc, ← Real.exp_add]
    congr 2
    ring

/-- The quotient of the sum weighted by `κ` and the sum of the weights is the mean. -/
theorem Holds.div {σ κ : ℕ → ℝ} {n : ℕ} (hn : 0 < n) {M A L : EReal} (hA : Holds σ κ (Finset.range n) M A)
    (hL : Holds σ (fun _ => 1) (Finset.range n) M L) : Ideal.div A L = (mean σ κ n : EReal) := by
  have hne : Finset.range n ≠ ∅ := Finset.nonempty_iff_ne_empty.1 ⟨0, Finset.mem_range.2 hn⟩
  obtain ⟨μ, rfl, rfl⟩ := hA.resolve_left fun h => hne h.1
  obtain ⟨μ', hμ, rfl⟩ := hL.resolve_left fun h => hne h.1
  obtain rfl : μ = μ' := EReal.coe_injective hμ
  simp only [mul_one]
  have hp : (∑ t ∈ Finset.range n, Real.exp (σ t - μ)) ≠ 0 := (sum_exp_pos (fun t => σ t - μ) hn).ne'
  rw [Ideal.div_coe hp, ← EReal.coe_mul, ← mean_shift σ κ n μ, mul_one_div]

/-- The keys of a whole further block. -/
theorem sum_block (k : ℕ) (f : ℕ → ℝ) : ∑ t ∈ Finset.range (512 * (k + 1)), f t
    = ∑ t ∈ Finset.range (512 * k), f t + ∑ j : Fin 512, if True then f (512 * k + j.val) else 0 := by
  rw [show 512 * (k + 1) = 512 * k + 512 by ring, Finset.sum_range_add, Finset.sum_range (fun x => f (512 * k + x))]
  simp only [if_true]

/-- The keys of the last block, of which a query at `p` sees those up to its own. -/
theorem sum_last {off p : ℕ} (h1 : off ≤ p) (h2 : p < off + 512) (f : ℕ → ℝ) : ∑ t ∈ Finset.range (p + 1), f t
    = ∑ t ∈ Finset.range off, f t + ∑ j : Fin 512, if off + j.val ≤ p then f (off + j.val) else 0 := by
  obtain ⟨w, rfl⟩ : ∃ w, p = off + w := ⟨p - off, by omega⟩
  rw [show off + w + 1 = off + (w + 1) by ring, Finset.sum_range_add]
  congr 1
  rw [← Finset.sum_range (fun x => if off + x ≤ off + w then f (off + x) else 0), ← Finset.sum_filter]
  refine Finset.sum_congr ?_ fun _ _ => rfl
  ext x
  simp only [Finset.mem_range, Finset.mem_filter]
  omega

end Cert.Mla
-- ==== Proof.Mla.State.lean ====
/-
  What the running maximum and the accumulator hold, row by row, and how the four passes over one block of keys change it.
-/
module

public import proofs.«01_k».proof.Proof.Mla.Trip
public import proofs.«01_k».proof.Proof.Mla.Online
public import Idealize.ShloMosaic.Lib.WritesUnit

@[expose] public section

set_option maxRecDepth 16384

noncomputable section

open Idealize.ShloMosaic Idealize.ShloMosaic.TcCoe Idealize.SL.Sem

namespace Cert.KernelIdeal.Mla

open Cert.KernelIdeal Cert.KernelIdeal.Gen Cert.Mla

/-- Row `x` of the quarter `c` of the 2048 rows. -/
abbrev row (c : Fin 4) (x : Fin 512) : Fin 2048 := ⟨512 * c.val + x.val, by omega⟩

/-- Every row lies in some quarter. -/
theorem row_surj (ρ : Fin 2048) : ∃ c x, ρ = row c x :=
  ⟨⟨ρ.val / 512, by omega⟩, ⟨ρ.val % 512, by omega⟩, Fin.ext (Nat.div_add_mod ρ.val 512).symm⟩

section Pieces
variable {F : FTy → Type} [FloatOps F] [Named F]

/-- The four passes' pieces of the running maximum, last first. -/
def fourM (S : Fin 4 → FVec F S512x512 .f32) (Mp : Fin 4 → Vec F S512x1 .f32) : List (View.Piece (Elt F) S2048x1 .f32) :=
  [pieceM ![1536, 0] inb_S2048x1_S512x1_1536_0 (S 3) (Mp 3), pieceM ![1024, 0] inb_S2048x1_S512x1_1024_0 (S 2) (Mp 2),
   pieceM ![512, 0] inb_S2048x1_S512x1_512_0 (S 1) (Mp 1), pieceM ![0, 0] inb_S2048x1_S512x1_0_0 (S 0) (Mp 0)]

/-- The four passes' pieces of the accumulator, last first. -/
def fourA (kt : FVec F S168x512 .bf16) (S : Fin 4 → FVec F S512x512 .f32) (Mp : Fin 4 → Vec F S512x1 .f32)
    (Ap : Fin 4 → Vec F S512x168 .f32) : List (View.Piece (Elt F) S2048x168 .f32) :=
  [pieceA ![1536, 0] inb_S2048x168_S512x168_1536_0 kt (S 3) (Mp 3) (Ap 3),
   pieceA ![1024, 0] inb_S2048x168_S512x168_1024_0 kt (S 2) (Mp 2) (Ap 2),
   pieceA ![512, 0] inb_S2048x168_S512x168_512_0 kt (S 1) (Mp 1) (Ap 1),
   pieceA ![0, 0] inb_S2048x168_S512x168_0_0 kt (S 0) (Mp 0) (Ap 0)]

/-- Reading under the newest pass's piece of the running maximum. -/
theorem read_pieceM_mem (v : View sig .tc .vmem S2048x1 .f32) (f : v.ty.Contents (Elt F)) (o : ℕ) (h) (s) (mp)
    (L : List (View.Piece (Elt F) S2048x1 .f32)) (ρ : Fin 2048) (x : Fin 512) (e : ρ.val = o + x.val) :
    v.read (Elt F) (v.writes (Elt F) f (pieceM (F := F) ![o, 0] h s mp :: L)) (ix2 ρ 0) = passM s mp (ix2 x 0) := by
  refine (View.read_writes_cons_rows_of_mem (o := o) v f h _ L (ix2 ρ 0) (ix2 x 0) rfl e rfl).trans ?_
  rw [shapeCast_self]

/-- Reading outside the newest pass's rows of the running maximum. -/
theorem read_pieceM_not_mem (v : View sig .tc .vmem S2048x1 .f32) (f : v.ty.Contents (Elt F)) (o : ℕ) (h) (s) (mp)
    (L : List (View.Piece (Elt F) S2048x1 .f32)) (ρ : Fin 2048) (e : ρ.val < o ∨ o + 512 ≤ ρ.val) :
    v.read (Elt F) (v.writes (Elt F) f (pieceM (F := F) ![o, 0] h s mp :: L)) (ix2 ρ 0)
      = v.read (Elt F) (v.writes (Elt F) f L) (ix2 ρ 0) :=
  View.read_writes_cons_rows_of_not_mem (o := o) (W := 512) v f h _ L (ix2 ρ 0) rfl rfl e

/-- Reading under the newest pass's piece of the accumulator. -/
theorem read_pieceA_mem (v : View sig .tc .vmem S2048x168 .f32) (f : v.ty.Contents (Elt F)) (o : ℕ) (h) (kt) (s) (mp) (ap)
    (L : List (View.Piece (Elt F) S2048x168 .f32)) (ρ : Fin 2048) (r : Fin 168) (x : Fin 512) (e : ρ.val = o + x.val) :
    v.read (Elt F) (v.writes (Elt F) f (pieceA (F := F) ![o, 0] h kt s mp ap :: L)) (ix2 ρ r) = passA kt s mp ap (ix2 x r) := by
  refine (View.read_writes_cons_rows_of_mem (o := o) v f h _ L (ix2 ρ r) (ix2 x r) rfl e rfl).trans ?_
  rw [shapeCast_self]

/-- Reading outside the newest pass's rows of the accumulator. -/
theorem read_pieceA_not_mem (v : View sig .tc .vmem S2048x168 .f32) (f : v.ty.Contents (Elt F)) (o : ℕ) (h) (kt) (s) (mp) (ap)
    (L : List (View.Piece (Elt F) S2048x168 .f32)) (ρ : Fin 2048) (r : Fin 168) (e : ρ.val < o ∨ o + 512 ≤ ρ.val) :
    v.read (Elt F) (v.writes (Elt F) f (pieceA (F := F) ![o, 0] h kt s mp ap :: L)) (ix2 ρ r)
      = v.read (Elt F) (v.writes (Elt F) f L) (ix2 ρ r) :=
  View.read_writes_cons_rows_of_not_mem (o := o) (W := 512) v f h _ L (ix2 ρ r) rfl rfl e

/-- After the four passes, a row of the running maximum is its own pass's. -/
theorem read_fourM (v : View sig .tc .vmem S2048x1 .f32) (f : v.ty.Contents (Elt F)) (S) (Mp) (c : Fin 4) (x : Fin 512) :
    v.read (Elt F) (v.writes (Elt F) f (fourM (F := F) S Mp)) (ix2 (row c x) 0) = passM (S c) (Mp c) (ix2 x 0) := by
  unfold fourM
  have hx := x.isLt
  match c with
  | 3 => exact read_pieceM_mem v f _ _ _ _ _ _ x rfl
  | 2 =>
    rw [read_pieceM_not_mem _ _ _ _ _ _ _ _ (by show 512 * 2 + x.val < _ ∨ _ ≤ 512 * 2 + x.val; omega)]
    exact read_pieceM_mem v f _ _ _ _ _ _ x rfl
  | 1 =>
    rw [read_pieceM_not_mem _ _ _ _ _ _ _ _ (by show 512 * 1 + x.val < _ ∨ _ ≤ 512 * 1 + x.val; omega),
      read_pieceM_not_mem _ _ _ _ _ _ _ _ (by show 512 * 1 + x.val < _ ∨ _ ≤ 512 * 1 + x.val; omega)]
    exact read_pieceM_mem v f _ _ _ _ _ _ x rfl
  | 0 =>
    rw [read_pieceM_not_mem _ _ _ _ _ _ _ _ (by show 512 * 0 + x.val < _ ∨ _ ≤ 512 * 0 + x.val; omega),
      read_pieceM_not_mem _ _ _ _ _ _ _ _ (by show 512 * 0 + x.val < _ ∨ _ ≤ 512 * 0 + x.val; omega),
      read_pieceM_not_mem _ _ _ _ _ _ _ _ (by show 512 * 0 + x.val < _ ∨ _ ≤ 512 * 0 + x.val; omega)]
    exact read_pieceM_mem v f _ _ _ _ _ _ x rfl

/-- After the four passes, a row of the accumulator is its own pass's. -/
theorem read_fourA (v : View sig .tc .vmem S2048x168 .f32) (f : v.ty.Contents (Elt F)) (kt) (S) (Mp) (Ap) (c : Fin 4)
    (x : Fin 512) (r : Fin 168) :
    v.read (Elt F) (v.writes (Elt F) f (fourA (F := F) kt S Mp Ap)) (ix2 (row c x) r) = passA kt (S c) (Mp c) (Ap c) (ix2 x r) := by
  unfold fourA
  have hx := x.isLt
  match c with
  | 3 => exact read_pieceA_mem v f _ _ _ _ _ _ _ _ _ x rfl
  | 2 =>
    rw [read_pieceA_not_mem _ _ _ _ _ _ _ _ _ _ _ (by show 512 * 2 + x.val < _ ∨ _ ≤ 512 * 2 + x.val; omega)]
    exact read_pieceA_mem v f _ _ _ _ _ _ _ _ _ x rfl
  | 1 =>
    rw [read_pieceA_not_mem _ _ _ _ _ _ _ _ _ _ _ (by show 512 * 1 + x.val < _ ∨ _ ≤ 512 * 1 + x.val; omega),
      read_pieceA_not_mem _ _ _ _ _ _ _ _ _ _ _ (by show 512 * 1 + x.val < _ ∨ _ ≤ 512 * 1 + x.val; omega)]
    exact read_pieceA_mem v f _ _ _ _ _ _ _ _ _ x rfl
  | 0 =>
    rw [read_pieceA_not_mem _ _ _ _ _ _ _ _ _ _ _ (by show 512 * 0 + x.val < _ ∨ _ ≤ 512 * 0 + x.val; omega),
      read_pieceA_not_mem _ _ _ _ _ _ _ _ _ _ _ (by show 512 * 0 + x.val < _ ∨ _ ≤ 512 * 0 + x.val; omega),
      read_pieceA_not_mem _ _ _ _ _ _ _ _ _ _ _ (by show 512 * 0 + x.val < _ ∨ _ ≤ 512 * 0 + x.val; omega)]
    exact read_pieceA_mem v f _ _ _ _ _ _ _ _ _ x rfl

end Pieces

/-- Every row's running maximum and accumulator hold the softmax of the keys `T` of that row. -/
def At (v5 : View sig .tc .vmem S2048x1 .f32) (v6 : View sig .tc .vmem S2048x168 .f32) (f5 : v5.ty.Contents (Elt Ideal))
    (f6 : v6.ty.Contents (Elt Ideal)) (σ : Fin 2048 → ℕ → ℝ) (κ : Fin 168 → ℕ → ℝ) (T : Fin 2048 → Finset ℕ) : Prop :=
  ∀ ρ r, Holds (σ ρ) (κ r) (T ρ) (v5.read (Elt Ideal) f5 (ix2 ρ 0)) (v6.read (Elt Ideal) f6 (ix2 ρ r))

/-- THE FOUR PASSES over one block of keys add the block's visible keys to every row. -/
theorem At.four {v5 : View sig .tc .vmem S2048x1 .f32} {v6 : View sig .tc .vmem S2048x168 .f32}
    {f5 : v5.ty.Contents (Elt Ideal)} {f6 : v6.ty.Contents (Elt Ideal)} {σ : Fin 2048 → ℕ → ℝ} {κ : Fin 168 → ℕ → ℝ}
    {T T' : Fin 2048 → Finset ℕ} (h : At v5 v6 f5 f6 σ κ T) (off : ℕ) (vis : Fin 2048 → Fin 512 → Prop)
    [∀ ρ, DecidablePred (vis ρ)] {kt : FVec Ideal S168x512 .bf16} {S : Fin 4 → FVec Ideal S512x512 .f32}
    {Mp : Fin 4 → Vec Ideal S512x1 .f32} {Ap : Fin 4 → Vec Ideal S512x168 .f32}
    (hM : ∀ c x, Mp c (ix2 x 0) = v5.read (Elt Ideal) f5 (ix2 (row c x) 0))
    (hA : ∀ c x r, Ap c (ix2 x r) = v6.read (Elt Ideal) f6 (ix2 (row c x) r))
    (hS : ∀ c x j, S c (ix2 x j) = if vis (row c x) j then (σ (row c x) (off + j.val) : EReal) else ⊥)
    (hk : ∀ r j, kt (ix2 r j) = (κ r (off + j.val) : EReal)) (hv : ∀ ρ, ∃ j, vis ρ j)
    (hT : ∀ ρ (f : ℕ → ℝ), ∑ t ∈ T' ρ, f t = ∑ t ∈ T ρ, f t + ∑ j : Fin 512, if vis ρ j then f (off + j.val) else 0) :
    At v5 v6 (v5.writes (Elt Ideal) f5 (fourM S Mp)) (v6.writes (Elt Ideal) f6 (fourA kt S Mp Ap)) σ κ T' := by
  intro ρ r
  obtain ⟨c, x, rfl⟩ := row_surj ρ
  rw [read_fourM, read_fourA, passA_apply, passM_apply, hM, hA]
  refine Holds.step (h _ r) off (vis (row c x)) _ _ (fun j => hS c x j) (fun j => hk r j) ?_ ?_ (hT _)
  · refine rowMax_ne_top _ _ fun j => ?_
    rw [hS]
    split_ifs
    · exact EReal.coe_ne_top _
    · exact bot_ne_top
  · obtain ⟨j, hj⟩ := hv (row c x)
    refine rowMax_ne_bot _ _ j ?_
    rw [hS, if_pos hj]
    exact EReal.coe_ne_bot _

end Cert.KernelIdeal.Mla
-- ==== Proof.Mla.Words.lean ====
/-
  The integers the attention kernel computes from the grid point, in closed form: how many unmasked blocks of keys there
  are, where each block starts, and which keys of the last block a query sees.
-/
module

public import proofs.«01_k».proof.Proof.Mla.State
public import Idealize.ShloMosaic.Lib.WordCmp

@[expose] public section

set_option maxRecDepth 16384

noncomputable section

open Idealize.ShloMosaic Idealize.ShloMosaic.TcCoe Idealize.SL.Sem

namespace Cert.KernelIdeal.Mla

open Cert.KernelIdeal Cert.KernelIdeal.Gen

/-- The number of unmasked blocks of keys, as the kernel computes it: the floor of the first query's position over 512. -/
def full (i : grid0.Coords) : BitVec 32 :=
  let p : BitVec 32 := Scalar.muli (BitVec.ofNat 32 (i 1).val) 256#32
  let d : BitVec 32 := Scalar.divsi p 512#32
  let sgn : BitVec 32 := Scalar.subi (Scalar.extui (Scalar.cmpi .sgt p 0#32)) (Scalar.extui (Scalar.cmpi .slt p 0#32))
  Scalar.select (Scalar.andi (Scalar.cmpi .ne sgn 1#32) (Scalar.cmpi .ne (Scalar.remsi p 512#32) 0#32)) (Scalar.subi d 1#32) d

/-- It is half the query block's number. -/
theorem full_eq : ∀ i : grid0.Coords, full i = BitVec.ofNat 32 ((i 1).val / 2) := by decide +kernel

/-- The loop over unmasked blocks makes that many trips. -/
theorem trips_eq : ∀ i : grid0.Coords, (k0_t1_loop i).trips = (i 1).val / 2 := by decide +kernel

/-- The loop over the remainder makes none. -/
theorem trips2_eq : ∀ i : grid0.Coords, (k0_t2_loop i).trips = 0 := by decide +kernel

/-- Trip `k` reads the keys from `512 k`. -/
theorem off1_eq : ∀ (i : grid0.Coords) (k : Fin (k0_t1_loop i).trips), ∀ a, k0_off1 i k a = (![0, 0, 512 * k.val] : Fin 3 → ℕ) a := by
  decide +kernel

/-- The masked block starts after the unmasked ones. -/
theorem off3_eq : ∀ i : grid0.Coords, ∀ a, k0_off3 i a = (![0, 0, 512 * ((i 1).val / 2)] : Fin 3 → ℕ) a := by decide +kernel

/-- Which keys of the last block each query of the block sees, as the kernel computes it. -/
def seen (i : grid0.Coords) : IVec S1x256x512 1 := k0_pay43 (BitVec.ofNat 32 (i 1).val) (full i)

/-- A query sees the keys up to its own position. -/
theorem seen_iff (i : grid0.Coords) (x : Fin 256) (j : Fin 512) :
    seen i (ix3 0 x j) = 1#1 ↔ 512 * ((i 1).val / 2) + j.val ≤ 256 * (i 1).val + x.val := by
  have h1 : (i 1).val < 8 := (i 1).isLt
  unfold seen
  rw [full_eq]
  generalize (i 1).val = n at h1 ⊢
  unfold k0_pay43
  pointwise
  have e1 : IntOp.addi (Scalar.muli (BitVec.ofNat 32 (n / 2)) 512#32) (BitVec.ofNat 32 j.val)
      = BitVec.ofNat 32 (n / 2 * 512 + j.val) := by
    rw [BitVec.ofNat_add, BitVec.ofNat_mul]; rfl
  have e2 : IntOp.addi (Scalar.muli (BitVec.ofNat 32 n) 256#32) (BitVec.ofNat 32 x.val) = BitVec.ofNat 32 (n * 256 + x.val) := by
    rw [BitVec.ofNat_add, BitVec.ofNat_mul]; rfl
  rw [e1, e2, WordCmp.cmpi_sle_ofNat_eq_one_iff (by omega) (by omega), mul_comm 512, mul_comm 256]

end Cert.KernelIdeal.Mla
-- ==== Proof.Mla.Run.lean ====
/-
  The kernel's body at one grid point as the unmasked blocks' trips, one masked block, and the quotient.
-/
module

public import proofs.«01_k».proof.Proof.Mla.Words

@[expose] public section

set_option maxRecDepth 16384

noncomputable section

open Idealize.ShloMosaic Idealize.ShloMosaic.TcCoe Idealize.SL.Sem

namespace Cert.KernelIdeal.Mla

open Cert.KernelIdeal Cert.KernelIdeal.Gen

section
variable {F : FTy → Type} [FloatOps F] [Named F]
variable (c : Dev nD) (i : grid0.Coords) (arg2 : Memref sig .tc .vmem S8x256x160 .bf16) (harg2 : arg2.IsWhole) (arg3 : Memref sig .tc .vmem S1x168x2048 .bf16) (harg3 : arg3.IsWhole) (arg4 : Memref sig .tc .vmem S8x256x128 .bf16) (harg4 : arg4.IsWhole) (arg5 : Memref sig .tc .vmem S2048x1 .f32) (harg5 : arg5.IsWhole) (arg6 : Memref sig .tc .vmem S2048x168 .f32) (harg6 : arg6.IsWhole)
  (x0 : Vec F S8x256x160 .bf16) (x1 : Vec F S1x168x2048 .bf16)

/-- The queries as the body loads them. -/
def loadQ : Vec F S8x256x160 .bf16 :=
  View.readAt (Elt F) arg2.view (Rect.unit (s := S8x256x160) ![0, 0, 0] S8x256x160.size inb_S8x256x160_S8x256x160_0_0_0).toLoadRect (harg2.unread x0)

/-- What the body first stores into the running maximum. -/
def start5 : List (View.Piece (Elt F) S2048x1 .f32) := [⟨Rect.unit (s := S2048x1) ![0, 0] S2048x1.size inb_S2048x1_S2048x1_0_0, k0_pay37⟩]

/-- What the body first stores into the accumulator. -/
def start6 : List (View.Piece (Elt F) S2048x168 .f32) := [⟨Rect.unit (s := S2048x168) ![0, 0] S2048x168.size inb_S2048x168_S2048x168_0_0, k0_pay38⟩]

/-- The stores of the trips before `k`. -/
def trips (k : ℕ) : List (View.Piece (Elt F) S2048x1 .f32) × List (View.Piece (Elt F) S2048x168 .f32) :=
  pb_k0_t1 Variants.none c none i arg2 harg2 arg3 harg3 arg4 harg4 arg5 harg5 arg6 harg6 (loadQ arg2 harg2 x0) (harg3.unread x1)
    (arg5.view.writes (Elt F) arg5.view.junk start5) (arg6.view.writes (Elt F) arg6.view.junk start6) k

/-- The stores before the masked block. -/
def base : List (View.Piece (Elt F) S2048x1 .f32) × List (View.Piece (Elt F) S2048x168 .f32) :=
  let L := trips c i arg2 harg2 arg3 harg3 arg4 harg4 arg5 harg5 arg6 harg6 x0 x1 (k0_t1_loop i).trips
  (L.1 ++ start5, L.2 ++ start6)

/-- The scores of a quarter of the rows against the masked block of keys. -/
def lastScore (o : Fin 2 → ℕ) (h : S2048x160.Slices o S512x160) : FVec F S512x512 .f32 :=
  maskScore (score (extractStridedSlice S512x160 o (k0_pay39 (loadQ arg2 harg2 x0)) h)
    (keys arg3 (harg3.unread x1) (k0_off3 i) (k0_off3_inb i))) (seen i)

/-- The masked block's stores over what came before. -/
def final (L5 : List (View.Piece (Elt F) S2048x1 .f32)) (L6 : List (View.Piece (Elt F) S2048x168 .f32)) :
    List (View.Piece (Elt F) S2048x1 .f32) × List (View.Piece (Elt F) S2048x168 .f32) :=
  let kt := keys arg3 (harg3.unread x1) (k0_off3 i) (k0_off3_inb i)
  let s0 := lastScore i arg2 harg2 arg3 harg3 x0 x1 ![0, 0] slices_S2048x160_o0_0_S512x160
  let s1 := lastScore i arg2 harg2 arg3 harg3 x0 x1 ![512, 0] slices_S2048x160_o512_0_S512x160
  let s2 := lastScore i arg2 harg2 arg3 harg3 x0 x1 ![1024, 0] slices_S2048x160_o1024_0_S512x160
  let s3 := lastScore i arg2 harg2 arg3 harg3 x0 x1 ![1536, 0] slices_S2048x160_o1536_0_S512x160
  let m0 := rowsM arg5 (arg5.view.writes (Elt F) arg5.view.junk L5) ![0, 0] inb_S2048x1_S512x1_0_0
  let a0 := rowsA arg6 (arg6.view.writes (Elt F) arg6.view.junk L6) ![0, 0] inb_S2048x168_S512x168_0_0
  let L5 := pieceM ![0, 0] inb_S2048x1_S512x1_0_0 s0 m0 :: L5
  let L6 := pieceA ![0, 0] inb_S2048x168_S512x168_0_0 kt s0 m0 a0 :: L6
  let m1 := rowsM arg5 (arg5.view.writes (Elt F) arg5.view.junk L5) ![512, 0] inb_S2048x1_S512x1_512_0
  let a1 := rowsA arg6 (arg6.view.writes (Elt F) arg6.view.junk L6) ![512, 0] inb_S2048x168_S512x168_512_0
  let L5 := pieceM ![512, 0] inb_S2048x1_S512x1_512_0 s1 m1 :: L5
  let L6 := pieceA ![512, 0] inb_S2048x168_S512x168_512_0 kt s1 m1 a1 :: L6
  let m2 := rowsM arg5 (arg5.view.writes (Elt F) arg5.view.junk L5) ![1024, 0] inb_S2048x1_S512x1_1024_0
  let a2 := rowsA arg6 (arg6.view.writes (Elt F) arg6.view.junk L6) ![1024, 0] inb_S2048x168_S512x168_1024_0
  let L5 := pieceM ![1024, 0] inb_S2048x1_S512x1_1024_0 s2 m2 :: L5
  let L6 := pieceA ![1024, 0] inb_S2048x168_S512x168_1024_0 kt s2 m2 a2 :: L6
  let m3 := rowsM arg5 (arg5.view.writes (Elt F) arg5.view.junk L5) ![1536, 0] inb_S2048x1_S512x1_1536_0
  let a3 := rowsA arg6 (arg6.view.writes (Elt F) arg6.view.junk L6) ![1536, 0] inb_S2048x168_S512x168_1536_0
  (pieceM ![1536, 0] inb_S2048x1_S512x1_1536_0 s3 m3 :: L5, pieceA ![1536, 0] inb_S2048x168_S512x168_1536_0 kt s3 m3 a3 :: L6)

/-- A loop of no trips stores nothing. -/
theorem second_nil (v9) (v27 v32 v33 : BitVec 32) (X : BufTy.Contents (Elt F) arg3.view.ty) (G5 : BufTy.Contents (Elt F) arg5.view.ty)
    (G6 : BufTy.Contents (Elt F) arg6.view.ty) :
    pb_k0_t2 (F := F) Variants.none c none i arg2 harg2 arg3 harg3 arg4 harg4 arg5 harg5 arg6 harg6 (BitVec.ofNat 32 (i 1).val) v9 v27 v32 v33
      X G5 G6 (k0_t2_loop i).trips = ([], []) := by
  rw [trips2_eq]
  rfl

set_option maxHeartbeats 4000000 in
/-- THE BODY'S ONE STORE into the output's block: the quotient of the accumulator the masked block leaves. -/
theorem run_eq : (kernelRun0_A c i arg2 harg2 arg3 harg3 arg4 harg4 arg5 harg5 arg6 harg6 x0 x1).1
    = (let L := base c i arg2 harg2 arg3 harg3 arg4 harg4 arg5 harg5 arg6 harg6 x0 x1
       [⟨Rect.unit (s := S8x256x128) ![0, 0, 0] S8x256x128.size inb_S8x256x128_S8x256x128_0_0_0,
         k0_pay63 (View.readAt (Elt F) arg6.view (Rect.unit (s := S2048x168) ![0, 0] S2048x168.size inb_S2048x168_S2048x168_0_0).toLoadRect
           (arg6.view.writes (Elt F) arg6.view.junk
             (final i arg2 harg2 arg3 harg3 arg5 arg6 x0 x1 L.1 L.2).2))⟩]) := by
  have e := second_nil (F := F) c i arg2 harg2 arg3 harg3 arg4 harg4 arg5 harg5 arg6 harg6
  unfold kernelRun0_A
  sl_unfold_words
  simp only [e]
  rfl

end

end Cert.KernelIdeal.Mla
-- ==== Proof.Mla.Point.lean ====
/-
  What one grid point of the attention kernel leaves in the output's block, over the extended reals: at each query the
  mean of the keys' values up to the query's position, weighted by the exponentials of the scores.
-/
module

public import proofs.«01_k».proof.Proof.Mla.Run

@[expose] public section

set_option maxRecDepth 16384

noncomputable section

open Idealize.ShloMosaic Idealize.ShloMosaic.TcCoe Idealize.SL.Sem

namespace Cert.KernelIdeal.Mla

open Cert.KernelIdeal Cert.KernelIdeal.Gen Cert.Mla

/-- The score of row `ρ` of a block of queries `Q` and key `t` of the keys `K`. -/
def dotScore (Q : Fin 8 → Fin 256 → Fin 160 → ℝ) (K : Fin 168 → ℕ → ℝ) (ρ : Fin 2048) (t : ℕ) : ℝ :=
  ∑ a : Fin 160, Q ⟨ρ.val / 256, by omega⟩ ⟨ρ.val % 256, by omega⟩ a * K ⟨a.val, by omega⟩ t

/-- The loaded rows of the running maximum. -/
theorem rowsM_apply {F : FTy → Type} [FloatOps F] [Named F] (a5 : Memref sig .tc .vmem S2048x1 .f32)
    (f : BufTy.Contents (Elt F) a5.view.ty) (o : ℕ) (h) (x : Fin 512) (ρ : Fin 2048) (e : ρ.val = o + x.val) :
    rowsM (F := F) a5 f ![o, 0] h (ix2 x 0) = a5.view.read (Elt F) f (ix2 ρ 0) := by
  unfold rowsM
  rw [View.readAt_apply]
  refine congrArg _ (funext ?_)
  refine Fin.forall_fin_two.mpr ⟨Fin.ext ?_, Fin.ext rfl⟩
  show o + 1 * x.val = ρ.val
  rw [one_mul, e]

/-- The loaded rows of the accumulator. -/
theorem rowsA_apply {F : FTy → Type} [FloatOps F] [Named F] (a6 : Memref sig .tc .vmem S2048x168 .f32)
    (f : BufTy.Contents (Elt F) a6.view.ty) (o : ℕ) (h) (x : Fin 512) (r : Fin 168) (ρ : Fin 2048) (e : ρ.val = o + x.val) :
    rowsA (F := F) a6 f ![o, 0] h (ix2 x r) = a6.view.read (Elt F) f (ix2 ρ r) := by
  unfold rowsA
  rw [View.readAt_apply]
  refine congrArg _ (funext ?_)
  refine Fin.forall_fin_two.mpr ⟨Fin.ext ?_, Fin.ext ?_⟩
  · show o + 1 * x.val = ρ.val
    rw [one_mul, e]
  · show 0 + 1 * r.val = r.val
    omega

/-- Dropping the leading axis of one, at an index. -/
theorem squeeze_apply {F : FTy → Type} [FloatOps F] [Named F] (v : Vec F S1x168x512 .bf16) (r : Fin 168) (j : Fin 512) :
    shapeCast S168x512 v shapeCasts_S1x168x512_S168x512 (ix2 r j) = v (ix3 0 r j) := by
  pointwise

/-- The keys of a block, by column. -/
theorem keys_apply {F : FTy → Type} [FloatOps F] [Named F] (a3 : Memref sig .tc .vmem S1x168x2048 .bf16) (h3 : a3.IsWhole)
    (x1 : Vec F S1x168x2048 .bf16) (o : Fin 3 → ℕ) (h) (off : ℕ) (ho : ∀ a, o a = (![0, 0, off] : Fin 3 → ℕ) a)
    (r : Fin 168) (j : Fin 512) (t : Fin 2048) (e : t.val = off + j.val) :
    keys (F := F) a3 (h3.unread x1) o h (ix2 r j) = x1 (ix3 0 r t) := by
  unfold keys
  rw [squeeze_apply, View.readAt_apply, h3.read_unread]
  refine congrArg _ (funext fun a => Fin.ext ?_)
  fin_cases a
  · show o 0 + 1 * 0 = 0
    rw [ho]; rfl
  · show o 1 + 1 * r.val = r.val
    rw [ho]; show 0 + 1 * r.val = r.val; omega
  · show o 2 + 1 * j.val = t.val
    rw [ho, e]; show off + 1 * j.val = _; omega

/-- A row of the loaded queries. -/
theorem query_apply {F : FTy → Type} [FloatOps F] [Named F] (a2 : Memref sig .tc .vmem S8x256x160 .bf16) (h2 : a2.IsWhole)
    (x0 : Vec F S8x256x160 .bf16) (o : ℕ) (h : S2048x160.Slices ![o, 0] S512x160) (x : Fin 512) (a : Fin 160)
    (ρ : Fin 2048) (e : ρ.val = o + x.val) :
    extractStridedSlice S512x160 ![o, 0] (k0_pay39 (F := F) (loadQ a2 h2 x0)) h (ix2 x a)
      = x0 (ix3 ⟨ρ.val / 256, by omega⟩ ⟨ρ.val % 256, by omega⟩ a) := by
  have e1 : loadQ (F := F) a2 h2 x0 = x0 := by
    unfold loadQ
    rw [View.readAt_eq_ld, h2.read_unread, View.ld_unit_zero (funext fun a => by fin_cases a <;> rfl)]
  rw [e1]
  unfold k0_pay39
  obtain ⟨ρ, hρ⟩ := ρ
  obtain rfl : ρ = o + x.val := e
  pointwise

section Body
variable (c : Dev nD) (i : grid0.Coords) (arg2 : Memref sig .tc .vmem S8x256x160 .bf16) (harg2 : arg2.IsWhole) (arg3 : Memref sig .tc .vmem S1x168x2048 .bf16) (harg3 : arg3.IsWhole) (arg4 : Memref sig .tc .vmem S8x256x128 .bf16) (harg4 : arg4.IsWhole) (arg5 : Memref sig .tc .vmem S2048x1 .f32) (harg5 : arg5.IsWhole) (arg6 : Memref sig .tc .vmem S2048x168 .f32) (harg6 : arg6.IsWhole)
  (x0 : Vec Ideal S8x256x160 .bf16) (x1 : Vec Ideal S1x168x2048 .bf16)
  (Q : Fin 8 → Fin 256 → Fin 160 → ℝ) (K : Fin 168 → ℕ → ℝ)

/-- The score of a row against a block of keys, where queries and keys are real. -/
theorem score_real (hQ : ∀ h x a, x0 (ix3 h x a) = (Q h x a : EReal)) (hK : ∀ r (t : Fin 2048), x1 (ix3 0 r t) = (K r t.val : EReal))
    (o : ℕ) (h : S2048x160.Slices ![o, 0] S512x160) (o3 : Fin 3 → ℕ) (h3) (off : ℕ) (ho : ∀ a, o3 a = (![0, 0, off] : Fin 3 → ℕ) a)
    (hoff : off + 512 ≤ 2048) (x : Fin 512) (j : Fin 512) (ρ : Fin 2048) (e : ρ.val = o + x.val) :
    score (extractStridedSlice S512x160 ![o, 0] (k0_pay39 (F := Ideal) (loadQ arg2 harg2 x0)) h) (keys arg3 (harg3.unread x1) o3 h3) (ix2 x j)
      = (dotScore Q K ρ (off + j.val) : EReal) := by
  rw [score_apply, dotScore, coe_sum]
  refine Finset.sum_congr rfl fun a _ => ?_
  rw [query_apply arg2 harg2 x0 o h x a ρ e, keys_apply arg3 harg3 x1 o3 h3 off ho _ j ⟨off + j.val, by omega⟩ rfl, hQ, hK, EReal.coe_mul]

/-- THE UNMASKED BLOCKS: before trip `k` every row holds the softmax over the first `512 k` keys. -/
theorem trips_at (hQ : ∀ h x a, x0 (ix3 h x a) = (Q h x a : EReal)) (hK : ∀ r (t : Fin 2048), x1 (ix3 0 r t) = (K r t.val : EReal))
    (k : ℕ) (hk : k ≤ (k0_t1_loop i).trips) :
    At arg5.view arg6.view
      (arg5.view.writes (Elt Ideal) (arg5.view.writes (Elt Ideal) arg5.view.junk start5)
        (trips c i arg2 harg2 arg3 harg3 arg4 harg4 arg5 harg5 arg6 harg6 x0 x1 k).1)
      (arg6.view.writes (Elt Ideal) (arg6.view.writes (Elt Ideal) arg6.view.junk start6)
        (trips c i arg2 harg2 arg3 harg3 arg4 harg4 arg5 harg5 arg6 harg6 x0 x1 k).2)
      (dotScore Q K) K (fun _ => Finset.range (512 * k)) := by
  induction k with
  | zero =>
    intro ρ r
    refine Or.inl ⟨rfl, ?_, ?_⟩
    · refine (View.read_writes_cons_rows_of_mem (o := 0) arg5.view _ inb_S2048x1_S2048x1_0_0 _ [] (ix2 ρ 0) (ix2 ρ 0) rfl
        (Nat.zero_add _).symm rfl).trans ?_
      unfold k0_pay37
      rw [shapeCast_self]
      exact mask_eq
    · refine (View.read_writes_cons_rows_of_mem (o := 0) arg6.view _ inb_S2048x168_S2048x168_0_0 _ [] (ix2 ρ r) (ix2 ρ r) rfl
        (Nat.zero_add _).symm rfl).trans ?_
      unfold k0_pay38
      rw [shapeCast_self]
      exact Ideal.ofBits_zero_f32
  | succ k ih =>
    have h := ih (by omega)
    have hlt : k < (k0_t1_loop i).trips := hk
    have hb : (i 1).val / 2 ≤ 3 := by have : (i 1).val < 8 := (i 1).isLt; omega
    have hk3 : 512 * k + 512 ≤ 2048 := by have := trips_eq i; omega
    unfold trips at h ⊢
    rw [pb_k0_t1_succ Variants.none c none i arg2 harg2 arg3 harg3 arg4 harg4 arg5 harg5 arg6 harg6 _ _ _ _ ⟨k, hlt⟩]
    rw [tripL_eq]
    dsimp only
    rw [View.writes_append, View.writes_append]
    refine h.four (512 * k) (fun _ _ => True) (kt := keys arg3 (harg3.unread x1) (k0_off1 i ⟨k, hlt⟩) (k0_off1_inb i ⟨k, hlt⟩))
      (S := ![_, _, _, _]) (Mp := ![_, _, _, _]) (Ap := ![_, _, _, _]) ?_ ?_ ?_ ?_ (fun _ => ⟨0, trivial⟩) (fun ρ f => sum_block k f)
    · intro c x
      match c with
      | 0 => exact rowsM_apply _ _ _ _ _ _ rfl
      | 1 => exact rowsM_apply _ _ _ _ _ _ rfl
      | 2 => exact rowsM_apply _ _ _ _ _ _ rfl
      | 3 => exact rowsM_apply _ _ _ _ _ _ rfl
    · intro c x r
      match c with
      | 0 => exact rowsA_apply _ _ _ _ _ _ _ rfl
      | 1 => exact rowsA_apply _ _ _ _ _ _ _ rfl
      | 2 => exact rowsA_apply _ _ _ _ _ _ _ rfl
      | 3 => exact rowsA_apply _ _ _ _ _ _ _ rfl
    · intro c x j
      rw [if_pos trivial]
      match c with
      | 0 => exact score_real _ _ _ _ x0 x1 Q K hQ hK _ _ _ _ _ (off1_eq i ⟨k, hlt⟩) hk3 _ _ _ rfl
      | 1 => exact score_real _ _ _ _ x0 x1 Q K hQ hK _ _ _ _ _ (off1_eq i ⟨k, hlt⟩) hk3 _ _ _ rfl
      | 2 => exact score_real _ _ _ _ x0 x1 Q K hQ hK _ _ _ _ _ (off1_eq i ⟨k, hlt⟩) hk3 _ _ _ rfl
      | 3 => exact score_real _ _ _ _ x0 x1 Q K hQ hK _ _ _ _ _ (off1_eq i ⟨k, hlt⟩) hk3 _ _ _ rfl
    · intro r j
      rw [keys_apply arg3 harg3 x1 _ _ (512 * k) (off1_eq i ⟨k, hlt⟩) r j ⟨512 * k + j.val, by omega⟩ rfl, hK]

end Body

end Cert.KernelIdeal.Mla
-- ==== Proof.Mla.Block.lean ====
/-
  The attention kernel's block at one grid point: the masked block of keys after the unmasked ones, then the quotient.
-/
module

public import proofs.«01_k».proof.Proof.Mla.Point

@[expose] public section

set_option maxRecDepth 16384

noncomputable section

open Idealize.ShloMosaic Idealize.ShloMosaic.TcCoe Idealize.SL.Sem

namespace Cert.KernelIdeal.Mla

open Cert.KernelIdeal Cert.KernelIdeal.Gen Cert.Mla

/-- The last step divides the first 128 columns by column 160. -/
theorem quotient_apply (A : Vec Ideal S2048x168 .f32) (h : Fin 8) (x : Fin 256) (r : Fin 128) :
    k0_pay63 A (ix3 h x r) = Ideal.div (A (ix2 ⟨h.val * 256 + x.val, by omega⟩ ⟨r.val, by omega⟩))
      (A (ix2 ⟨h.val * 256 + x.val, by omega⟩ ⟨160, by omega⟩)) := by
  unfold k0_pay63
  pointwise

section Body
variable (c : Dev nD) (i : grid0.Coords) (arg2 : Memref sig .tc .vmem S8x256x160 .bf16) (harg2 : arg2.IsWhole) (arg3 : Memref sig .tc .vmem S1x168x2048 .bf16) (harg3 : arg3.IsWhole) (arg4 : Memref sig .tc .vmem S8x256x128 .bf16) (harg4 : arg4.IsWhole) (arg5 : Memref sig .tc .vmem S2048x1 .f32) (harg5 : arg5.IsWhole) (arg6 : Memref sig .tc .vmem S2048x168 .f32) (harg6 : arg6.IsWhole)
  (x0 : Vec Ideal S8x256x160 .bf16) (x1 : Vec Ideal S1x168x2048 .bf16)
  (Q : Fin 8 → Fin 256 → Fin 160 → ℝ) (K : Fin 168 → ℕ → ℝ)

/-- The position of the query in row `ρ` within its sequence. -/
def pos (ρ : Fin 2048) : ℕ := 256 * (i 1).val + ρ.val % 256

/-- A masked score is the score up to the query's position, `-∞` beyond. -/
theorem lastScore_real (hQ : ∀ h x a, x0 (ix3 h x a) = (Q h x a : EReal)) (hK : ∀ r (t : Fin 2048), x1 (ix3 0 r t) = (K r t.val : EReal))
    (o : ℕ) (h : S2048x160.Slices ![o, 0] S512x160) (ho : o % 256 = 0) (x : Fin 512) (j : Fin 512) (ρ : Fin 2048) (e : ρ.val = o + x.val) :
    lastScore i arg2 harg2 arg3 harg3 x0 x1 ![o, 0] h (ix2 x j)
      = if 512 * ((i 1).val / 2) + j.val ≤ pos i ρ then (dotScore Q K ρ (512 * ((i 1).val / 2) + j.val) : EReal) else ⊥ := by
  have hb : (i 1).val < 8 := (i 1).isLt
  unfold lastScore pos
  rw [maskScore_apply, score_real arg2 harg2 arg3 harg3 x0 x1 Q K hQ hK o h _ _ _ (off3_eq i) (by omega) x j ρ e]
  refine if_congr ?_ rfl rfl
  rw [seen_iff]
  have : ρ.val % 256 = x.val % 256 := by rw [e]; omega
  rw [this]

/-- THE WHOLE ROW: after the masked block every row holds the softmax over the keys up to its query's position. -/
theorem final_at (hQ : ∀ h x a, x0 (ix3 h x a) = (Q h x a : EReal)) (hK : ∀ r (t : Fin 2048), x1 (ix3 0 r t) = (K r t.val : EReal)) :
    (let L := base c i arg2 harg2 arg3 harg3 arg4 harg4 arg5 harg5 arg6 harg6 x0 x1
     At arg5.view arg6.view
      (arg5.view.writes (Elt Ideal) arg5.view.junk (final i arg2 harg2 arg3 harg3 arg5 arg6 x0 x1 L.1 L.2).1)
      (arg6.view.writes (Elt Ideal) arg6.view.junk (final i arg2 harg2 arg3 harg3 arg5 arg6 x0 x1 L.1 L.2).2)
      (dotScore Q K) K (fun ρ => Finset.range (pos i ρ + 1))) := by
  intro L
  have hb : (i 1).val < 8 := (i 1).isLt
  have h := trips_at c i arg2 harg2 arg3 harg3 arg4 harg4 arg5 harg5 arg6 harg6 x0 x1 Q K hQ hK _ le_rfl
  rw [← View.writes_append, ← View.writes_append] at h
  have hL : At arg5.view arg6.view (arg5.view.writes (Elt Ideal) arg5.view.junk L.1) (arg6.view.writes (Elt Ideal) arg6.view.junk L.2)
      (dotScore Q K) K (fun _ => Finset.range (512 * ((i 1).val / 2))) := by
    rw [← trips_eq i]
    exact h
  clear_value L
  obtain ⟨L5, L6⟩ := L
  dsimp only at hL ⊢
  have hr : ∀ c : Fin 4, ∀ x : Fin 512, (row c x).val = 512 * c.val + x.val := fun _ _ => rfl
  unfold final
  dsimp only
  refine hL.four (512 * ((i 1).val / 2)) (fun ρ j => 512 * ((i 1).val / 2) + j.val ≤ pos i ρ)
      (kt := keys arg3 (harg3.unread x1) (k0_off3 i) (k0_off3_inb i)) (T' := fun ρ => Finset.range (pos i ρ + 1))
      (S := ![_, _, _, _]) (Mp := ![_, _, _, _]) (Ap := ![_, _, _, _]) ?_ ?_ ?_ ?_ (fun ρ => ⟨0, ?_⟩) (fun ρ f => sum_last ?_ ?_ f)
  · intro c x
    have hx := x.isLt
    match c with
    | 0 => exact rowsM_apply _ _ _ _ _ _ rfl
    | 1 =>
      refine (rowsM_apply _ _ _ _ _ (row 1 x) rfl).trans ?_
      rw [read_pieceM_not_mem _ _ _ _ _ _ _ _ (by rw [hr]; show 512 * 1 + x.val < _ ∨ _ ≤ 512 * 1 + x.val; omega)]
    | 2 =>
      refine (rowsM_apply _ _ _ _ _ (row 2 x) rfl).trans ?_
      rw [read_pieceM_not_mem _ _ _ _ _ _ _ _ (by rw [hr]; show 512 * 2 + x.val < _ ∨ _ ≤ 512 * 2 + x.val; omega),
        read_pieceM_not_mem _ _ _ _ _ _ _ _ (by rw [hr]; show 512 * 2 + x.val < _ ∨ _ ≤ 512 * 2 + x.val; omega)]
    | 3 =>
      refine (rowsM_apply _ _ _ _ _ (row 3 x) rfl).trans ?_
      rw [read_pieceM_not_mem _ _ _ _ _ _ _ _ (by rw [hr]; show 512 * 3 + x.val < _ ∨ _ ≤ 512 * 3 + x.val; omega),
        read_pieceM_not_mem _ _ _ _ _ _ _ _ (by rw [hr]; show 512 * 3 + x.val < _ ∨ _ ≤ 512 * 3 + x.val; omega),
        read_pieceM_not_mem _ _ _ _ _ _ _ _ (by rw [hr]; show 512 * 3 + x.val < _ ∨ _ ≤ 512 * 3 + x.val; omega)]
  · intro c x r
    have hx := x.isLt
    match c with
    | 0 => exact rowsA_apply _ _ _ _ _ _ _ rfl
    | 1 =>
      refine (rowsA_apply _ _ _ _ _ _ (row 1 x) rfl).trans ?_
      rw [read_pieceA_not_mem _ _ _ _ _ _ _ _ _ _ _ (by rw [hr]; show 512 * 1 + x.val < _ ∨ _ ≤ 512 * 1 + x.val; omega)]
    | 2 =>
      refine (rowsA_apply _ _ _ _ _ _ (row 2 x) rfl).trans ?_
      rw [read_pieceA_not_mem _ _ _ _ _ _ _ _ _ _ _ (by rw [hr]; show 512 * 2 + x.val < _ ∨ _ ≤ 512 * 2 + x.val; omega),
        read_pieceA_not_mem _ _ _ _ _ _ _ _ _ _ _ (by rw [hr]; show 512 * 2 + x.val < _ ∨ _ ≤ 512 * 2 + x.val; omega)]
    | 3 =>
      refine (rowsA_apply _ _ _ _ _ _ (row 3 x) rfl).trans ?_
      rw [read_pieceA_not_mem _ _ _ _ _ _ _ _ _ _ _ (by rw [hr]; show 512 * 3 + x.val < _ ∨ _ ≤ 512 * 3 + x.val; omega),
        read_pieceA_not_mem _ _ _ _ _ _ _ _ _ _ _ (by rw [hr]; show 512 * 3 + x.val < _ ∨ _ ≤ 512 * 3 + x.val; omega),
        read_pieceA_not_mem _ _ _ _ _ _ _ _ _ _ _ (by rw [hr]; show 512 * 3 + x.val < _ ∨ _ ≤ 512 * 3 + x.val; omega)]
  · intro c x j
    match c with
    | 0 => exact lastScore_real i _ _ _ _ x0 x1 Q K hQ hK _ _ rfl _ _ _ rfl
    | 1 => exact lastScore_real i _ _ _ _ x0 x1 Q K hQ hK _ _ rfl _ _ _ rfl
    | 2 => exact lastScore_real i _ _ _ _ x0 x1 Q K hQ hK _ _ rfl _ _ _ rfl
    | 3 => exact lastScore_real i _ _ _ _ x0 x1 Q K hQ hK _ _ rfl _ _ _ rfl
  · intro r j
    rw [keys_apply arg3 harg3 x1 _ _ (512 * ((i 1).val / 2)) (off3_eq i) r j ⟨512 * ((i 1).val / 2) + j.val, by omega⟩ rfl, hK]
  · show 512 * ((i 1).val / 2) + 0 ≤ pos i ρ
    unfold pos; omega
  · unfold pos; omega
  · unfold pos; omega

/-- WHAT THE POINT LEAVES: at head `h`, query `x`, column `r` the weighted mean of the keys' row `r`. -/
theorem out_apply (hQ : ∀ h x a, x0 (ix3 h x a) = (Q h x a : EReal)) (hK : ∀ r (t : Fin 2048), x1 (ix3 0 r t) = (K r t.val : EReal))
    (h1 : ∀ t : ℕ, K ⟨160, by omega⟩ t = 1) (h : Fin 8) (x : Fin 256) (r : Fin 128) :
    out0_A_2 c i arg2 harg2 arg3 harg3 arg4 harg4 arg5 harg5 arg6 harg6 x0 x1 (ix3 h x r)
      = (mean (fun t => ∑ a : Fin 160, Q h x a * K ⟨a.val, by omega⟩ t) (K ⟨r.val, by omega⟩) (256 * (i 1).val + x.val + 1) : EReal) := by
  have hA := final_at c i arg2 harg2 arg3 harg3 arg4 harg4 arg5 harg5 arg6 harg6 x0 x1 Q K hQ hK
  unfold out0_A_2
  rw [run_eq]
  dsimp only at hA ⊢
  rw [View.read_writes_junk_eq_canon, View.canon_unit_zero (funext fun a => by fin_cases a <;> rfl), quotient_apply,
    View.readAt_eq_ld, View.ld_unit_zero (funext fun a => by fin_cases a <;> rfl)]
  have ha := hA ⟨h.val * 256 + x.val, by omega⟩ ⟨r.val, by omega⟩
  have hl := hA ⟨h.val * 256 + x.val, by omega⟩ ⟨160, by omega⟩
  rw [show K ⟨160, by omega⟩ = fun _ => 1 from funext h1] at hl
  refine (Holds.div (Nat.succ_pos _) ha hl).trans ?_
  unfold pos dotScore
  have e1 : (h.val * 256 + x.val) / 256 = h.val := by omega
  have e2 : (h.val * 256 + x.val) % 256 = x.val := by omega
  simp only [e1, e2]

end Body

end Cert.KernelIdeal.Mla
-- ==== Proof.Mla.Array.lean ====
/-
  The attention kernel's result array: each grid point writes one block of 256 queries, and the blocks tile the array.
-/
module

public import proofs.«01_k».proof.Proof.Gen.KernelIdeal.Value
public import proofs.«01_k».proof.Proof.Mla.Block
public import Idealize.ShloMosaic.Lib.Pipeline.ValueKit

@[expose] public section

set_option maxRecDepth 16384

noncomputable section

open Idealize.ShloMosaic Idealize.ShloMosaic.TcCoe Idealize.SL.Sem

namespace Cert.KernelIdeal.Mla

open Cert.KernelIdeal Cert.KernelIdeal.Gen Cert.Mla

variable (m : (ℓ : Loc nD τ sig) → Buf (Elt Ideal) ℓ) (c : Dev nD)
  (Q : Fin 8 → Fin 32768 → Fin 160 → ℝ) (K : Fin 16 → Fin 168 → ℕ → ℝ)

/-- Where each window stands at a grid point, and the point's place within its sequence. -/
theorem places : ∀ t : Fin cfg0.N, win0_0.index t = ![0, t.val, 0] ∧ win0_1.index t = ![t.val / 8, 0, 0]
    ∧ win0_2.index t = ![0, t.val, 0] ∧ (grid0.coords t 1).val = t.val % 8 :=
  (by decide +kernel : ∀ t : Fin grid0.N, _)

/-- The attention of one head, position and latent over the reals. -/
def attn (h : Fin 8) (n : Fin 32768) (r : Fin 128) : ℝ :=
  mean (fun t => ∑ a : Fin 160, Q h n a * K ⟨n.val / 2048, by omega⟩ ⟨a.val, by omega⟩ t)
    (K ⟨n.val / 2048, by omega⟩ ⟨r.val, by omega⟩) (n.val % 2048 + 1)

/-- One point's block: 256 positions of one sequence. -/
theorem point_eq
    (hQ : ∀ h n a, (m ((c.tc : Thread nD τ).loc main_arg0) : S8x32768x160.Idx → EReal) (ix3 h n a) = (Q h n a : EReal))
    (hK : ∀ b r (t : Fin 2048), (m ((c.tc : Thread nD τ).loc main_arg1) : S16x168x2048.Idx → EReal) (ix3 b r t) = (K b r t.val : EReal))
    (h1 : ∀ b (t : ℕ), K b ⟨160, by omega⟩ t = 1) (t : Fin cfg0.N) (ht : t.val < 128) (h : Fin 8) (x : Fin 256) (r : Fin 128) :
    outsAt0 m c t (ix3 h x r) = (attn Q K h ⟨256 * t.val + x.val, by omega⟩ r : EReal) := by
  obtain ⟨e0, e1, e2, ec⟩ := places t
  unfold outsAt0
  rw [out_apply c _ _ _ _ _ _ _ _ _ _ _ _ _ (fun h x a => Q h ⟨256 * t.val + x.val, by omega⟩ a)
    (K ⟨t.val / 8, by omega⟩) ?_ ?_ (h1 _) h x r]
  · unfold attn
    have p1 : (256 * t.val + x.val) / 2048 = t.val / 8 := by omega
    have p2 : (256 * t.val + x.val) % 2048 = 256 * (t.val % 8) + x.val := by omega
    simp only [p1, p2]
    rw [← ec]
  · intro h x a
    rw [← hQ]
    blk_ext [iblk, V, e0]
  · intro r t'
    rw [← hK]
    blk_ext [iblk, V, e1]

/-- THE RESULT ARRAY after the run is the attention of the real arguments. -/
theorem array_eq
    (hQ : ∀ h n a, (m ((c.tc : Thread nD τ).loc main_arg0) : S8x32768x160.Idx → EReal) (ix3 h n a) = (Q h n a : EReal))
    (hK : ∀ b r (t : Fin 2048), (m ((c.tc : Thread nD τ).loc main_arg1) : S16x168x2048.Idx → EReal) (ix3 b r t) = (K b r t.val : EReal))
    (h1 : ∀ b (t : ℕ), K b ⟨160, by omega⟩ t = 1) :
    ((dats m 0 c).arrAt 2 cfg0.N : S8x32768x128.Idx → EReal) = fun i => (attn Q K (i 0) (i 1) (i 2) : EReal) := by
  refine (dats m 0 c).arrAt_eq_of_covers 2 _ (by decide +kernel) fun t hf y => ?_
  obtain ⟨e0, e1, e2, ec⟩ := places t
  have ht : t.val < 128 := N_0 ▸ t.isLt
  have key := point_eq m c Q K hQ hK h1 t ht (y 0) (y 1) (y 2)
  refine (congrFun (after0_2 m c t) _).trans (Eq.trans ?_ (key.trans ?_))
  · refine congrArg (outsAt0 m c t) ?_
    funext a; fin_cases a <;> rfl
  · refine congrArg (fun z : ℝ => (z : EReal)) ?_
    refine congr (congr (congrArg (attn Q K) ?_) ?_) ?_
    all_goals
      apply Fin.ext
      blk_simp [e2]
      try (dsimp only; omega)

end Cert.KernelIdeal.Mla
-- ==== Proof.Mla.Softmax.lean ====
/-
  The masked softmax as the reference writes it — subtract the row's maximum, exponentiate, divide by the sum, set the
  masked to zero — is the weighted mean over the visible keys.
-/
module

public import proofs.«01_k».proof.Proof.Mla.Online

@[expose] public section

noncomputable section

open Idealize.ShloMosaic

namespace Cert.Mla

/-- A sum over the keys of which those after `p` give nothing. -/
theorem sum_seen (p : ℕ) (hp : p < 2048) (f : ℕ → ℝ) :
    ∑ x : Fin 2048, (if x.val ≤ p then f x.val else 0) = ∑ t ∈ Finset.range (p + 1), f t := by
  rw [← Finset.sum_range (fun t => if t ≤ p then f t else 0), ← Finset.sum_filter]
  refine Finset.sum_congr ?_ fun _ _ => rfl
  ext x
  simp only [Finset.mem_range, Finset.mem_filter]
  omega

/-- THE REFERENCE'S SOFTMAX, weighted by `κ`, over real scores. -/
theorem softmax_mean (σ κ : ℕ → ℝ) (p : ℕ) (hp : p < 2048) (s : Fin 2048 → EReal)
    (hs : ∀ x, s x = if x.val ≤ p then (σ x.val : EReal) else ⊥) :
    ∑ x : Fin 2048, (κ x.val : EReal) *
        (if x.val ≤ p then Ideal.div (Ideal.exp (s x - max ⊥ (Finset.fold max (⊥ : EReal) s Finset.univ)))
          (∑ y, Ideal.exp (s y - max ⊥ (Finset.fold max (⊥ : EReal) s Finset.univ))) else 0)
      = (mean σ κ (p + 1) : EReal) := by
  set M := max ⊥ (Finset.fold max (⊥ : EReal) s Finset.univ) with hM
  have h1 : M ≠ ⊤ := by
    rw [← lt_top_iff_ne_top]
    refine max_lt bot_lt_top ?_
    rw [Finset.fold_max_lt]
    refine ⟨bot_lt_top, fun x _ => ?_⟩
    rw [hs]
    split_ifs
    · exact EReal.coe_lt_top _
    · exact bot_lt_top
  have h2 : M ≠ ⊥ := by
    have h0 : s ⟨0, by omega⟩ ≤ M := le_max_of_le_right (by
      rw [Finset.le_fold_max]; exact Or.inr ⟨_, Finset.mem_univ _, le_rfl⟩)
    rw [hs, if_pos (Nat.zero_le _)] at h0
    intro e
    rw [e] at h0
    exact EReal.coe_ne_bot _ (le_bot_iff.1 h0)
  clear_value M
  clear hM
  lift M to ℝ using ⟨h1, h2⟩
  have he : ∀ x, Ideal.exp (s x - (M : EReal)) = ((if x.val ≤ p then Real.exp (σ x.val - M) else 0 : ℝ) : EReal) := fun x => by
    rw [hs]
    split_ifs
    · rw [← EReal.coe_sub, Ideal.exp_coe]
    · rw [show (⊥ : EReal) - (M : EReal) = ⊥ from rfl, Ideal.exp_bot, EReal.coe_zero]
  simp only [he]
  rw [← coe_sum, sum_seen p hp (fun t => Real.exp (σ t - M))]
  have hpos := (sum_exp_pos (fun t => σ t - M) (Nat.succ_pos p)).ne'
  have ht : ∀ x : Fin 2048, (κ x.val : EReal) * (if x.val ≤ p then Ideal.div ((if x.val ≤ p then Real.exp (σ x.val - M) else 0 : ℝ) : EReal)
        ((∑ t ∈ Finset.range (p + 1), Real.exp (σ t - M) : ℝ) : EReal) else 0)
      = ((if x.val ≤ p then Real.exp (σ x.val - M) * κ x.val / (∑ t ∈ Finset.range (p + 1), Real.exp (σ t - M)) else 0 : ℝ) : EReal) :=
    fun x => by
      split_ifs
      · rw [Ideal.div_coe hpos, ← EReal.coe_mul, ← EReal.coe_mul]
        congr 1
        ring
      · rw [mul_zero, EReal.coe_zero]
  simp only [ht]
  rw [← coe_sum, sum_seen p hp (fun t => Real.exp (σ t - M) * κ t / (∑ t ∈ Finset.range (p + 1), Real.exp (σ t - M))),
    ← Finset.sum_div, mean_shift]

end Cert.Mla
-- ==== Proof.Mla.Ref.lean ====
/-
  What the attention reference computes at an index.
-/
module

public import proofs.«01_k».proof.Proof.Gen.ReferenceIdeal.Run
public import proofs.«01_k».proof.Proof.Mla.Softmax
public import Idealize.ShloMosaic.Lib.WordCmp
public import Idealize.ShloMosaic.Lib.Pointwise

@[expose] public section

set_option maxRecDepth 16384

noncomputable section

open Idealize.ShloMosaic Idealize.ShloMosaic.TcCoe Idealize.SL.Sem

namespace Cert.ReferenceIdeal.Mla

open Cert.ReferenceIdeal Cert.ReferenceIdeal.Gen Cert.ReferenceIdeal.Value Cert.Mla

/-- A word comparison of two positions, as a choice. -/
theorem select_le (x p : ℕ) (hx : x < 2048) (hp : p < 2048) {α : Type} (a b : α) :
    Scalar.select (IntOp.cmpi .sle (BitVec.ofNat 32 x) (BitVec.ofNat 32 p)) a b = if x ≤ p then a else b := by
  unfold Scalar.select
  exact if_congr (WordCmp.cmpi_sle_ofNat_eq_one_iff (by omega) (by omega)) rfl rfl

/-- The float word of minus infinity. -/
theorem ninf : (Ideal.ofBits .f32 0xFF800000#32 : EReal) = ⊥ := by first | rfl | simp [Ideal.ofBits] | decide

/-- The scores: latent part plus rope part. -/
def scores (q : FVec Ideal S8x32768x160 .bf16) (k : FVec Ideal S16x168x2048 .bf16) : FVec Ideal S16x8x2048x2048 .f32 :=
  addf (Host.dotGeneral dot_S8x16x2048x128_S16x2048x128_S16x8x2048x2048_3_2_02_1_1_0 none (shapeCast S8x16x2048x128 (extf .f32 (extractStridedSlice S8x32768x128 ![0, 0, 0] q slices_S8x32768x160_S8x32768x128_0_0_0) bitsLt_bf16_f32) shapeCasts_S8x32768x128_S8x16x2048x128) (transpose S16x2048x128 [0, 2, 1] (extf .f32 (extractStridedSlice S16x128x2048 ![0, 0, 0] k slices_S16x168x2048_S16x128x2048_0_0_0) bitsLt_bf16_f32) transposes_S16x128x2048_S16x2048x128_0_2_1))
    (Host.dotGeneral dot_S8x16x2048x32_S16x2048x32_S16x8x2048x2048_3_2_02_1_1_0 none (shapeCast S8x16x2048x32 (extf .f32 (extractStridedSlice S8x32768x32 ![0, 0, 128] q slices_S8x32768x160_S8x32768x32_0_0_128) bitsLt_bf16_f32) shapeCasts_S8x32768x32_S8x16x2048x32) (transpose S16x2048x32 [0, 2, 1] (extf .f32 (extractStridedSlice S16x32x2048 ![0, 128, 0] k slices_S16x168x2048_S16x32x2048_0_128_0) bitsLt_bf16_f32) transposes_S16x32x2048_S16x2048x32_0_2_1))

/-- Which keys a query sees. -/
def causal : IVec S16x8x2048x2048 1 :=
  broadcastInDim S16x8x2048x2048 ![2, 3] bcast_S2048x2048_S16x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The scores with the unseen at minus infinity. -/
def masked (s : FVec Ideal S16x8x2048x2048 .f32) : FVec Ideal S16x8x2048x2048 .f32 :=
  select causal s (broadcastInDim S16x8x2048x2048 ![] bcast_S_S16x8x2048x2048 (id (constant S_ .f32 0xFF800000#32)))

/-- The weights over their row's sum, the unseen at zero. -/
def probs (e : FVec Ideal S16x8x2048x2048 .f32) : FVec Ideal S16x8x2048x2048 .f32 :=
  select causal (Host.divf e (broadcastInDim S16x8x2048x2048 ![0, 1, 2, 3] bcast_S16x8x2048x1_S16x8x2048x2048_0_1_2_3 (broadcastInDim S16x8x2048x1 ![0, 1, 2] bcast_S16x8x2048_S16x8x2048x1_0_1_2 (Host.reduceAdd e (constant S_ .f32 0x00000000#32) reducesTo_S16x8x2048x2048_S16x8x2048_d3 h_S_)))) (broadcastInDim S16x8x2048x2048 ![] bcast_S_S16x8x2048x2048 (id (constant S_ .f32 0x00000000#32)))

/-- The values under the probabilities, in the result's layout. -/
def values (k : FVec Ideal S16x168x2048 .bf16) (p : FVec Ideal S16x8x2048x2048 .f32) : FVec Ideal S8x32768x128 .bf16 :=
  truncf .bf16 (shapeCast S8x32768x128 (transpose S8x16x2048x128 [2, 0, 3, 1] (Host.dotGeneral dot_S16x2048x128_S16x8x2048x2048_S16x128x8x2048_1_3_2_12_0_0 none (transpose S16x2048x128 [0, 2, 1] (extf .f32 (extractStridedSlice S16x128x2048 ![0, 0, 0] k slices_S16x168x2048_S16x128x2048_0_0_0) bitsLt_bf16_f32) transposes_S16x128x2048_S16x2048x128_0_2_1) p) transposes_S16x128x8x2048_S8x16x2048x128_2_0_3_1) shapeCasts_S8x16x2048x128_S8x32768x128) bitsLt_bf16_f32

theorem scores_apply (q : FVec Ideal S8x32768x160 .bf16) (k : FVec Ideal S16x168x2048 .bf16) (b : Fin 16) (h : Fin 8) (x y : Fin 2048) :
    scores q k (ix4 b h x y) = ∑ a : Fin 128, q (ix3 h ⟨b.val * 2048 + x.val, by omega⟩ ⟨a.val, by omega⟩) * k (ix3 b ⟨a.val, by omega⟩ y)
      + ∑ a : Fin 32, q (ix3 h ⟨b.val * 2048 + x.val, by omega⟩ ⟨128 + a.val, by omega⟩) * k (ix3 b ⟨128 + a.val, by omega⟩ y) := by
  unfold scores
  pointwise

theorem causal_apply (b : Fin 16) (h : Fin 8) (x y : Fin 2048) :
    causal (ix4 b h x y) = IntOp.cmpi .sle (BitVec.ofNat 32 y.val) (BitVec.ofNat 32 x.val) := by
  unfold causal
  pointwise

theorem masked_apply (s : FVec Ideal S16x8x2048x2048 .f32) (b : Fin 16) (h : Fin 8) (x y : Fin 2048) :
    masked s (ix4 b h x y) = if y.val ≤ x.val then s (ix4 b h x y) else ⊥ := by
  unfold masked
  rw [← select_le y.val x.val y.isLt x.isLt, ← causal_apply b h x y, ← ninf]
  rfl

/-- A maximum along the last of four axes, whatever the sizes, from an initial value. -/
theorem max_apply {n0 n1 n2 n3 : ℕ} (s : FVec Ideal ⟨4, ![n0, n1, n2, n3]⟩ .f32) (z : FVec Ideal S_ .f32) (w : EReal)
    (hz : z (Shape.Idx.first h_S_) = w)
    (hr : (⟨4, ![n0, n1, n2, n3]⟩ : Shape).ReducesTo [3] ⟨3, ![n0, n1, n2]⟩) (b : Fin n0) (h : Fin n1) (x : Fin n2) :
    Host.reduce (FloatOps.maximumf (F := Ideal) (φ := .f32)) s z hr h_S_ (ix3 b h x)
      = Finset.fold max w (fun y => s (ix4 b h x y)) Finset.univ := by
  subst hz
  pointwise

/-- The row maximum, before it is spread along the row. -/
def rowMax (s : FVec Ideal S16x8x2048x2048 .f32) : FVec Ideal S16x8x2048 .f32 :=
  Host.reduce FloatOps.maximumf s (constant S_ .f32 0xFF800000#32) reducesTo_S16x8x2048x2048_S16x8x2048_d3 h_S_

/-- The row maximum at an index. -/
theorem rowMax_apply (s : FVec Ideal S16x8x2048x2048 .f32) (b : Fin 16) (h : Fin 8) (x : Fin 2048) :
    rowMax s (ix3 b h x) = Finset.fold max (⊥ : EReal) (fun z => s (ix4 b h x z)) Finset.univ :=
  max_apply s _ _ ninf _ b h x

/-- The exponentials of the scores less their row's maximum. -/
def weights (s : FVec Ideal S16x8x2048x2048 .f32) (v : FVec Ideal S16x8x2048 .f32) : FVec Ideal S16x8x2048x2048 .f32 :=
  Host.exp (subf s (broadcastInDim S16x8x2048x2048 ![0, 1, 2, 3] bcast_S16x8x2048x1_S16x8x2048x2048_0_1_2_3 (broadcastInDim S16x8x2048x1 ![0, 1, 2] bcast_S16x8x2048_S16x8x2048x1_0_1_2 (maximumf (broadcastInDim S16x8x2048 ![] bcast_S_S16x8x2048 (constant S_ .f32 0xFF800000#32)) v))))

theorem weights_apply (s : FVec Ideal S16x8x2048x2048 .f32) (v : FVec Ideal S16x8x2048 .f32) (b : Fin 16) (h : Fin 8) (x y : Fin 2048) :
    weights s v (ix4 b h x y) = Ideal.exp (s (ix4 b h x y) - max ⊥ (v (ix3 b h x))) := by
  unfold weights
  pointwise
  rw [ninf]

theorem probs_apply (e : FVec Ideal S16x8x2048x2048 .f32) (b : Fin 16) (h : Fin 8) (x y : Fin 2048) :
    probs e (ix4 b h x y) = if y.val ≤ x.val then Ideal.div (e (ix4 b h x y)) (∑ z : Fin 2048, e (ix4 b h x z)) else 0 := by
  unfold probs
  rw [← select_le y.val x.val y.isLt x.isLt, ← causal_apply b h x y]
  generalize causal = v
  pointwise
  exact congrArg _ Ideal.ofBits_zero_f32

theorem values_apply (k : FVec Ideal S16x168x2048 .bf16) (p : FVec Ideal S16x8x2048x2048 .f32) (h : Fin 8) (n : Fin 32768) (r : Fin 128) :
    values k p (ix3 h n r) = ∑ y : Fin 2048, k (ix3 ⟨n.val / 2048, by omega⟩ ⟨r.val, by omega⟩ y)
      * p (ix4 ⟨n.val / 2048, by omega⟩ h ⟨n.val % 2048, by omega⟩ y) := by
  unfold values
  pointwise

/-- The reference's composed term is these stages. -/
theorem res_eq (m : (ℓ : Loc nD τ sig) → Buf (Elt Ideal) ℓ) (c : Dev nD) :
    res_main_v37 m c = values (m ((c.tc : Thread nD τ).loc main_arg1)) (probs (weights
      (masked (scores (m ((c.tc : Thread nD τ).loc main_arg0)) (m ((c.tc : Thread nD τ).loc main_arg1))))
      (rowMax (masked (scores (m ((c.tc : Thread nD τ).loc main_arg0)) (m ((c.tc : Thread nD τ).loc main_arg1))))))) := rfl

/-- THE REFERENCE at head `h`, position `n`, latent `r`: the mean of the latents of the keys the position sees, under the
    exponentials of its scores. -/
theorem res_apply (m : (ℓ : Loc nD τ sig) → Buf (Elt Ideal) ℓ) (c : Dev nD) (Q : Fin 8 → Fin 32768 → Fin 160 → ℝ)
    (K : Fin 16 → Fin 168 → ℕ → ℝ)
    (hQ : ∀ h n a, (m ((c.tc : Thread nD τ).loc main_arg0) : S8x32768x160.Idx → EReal) (ix3 h n a) = (Q h n a : EReal))
    (hK : ∀ b r (t : Fin 2048), (m ((c.tc : Thread nD τ).loc main_arg1) : S16x168x2048.Idx → EReal) (ix3 b r t) = (K b r t.val : EReal))
    (h : Fin 8) (n : Fin 32768) (r : Fin 128) :
    res_main_v37 m c (ix3 h n r)
      = (mean (fun t => ∑ a : Fin 160, Q h n a * K ⟨n.val / 2048, by omega⟩ ⟨a.val, by omega⟩ t)
          (K ⟨n.val / 2048, by omega⟩ ⟨r.val, by omega⟩) (n.val % 2048 + 1) : EReal) := by
  rw [res_eq]
  have hn : (⟨n.val / 2048 * 2048 + n.val % 2048, by omega⟩ : Fin 32768) = n := Fin.ext (by simp; omega)
  have hp : n.val % 2048 < 2048 := Nat.mod_lt _ (by norm_num)
  generalize m ((c.tc : Thread nD τ).loc main_arg0) = q at *
  generalize m ((c.tc : Thread nD τ).loc main_arg1) = k at *
  rw [values_apply]
  simp only [probs_apply, weights_apply, rowMax_apply, hK]
  refine softmax_mean _ _ _ hp (fun y => masked (scores q k) (ix4 ⟨n.val / 2048, by omega⟩ h ⟨n.val % 2048, hp⟩ y)) fun y => ?_
  rw [masked_apply]
  refine if_congr Iff.rfl ?_ rfl
  rw [scores_apply, hn]
  simp only [hQ, hK, ← EReal.coe_mul, ← coe_sum, ← EReal.coe_add]
  rw [Fin.sum_univ_add (a := 128) (b := 32)]
  rfl

end Cert.ReferenceIdeal.Mla
-- ==== Proof.Mla.Claims.lean ====
/-
  The claims about the attention: what the precondition gives, the frames, and the kernel's result against the reference's.
-/
module

public import proofs.«01_k».proof.Defs
public import proofs.«01_k».proof.Proof.Gen.Kernel.Frame
public import proofs.«01_k».proof.Proof.Gen.Pre_mla_inputs
public import proofs.«01_k».proof.Proof.Mla.Array
public import proofs.«01_k».proof.Proof.Mla.Ref
public import Idealize.ShloMosaic.Lib.ReduceAll
public import Idealize.ShloMosaic.Lib.Affine
public import Idealize.ShloMosaic.Lib.IdealHost

@[expose] public section

set_option maxRecDepth 16384

noncomputable section

open Idealize.ShloMosaic Idealize.ShloMosaic.TcCoe Idealize.SL.Sem

namespace Cert.Pre_mla_inputs

open Cert.Mla

/-- The word of positive infinity. -/
theorem pinf : (Ideal.ofBits .f32 0x7F800000#32 : EReal) = ⊤ := by
  simp [Ideal.ofBits, Ideal.ieee]

/-- An extended real whose absolute value is below `∞` is a real. -/
theorem real_of_abs_lt (x : EReal) (h : Ideal.cmp .olt (max x (-x)) (Ideal.ofBits .f32 0x7F800000#32) = 1#1) :
    x = (x.toReal : EReal) := by
  rw [pinf] at h
  have h := (Ideal.cmp_olt_eq_one _ _).1 h
  refine (EReal.coe_toReal ?_ ?_).symm
  · rintro rfl; simp at h
  · rintro rfl; simp at h

/-- WHAT THE PRECONDITION SAYS: every entry of both arguments is real, and the keys' row 160 is all ones. -/
theorem decode [Facts] (q : FVec Ideal S8x32768x160 .bf16) (k : FVec Ideal S16x168x2048 .bf16)
    (h : fn (F := Ideal) q k = fun _ => 1#1) :
    (∀ i, q i = ((q i).toReal : EReal)) ∧ (∀ i, k i = ((k i).toReal : EReal)) ∧ ∀ b t, k (ix3 b ⟨160, by omega⟩ t) = 1 := by
  have h := congrFun h ix0
  dsimp only [fn] at h
  obtain ⟨h, h3⟩ := IntOp.andi_eq_one.1 h
  obtain ⟨h1, h2⟩ := IntOp.andi_eq_one.1 h
  haveI : Subsingleton S_.Idx := ⟨fun a b => funext fun x => x.elim0⟩
  have g1 := Host.reduce_andi_all _ _ _ _ _ h1
  have g2 := Host.reduce_andi_all _ _ _ _ _ h2
  have g3 := Host.reduce_andi_all _ _ _ _ _ h3
  refine ⟨fun i => real_of_abs_lt _ (g1 i), fun i => real_of_abs_lt _ (g2 i), fun b t => ?_⟩
  have g : Ideal.cmp .oeq (k (ix3 b ⟨160, by omega⟩ t)) (Ideal.ofBits .f32 0x3F800000#32) = 1#1 := by
    rw [← g3 (ix2 b t)]
    pointwise
  rw [(Ideal.cmp_oeq_eq_one _ _).1 g, Ideal.ofBits_one_f32]

end Cert.Pre_mla_inputs

namespace Cert.Proof.Mla

open Cert.Mla

/-- The kernel runs, and leaves its arguments. -/
theorem frame_k : Cert.quiescent_Kernel := fun m ρ _ => Cert.Kernel.Gen.frame m ρ
/-- So does its idealization, -/
theorem frame_ki : Cert.quiescent_KernelIdeal := fun m ρ _ => Cert.KernelIdeal.Gen.frame m ρ
/-- under the precondition too. -/
theorem frame_ki_pre : Cert.quiescent_KernelIdeal_pre_mla_inputs := fun m ρ _ => Cert.KernelIdeal.Gen.frame m ρ
/-- The reference declares no semaphore; its run keeps the arguments, -/
theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- under the precondition too. -/
theorem frame_r_pre : Cert.quiescent_ReferenceIdeal_pre_mla_inputs := fun m ρ _ => frame_r m ρ trivial

/-- The one rewrite: the mask's large negative number is named and read as minus infinity. -/
theorem preserves : Cert.preserves_Kernel_KernelIdeal :=
  IdealRules.named_const.statement _ _ _ _ _ rfl

/-- The keys' entries as reals, one from the end of the sequence on. -/
def keyReal (k : FVec Ideal Cert.KernelIdeal.S16x168x2048 .bf16) (b : Fin 16) (r : Fin 168) (t : ℕ) : ℝ :=
  if ht : t < 2048 then EReal.toReal (k (ix3 b r ⟨t, ht⟩)) else 1

/-- On arguments that meet the precondition the two results are one array. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (q : FVec Ideal Cert.KernelIdeal.S8x32768x160 .bf16) (k : FVec Ideal Cert.KernelIdeal.S16x168x2048 .bf16)
    (hq : m ((c.tc : Thread Cert.KernelIdeal.nD Cert.KernelIdeal.τ).loc Cert.KernelIdeal.main_arg0) = q)
    (hk : m ((c.tc : Thread Cert.KernelIdeal.nD Cert.KernelIdeal.τ).loc Cert.KernelIdeal.main_arg1) = k)
    (hq' : m' ((c.tc : Thread Cert.ReferenceIdeal.nD Cert.ReferenceIdeal.τ).loc Cert.ReferenceIdeal.main_arg0) = q)
    (hk' : m' ((c.tc : Thread Cert.ReferenceIdeal.nD Cert.ReferenceIdeal.τ).loc Cert.ReferenceIdeal.main_arg1) = k)
    (hpre : Cert.Pre_mla_inputs.fn (F := Ideal) q k = fun _ => 1#1) :
    (Cert.ReferenceIdeal.Value.res_main_v37 m' c : Cert.KernelIdeal.S8x32768x128.Idx → EReal)
      = (Cert.KernelIdeal.Gen.dats m 0 c).arrAt 2 Cert.KernelIdeal.cfg0.N := by
  obtain ⟨dq, dk, d1⟩ := Cert.Pre_mla_inputs.decode q k hpre
  have hQ : ∀ h n a, q (ix3 h n a) = ((fun h n a => EReal.toReal (q (ix3 h n a))) h n a : EReal) := fun h n a => dq (ix3 h n a)
  have hK : ∀ b r (t : Fin 2048), k (ix3 b r t) = (keyReal k b r t.val : EReal) := by
    intro b r t
    unfold keyReal
    rw [dif_pos t.isLt]
    exact dk (ix3 b r t)
  have h1 : ∀ b (t : ℕ), keyReal k b ⟨160, by omega⟩ t = 1 := by
    intro b t
    unfold keyReal
    by_cases ht : t < 2048
    · rw [dif_pos ht, d1 b ⟨t, ht⟩, EReal.toReal_one]
    · rw [dif_neg ht]
  refine Eq.trans (funext fun i => ?_) (Cert.KernelIdeal.Mla.array_eq m c (fun h n a => EReal.toReal (q (ix3 h n a))) (keyReal k)
    (by rw [hq]; exact hQ) (by rw [hk]; exact hK) h1).symm
  have hi : i = ix3 (i 0) (i 1) (i 2) := by funext a; fin_cases a <;> rfl
  rw [hi]
  exact Cert.ReferenceIdeal.Mla.res_apply m' c (fun h n a => EReal.toReal (q (ix3 h n a))) (keyReal k)
    (by rw [hq']; exact hQ) (by rw [hk']; exact hK) (i 0) (i 1) (i 2)

/-- THE VALUE: the kernel's attention is the reference's. -/
theorem algebraic : Cert.algebraic_KernelIdeal_ReferenceIdeal_pre_mla_inputs := by
  intro m ρ m' ρ' hpre hagree
  refine ⟨fun c => (Cert.KernelIdeal.Gen.dats m 0 c).arrAt 2 Cert.KernelIdeal.cfg0.N,
    Cert.KernelIdeal.Value.run_blocks (F := Ideal) m ρ, ?_⟩
  exact (θ_run Cert.ReferenceIdeal.defs _ _).mono
    (fun _ h c => ⟨(h c).1.trans (results_eq m m' c _ _ rfl rfl (hagree c).1 (hagree c).2 (hpre c)), (h c).2⟩)
    (Cert.ReferenceIdeal.Value.run (F := Ideal) m' ρ')

end Cert.Proof.Mla
-- ==== Proof.Norm.lean ====
/-
  The normalised row: a row over the root of its mean square, times the gains.
-/
module

public import Idealize.ShloMosaic.Lib.Pointwise
public import Idealize.ShloMosaic.Lib.IdealHost

@[expose] public section

noncomputable section

open Idealize.ShloMosaic

namespace Cert.Common

/-- Entry `k` of the row `x` of 1024 entries, normalised by its mean square and scaled by the gains `g`. -/
def rmsNorm (x g : Fin 1024 → EReal) (k : Fin 1024) : EReal :=
  x k * Ideal.rsqrt (Ideal.div (∑ j, x j * x j) (Ideal.ofBits .f32 0x44800000#32) + Ideal.ofBits .f32 0x358637BD#32) * g k

/-- Feature `l` of the normalised row `n` under the weights `w`. -/
def proj {N L : ℕ} (x : Fin N → Fin 1024 → EReal) (g : Fin 1024 → EReal) (w : Fin L → Fin 1024 → EReal) (n : Fin N) (l : Fin L) : EReal :=
  ∑ k, rmsNorm (x n) g k * w l k

end Cert.Common
-- ==== Proof.InProj.Block.lean ====
/-
  The input projection of one block of 256 rows, at an index.
-/
module

public import proofs.«01_k».proof.Proof.Gen.Kernel2Ideal.Value
public import proofs.«01_k».proof.Proof.Norm
public import Idealize.ShloMosaic.Lib.Pipeline.ValueKit

@[expose] public section

set_option maxRecDepth 16384

noncomputable section

open Idealize.ShloMosaic Idealize.ShloMosaic.TcCoe Idealize.SL.Sem

namespace Cert.Kernel2Ideal.InProj

open Cert.Kernel2Ideal Cert.Kernel2Ideal.Gen Cert.Common

/-- The normalised block. -/
theorem pay2_apply (x : Vec Ideal S256x1024 .f32) (g : Vec Ideal S1x1024 .f32) (r : Fin 256) (k : Fin 1024) :
    (k0_pay2 x g : S256x1024.Idx → EReal) (ix2 r k) = rmsNorm (fun j => x (ix2 r j)) (fun j => g (ix2 0 j)) k := by
  unfold k0_pay2 rmsNorm
  pointwise

/-- The token-major columns. -/
theorem pay3_apply (x : Vec Ideal S256x1024 .f32) (g : Vec Ideal S1x1024 .f32) (w : Vec Ideal S4480x1024 .bf16)
    (r : Fin 256) (l : Fin 4480) :
    (k0_pay3 x g w : S256x4480.Idx → EReal) (ix2 r l)
      = ∑ k, rmsNorm (fun j => x (ix2 r j)) (fun j => g (ix2 0 j)) k * w (ix2 l k) := by
  simp only [← pay2_apply]
  unfold k0_pay3
  pointwise

/-- The feature-major rows. -/
theorem pay4_apply (x : Vec Ideal S256x1024 .f32) (g : Vec Ideal S1x1024 .f32) (w : Vec Ideal S832x1024 .bf16)
    (l : Fin 832) (r : Fin 256) :
    (k0_pay4 x g w : S832x256.Idx → EReal) (ix2 l r)
      = ∑ k, rmsNorm (fun j => x (ix2 r j)) (fun j => g (ix2 0 j)) k * w (ix2 l k) := by
  simp only [← pay2_apply, mul_comm _ (w _)]
  unfold k0_pay4
  pointwise

/-- The rows of the first cache. -/
theorem pay5_apply (x : Vec Ideal S256x1024 .f32) (g : Vec Ideal S1x1024 .f32) (w : Vec Ideal S832x1024 .bf16)
    (a : Fin 1) (l : Fin 256) (r : Fin 256) :
    (k0_pay5 x g w : S1x256x256.Idx → EReal) (ix3 a l r) = (k0_pay4 x g w : S832x256.Idx → EReal) (ix2 ⟨l.val, by omega⟩ r) := by
  unfold k0_pay5
  pointwise

/-- The rows of the second cache. -/
theorem pay6_apply (x : Vec Ideal S256x1024 .f32) (g : Vec Ideal S1x1024 .f32) (w : Vec Ideal S832x1024 .bf16)
    (a : Fin 1) (l : Fin 256) (r : Fin 256) :
    (k0_pay6 x g w : S1x256x256.Idx → EReal) (ix3 a l r) = (k0_pay4 x g w : S832x256.Idx → EReal) (ix2 ⟨256 + l.val, by omega⟩ r) := by
  unfold k0_pay6
  pointwise

/-- The rows of the third cache. -/
theorem pay7_apply (x : Vec Ideal S256x1024 .f32) (g : Vec Ideal S1x1024 .f32) (w : Vec Ideal S832x1024 .bf16)
    (a : Fin 1) (l : Fin 128) (r : Fin 256) :
    (k0_pay7 x g w : S1x128x256.Idx → EReal) (ix3 a l r) = (k0_pay4 x g w : S832x256.Idx → EReal) (ix2 ⟨512 + l.val, by omega⟩ r) := by
  unfold k0_pay7
  pointwise

/-- The rows of the fourth cache. -/
theorem pay1_apply (z : FVec Ideal S832x256 .f32) (a : Fin 1) (l : Fin 192) (r : Fin 256) :
    (k0_pay1 z : S1x192x256.Idx → EReal) (ix3 a l r) = z (ix2 ⟨640 + l.val, by omega⟩ r) := by
  unfold k0_pay1
  pointwise

/-- The token-major columns's buffer after a point. -/
theorem out4_eq (x : Vec Ideal S256x1024 .f32) (g : Vec Ideal S1x1024 .f32) (wt : Vec Ideal S4480x1024 .bf16) (wf : Vec Ideal S832x1024 .bf16) :
    out0_4 x g wt wf = k0_pay3 x g wt := by
  frame_out

/-- The first cache's buffer after a point. -/
theorem out5_eq (x : Vec Ideal S256x1024 .f32) (g : Vec Ideal S1x1024 .f32) (wt : Vec Ideal S4480x1024 .bf16) (wf : Vec Ideal S832x1024 .bf16) :
    out0_5 x g wt wf = k0_pay5 x g wf := by
  frame_out

/-- The second cache's buffer after a point. -/
theorem out6_eq (x : Vec Ideal S256x1024 .f32) (g : Vec Ideal S1x1024 .f32) (wt : Vec Ideal S4480x1024 .bf16) (wf : Vec Ideal S832x1024 .bf16) :
    out0_6 x g wt wf = k0_pay6 x g wf := by
  frame_out

/-- The third cache's buffer after a point. -/
theorem out7_eq (x : Vec Ideal S256x1024 .f32) (g : Vec Ideal S1x1024 .f32) (wt : Vec Ideal S4480x1024 .bf16) (wf : Vec Ideal S832x1024 .bf16) :
    out0_7 x g wt wf = k0_pay7 x g wf := by
  frame_out

/-- The fourth cache's buffer after a point. -/
theorem out8_eq (x : Vec Ideal S256x1024 .f32) (g : Vec Ideal S1x1024 .f32) (wt : Vec Ideal S4480x1024 .bf16) (wf : Vec Ideal S832x1024 .bf16) :
    out0_8 x g wt wf = k0_pay1 (k0_pay4 x g wf) := by
  frame_out

end Cert.Kernel2Ideal.InProj
-- ==== Proof.InProj.Array.lean ====
/-
  The input projection's five result arrays: each grid point writes one block of 256 positions of each, and the blocks
  tile the arrays.
-/
module

public import proofs.«01_k».proof.Proof.InProj.Block

@[expose] public section

set_option maxRecDepth 16384

noncomputable section

open Idealize.ShloMosaic Idealize.ShloMosaic.TcCoe Idealize.SL.Sem

namespace Cert.Kernel2Ideal.InProj

open Cert.Kernel2Ideal Cert.Kernel2Ideal.Gen Cert.Common

variable (m : (ℓ : Loc nD τ sig) → Buf (Elt Ideal) ℓ) (c : Dev nD)

/-- The rows of the layer's input. -/
def X (n : Fin 32768) (j : Fin 1024) : EReal := (m ((c.tc : Thread nD τ).loc main_arg0) : S32768x1024.Idx → EReal) (ix2 n j)
/-- The gains. -/
def G (j : Fin 1024) : EReal := (m ((c.tc : Thread nD τ).loc main_arg1) : S1x1024.Idx → EReal) (ix2 0 j)
/-- The weights of the token-major columns. -/
def WT (l : Fin 4480) (j : Fin 1024) : EReal := (m ((c.tc : Thread nD τ).loc main_arg2) : S4480x1024.Idx → EReal) (ix2 l j)
/-- The weights of the feature-major rows. -/
def WF (l : Fin 832) (j : Fin 1024) : EReal := (m ((c.tc : Thread nD τ).loc main_arg3) : S832x1024.Idx → EReal) (ix2 l j)

/-- Where each window stands at a grid point. -/
theorem places : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- Where the cache windows stand at a grid point. -/
theorem cache_places : ∀ t : Fin cfg0.N, win0_5.index t = ![t.val / 8, 0, t.val % 8] ∧ win0_6.index t = ![t.val / 8, 0, t.val % 8]
    ∧ win0_7.index t = ![t.val / 8, 0, t.val % 8] ∧ win0_8.index t = ![t.val / 8, 0, t.val % 8] :=
  (by decide +kernel : ∀ t : Fin grid0.N, _)

/-- The input block of a point. -/
theorem x_block (t : Fin cfg0.N) (ht : t.val < 128) (r : Fin 256) (j : Fin 1024) :
    (iblk m c 0 t : S256x1024.Idx → EReal) (ix2 r j) = X m c ⟨256 * t.val + r.val, by omega⟩ j := by
  obtain ⟨e0, -⟩ := places t
  unfold X
  blk_ext [iblk, V, e0]

/-- The gains at a point. -/
theorem g_block (t : Fin cfg0.N) (j : Fin 1024) : (iblk m c 1 t : S1x1024.Idx → EReal) (ix2 0 j) = G m c j := by
  obtain ⟨-, e1, -⟩ := places t
  unfold G
  blk_ext [iblk, V, e1]

/-- The token-major weights at a point. -/
theorem wt_block (t : Fin cfg0.N) (l : Fin 4480) (j : Fin 1024) : (iblk m c 2 t : S4480x1024.Idx → EReal) (ix2 l j) = WT m c l j := by
  obtain ⟨-, -, e2, -⟩ := places t
  unfold WT
  blk_ext [iblk, V, e2]

/-- The feature-major weights at a point. -/
theorem wf_block (t : Fin cfg0.N) (l : Fin 832) (j : Fin 1024) : (iblk m c 3 t : S832x1024.Idx → EReal) (ix2 l j) = WF m c l j := by
  obtain ⟨-, -, -, e3, -⟩ := places t
  unfold WF
  blk_ext [iblk, V, e3]

/-- The token-major columns of one point. -/
theorem zt_point (t : Fin cfg0.N) (ht : t.val < 128) (r : Fin 256) (l : Fin 4480) :
    (out0_4 (iblk m c 0 t) (iblk m c 1 t) (iblk m c 2 t) (iblk m c 3 t) : S256x4480.Idx → EReal) (ix2 r l)
      = proj (X m c) (G m c) (WT m c) ⟨256 * t.val + r.val, by omega⟩ l := by
  rw [out4_eq, pay3_apply]
  simp only [x_block m c t ht, g_block m c t, wt_block m c t]
  rfl

/-- The feature-major rows of one point. -/
theorem zf_point (t : Fin cfg0.N) (ht : t.val < 128) (l : Fin 832) (r : Fin 256) :
    (k0_pay4 (iblk m c 0 t) (iblk m c 1 t) (iblk m c 3 t) : S832x256.Idx → EReal) (ix2 l r)
      = proj (X m c) (G m c) (WF m c) ⟨256 * t.val + r.val, by omega⟩ l := by
  rw [pay4_apply]
  simp only [x_block m c t ht, g_block m c t, wf_block m c t]
  rfl

/-- The token-major columns after the run. -/
theorem zt_array : ((dats m 0 c).arrAt 4 cfg0.N : S32768x4480.Idx → EReal)
    = fun i => proj (X m c) (G m c) (WT m c) (i 0) (i 1) := by
  refine (dats m 0 c).arrAt_eq_of_covers 4 _ (by decide +kernel) fun t hf y => ?_
  obtain ⟨-, -, -, -, e4⟩ := places t
  have ht : t.val < 128 := N_0 ▸ t.isLt
  have key := zt_point m c t ht (y 0) (y 1)
  refine (congrFun (after0_4 m c t) _).trans (Eq.trans ?_ (key.trans ?_))
  · refine congrArg (out0_4 (iblk m c 0 t) (iblk m c 1 t) (iblk m c 2 t) (iblk m c 3 t)) ?_
    funext a; fin_cases a <;> rfl
  · refine congr (congrArg (proj (X m c) (G m c) (WT m c)) ?_) ?_
    all_goals
      apply Fin.ext
      blk_simp [e4]
      try (dsimp only; omega)

/-- A position of a sequence among all the rows. -/
theorem place_lt {b t : ℕ} (hb : b < 16) (ht : t < 2048) : b * 2048 + t < 32768 := by omega

/-- The first cache's feature among all the feature-major rows. -/
theorem first_lt {l : ℕ} (hl : l < 256) : l < 832 := by omega

/-- A cache's feature among all the feature-major rows. -/
theorem feature_lt (o w : ℕ) {l : ℕ} (hl : l < w) (h : o + w ≤ 832) : o + l < 832 := by omega

/-- The first cache of one point. -/
theorem sb_point (t : Fin cfg0.N) (ht : t.val < 128) (a : Fin 1) (l : Fin 256) (r : Fin 256) :
    (out0_5 (iblk m c 0 t) (iblk m c 1 t) (iblk m c 2 t) (iblk m c 3 t) : S1x256x256.Idx → EReal) (ix3 a l r)
      = proj (X m c) (G m c) (WF m c) ⟨256 * t.val + r.val, by omega⟩ ⟨l.val, by omega⟩ := by
  rw [out5_eq, pay5_apply, zf_point m c t ht]

/-- The first cache after the run. -/
theorem sb_array : ((dats m 0 c).arrAt 5 cfg0.N : S16x256x2048.Idx → EReal)
    = fun i => proj (X m c) (G m c) (WF m c) ⟨(i 0).val * 2048 + (i 2).val, place_lt (i 0).isLt (i 2).isLt⟩
        ⟨(i 1).val, first_lt (i 1).isLt⟩ := by
  refine (dats m 0 c).arrAt_eq_of_covers 5 _ (by decide +kernel) fun t hf y => ?_
  obtain ⟨e, -⟩ := cache_places t
  have ht : t.val < 128 := N_0 ▸ t.isLt
  have key := sb_point m c t ht (y 0) (y 1) (y 2)
  refine (congrFun (after0_5 m c t) _).trans (Eq.trans ?_ (key.trans ?_))
  · refine congrArg (out0_5 (iblk m c 0 t) (iblk m c 1 t) (iblk m c 2 t) (iblk m c 3 t)) ?_
    funext a; fin_cases a <;> rfl
  · refine congr (congrArg (proj (X m c) (G m c) (WF m c)) ?_) ?_
    all_goals
      apply Fin.ext
      blk_simp [e]
      try (dsimp only; omega)

/-- The second cache of one point. -/
theorem nsa_point (t : Fin cfg0.N) (ht : t.val < 128) (a : Fin 1) (l : Fin 256) (r : Fin 256) :
    (out0_6 (iblk m c 0 t) (iblk m c 1 t) (iblk m c 2 t) (iblk m c 3 t) : S1x256x256.Idx → EReal) (ix3 a l r)
      = proj (X m c) (G m c) (WF m c) ⟨256 * t.val + r.val, by omega⟩ ⟨256 + l.val, by omega⟩ := by
  rw [out6_eq, pay6_apply, zf_point m c t ht]

/-- The second cache after the run. -/
theorem nsa_array : ((dats m 0 c).arrAt 6 cfg0.N : S16x256x2048.Idx → EReal)
    = fun i => proj (X m c) (G m c) (WF m c) ⟨(i 0).val * 2048 + (i 2).val, place_lt (i 0).isLt (i 2).isLt⟩
        ⟨256 + (i 1).val, feature_lt 256 256 (i 1).isLt (by decide)⟩ := by
  refine (dats m 0 c).arrAt_eq_of_covers 6 _ (by decide +kernel) fun t hf y => ?_
  obtain ⟨-, e, -⟩ := cache_places t
  have ht : t.val < 128 := N_0 ▸ t.isLt
  have key := nsa_point m c t ht (y 0) (y 1) (y 2)
  refine (congrFun (after0_6 m c t) _).trans (Eq.trans ?_ (key.trans ?_))
  · refine congrArg (out0_6 (iblk m c 0 t) (iblk m c 1 t) (iblk m c 2 t) (iblk m c 3 t)) ?_
    funext a; fin_cases a <;> rfl
  · refine congr (congrArg (proj (X m c) (G m c) (WF m c)) ?_) ?_
    all_goals
      apply Fin.ext
      blk_simp [e]
      try (dsimp only; omega)

/-- The third cache of one point. -/
theorem win_point (t : Fin cfg0.N) (ht : t.val < 128) (a : Fin 1) (l : Fin 128) (r : Fin 256) :
    (out0_7 (iblk m c 0 t) (iblk m c 1 t) (iblk m c 2 t) (iblk m c 3 t) : S1x128x256.Idx → EReal) (ix3 a l r)
      = proj (X m c) (G m c) (WF m c) ⟨256 * t.val + r.val, by omega⟩ ⟨512 + l.val, by omega⟩ := by
  rw [out7_eq, pay7_apply, zf_point m c t ht]

/-- The third cache after the run. -/
theorem win_array : ((dats m 0 c).arrAt 7 cfg0.N : S16x128x2048.Idx → EReal)
    = fun i => proj (X m c) (G m c) (WF m c) ⟨(i 0).val * 2048 + (i 2).val, place_lt (i 0).isLt (i 2).isLt⟩
        ⟨512 + (i 1).val, feature_lt 512 128 (i 1).isLt (by decide)⟩ := by
  refine (dats m 0 c).arrAt_eq_of_covers 7 _ (by decide +kernel) fun t hf y => ?_
  obtain ⟨-, -, e, -⟩ := cache_places t
  have ht : t.val < 128 := N_0 ▸ t.isLt
  have key := win_point m c t ht (y 0) (y 1) (y 2)
  refine (congrFun (after0_7 m c t) _).trans (Eq.trans ?_ (key.trans ?_))
  · refine congrArg (out0_7 (iblk m c 0 t) (iblk m c 1 t) (iblk m c 2 t) (iblk m c 3 t)) ?_
    funext a; fin_cases a <;> rfl
  · refine congr (congrArg (proj (X m c) (G m c) (WF m c)) ?_) ?_
    all_goals
      apply Fin.ext
      blk_simp [e]
      try (dsimp only; omega)

/-- The fourth cache of one point. -/
theorem mla_point (t : Fin cfg0.N) (ht : t.val < 128) (a : Fin 1) (l : Fin 192) (r : Fin 256) :
    (out0_8 (iblk m c 0 t) (iblk m c 1 t) (iblk m c 2 t) (iblk m c 3 t) : S1x192x256.Idx → EReal) (ix3 a l r)
      = proj (X m c) (G m c) (WF m c) ⟨256 * t.val + r.val, by omega⟩ ⟨640 + l.val, by omega⟩ := by
  rw [out8_eq, pay1_apply, zf_point m c t ht]

/-- The fourth cache after the run. -/
theorem mla_array : ((dats m 0 c).arrAt 8 cfg0.N : S16x192x2048.Idx → EReal)
    = fun i => proj (X m c) (G m c) (WF m c) ⟨(i 0).val * 2048 + (i 2).val, place_lt (i 0).isLt (i 2).isLt⟩
        ⟨640 + (i 1).val, feature_lt 640 192 (i 1).isLt (by decide)⟩ := by
  refine (dats m 0 c).arrAt_eq_of_covers 8 _ (by decide +kernel) fun t hf y => ?_
  obtain ⟨-, -, -, e⟩ := cache_places t
  have ht : t.val < 128 := N_0 ▸ t.isLt
  have key := mla_point m c t ht (y 0) (y 1) (y 2)
  refine (congrFun (after0_8 m c t) _).trans (Eq.trans ?_ (key.trans ?_))
  · refine congrArg (out0_8 (iblk m c 0 t) (iblk m c 1 t) (iblk m c 2 t) (iblk m c 3 t)) ?_
    funext a; fin_cases a <;> rfl
  · refine congr (congrArg (proj (X m c) (G m c) (WF m c)) ?_) ?_
    all_goals
      apply Fin.ext
      blk_simp [e]
      try (dsimp only; omega)

end Cert.Kernel2Ideal.InProj
-- ==== Proof.InProj.Ref.lean ====
/-
  What the input projection's reference computes at an index.
-/
module

public import proofs.«01_k».proof.Proof.Gen.Reference2Ideal.Run
public import proofs.«01_k».proof.Proof.Norm

@[expose] public section

set_option maxRecDepth 16384

noncomputable section

open Idealize.ShloMosaic Idealize.ShloMosaic.TcCoe Idealize.SL.Sem

namespace Cert.Reference2Ideal.InProj

open Cert.Reference2Ideal Cert.Reference2Ideal.Gen Cert.Common

/-- The normalised rows. -/
def rows (x : FVec Ideal S32768x1024 .f32) (g : FVec Ideal S1x1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 g)

/-- The token-major columns. -/
def columns (y : FVec Ideal S32768x1024 .f32) (w : FVec Ideal S4480x1024 .bf16) : FVec Ideal S32768x4480 .f32 :=
  Host.dotGeneral dot_S32768x1024_S1024x4480_S32768x4480_1_0_0_1_n_n none y (transpose S1024x4480 [1, 0] (extf .f32 w bitsLt_bf16_f32) transposes_S4480x1024_S1024x4480_1_0)

/-- The feature-major rows of every sequence. -/
def features (y : FVec Ideal S32768x1024 .f32) (w : FVec Ideal S832x1024 .bf16) : FVec Ideal S16x832x2048 .f32 :=
  transpose S16x832x2048 [0, 2, 1] (shapeCast _ (Host.dotGeneral dot_S32768x1024_S1024x832_S32768x832_1_0_0_1_n_n none y (transpose S1024x832 [1, 0] (extf .f32 w bitsLt_bf16_f32) transposes_S832x1024_S1024x832_1_0)) shapeCasts_S32768x832_S16x2048x832) transposes_S16x2048x832_S16x832x2048_0_2_1

/-- The normalised rows at an index. -/
theorem rows_apply (x : FVec Ideal S32768x1024 .f32) (g : FVec Ideal S1x1024 .f32) (n : Fin 32768) (k : Fin 1024) :
    rows x g (ix2 n k) = rmsNorm (fun j => x (ix2 n j)) (fun j => g (ix2 0 j)) k := by
  unfold rows rmsNorm
  pointwise

/-- The token-major columns at an index. -/
theorem columns_apply (y : FVec Ideal S32768x1024 .f32) (w : FVec Ideal S4480x1024 .bf16) (n : Fin 32768) (l : Fin 4480) :
    columns y w (ix2 n l) = ∑ k : Fin 1024, y (ix2 n k) * w (ix2 l k) := by
  unfold columns
  pointwise

/-- The feature-major rows at an index. -/
theorem features_apply (y : FVec Ideal S32768x1024 .f32) (w : FVec Ideal S832x1024 .bf16) (b : Fin 16) (l : Fin 832) (t : Fin 2048) :
    features y w (ix3 b l t) = ∑ k : Fin 1024, y (ix2 ⟨b.val * 2048 + t.val, by omega⟩ k) * w (ix2 l k) := by
  unfold features
  pointwise

/-- The first cache at an index. -/
theorem sb_apply (z : FVec Ideal S16x832x2048 .f32) (b : Fin 16) (l : Fin 256) (t : Fin 2048) :
    extractStridedSlice S16x256x2048 ![0, 0, 0] z slices_S16x832x2048_S16x256x2048_0_0_0 (ix3 b l t) = z (ix3 b ⟨l.val, by omega⟩ t) := by
  pointwise

/-- The second cache at an index. -/
theorem nsa_apply (z : FVec Ideal S16x832x2048 .f32) (b : Fin 16) (l : Fin 256) (t : Fin 2048) :
    extractStridedSlice S16x256x2048 ![0, 256, 0] z slices_S16x832x2048_S16x256x2048_0_256_0 (ix3 b l t) = z (ix3 b ⟨256 + l.val, by omega⟩ t) := by
  pointwise

/-- The third cache at an index. -/
theorem win_apply (z : FVec Ideal S16x832x2048 .f32) (b : Fin 16) (l : Fin 128) (t : Fin 2048) :
    extractStridedSlice S16x128x2048 ![0, 512, 0] z slices_S16x832x2048_S16x128x2048_0_512_0 (ix3 b l t) = z (ix3 b ⟨512 + l.val, by omega⟩ t) := by
  pointwise

/-- The fourth cache at an index. -/
theorem mla_apply (z : FVec Ideal S16x832x2048 .f32) (b : Fin 16) (l : Fin 192) (t : Fin 2048) :
    extractStridedSlice S16x192x2048 ![0, 640, 0] z slices_S16x832x2048_S16x192x2048_0_640_0 (ix3 b l t) = z (ix3 b ⟨640 + l.val, by omega⟩ t) := by
  pointwise

end Cert.Reference2Ideal.InProj
-- ==== Proof.InProj.Claims.lean ====
/-
  The claims about the input projection: the frames, and the kernel's five results against the reference's.
-/
module

public import proofs.«01_k».proof.Defs
public import proofs.«01_k».proof.Proof.Gen.Kernel2.Frame
public import proofs.«01_k».proof.Proof.InProj.Array
public import proofs.«01_k».proof.Proof.InProj.Ref

@[expose] public section

set_option maxRecDepth 16384

noncomputable section

open Idealize.ShloMosaic Idealize.ShloMosaic.TcCoe Idealize.SL.Sem

namespace Cert.Proof.InProj

open Cert.Common Cert.Kernel2Ideal.InProj Cert.Reference2Ideal.InProj

/-- The kernel runs, and leaves its arguments. -/
theorem frame_k : Cert.quiescent_Kernel2 := fun m ρ _ => Cert.Kernel2.Gen.frame m ρ
/-- So does its idealization. -/
theorem frame_ki : Cert.quiescent_Kernel2Ideal := fun m ρ _ => Cert.Kernel2Ideal.Gen.frame m ρ
/-- The reference declares no semaphore; its run keeps the arguments. -/
theorem frame_r : Cert.quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

/-- Nothing is rewritten. -/
theorem preserves : Cert.preserves_Kernel2_Kernel2Ideal := trivial

variable (m : (ℓ : Loc Cert.Kernel2Ideal.nD Cert.Kernel2Ideal.τ Cert.Kernel2Ideal.sig) → Buf (Elt Ideal) ℓ)
  (c : Dev Cert.Kernel2Ideal.nD) (x : FVec Ideal Cert.Kernel2Ideal.S32768x1024 .f32) (g : FVec Ideal Cert.Kernel2Ideal.S1x1024 .f32)
  (hx : m ((c.tc : Thread Cert.Kernel2Ideal.nD Cert.Kernel2Ideal.τ).loc Cert.Kernel2Ideal.main_arg0) = x)
  (hg : m ((c.tc : Thread Cert.Kernel2Ideal.nD Cert.Kernel2Ideal.τ).loc Cert.Kernel2Ideal.main_arg1) = g)

include hx hg

/-- The token-major columns are the reference's. -/
theorem columns_eq (w : FVec Ideal Cert.Kernel2Ideal.S4480x1024 .bf16)
    (hw : m ((c.tc : Thread Cert.Kernel2Ideal.nD Cert.Kernel2Ideal.τ).loc Cert.Kernel2Ideal.main_arg2) = w) :
    (columns (rows x g) w : Cert.Kernel2Ideal.S32768x4480.Idx → EReal)
      = (Cert.Kernel2Ideal.Gen.dats m 0 c).arrAt 4 Cert.Kernel2Ideal.cfg0.N := by
  refine Eq.trans (funext fun i => ?_) (zt_array m c).symm
  have hi : i = ix2 (i 0) (i 1) := by funext a; fin_cases a <;> rfl
  rw [hi]
  refine (columns_apply _ w (i 0) (i 1)).trans ?_
  subst hx hg hw
  exact Finset.sum_congr rfl fun k _ => congrArg (· * _) (rows_apply _ _ _ k)

/-- The feature-major rows are the reference's, at a sequence's position. -/
theorem features_eq (w : FVec Ideal Cert.Kernel2Ideal.S832x1024 .bf16)
    (hw : m ((c.tc : Thread Cert.Kernel2Ideal.nD Cert.Kernel2Ideal.τ).loc Cert.Kernel2Ideal.main_arg3) = w)
    (b : Fin 16) (l : Fin 832) (t : Fin 2048) :
    features (rows x g) w (ix3 b l t) = proj (X m c) (G m c) (WF m c) ⟨b.val * 2048 + t.val, by omega⟩ l := by
  refine (features_apply _ w b l t).trans ?_
  subst hx hg hw
  exact Finset.sum_congr rfl fun k _ => congrArg (· * _) (rows_apply _ _ _ k)

/-- The first cache is the reference's. -/
theorem sb_eq (w : FVec Ideal Cert.Kernel2Ideal.S832x1024 .bf16)
    (hw : m ((c.tc : Thread Cert.Kernel2Ideal.nD Cert.Kernel2Ideal.τ).loc Cert.Kernel2Ideal.main_arg3) = w) :
    (extractStridedSlice Cert.Reference2Ideal.S16x256x2048 ![0, 0, 0] (features (rows x g) w)
        Cert.Reference2Ideal.Gen.slices_S16x832x2048_S16x256x2048_0_0_0 : Cert.Kernel2Ideal.S16x256x2048.Idx → EReal)
      = (Cert.Kernel2Ideal.Gen.dats m 0 c).arrAt 5 Cert.Kernel2Ideal.cfg0.N := by
  refine Eq.trans (funext fun i => ?_) (sb_array m c).symm
  have hi : i = ix3 (i 0) (i 1) (i 2) := by funext a; fin_cases a <;> rfl
  rw [hi]
  exact (sb_apply _ (i 0) (i 1) (i 2)).trans (features_eq m c x g hx hg w hw _ _ _)

/-- The second cache is the reference's. -/
theorem nsa_eq (w : FVec Ideal Cert.Kernel2Ideal.S832x1024 .bf16)
    (hw : m ((c.tc : Thread Cert.Kernel2Ideal.nD Cert.Kernel2Ideal.τ).loc Cert.Kernel2Ideal.main_arg3) = w) :
    (extractStridedSlice Cert.Reference2Ideal.S16x256x2048 ![0, 256, 0] (features (rows x g) w)
        Cert.Reference2Ideal.Gen.slices_S16x832x2048_S16x256x2048_0_256_0 : Cert.Kernel2Ideal.S16x256x2048.Idx → EReal)
      = (Cert.Kernel2Ideal.Gen.dats m 0 c).arrAt 6 Cert.Kernel2Ideal.cfg0.N := by
  refine Eq.trans (funext fun i => ?_) (nsa_array m c).symm
  have hi : i = ix3 (i 0) (i 1) (i 2) := by funext a; fin_cases a <;> rfl
  rw [hi]
  exact (nsa_apply _ (i 0) (i 1) (i 2)).trans (features_eq m c x g hx hg w hw _ _ _)

/-- The third cache is the reference's. -/
theorem win_eq (w : FVec Ideal Cert.Kernel2Ideal.S832x1024 .bf16)
    (hw : m ((c.tc : Thread Cert.Kernel2Ideal.nD Cert.Kernel2Ideal.τ).loc Cert.Kernel2Ideal.main_arg3) = w) :
    (extractStridedSlice Cert.Reference2Ideal.S16x128x2048 ![0, 512, 0] (features (rows x g) w)
        Cert.Reference2Ideal.Gen.slices_S16x832x2048_S16x128x2048_0_512_0 : Cert.Kernel2Ideal.S16x128x2048.Idx → EReal)
      = (Cert.Kernel2Ideal.Gen.dats m 0 c).arrAt 7 Cert.Kernel2Ideal.cfg0.N := by
  refine Eq.trans (funext fun i => ?_) (win_array m c).symm
  have hi : i = ix3 (i 0) (i 1) (i 2) := by funext a; fin_cases a <;> rfl
  rw [hi]
  exact (win_apply _ (i 0) (i 1) (i 2)).trans (features_eq m c x g hx hg w hw _ _ _)

/-- The fourth cache is the reference's. -/
theorem mla_eq (w : FVec Ideal Cert.Kernel2Ideal.S832x1024 .bf16)
    (hw : m ((c.tc : Thread Cert.Kernel2Ideal.nD Cert.Kernel2Ideal.τ).loc Cert.Kernel2Ideal.main_arg3) = w) :
    (extractStridedSlice Cert.Reference2Ideal.S16x192x2048 ![0, 640, 0] (features (rows x g) w)
        Cert.Reference2Ideal.Gen.slices_S16x832x2048_S16x192x2048_0_640_0 : Cert.Kernel2Ideal.S16x192x2048.Idx → EReal)
      = (Cert.Kernel2Ideal.Gen.dats m 0 c).arrAt 8 Cert.Kernel2Ideal.cfg0.N := by
  refine Eq.trans (funext fun i => ?_) (mla_array m c).symm
  have hi : i = ix3 (i 0) (i 1) (i 2) := by funext a; fin_cases a <;> rfl
  rw [hi]
  exact (mla_apply _ (i 0) (i 1) (i 2)).trans (features_eq m c x g hx hg w hw _ _ _)

omit hx hg

/-- THE VALUE: the kernel's five results are the reference's. -/
theorem algebraic : Cert.algebraic_Kernel2Ideal_Reference2Ideal := by
  intro m ρ m' ρ' _ hagree
  refine ⟨fun c => (Cert.Kernel2Ideal.Gen.dats m 0 c).arrAt 4 Cert.Kernel2Ideal.cfg0.N,
    fun c => (Cert.Kernel2Ideal.Gen.dats m 0 c).arrAt 5 Cert.Kernel2Ideal.cfg0.N,
    fun c => (Cert.Kernel2Ideal.Gen.dats m 0 c).arrAt 6 Cert.Kernel2Ideal.cfg0.N,
    fun c => (Cert.Kernel2Ideal.Gen.dats m 0 c).arrAt 7 Cert.Kernel2Ideal.cfg0.N,
    fun c => (Cert.Kernel2Ideal.Gen.dats m 0 c).arrAt 8 Cert.Kernel2Ideal.cfg0.N,
    Cert.Kernel2Ideal.Value.run_blocks (F := Ideal) m ρ, ?_⟩
  refine (θ_run Cert.Reference2Ideal.defs _ _).mono (fun _ h c => ?_) (Cert.Reference2Ideal.Value.run (F := Ideal) m' ρ')
  obtain ⟨h0, h1, h2, h3, h4, h5⟩ := h c
  obtain ⟨a0, a1, a2, a3⟩ := hagree c
  exact ⟨h0.trans (columns_eq m c _ _ a0.symm a1.symm _ a2.symm), h1.trans (sb_eq m c _ _ a0.symm a1.symm _ a3.symm),
    h2.trans (nsa_eq m c _ _ a0.symm a1.symm _ a3.symm), h3.trans (win_eq m c _ _ a0.symm a1.symm _ a3.symm),
    h4.trans (mla_eq m c _ _ a0.symm a1.symm _ a3.symm), h5⟩

end Cert.Proof.InProj
-- ==== Proof.Merge.Spec.lean ====
/-
  The merge of the three attentions' outputs, for one row.
-/
module

public import Idealize.ShloMosaic.Lib.Pointwise
public import Idealize.ShloMosaic.Lib.IdealHost

@[expose] public section

noncomputable section

open Idealize.ShloMosaic

namespace Cert.Common

/-- The logistic function. -/
def gate (z : EReal) : EReal := Ideal.div 1 (1 + Ideal.exp (-z))

/-- Column `j` of the heads' values: head `j / 64`, its column `j % 64`, from the head's latents. -/
def headRow (L : Fin 8 → Fin 128 → EReal) (U : Fin 8 → Fin 64 → Fin 128 → EReal) (j : Fin 512) : EReal :=
  ∑ k, L ⟨j.val / 64, by omega⟩ k * U ⟨j.val / 64, by omega⟩ ⟨j.val % 64, by omega⟩ k

/-- The weights of the merge: the heads' values, the three projections, the output projection. -/
structure MergeWeights where
  /-- From a head's latents to its values. -/
  uv : Fin 8 → Fin 64 → Fin 128 → EReal
  /-- The projection of the latent attention. -/
  pm : Fin 512 → Fin 1024 → EReal
  /-- The projection of the second attention. -/
  ps : Fin 512 → Fin 1024 → EReal
  /-- The projection of the third attention. -/
  pn : Fin 512 → Fin 1024 → EReal
  /-- The output projection. -/
  wo : Fin 1024 → Fin 1024 → EReal

/-- The gated sum of the three projections, at column `k`. -/
def mixed (W : MergeWeights) (z : Fin 3072 → EReal) (L : Fin 8 → Fin 128 → EReal) (s n : Fin 512 → EReal) (k : Fin 1024) : EReal :=
  gate (z ⟨k.val, by omega⟩) * (∑ j, headRow L W.uv j * W.pm j k) + gate (z ⟨1024 + k.val, by omega⟩) * (∑ j, s j * W.ps j k)
    + gate (z ⟨2048 + k.val, by omega⟩) * (∑ j, n j * W.pn j k)

/-- The row after the merge. -/
def mergeRow (W : MergeWeights) (x : Fin 1024 → EReal) (z : Fin 3072 → EReal) (L : Fin 8 → Fin 128 → EReal) (s n : Fin 512 → EReal)
    (d : Fin 1024) : EReal :=
  x d + ∑ k, mixed W z L s n k * W.wo k d

end Cert.Common
-- ==== Proof.Merge.Block.lean ====
/-
  The merge of one block of 256 rows, at an index.
-/
module

public import proofs.«01_k».proof.Proof.Gen.Kernel3Ideal.Value
public import proofs.«01_k».proof.Proof.Merge.Spec
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel3Ideal.Merge

open Cert.Kernel3Ideal Cert.Kernel3Ideal.Gen Cert.Common

/-- Eight heads' columns side by side. -/
def beside (p : Fin 8 → FVec Ideal S256x64 .bf16) : FVec Ideal S256x512 .bf16 :=
  concatenate S256x512 1 [⟨S256x64, p 0⟩, ⟨S256x64, p 1⟩, ⟨S256x64, p 2⟩, ⟨S256x64, p 3⟩, ⟨S256x64, p 4⟩, ⟨S256x64, p 5⟩, ⟨S256x64, p 6⟩, ⟨S256x64, p 7⟩]
    concatenates_S256x64_S256x64_S256x64_S256x64_S256x64_S256x64_S256x64_S256x64_S256x512_d1

/-- Column `j` is of head `j / 64`. -/
theorem beside_apply (p : Fin 8 → FVec Ideal S256x64 .bf16) (r : Fin 256) (j : Fin 512) :
    (beside p : S256x512.Idx → EReal) (ix2 r j) = p ⟨j.val / 64, by omega⟩ (ix2 r ⟨j.val % 64, by omega⟩) := by
  unfold beside
  pointwise
  repeat' split
  all_goals
    refine congr (congrArg p (Fin.ext ?_)) (congrArg (ix2 r) (Fin.ext ?_))
    · simp only [Fin.val_ofNat]
      omega
    · dsimp only
      omega

/-- One head's product. -/
theorem pay2_apply (l : Vec Ideal S1x256x128 .bf16) (u : Vec Ideal S1x64x128 .bf16) (r : Fin 256) (v : Fin 64) :
    (k0_pay2 l u : S256x64.Idx → EReal) (ix2 r v) = ∑ k, l (ix3 0 r k) * u (ix3 0 v k) := by
  unfold k0_pay2
  pointwise

/-- The gates. -/
theorem pay8_apply (z : Vec Ideal S256x3072 .f32) (r : Fin 256) (k : Fin 3072) :
    (k0_pay8 z : S256x3072.Idx → EReal) (ix2 r k) = gate (z (ix2 r k)) := by
  unfold k0_pay8 gate
  pointwise
  exact congrArg (fun w => Ideal.div 1 (1 + Ideal.exp w)) (zero_sub _)

/-- The first gates. -/
theorem pay9_apply (z : Vec Ideal S256x3072 .f32) (r : Fin 256) (k : Fin 1024) :
    (k0_pay9 z : S256x1024.Idx → EReal) (ix2 r k) = (k0_pay8 z : S256x3072.Idx → EReal) (ix2 r ⟨k.val, by omega⟩) := by
  unfold k0_pay9
  pointwise

/-- The gated sum and the output projection. -/
theorem pay1_apply (o : FVec Ideal S256x512 .bf16) (g : FVec Ideal S256x3072 .f32) (g0 : FVec Ideal S256x1024 .f32)
    (pm : Vec Ideal S512x1024 .bf16) (s : Vec Ideal S256x512 .bf16) (ps : Vec Ideal S512x1024 .bf16) (n : Vec Ideal S256x512 .bf16)
    (pn : Vec Ideal S512x1024 .bf16) (x : Vec Ideal S256x1024 .f32) (wo : Vec Ideal S1024x1024 .bf16) (r : Fin 256) (d : Fin 1024) :
    (k0_pay1 o g g0 pm s ps n pn x wo : S256x1024.Idx → EReal) (ix2 r d)
      = x (ix2 r d) + ∑ k : Fin 1024, ((g0 : S256x1024.Idx → EReal) (ix2 r k) * (∑ j, (o : S256x512.Idx → EReal) (ix2 r j) * pm (ix2 j k))
          + (g : S256x3072.Idx → EReal) (ix2 r ⟨1024 + k.val, by omega⟩) * (∑ j, s (ix2 r j) * ps (ix2 j k))
          + (g : S256x3072.Idx → EReal) (ix2 r ⟨2048 + k.val, by omega⟩) * (∑ j, n (ix2 r j) * pn (ix2 j k))) * wo (ix2 k d) := by
  unfold k0_pay1
  pointwise

/-- A head's latents lie in the block. -/
theorem inb_lat {h : ℕ} (hh : h < 8) : ∀ a : Fin 3, (![h, 0, 0] : Fin 3 → ℕ) a + (![1, 256, 128] : Fin 3 → ℕ) a ≤ (![8, 256, 128] : Fin 3 → ℕ) a := by
  intro a
  fin_cases a
  · exact hh
  · exact Nat.le_refl _
  · exact Nat.le_refl _

/-- A head's weights lie in the buffer. -/
theorem inb_uv {h : ℕ} (hh : h < 8) : ∀ a : Fin 3, (![h, 0, 0] : Fin 3 → ℕ) a + (![1, 64, 128] : Fin 3 → ℕ) a ≤ (![8, 64, 128] : Fin 3 → ℕ) a := by
  intro a
  fin_cases a
  · exact hh
  · exact Nat.le_refl _
  · exact Nat.le_refl _

/-- Head `h`'s columns. -/
def head (x0 : Vec Ideal S8x256x128 .bf16) (x5 : Vec Ideal S8x64x128 .bf16) (h : Fin 8) : FVec Ideal S256x64 .bf16 :=
  k0_pay2 (View.ld x0 (Rect.unit (s := S8x256x128) ![h.val, 0, 0] S1x256x128.size (inb_lat h.isLt)))
    (View.ld x5 (Rect.unit (s := S8x64x128) ![h.val, 0, 0] S1x64x128.size (inb_uv h.isLt)))

/-- A load of one slab. -/
theorem ld_slab {n : ℕ} (x : (⟨3, ![8, n, 128]⟩ : Shape).Idx → Elt Ideal .bf16) (h : Fin 8)
    (hb : ∀ a : Fin 3, (![h.val, 0, 0] : Fin 3 → ℕ) a + (![1, n, 128] : Fin 3 → ℕ) a ≤ (![8, n, 128] : Fin 3 → ℕ) a) (r : Fin n) (k : Fin 128) :
    View.ld (Val := Elt Ideal) x (Rect.unit (s := ⟨3, ![8, n, 128]⟩) ![h.val, 0, 0] ![1, n, 128] hb) (ix3 0 r k) = x (ix3 h r k) := by
  refine congrArg x ?_
  funext a
  apply Fin.ext
  refine (Rect.idx_unit_val (s := ⟨3, ![8, n, 128]⟩) _ _ hb _ a).trans ?_
  fin_cases a
  · exact Nat.add_zero _
  · exact Nat.zero_add _
  · exact Nat.zero_add _

/-- Head `h`'s columns at an index. -/
theorem head_apply (x0 : Vec Ideal S8x256x128 .bf16) (x5 : Vec Ideal S8x64x128 .bf16) (h : Fin 8) (r : Fin 256) (v : Fin 64) :
    (head x0 x5 h : S256x64.Idx → EReal) (ix2 r v) = ∑ k, x0 (ix3 h r k) * x5 (ix3 h v k) := by
  unfold head
  rw [pay2_apply]
  exact Finset.sum_congr rfl fun k _ => congr (congrArg (fun a b : EReal => a * b) (ld_slab x0 h (inb_lat h.isLt) r k)) (ld_slab x5 h (inb_uv h.isLt) v k)

/-- The block's rows after the merge. -/
def rowsOut (x0 : Vec Ideal S8x256x128 .bf16) (x1 x2 : Vec Ideal S256x512 .bf16) (x3 : Vec Ideal S256x3072 .f32) (x4 : Vec Ideal S256x1024 .f32)
    (x5 : Vec Ideal S8x64x128 .bf16) (x6 x7 x8 : Vec Ideal S512x1024 .bf16) (x9 : Vec Ideal S1024x1024 .bf16) : FVec Ideal S256x1024 .f32 :=
  k0_pay1 (beside (head x0 x5)) (k0_pay8 x3) (k0_pay9 x3) x6 x1 x7 x2 x8 x4 x9

/-- A point leaves the merged rows. -/
theorem out_eq (c : Dev nD) (i : grid0.Coords) (arg1 : Memref sig .tc .vmem S8x256x128 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x3072 .f32) (harg4 : arg4.IsWhole) (arg5 : Memref sig .tc .vmem S256x1024 .f32) (harg5 : arg5.IsWhole) (arg6 : Memref sig .tc .vmem S8x64x128 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S256x1024 .f32) (harg11 : arg11.IsWhole)
    (x0 : Vec Ideal S8x256x128 .bf16) (x1 x2 : Vec Ideal S256x512 .bf16) (x3 : Vec Ideal S256x3072 .f32) (x4 : Vec Ideal S256x1024 .f32)
    (x5 : Vec Ideal S8x64x128 .bf16) (x6 x7 x8 : Vec Ideal S512x1024 .bf16) (x9 : Vec Ideal S1024x1024 .bf16) :
    out0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9
      = rowsOut x0 x1 x2 x3 x4 x5 x6 x7 x8 x9 := by
  frame_open
  frame_out
  rfl

/-- The weights a block's buffers hold. -/
def weights (x5 : Vec Ideal S8x64x128 .bf16) (x6 x7 x8 : Vec Ideal S512x1024 .bf16) (x9 : Vec Ideal S1024x1024 .bf16) : MergeWeights :=
  ⟨fun h v k => x5 (ix3 h v k), fun j k => x6 (ix2 j k), fun j k => x7 (ix2 j k), fun j k => x8 (ix2 j k), fun k d => x9 (ix2 k d)⟩

/-- The merged rows at an index. -/
theorem rowsOut_apply (x0 : Vec Ideal S8x256x128 .bf16) (x1 x2 : Vec Ideal S256x512 .bf16) (x3 : Vec Ideal S256x3072 .f32) (x4 : Vec Ideal S256x1024 .f32)
    (x5 : Vec Ideal S8x64x128 .bf16) (x6 x7 x8 : Vec Ideal S512x1024 .bf16) (x9 : Vec Ideal S1024x1024 .bf16) (r : Fin 256) (d : Fin 1024) :
    (rowsOut x0 x1 x2 x3 x4 x5 x6 x7 x8 x9 : S256x1024.Idx → EReal) (ix2 r d)
      = mergeRow (weights x5 x6 x7 x8 x9) (fun k => x4 (ix2 r k)) (fun k => x3 (ix2 r k)) (fun h k => x0 (ix3 h r k))
          (fun j => x1 (ix2 r j)) (fun j => x2 (ix2 r j)) d := by
  unfold rowsOut
  rw [pay1_apply]
  simp only [pay9_apply, pay8_apply, beside_apply, head_apply]
  rfl

end Cert.Kernel3Ideal.Merge
-- ==== Proof.Merge.Array.lean ====
/-
  The merge's result array: each grid point writes one block of 256 rows, and the blocks tile the array.
-/
module

public import proofs.«01_k».proof.Proof.Merge.Block

@[expose] public section

set_option maxRecDepth 16384

noncomputable section

open Idealize.ShloMosaic Idealize.ShloMosaic.TcCoe Idealize.SL.Sem

namespace Cert.Kernel3Ideal.Merge

open Cert.Kernel3Ideal Cert.Kernel3Ideal.Gen Cert.Common

variable (m : (ℓ : Loc nD τ sig) → Buf (Elt Ideal) ℓ) (c : Dev nD)

/-- The latents of the rows. -/
def L (n : Fin 32768) (h : Fin 8) (k : Fin 128) : EReal := (m ((c.tc : Thread nD τ).loc main_arg0) : S8x32768x128.Idx → EReal) (ix3 h n k)
/-- The second attention's rows. -/
def SB (n : Fin 32768) (j : Fin 512) : EReal := (m ((c.tc : Thread nD τ).loc main_arg1) : S32768x512.Idx → EReal) (ix2 n j)
/-- The third attention's rows. -/
def NS (n : Fin 32768) (j : Fin 512) : EReal := (m ((c.tc : Thread nD τ).loc main_arg2) : S32768x512.Idx → EReal) (ix2 n j)
/-- The gates before the logistic function: the first 3072 columns. -/
def Z (n : Fin 32768) (k : Fin 3072) : EReal := (m ((c.tc : Thread nD τ).loc main_arg3) : S32768x4480.Idx → EReal) (ix2 n ⟨k.val, by omega⟩)
/-- The rows of the layer's input. -/
def X (n : Fin 32768) (k : Fin 1024) : EReal := (m ((c.tc : Thread nD τ).loc main_arg4) : S32768x1024.Idx → EReal) (ix2 n k)

/-- The weights. -/
def W : MergeWeights :=
  ⟨fun h v k => (m ((c.tc : Thread nD τ).loc main_arg5) : S8x64x128.Idx → EReal) (ix3 h v k),
    fun j k => (m ((c.tc : Thread nD τ).loc main_arg6) : S512x1024.Idx → EReal) (ix2 j k),
    fun j k => (m ((c.tc : Thread nD τ).loc main_arg7) : S512x1024.Idx → EReal) (ix2 j k),
    fun j k => (m ((c.tc : Thread nD τ).loc main_arg8) : S512x1024.Idx → EReal) (ix2 j k),
    fun k d => (m ((c.tc : Thread nD τ).loc main_arg9) : S1024x1024.Idx → EReal) (ix2 k d)⟩

/-- Row `n` after the merge. -/
def Y (n : Fin 32768) (d : Fin 1024) : EReal := mergeRow (W m c) (X m c n) (Z m c n) (L m c n) (SB m c n) (NS m c n) d

/-- Where the windows of the rows stand. -/
theorem row_places : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_10.index t = ![t.val, 0] :=
  (by decide +kernel : ∀ t : Fin grid0.N, _)

/-- Where the windows of the weights stand. -/
theorem weight_places : ∀ t : Fin cfg0.N, win0_5.index t = ![0, 0, 0] ∧ win0_6.index t = ![0, 0] ∧ win0_7.index t = ![0, 0]
    ∧ win0_8.index t = ![0, 0] ∧ win0_9.index t = ![0, 0] :=
  (by decide +kernel : ∀ t : Fin grid0.N, _)

/-- A point's buffers hold the weights. -/
theorem weights_block (t : Fin cfg0.N) :
    weights (iblk m c 5 t) (iblk m c 6 t) (iblk m c 7 t) (iblk m c 8 t) (iblk m c 9 t) = W m c := by
  obtain ⟨e5, e6, e7, e8, e9⟩ := weight_places t
  unfold weights W
  refine congr (congr (congr (congr (congrArg MergeWeights.mk ?_) ?_) ?_) ?_) ?_
  · funext h v k; blk_ext [iblk, V, e5]
  · funext j k; blk_ext [iblk, V, e6]
  · funext j k; blk_ext [iblk, V, e7]
  · funext j k; blk_ext [iblk, V, e8]
  · funext k d; blk_ext [iblk, V, e9]

/-- A point's latents. -/
theorem lat_block (t : Fin cfg0.N) (ht : t.val < 128) (r : Fin 256) (h : Fin 8) (k : Fin 128) :
    (iblk m c 0 t : S8x256x128.Idx → EReal) (ix3 h r k) = L m c ⟨256 * t.val + r.val, by omega⟩ h k := by
  obtain ⟨e, -⟩ := row_places t
  unfold L
  blk_ext [iblk, V, e]

/-- A point's rows of the second attention. -/
theorem sb_block (t : Fin cfg0.N) (ht : t.val < 128) (r : Fin 256) (j : Fin 512) :
    (iblk m c 1 t : S256x512.Idx → EReal) (ix2 r j) = SB m c ⟨256 * t.val + r.val, by omega⟩ j := by
  obtain ⟨-, e, -⟩ := row_places t
  unfold SB
  blk_ext [iblk, V, e]

/-- A point's rows of the third attention. -/
theorem ns_block (t : Fin cfg0.N) (ht : t.val < 128) (r : Fin 256) (j : Fin 512) :
    (iblk m c 2 t : S256x512.Idx → EReal) (ix2 r j) = NS m c ⟨256 * t.val + r.val, by omega⟩ j := by
  obtain ⟨-, -, e, -⟩ := row_places t
  unfold NS
  blk_ext [iblk, V, e]

/-- A point's gates: no block of theirs is cut. -/
theorem gate_block (t : Fin cfg0.N) (ht : t.val < 128) (r : Fin 256) (k : Fin 3072) :
    (X0_3 m c t : S256x3072.Idx → EReal) (ix2 r k) = Z m c ⟨256 * t.val + r.val, by omega⟩ k := by
  obtain ⟨-, -, -, e, -⟩ := row_places t
  refine (dif_pos (moved0_3 t (ix2 r k))).trans ?_
  unfold Z
  blk_ext [iblk, V, e]

/-- A point's rows of the input. -/
theorem x_block (t : Fin cfg0.N) (ht : t.val < 128) (r : Fin 256) (k : Fin 1024) :
    (iblk m c 4 t : S256x1024.Idx → EReal) (ix2 r k) = X m c ⟨256 * t.val + r.val, by omega⟩ k := by
  obtain ⟨-, -, -, -, e, -⟩ := row_places t
  unfold X
  blk_ext [iblk, V, e]

/-- A point's output rows. -/
theorem rows_point (t : Fin cfg0.N) (ht : t.val < 128) (r : Fin 256) (d : Fin 1024) :
    (outsAt0 m c t : S256x1024.Idx → EReal) (ix2 r d) = Y m c ⟨256 * t.val + r.val, by omega⟩ d := by
  unfold outsAt0
  rw [out_eq]
  refine (rowsOut_apply _ _ _ _ _ _ _ _ _ _ r d).trans ?_
  rw [weights_block]
  simp only [lat_block m c t ht, sb_block m c t ht, ns_block m c t ht, gate_block m c t ht, x_block m c t ht]
  rfl

/-- The rows after the run. -/
theorem rows_array : ((dats m 0 c).arrAt 10 cfg0.N : S32768x1024.Idx → EReal) = fun i => Y m c (i 0) (i 1) := by
  refine (dats m 0 c).arrAt_eq_of_covers 10 _ (by decide +kernel) fun t hf y => ?_
  obtain ⟨-, -, -, -, -, e⟩ := row_places t
  have ht : t.val < 128 := N_0 ▸ t.isLt
  have key := rows_point m c t ht (y 0) (y 1)
  refine (congrFun (after0_10 m c t) _).trans (Eq.trans ?_ (key.trans ?_))
  · refine congrArg (outsAt0 m c t) ?_
    funext a; fin_cases a <;> rfl
  · refine congr (congrArg (Y m c) ?_) ?_
    all_goals
      apply Fin.ext
      blk_simp [e]
      try (dsimp only; omega)

end Cert.Kernel3Ideal.Merge
-- ==== Proof.Merge.Ref.lean ====
/-
  What the merge's reference computes at an index.
-/
module

public import proofs.«01_k».proof.Proof.Gen.Reference3Ideal.Run
public import proofs.«01_k».proof.Proof.Merge.Spec

@[expose] public section

set_option maxRecDepth 16384

noncomputable section

open Idealize.ShloMosaic Idealize.ShloMosaic.TcCoe Idealize.SL.Sem

namespace Cert.Reference3Ideal.Merge

open Cert.Reference3Ideal Cert.Reference3Ideal.Gen Cert.Common

/-- The three gates of every row. -/
def gates (z : FVec Ideal S32768x4480 .f32) : FVec Ideal S32768x3x1024 .f32 :=
  shapeCast _ (Host.divf (broadcastInDim S32768x3072 ![] bcast_S_S32768x3072 (constant S_ .f32 0x3F800000#32)) (addf (broadcastInDim S32768x3072 ![] bcast_S_S32768x3072 (constant S_ .f32 0x3F800000#32)) (Host.exp (Host.negf (extractStridedSlice S32768x3072 ![0, 0] z slices_S32768x4480_S32768x3072_0_0))))) shapeCasts_S32768x3072_S32768x3x1024

/-- The heads' values. -/
def values (l : FVec Ideal S8x32768x128 .bf16) (u : FVec Ideal S8x64x128 .bf16) : FVec Ideal S32768x512 .f32 :=
  shapeCast _ (transpose S32768x8x64 [2, 0, 1] (Host.dotGeneral dot_S8x64x128_S8x32768x128_S8x64x32768_2_2_1_1_0_0 none (extf .f32 u bitsLt_bf16_f32) (extf .f32 l bitsLt_bf16_f32)) transposes_S8x64x32768_S32768x8x64_2_0_1) shapeCasts_S32768x8x64_S32768x512

/-- A projection of 512 columns. -/
def project (a : FVec Ideal S32768x512 .f32) (p : FVec Ideal S512x1024 .bf16) : FVec Ideal S32768x1024 .f32 :=
  Host.dotGeneral dot_S32768x512_S512x1024_S32768x1024_1_0_0_1_n_n none a (extf .f32 p bitsLt_bf16_f32)

/-- The gated sum of the three projections. -/
def total (g : FVec Ideal S32768x3x1024 .f32) (a b d : FVec Ideal S32768x1024 .f32) : FVec Ideal S32768x1024 .f32 :=
  addf (addf (mulf (shapeCast _ (extractStridedSlice S32768x1x1024 ![0, 0, 0] g slices_S32768x3x1024_S32768x1x1024_0_0_0) shapeCasts_S32768x1x1024_S32768x1024) a) (mulf (shapeCast _ (extractStridedSlice S32768x1x1024 ![0, 1, 0] g slices_S32768x3x1024_S32768x1x1024_0_1_0) shapeCasts_S32768x1x1024_S32768x1024) b)) (mulf (shapeCast _ (extractStridedSlice S32768x1x1024 ![0, 2, 0] g slices_S32768x3x1024_S32768x1x1024_0_2_0) shapeCasts_S32768x1x1024_S32768x1024) d)

/-- The rows after the merge. -/
def result (x : FVec Ideal S32768x1024 .f32) (s : FVec Ideal S32768x1024 .f32) (w : FVec Ideal S1024x1024 .bf16) : FVec Ideal S32768x1024 .f32 :=
  addf x (Host.dotGeneral dot_S32768x1024_S1024x1024_S32768x1024_1_0_0_1_n_n none s (extf .f32 w bitsLt_bf16_f32))

/-- Gate `a` of a row. -/
theorem gates_apply (z : FVec Ideal S32768x4480 .f32) (n : Fin 32768) (a : Fin 3) (k : Fin 1024) :
    gates z (ix3 n a k) = gate (z (ix2 n ⟨a.val * 1024 + k.val, by omega⟩)) := by
  unfold gates gate
  pointwise

/-- The heads' values at an index. -/
theorem values_apply (l : FVec Ideal S8x32768x128 .bf16) (u : FVec Ideal S8x64x128 .bf16) (n : Fin 32768) (j : Fin 512) :
    values l u (ix2 n j) = headRow (fun h k => l (ix3 h n k)) (fun h v k => u (ix3 h v k)) j := by
  unfold headRow
  simp only [mul_comm (l _)]
  unfold values
  pointwise

/-- A projection at an index. -/
theorem project_apply (a : FVec Ideal S32768x512 .f32) (p : FVec Ideal S512x1024 .bf16) (n : Fin 32768) (k : Fin 1024) :
    project a p (ix2 n k) = ∑ j : Fin 512, a (ix2 n j) * p (ix2 j k) := by
  unfold project
  pointwise

/-- The gated sum at an index. -/
theorem total_apply (g : FVec Ideal S32768x3x1024 .f32) (a b d : FVec Ideal S32768x1024 .f32) (n : Fin 32768) (k : Fin 1024) :
    total g a b d (ix2 n k) = g (ix3 n 0 k) * a (ix2 n k) + g (ix3 n 1 k) * b (ix2 n k) + g (ix3 n 2 k) * d (ix2 n k) := by
  unfold total
  pointwise

/-- The result at an index. -/
theorem result_apply (x s : FVec Ideal S32768x1024 .f32) (w : FVec Ideal S1024x1024 .bf16) (n : Fin 32768) (d : Fin 1024) :
    result x s w (ix2 n d) = x (ix2 n d) + ∑ k : Fin 1024, s (ix2 n k) * w (ix2 k d) := by
  unfold result
  pointwise

end Cert.Reference3Ideal.Merge
-- ==== Proof.Merge.Claims.lean ====
/-
  The claims about the merge: the frames, and the kernel's result against the reference's.
-/
module

public import proofs.«01_k».proof.Defs
public import proofs.«01_k».proof.Proof.Gen.Kernel3.Frame
public import proofs.«01_k».proof.Proof.Merge.Array
public import proofs.«01_k».proof.Proof.Merge.Ref

@[expose] public section

set_option maxRecDepth 16384

noncomputable section

open Idealize.ShloMosaic Idealize.ShloMosaic.TcCoe Idealize.SL.Sem

namespace Cert.Proof.Merge

open Cert.Common Cert.Kernel3Ideal.Merge Cert.Reference3Ideal.Merge

/-- The kernel runs, and leaves its arguments. -/
theorem frame_k : Cert.quiescent_Kernel3 := fun m ρ _ => Cert.Kernel3.Gen.frame m ρ
/-- So does its idealization. -/
theorem frame_ki : Cert.quiescent_Kernel3Ideal := fun m ρ _ => Cert.Kernel3Ideal.Gen.frame m ρ
/-- The reference declares no semaphore; its run keeps the arguments. -/
theorem frame_r : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Nothing is rewritten. -/
theorem preserves : Cert.preserves_Kernel3_Kernel3Ideal := trivial

/-- The reference's rows, from its arguments. -/
theorem result_row (l : FVec Ideal Cert.Reference3Ideal.S8x32768x128 .bf16) (s n : FVec Ideal Cert.Reference3Ideal.S32768x512 .bf16)
    (z : FVec Ideal Cert.Reference3Ideal.S32768x4480 .f32) (x : FVec Ideal Cert.Reference3Ideal.S32768x1024 .f32)
    (u : FVec Ideal Cert.Reference3Ideal.S8x64x128 .bf16) (pm ps pn : FVec Ideal Cert.Reference3Ideal.S512x1024 .bf16)
    (w : FVec Ideal Cert.Reference3Ideal.S1024x1024 .bf16) (i : Fin 32768) (d : Fin 1024) :
    result x (total (gates z) (project (values l u) pm) (project (extf .f32 s Cert.Reference3Ideal.Gen.bitsLt_bf16_f32) ps)
        (project (extf .f32 n Cert.Reference3Ideal.Gen.bitsLt_bf16_f32) pn)) w (ix2 i d)
      = mergeRow ⟨fun h v k => u (ix3 h v k), fun j k => pm (ix2 j k), fun j k => ps (ix2 j k), fun j k => pn (ix2 j k), fun k d => w (ix2 k d)⟩
          (fun k => x (ix2 i k)) (fun k => z (ix2 i ⟨k.val, by omega⟩)) (fun h k => l (ix3 h i k)) (fun j => s (ix2 i j)) (fun j => n (ix2 i j)) d := by
  refine (result_apply _ _ _ i d).trans ?_
  unfold mergeRow mixed
  refine congrArg (fun b : EReal => x (ix2 i d) + b) (Finset.sum_congr rfl fun k _ => congrArg (· * w (ix2 k d)) ?_)
  refine (total_apply _ _ _ _ i k).trans ?_
  rw [gates_apply, gates_apply, gates_apply, project_apply, project_apply, project_apply]
  simp only [values_apply]
  refine congr (congrArg (fun a b : EReal => a + b) (congr (congrArg (fun a b : EReal => a + b) ?_) ?_)) ?_
  all_goals
    refine congrArg (fun q => gate (z (ix2 i q)) * _) (Fin.ext ?_)
    simp

variable (m : (ℓ : Loc Cert.Kernel3Ideal.nD Cert.Kernel3Ideal.τ Cert.Kernel3Ideal.sig) → Buf (Elt Ideal) ℓ) (c : Dev Cert.Kernel3Ideal.nD)

/-- The rows are the reference's. -/
theorem result_eq (l : FVec Ideal Cert.Kernel3Ideal.S8x32768x128 .bf16) (s n : FVec Ideal Cert.Kernel3Ideal.S32768x512 .bf16)
    (z : FVec Ideal Cert.Kernel3Ideal.S32768x4480 .f32) (x : FVec Ideal Cert.Kernel3Ideal.S32768x1024 .f32)
    (u : FVec Ideal Cert.Kernel3Ideal.S8x64x128 .bf16) (pm ps pn : FVec Ideal Cert.Kernel3Ideal.S512x1024 .bf16)
    (w : FVec Ideal Cert.Kernel3Ideal.S1024x1024 .bf16)
    (h0 : m ((c.tc : Thread Cert.Kernel3Ideal.nD Cert.Kernel3Ideal.τ).loc Cert.Kernel3Ideal.main_arg0) = l)
    (h1 : m ((c.tc : Thread Cert.Kernel3Ideal.nD Cert.Kernel3Ideal.τ).loc Cert.Kernel3Ideal.main_arg1) = s)
    (h2 : m ((c.tc : Thread Cert.Kernel3Ideal.nD Cert.Kernel3Ideal.τ).loc Cert.Kernel3Ideal.main_arg2) = n)
    (h3 : m ((c.tc : Thread Cert.Kernel3Ideal.nD Cert.Kernel3Ideal.τ).loc Cert.Kernel3Ideal.main_arg3) = z)
    (h4 : m ((c.tc : Thread Cert.Kernel3Ideal.nD Cert.Kernel3Ideal.τ).loc Cert.Kernel3Ideal.main_arg4) = x)
    (h5 : m ((c.tc : Thread Cert.Kernel3Ideal.nD Cert.Kernel3Ideal.τ).loc Cert.Kernel3Ideal.main_arg5) = u)
    (h6 : m ((c.tc : Thread Cert.Kernel3Ideal.nD Cert.Kernel3Ideal.τ).loc Cert.Kernel3Ideal.main_arg6) = pm)
    (h7 : m ((c.tc : Thread Cert.Kernel3Ideal.nD Cert.Kernel3Ideal.τ).loc Cert.Kernel3Ideal.main_arg7) = ps)
    (h8 : m ((c.tc : Thread Cert.Kernel3Ideal.nD Cert.Kernel3Ideal.τ).loc Cert.Kernel3Ideal.main_arg8) = pn)
    (h9 : m ((c.tc : Thread Cert.Kernel3Ideal.nD Cert.Kernel3Ideal.τ).loc Cert.Kernel3Ideal.main_arg9) = w) :
    (result x (total (gates z) (project (values l u) pm) (project (extf .f32 s Cert.Reference3Ideal.Gen.bitsLt_bf16_f32) ps)
        (project (extf .f32 n Cert.Reference3Ideal.Gen.bitsLt_bf16_f32) pn)) w : Cert.Kernel3Ideal.S32768x1024.Idx → EReal)
      = (Cert.Kernel3Ideal.Gen.dats m 0 c).arrAt 10 Cert.Kernel3Ideal.cfg0.N := by
  refine Eq.trans (funext fun i => ?_) (rows_array m c).symm
  have hi : i = ix2 (i 0) (i 1) := by funext a; fin_cases a <;> rfl
  rw [hi]
  refine (result_row _ _ _ _ _ _ _ _ _ _ (i 0) (i 1)).trans ?_
  subst h0 h1 h2 h3 h4 h5 h6 h7 h8 h9
  rfl

/-- THE VALUE: the kernel's result is the reference's. -/
theorem algebraic : Cert.algebraic_Kernel3Ideal_Reference3Ideal := by
  intro m ρ m' ρ' _ hagree
  refine ⟨fun c => (Cert.Kernel3Ideal.Gen.dats m 0 c).arrAt 10 Cert.Kernel3Ideal.cfg0.N,
    Cert.Kernel3Ideal.Value.run_blocks (F := Ideal) m ρ, ?_⟩
  refine (θ_run Cert.Reference3Ideal.defs _ _).mono (fun _ h c => ?_) (Cert.Reference3Ideal.Value.run (F := Ideal) m' ρ')
  obtain ⟨h0, h1⟩ := h c
  obtain ⟨a0, a1, a2, a3, a4, a5, a6, a7, a8, a9⟩ := hagree c
  exact ⟨h0.trans (result_eq m c _ _ _ _ _ _ _ _ _ _ a0.symm a1.symm a2.symm a3.symm a4.symm a5.symm a6.symm a7.symm a8.symm a9.symm), h1⟩

end Cert.Proof.Merge
-- ==== Proof.Ffn.Chunk.lean ====
/-
  The feed-forward kernel's chunks: the kernel works through its 2816 features in 11 chunks of 256, and its text writes each
  chunk out; here they are seen to be one function.
-/
module

public import proofs.«01_k».proof.Proof.Gen.Kernel4Ideal.Value
public import proofs.«01_k».proof.Proof.Norm
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel4Ideal.Ffn

open Cert.Kernel4Ideal Cert.Kernel4Ideal.Gen Cert.Common

/-- 512 rows of the two carried rows followed by the block's own, from row `s` on. -/
def window (s : ℕ) (hs : s < 2) (cr : Vec Ideal S2x256 .f32) (u : FVec Ideal S512x256 .f32) : Vec Ideal S512x256 .f32 :=
  fun y => if h : (y 0).val + s < 2 then cr (ix2 ⟨(y 0).val + s, h⟩ (y 1))
    else u (ix2 ⟨(y 0).val + s - 2, by have := (y 0).isLt; change (y 0).val < 512 at this; omega⟩ (y 1))

/-- A load of 512 rows from row `6 + s` of the scratch reads the carried rows stored at row 6 and the block stored at row 8. -/
theorem canon_window (s : ℕ) (hs : s < 2) (u : FVec Ideal S512x256 .f32) (cr : Vec Ideal S2x256 .f32)
    (L : List (View.Piece (Elt Ideal) S520x256 .f32)) (h8 : ∀ a, ![8, 0] a + S512x256.size a ≤ S520x256.size a)
    (h6 : ∀ a, ![6, 0] a + S2x256.size a ≤ S520x256.size a) (j : S520x256.Idx) (y : S512x256.Idx)
    (e0 : (j 0).val = 6 + s + (y 0).val) (e1 : (j 1).val = (y 1).val) :
    View.canon (⟨Rect.unit (s := S520x256) ![8, 0] S512x256.size h8, u⟩ :: ⟨Rect.unit (s := S520x256) ![6, 0] S2x256.size h6, cr⟩ :: L) j = window s hs cr u y := by
  have hy0 : (y 0).val < 512 := (y 0).isLt
  unfold window
  by_cases h : (y 0).val + s < 2
  · rw [dif_pos h, View.canon_cons_of_not_mem]
    · have e : j = (Rect.unit (s := S520x256) ![6, 0] S2x256.size h6).emb (ix2 ⟨(y 0).val + s, h⟩ (y 1)) := by
        funext a
        apply Fin.ext
        refine Eq.trans ?_ (Rect.idx_unit_val (s := S520x256) _ _ h6 _ a).symm
        fin_cases a
        · show (j 0).val = 6 + ((y 0).val + s)
          omega
        · show (j 1).val = 0 + (y 1).val
          omega
      rw [e]
      exact View.canon_cons_emb _ _ _ _
    · rw [Rect.mem_set_unit]
      intro hm
      have := (hm 0).1
      change 8 ≤ (j 0).val at this
      omega
  · rw [dif_neg h]
    have e : j = (Rect.unit (s := S520x256) ![8, 0] S512x256.size h8).emb (ix2 ⟨(y 0).val + s - 2, by omega⟩ (y 1)) := by
      funext a
      apply Fin.ext
      refine Eq.trans ?_ (Rect.idx_unit_val (s := S520x256) _ _ h8 _ a).symm
      fin_cases a
      · show (j 0).val = 8 + ((y 0).val + s - 2)
        omega
      · show (j 1).val = 0 + (y 1).val
        omega
    rw [e]
    exact View.canon_cons_emb _ _ _ _

/-- The load two rows back. -/
theorem readCov_two {sg : RefSig} (v : View sg .tc .vmem S520x256 .f32) (u : FVec Ideal S512x256 .f32) (cr : Vec Ideal S2x256 .f32)
    (L : List (View.Piece (Elt Ideal) S520x256 .f32)) (h8 : ∀ a, ![8, 0] a + S512x256.size a ≤ S520x256.size a)
    (h6 : ∀ a, ![6, 0] a + S2x256.size a ≤ S520x256.size a) (hb : ∀ a, ![6, 0] a + S512x256.size a ≤ S520x256.size a) :
    v.readCov (⟨Rect.unit (s := S520x256) ![8, 0] (no_index S512x256.size) h8, u⟩ :: ⟨Rect.unit (s := S520x256) ![6, 0] (no_index S2x256.size) h6, cr⟩ :: L)
      (Rect.unit (s := S520x256) ![6, 0] (no_index S512x256.size) hb).toLoadRect = window 0 (by omega) cr u := by
  rw [View.readCov_eq_canon']
  funext y
  exact canon_window 0 (by omega) u cr L h8 h6 _ y
    (Rect.idx_unit_val (s := S520x256) _ _ hb y 0) ((Rect.idx_unit_val (s := S520x256) _ _ hb y 1).trans (Nat.zero_add _))

/-- The load one row back. -/
theorem readCov_one {sg : RefSig} (v : View sg .tc .vmem S520x256 .f32) (u : FVec Ideal S512x256 .f32) (cr : Vec Ideal S2x256 .f32)
    (L : List (View.Piece (Elt Ideal) S520x256 .f32)) (h8 : ∀ a, ![8, 0] a + S512x256.size a ≤ S520x256.size a)
    (h6 : ∀ a, ![6, 0] a + S2x256.size a ≤ S520x256.size a) (hb : ∀ a, ![7, 0] a + S512x256.size a ≤ S520x256.size a) :
    v.readCov (⟨Rect.unit (s := S520x256) ![8, 0] (no_index S512x256.size) h8, u⟩ :: ⟨Rect.unit (s := S520x256) ![6, 0] (no_index S2x256.size) h6, cr⟩ :: L)
      (Rect.unit (s := S520x256) ![7, 0] (no_index S512x256.size) hb).toLoadRect = window 1 (by omega) cr u := by
  rw [View.readCov_eq_canon']
  funext y
  exact canon_window 1 (by omega) u cr L h8 h6 _ y
    (Rect.idx_unit_val (s := S520x256) _ _ hb y 0) ((Rect.idx_unit_val (s := S520x256) _ _ hb y 1).trans (Nat.zero_add _))

/-- Reading a block in its own shape is the block. -/
theorem cast_rows (z : FVec Ideal S512x256 .f32) : shapeCast S512x256 z shapeCasts_S512x256_S512x256 = z := by
  first | exact shapeCast_self _ _ | (funext y; rw [show y = ix2 (y 0) (y 1) by funext a; fin_cases a <;> rfl]; pointwise)

/-- So for the carried rows. -/
theorem cast_carry (z : FVec Ideal S2x256 .f32) : shapeCast S2x256 z shapeCasts_S2x256_S2x256 = z := by
  first | exact shapeCast_self _ _ | (funext y; rw [show y = ix2 (y 0) (y 1) by funext a; fin_cases a <;> rfl]; pointwise)

/-! The chunks' products. -/

theorem up0 (x : Vec Ideal S512x1024 .f32) (g : Vec Ideal S1x1024 .f32) (w : Vec Ideal S1024x256 .bf16) : k0_pay6 x g w = k0_pay13 (k0_pay3 x g) w := rfl
theorem val0 (x : Vec Ideal S512x1024 .f32) (g : Vec Ideal S1x1024 .f32) (w : Vec Ideal S1024x256 .bf16) : k0_pay7 x g w = k0_pay13 (k0_pay3 x g) w := rfl
theorem val1 (h : FVec Ideal S512x1024 .bf16) (w : Vec Ideal S1024x256 .bf16) : k0_pay14 h w = k0_pay13 h w := rfl
theorem up2 (h : FVec Ideal S512x1024 .bf16) (w : Vec Ideal S1024x256 .bf16) : k0_pay20 h w = k0_pay13 h w := rfl
theorem val2 (h : FVec Ideal S512x1024 .bf16) (w : Vec Ideal S1024x256 .bf16) : k0_pay21 h w = k0_pay13 h w := rfl
theorem up3 (h : FVec Ideal S512x1024 .bf16) (w : Vec Ideal S1024x256 .bf16) : k0_pay27 h w = k0_pay13 h w := rfl
theorem val3 (h : FVec Ideal S512x1024 .bf16) (w : Vec Ideal S1024x256 .bf16) : k0_pay28 h w = k0_pay13 h w := rfl
theorem up4 (h : FVec Ideal S512x1024 .bf16) (w : Vec Ideal S1024x256 .bf16) : k0_pay34 h w = k0_pay13 h w := rfl
theorem val4 (h : FVec Ideal S512x1024 .bf16) (w : Vec Ideal S1024x256 .bf16) : k0_pay35 h w = k0_pay13 h w := rfl
theorem up5 (h : FVec Ideal S512x1024 .bf16) (w : Vec Ideal S1024x256 .bf16) : k0_pay41 h w = k0_pay13 h w := rfl
theorem val5 (h : FVec Ideal S512x1024 .bf16) (w : Vec Ideal S1024x256 .bf16) : k0_pay42 h w = k0_pay13 h w := rfl
theorem up6 (h : FVec Ideal S512x1024 .bf16) (w : Vec Ideal S1024x256 .bf16) : k0_pay47 h w = k0_pay13 h w := rfl
theorem val6 (h : FVec Ideal S512x1024 .bf16) (w : Vec Ideal S1024x256 .bf16) : k0_pay48 h w = k0_pay13 h w := rfl
theorem up7 (h : FVec Ideal S512x1024 .bf16) (w : Vec Ideal S1024x256 .bf16) : k0_pay53 h w = k0_pay13 h w := rfl
theorem val7 (h : FVec Ideal S512x1024 .bf16) (w : Vec Ideal S1024x256 .bf16) : k0_pay54 h w = k0_pay13 h w := rfl
theorem up8 (h : FVec Ideal S512x1024 .bf16) (w : Vec Ideal S1024x256 .bf16) : k0_pay60 h w = k0_pay13 h w := rfl
theorem val8 (h : FVec Ideal S512x1024 .bf16) (w : Vec Ideal S1024x256 .bf16) : k0_pay61 h w = k0_pay13 h w := rfl
theorem up9 (h : FVec Ideal S512x1024 .bf16) (w : Vec Ideal S1024x256 .bf16) : k0_pay66 h w = k0_pay13 h w := rfl
theorem val9 (h : FVec Ideal S512x1024 .bf16) (w : Vec Ideal S1024x256 .bf16) : k0_pay67 h w = k0_pay13 h w := rfl
theorem up10 (h : FVec Ideal S512x1024 .bf16) (w : Vec Ideal S1024x256 .bf16) : k0_pay72 h w = k0_pay13 h w := rfl
theorem val10 (h : FVec Ideal S512x1024 .bf16) (w : Vec Ideal S1024x256 .bf16) : k0_pay73 h w = k0_pay13 h w := rfl

/-! The carried rows and the block as the scratch holds them. -/

theorem carry0 (z : Vec Ideal S2x256 .f32) : k0_pay8 z = z := cast_carry z
theorem carry1 (z : Vec Ideal S2x256 .f32) : k0_pay15 z = z := cast_carry z
theorem carry2 (z : Vec Ideal S2x256 .f32) : k0_pay22 z = z := cast_carry z
theorem carry3 (z : Vec Ideal S2x256 .f32) : k0_pay29 z = z := cast_carry z
theorem carry4 (z : Vec Ideal S2x256 .f32) : k0_pay36 z = z := cast_carry z
theorem carry5 (z : Vec Ideal S2x256 .f32) : k0_pay43 z = z := cast_carry z
theorem carry6 (z : Vec Ideal S2x256 .f32) : k0_pay49 z = z := cast_carry z
theorem carry7 (z : Vec Ideal S2x256 .f32) : k0_pay55 z = z := cast_carry z
theorem carry8 (z : Vec Ideal S2x256 .f32) : k0_pay62 z = z := cast_carry z
theorem carry9 (z : Vec Ideal S2x256 .f32) : k0_pay68 z = z := cast_carry z
theorem carry10 (z : Vec Ideal S2x256 .f32) : k0_pay74 z = z := cast_carry z
theorem rows0 (z : FVec Ideal S512x256 .f32) : k0_pay9 z = z := cast_rows z
theorem rows1 (h : FVec Ideal S512x1024 .bf16) (w : Vec Ideal S1024x256 .bf16) : k0_pay16 h w = k0_pay13 h w := cast_rows _
theorem rows2 (h : FVec Ideal S512x1024 .bf16) (w : Vec Ideal S1024x256 .bf16) : k0_pay23 h w = k0_pay13 h w := cast_rows _
theorem rows3 (z : FVec Ideal S512x256 .f32) : k0_pay30 z = z := cast_rows z
theorem rows4 (h : FVec Ideal S512x1024 .bf16) (w : Vec Ideal S1024x256 .bf16) : k0_pay37 h w = k0_pay13 h w := cast_rows _
theorem rows5 (h : FVec Ideal S512x1024 .bf16) (w : Vec Ideal S1024x256 .bf16) : k0_pay44 h w = k0_pay13 h w := cast_rows _
theorem rows6 (z : FVec Ideal S512x256 .f32) : k0_pay50 z = z := cast_rows z
theorem rows7 (h : FVec Ideal S512x1024 .bf16) (w : Vec Ideal S1024x256 .bf16) : k0_pay56 h w = k0_pay13 h w := cast_rows _
theorem rows8 (h : FVec Ideal S512x1024 .bf16) (w : Vec Ideal S1024x256 .bf16) : k0_pay63 h w = k0_pay13 h w := cast_rows _
theorem rows9 (z : FVec Ideal S512x256 .f32) : k0_pay69 z = z := cast_rows z
theorem rows10 (h : FVec Ideal S512x1024 .bf16) (w : Vec Ideal S1024x256 .bf16) : k0_pay75 h w = k0_pay13 h w := cast_rows _

/-- A block's last two rows. -/
def tail (z : FVec Ideal S512x256 .f32) : FVec Ideal S2x256 .f32 := extractStridedSlice S2x256 ![510, 0] z slices_S512x256_o510_0_S2x256

theorem tail0 (z : FVec Ideal S512x256 .f32) : k0_pay10 z = tail z := cast_carry _
theorem tail1 (h : FVec Ideal S512x1024 .bf16) (w : Vec Ideal S1024x256 .bf16) : k0_pay17 h w = tail (k0_pay13 h w) := cast_carry _
theorem tail2 (h : FVec Ideal S512x1024 .bf16) (w : Vec Ideal S1024x256 .bf16) : k0_pay25 (k0_pay24 h w) = tail (k0_pay13 h w) := cast_carry _
theorem tail3 (z : FVec Ideal S512x256 .f32) : k0_pay31 z = tail z := cast_carry _
theorem tail4 (h : FVec Ideal S512x1024 .bf16) (w : Vec Ideal S1024x256 .bf16) : k0_pay38 h w = tail (k0_pay13 h w) := cast_carry _
theorem tail5 (h : FVec Ideal S512x1024 .bf16) (w : Vec Ideal S1024x256 .bf16) : k0_pay45 h w = tail (k0_pay13 h w) := cast_carry _
theorem tail6 (z : FVec Ideal S512x256 .f32) : k0_pay51 z = tail z := cast_carry _
theorem tail7 (h : FVec Ideal S512x1024 .bf16) (w : Vec Ideal S1024x256 .bf16) : k0_pay57 h w = tail (k0_pay13 h w) := cast_carry _
theorem tail8 (h : FVec Ideal S512x1024 .bf16) (w : Vec Ideal S1024x256 .bf16) : k0_pay64 h w = tail (k0_pay13 h w) := cast_carry _
theorem tail9 (z : FVec Ideal S512x256 .f32) : k0_pay70 z = tail z := cast_carry _
theorem tail10 (h : FVec Ideal S512x1024 .bf16) (w : Vec Ideal S1024x256 .bf16) : k0_pay76 h w = tail (k0_pay13 h w) := cast_carry _

/-! The chunks' sums. -/

theorem sum0 (acc : FVec Ideal S512x1024 .f32) (u v : FVec Ideal S512x256 .f32) (u2 u1 : Vec Ideal S512x256 .f32) (cb c0 c1 c2 : Vec Ideal S1x256 .f32) (wd : Vec Ideal S256x1024 .bf16) :
    k0_pay12 acc (k0_pay11 u v u2 u1 cb c0 c1 c2) wd = k0_pay26 acc u v u2 u1 cb c0 c1 c2 wd := rfl
theorem sum1 (acc : FVec Ideal S512x1024 .f32) (u v : FVec Ideal S512x256 .f32) (u2 u1 : Vec Ideal S512x256 .f32) (cb c0 c1 c2 : Vec Ideal S1x256 .f32) (wd : Vec Ideal S256x1024 .bf16) :
    k0_pay19 acc u v (k0_pay18 u2 u1 cb c0 c1) c2 wd = k0_pay26 acc u v u2 u1 cb c0 c1 c2 wd := rfl
theorem sum3 (acc : FVec Ideal S512x1024 .f32) (u v : FVec Ideal S512x256 .f32) (u2 u1 : Vec Ideal S512x256 .f32) (cb c0 c1 c2 : Vec Ideal S1x256 .f32) (wd : Vec Ideal S256x1024 .bf16) :
    k0_pay33 acc (k0_pay32 u v u2 u1 cb c0 c1 c2) wd = k0_pay26 acc u v u2 u1 cb c0 c1 c2 wd := rfl
theorem sum4 (acc : FVec Ideal S512x1024 .f32) (u v : FVec Ideal S512x256 .f32) (u2 u1 : Vec Ideal S512x256 .f32) (cb c0 c1 c2 : Vec Ideal S1x256 .f32) (wd : Vec Ideal S256x1024 .bf16) :
    k0_pay40 acc u v (k0_pay39 u2 u1 cb c0 c1) c2 wd = k0_pay26 acc u v u2 u1 cb c0 c1 c2 wd := rfl
theorem sum5 (acc : FVec Ideal S512x1024 .f32) (u v : FVec Ideal S512x256 .f32) (u2 u1 : Vec Ideal S512x256 .f32) (cb c0 c1 c2 : Vec Ideal S1x256 .f32) (wd : Vec Ideal S256x1024 .bf16) :
    k0_pay46 acc u v u2 u1 cb c0 c1 c2 wd = k0_pay26 acc u v u2 u1 cb c0 c1 c2 wd := rfl
theorem sum6 (acc : FVec Ideal S512x1024 .f32) (u v : FVec Ideal S512x256 .f32) (u2 u1 : Vec Ideal S512x256 .f32) (cb c0 c1 c2 : Vec Ideal S1x256 .f32) (wd : Vec Ideal S256x1024 .bf16) :
    k0_pay52 acc u v u2 u1 cb c0 c1 c2 wd = k0_pay26 acc u v u2 u1 cb c0 c1 c2 wd := rfl
theorem sum8 (acc : FVec Ideal S512x1024 .f32) (u v : FVec Ideal S512x256 .f32) (u2 u1 : Vec Ideal S512x256 .f32) (cb c0 c1 c2 : Vec Ideal S1x256 .f32) (wd : Vec Ideal S256x1024 .bf16) :
    k0_pay65 acc u v u2 u1 cb c0 c1 c2 wd = k0_pay26 acc u v u2 u1 cb c0 c1 c2 wd := rfl
theorem sum9 (acc : FVec Ideal S512x1024 .f32) (u v : FVec Ideal S512x256 .f32) (u2 u1 : Vec Ideal S512x256 .f32) (cb c0 c1 c2 : Vec Ideal S1x256 .f32) (wd : Vec Ideal S256x1024 .bf16) :
    k0_pay71 acc u v u2 u1 cb c0 c1 c2 wd = k0_pay26 acc u v u2 u1 cb c0 c1 c2 wd := rfl
theorem sum7 (acc : FVec Ideal S512x1024 .f32) (h : FVec Ideal S512x1024 .bf16) (w : Vec Ideal S1024x256 .bf16) (v : FVec Ideal S512x256 .f32) (u2 u1 : Vec Ideal S512x256 .f32) (cb c0 c1 c2 : Vec Ideal S1x256 .f32) (wd : Vec Ideal S256x1024 .bf16) :
    k0_pay59 acc v (k0_pay58 h w u2 u1 cb c0 c1 c2) wd = k0_pay26 acc (k0_pay13 h w) v u2 u1 cb c0 c1 c2 wd := rfl
theorem sum10 (x : Vec Ideal S512x1024 .f32) (acc : FVec Ideal S512x1024 .f32) (h : FVec Ideal S512x1024 .bf16) (w : Vec Ideal S1024x256 .bf16) (v : FVec Ideal S512x256 .f32) (u2 u1 : Vec Ideal S512x256 .f32) (cb c0 c1 c2 : Vec Ideal S1x256 .f32) (wd : Vec Ideal S256x1024 .bf16) :
    k0_pay2 x acc v (k0_pay77 h w u2 u1 cb c0 c1 c2) (k0_pay78 h w u2 u1 cb c0 c1 c2) wd = addf x (k0_pay26 acc (k0_pay13 h w) v u2 u1 cb c0 c1 c2 wd) := rfl

end Cert.Kernel4Ideal.Ffn
-- ==== Proof.Ffn.Out.lean ====
/-
  What the feed-forward kernel leaves in its output block: the chunks' sums over the carried rows it reads, the same in the
  first block of a group of four (which takes the rows from its input) and in the later ones (which take the block before's).
-/
module

public import proofs.«01_k».proof.Proof.Ffn.Chunk

@[expose] public section

set_option maxRecDepth 16384

noncomputable section

open Idealize.ShloMosaic Idealize.ShloMosaic.TcCoe Idealize.SL.Sem

namespace Cert.Kernel4Ideal.Ffn

open Cert.Kernel4Ideal Cert.Kernel4Ideal.Gen Cert.Common

/-- 256 columns from `o` lie in a matrix of 2816. -/
theorem inb_cols {r n M o : ℕ} (hr : r + n ≤ M) (ho : o + 256 ≤ 2816) :
    ∀ a : Fin 2, (![r, o] : Fin 2 → ℕ) a + (![n, 256] : Fin 2 → ℕ) a ≤ (![M, 2816] : Fin 2 → ℕ) a := by
  intro a
  fin_cases a
  · exact hr
  · exact ho

/-- 256 rows from `o` lie in a matrix of 2816. -/
theorem inb_rows {o : ℕ} (ho : o + 256 ≤ 2816) :
    ∀ a : Fin 2, (![o, 0] : Fin 2 → ℕ) a + (![256, 1024] : Fin 2 → ℕ) a ≤ (![2816, 1024] : Fin 2 → ℕ) a := by
  intro a
  fin_cases a
  · exact ho
  · exact Nat.le_refl _

/-- The sum `acc` after the chunk of features `o, …, o + 255`. -/
def step (hf : FVec Ideal S512x1024 .bf16) (x2 x3 : Vec Ideal S1024x2816 .bf16) (x4 : Vec Ideal S3x2816 .f32)
    (x5 : Vec Ideal S1x2816 .f32) (x6 : Vec Ideal S2816x1024 .bf16) (cr : Vec Ideal S2x2816 .f32) (o : ℕ) (ho : o + 256 ≤ 2816)
    (acc : FVec Ideal S512x1024 .f32) : FVec Ideal S512x1024 .f32 :=
  let up := k0_pay13 hf (View.ld x2 (Rect.unit (s := S1024x2816) ![0, o] S1024x256.size (inb_cols (by omega) ho)))
  let old := View.ld cr (Rect.unit (s := S2x2816) ![0, o] S2x256.size (inb_cols (by omega) ho))
  k0_pay26 acc up (k0_pay13 hf (View.ld x3 (Rect.unit (s := S1024x2816) ![0, o] S1024x256.size (inb_cols (by omega) ho))))
    (window 0 (by omega) old up) (window 1 (by omega) old up)
    (View.ld x5 (Rect.unit (s := S1x2816) ![0, o] S1x256.size (inb_cols (by omega) ho)))
    (View.ld x4 (Rect.unit (s := S3x2816) ![0, o] S1x256.size (inb_cols (by omega) ho)))
    (View.ld x4 (Rect.unit (s := S3x2816) ![1, o] S1x256.size (inb_cols (by omega) ho)))
    (View.ld x4 (Rect.unit (s := S3x2816) ![2, o] S1x256.size (inb_cols (by omega) ho)))
    (View.ld x6 (Rect.unit (s := S2816x1024) ![o, 0] S256x1024.size (inb_rows ho)))

/-- The whole sum, added to the block's rows. -/
def rowsOut (x0 : Vec Ideal S512x1024 .f32) (x1 : Vec Ideal S1x1024 .f32) (x2 x3 : Vec Ideal S1024x2816 .bf16)
    (x4 : Vec Ideal S3x2816 .f32) (x5 : Vec Ideal S1x2816 .f32) (x6 : Vec Ideal S2816x1024 .bf16) (cr : Vec Ideal S2x2816 .f32) :
    FVec Ideal S512x1024 .f32 :=
  addf x0 (step (k0_pay3 x0 x1) x2 x3 x4 x5 x6 cr 2560 (by omega)
      (step (k0_pay3 x0 x1) x2 x3 x4 x5 x6 cr 2304 (by omega)
      (step (k0_pay3 x0 x1) x2 x3 x4 x5 x6 cr 2048 (by omega)
      (step (k0_pay3 x0 x1) x2 x3 x4 x5 x6 cr 1792 (by omega)
      (step (k0_pay3 x0 x1) x2 x3 x4 x5 x6 cr 1536 (by omega)
      (step (k0_pay3 x0 x1) x2 x3 x4 x5 x6 cr 1280 (by omega)
      (step (k0_pay3 x0 x1) x2 x3 x4 x5 x6 cr 1024 (by omega)
      (step (k0_pay3 x0 x1) x2 x3 x4 x5 x6 cr 768 (by omega)
      (step (k0_pay3 x0 x1) x2 x3 x4 x5 x6 cr 512 (by omega)
      (step (k0_pay3 x0 x1) x2 x3 x4 x5 x6 cr 256 (by omega)
      (step (k0_pay3 x0 x1) x2 x3 x4 x5 x6 cr 0 (by omega)
      k0_pay5)))))))))))

/-- A later block of a group takes the carried rows as they are. -/
theorem out9_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x2x2816 .f32) (harg9 : arg9.IsWhole) (arg10 : Memref sig .tc .vmem S512x1024 .f32) (harg10 : arg10.IsWhole) (arg11 : Memref sig .tc .vmem S1x2x2816 .f32) (harg11 : arg11.IsWhole) (arg12 : Memref sig .tc .vmem S520x256 .f32) (harg12 : arg12.IsWhole) (arg13 : Memref sig .tc .vmem S2x2816 .f32) (harg13 : arg13.IsWhole)
    (hc0 : ¬cond0_0 i) (x0 : Vec Ideal S512x1024 .f32) (x1 : Vec Ideal S1x1024 .f32) (x2 : Vec Ideal S1024x2816 .bf16) (x3 : Vec Ideal S1024x2816 .bf16) (x4 : Vec Ideal S3x2816 .f32) (x5 : Vec Ideal S1x2816 .f32) (x6 : Vec Ideal S2816x1024 .bf16) (x7 : Vec Ideal S1x1024 .f32) (x8 : Vec Ideal S1x2x2816 .f32) (xs1 : Vec Ideal S2x2816 .f32) :
    out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs1
      = rowsOut x0 x1 x2 x3 x4 x5 x6 xs1 := by
  frame_open
  simp (disch := decide) only [↓ View.readCov_skip, ↓ View.readCov_cons_toLoadRect, ↓ View.readCov_fill]
  frame_out
  simp only [↓ readCov_two, ↓ readCov_one, up0, up2, up3, up4, up5, up6, up7, up8, up9, up10, val0, val1, val2, val3, val4, val5, val6, val7, val8, val9, val10, carry0, carry1, carry2, carry3, carry4, carry5, carry6, carry7, carry8, carry9, carry10, rows0, rows1, rows2, rows3, rows4, rows5, rows6, rows7, rows8, rows9, rows10, sum0, sum1, sum3, sum4, sum5, sum6, sum7, sum8, sum9, sum10]
  rfl

/-- The first block of a group takes the carried rows from its input. -/
theorem out9_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x2x2816 .f32) (harg9 : arg9.IsWhole) (arg10 : Memref sig .tc .vmem S512x1024 .f32) (harg10 : arg10.IsWhole) (arg11 : Memref sig .tc .vmem S1x2x2816 .f32) (harg11 : arg11.IsWhole) (arg12 : Memref sig .tc .vmem S520x256 .f32) (harg12 : arg12.IsWhole) (arg13 : Memref sig .tc .vmem S2x2816 .f32) (harg13 : arg13.IsWhole)
    (hc0 : cond0_0 i) (x0 : Vec Ideal S512x1024 .f32) (x1 : Vec Ideal S1x1024 .f32) (x2 : Vec Ideal S1024x2816 .bf16) (x3 : Vec Ideal S1024x2816 .bf16) (x4 : Vec Ideal S3x2816 .f32) (x5 : Vec Ideal S1x2816 .f32) (x6 : Vec Ideal S2816x1024 .bf16) (x7 : Vec Ideal S1x1024 .f32) (x8 : Vec Ideal S1x2x2816 .f32) :
    out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8
      = rowsOut x0 x1 x2 x3 x4 x5 x6 (k0_pay4 x8) := by
  frame_open
  simp (disch := decide) only [↓ View.readCov_skip, ↓ View.readCov_cons_toLoadRect, ↓ View.readCov_fill]
  frame_out
  simp only [↓ readCov_two, ↓ readCov_one, up0, up2, up3, up4, up5, up6, up7, up8, up9, up10, val0, val1, val2, val3, val4, val5, val6, val7, val8, val9, val10, carry0, carry1, carry2, carry3, carry4, carry5, carry6, carry7, carry8, carry9, carry10, rows0, rows1, rows2, rows3, rows4, rows5, rows6, rows7, rows8, rows9, rows10, sum0, sum1, sum3, sum4, sum5, sum6, sum7, sum8, sum9, sum10]
  rfl

end Cert.Kernel4Ideal.Ffn
-- ==== Proof.Ffn.Spec.lean ====
/-
  The gated feed-forward of one row, in plain mathematics: the row's up-projected features and the two rows' before it enter a
  causal convolution of three taps, its GELU gates the value features, and the down-projection is added to the row.
-/
module

public import proofs.«01_k».proof.Proof.Norm

@[expose] public section

noncomputable section

open Idealize.ShloMosaic

namespace Cert.Common

/-- Feature `j` of the normalised row `x` under the weights `w`. -/
def lin (x g : Fin 1024 → EReal) (w : Fin 1024 → Fin 2816 → EReal) (j : Fin 2816) : EReal := ∑ k, rmsNorm x g k * w k j

/-- The convolution's value from the features two rows back, one row back and of the row itself. -/
def conv (cb c0 c1 c2 e0 e1 e2 : EReal) : EReal := cb + c0 * e0 + c1 * e1 + c2 * e2

/-- A feature's GELU times its value. -/
def act (c v : EReal) : EReal :=
  Ideal.ofBits .f32 0x3F000000#32 * c * (Ideal.ofBits .f32 0x3F800000#32 + Ideal.erf (c * Ideal.ofBits .f32 0x3F3504F3#32)) * v

/-- The weights of the feed-forward. -/
structure FfnWeights where
  g : Fin 1024 → EReal
  up : Fin 1024 → Fin 2816 → EReal
  val : Fin 1024 → Fin 2816 → EReal
  cw : Fin 3 → Fin 2816 → EReal
  cb : Fin 2816 → EReal
  dn : Fin 2816 → Fin 1024 → EReal

/-- What feature `j` adds to entry `d` of the row `x`, whose features' history is `e0`, `e1`, `e2`. -/
def ffnTerm (W : FfnWeights) (x : Fin 1024 → EReal) (e0 e1 e2 : Fin 2816 → EReal) (d : Fin 1024) (j : Fin 2816) : EReal :=
  act (conv (W.cb j) (W.cw 0 j) (W.cw 1 j) (W.cw 2 j) (e0 j) (e1 j) (e2 j)) (lin x W.g W.val j) * W.dn j d

/-- Entry `d` of the row `x` after the feed-forward. -/
def ffnRow (W : FfnWeights) (x : Fin 1024 → EReal) (e0 e1 e2 : Fin 2816 → EReal) (d : Fin 1024) : EReal :=
  x d + ∑ j, ffnTerm W x e0 e1 e2 d j

/-- The up-projected features of `n` rows, two carried rows first. -/
def hist {n : ℕ} (W : FfnWeights) (cr : Fin 2 → Fin 2816 → EReal) (x : Fin n → Fin 1024 → EReal) (i : ℕ) (j : Fin 2816) : EReal :=
  if h : i < 2 then cr ⟨i, h⟩ j else if h' : i - 2 < n then lin (x ⟨i - 2, h'⟩) W.g W.up j else 0

/-- The history before the rows is the carried rows. -/
theorem hist_carry {n : ℕ} (W : FfnWeights) (cr : Fin 2 → Fin 2816 → EReal) (x : Fin n → Fin 1024 → EReal) (a : Fin 2) (j : Fin 2816) :
    hist W cr x a.val j = cr a j := by
  unfold hist
  rw [dif_pos a.isLt]

/-- The history at a row is the row's features. -/
theorem hist_row {n : ℕ} (W : FfnWeights) (cr : Fin 2 → Fin 2816 → EReal) (x : Fin n → Fin 1024 → EReal) (r : Fin n) (j : Fin 2816)
    (i : ℕ) (hi : i = r.val + 2) : hist W cr x i j = lin (x r) W.g W.up j := by
  subst hi
  unfold hist
  rw [dif_neg (by omega), dif_pos (by omega)]
  rfl

/-- A block of rows whose carried rows are the two rows before it has the history of the whole, moved to the block. -/
theorem hist_block {n N : ℕ} (W : FfnWeights) (cr : Fin 2 → Fin 2816 → EReal) (x : Fin n → Fin 1024 → EReal)
    (CR : Fin 2 → Fin 2816 → EReal) (X : Fin N → Fin 1024 → EReal) (o : ℕ) (ho : o + n ≤ N)
    (hx : ∀ r : Fin n, x r = X ⟨o + r.val, by omega⟩) (hcr : ∀ a j, cr a j = hist W CR X (o + a.val) j) (i : ℕ) (hi : i < n + 2) :
    hist W cr x i = hist W CR X (o + i) := by
  funext j
  by_cases h : i < 2
  · exact (hist_carry W cr x ⟨i, h⟩ j).trans (hcr ⟨i, h⟩ j)
  · rw [hist_row W cr x ⟨i - 2, by omega⟩ j i (by show i = i - 2 + 2; omega), hx,
      ← hist_row W CR X ⟨o + (i - 2), by omega⟩ j (o + i) (by show o + i = o + (i - 2) + 2; omega)]

/-- The sum of the first `o` features' terms. -/
def partSum (f : Fin 2816 → EReal) (o : ℕ) : EReal := ∑ j ∈ Finset.range o, if h : j < 2816 then f ⟨j, h⟩ else 0

/-- A chunk of 256 further features. -/
theorem partSum_add (f : Fin 2816 → EReal) (o : ℕ) (ho : o + 256 ≤ 2816) :
    partSum f o + ∑ l : Fin 256, f ⟨o + l.val, by omega⟩ = partSum f (o + 256) := by
  unfold partSum
  rw [Finset.sum_range_add _ o 256]
  refine congrArg (_ + ·) ?_
  rw [Finset.sum_range]
  exact Finset.sum_congr rfl fun l _ => by rw [dif_pos (show o + l.val < 2816 by omega)]

/-- All the features. -/
theorem partSum_all (f : Fin 2816 → EReal) : partSum f 2816 = ∑ j, f j := by
  unfold partSum
  rw [Finset.sum_range]
  exact Finset.sum_congr rfl fun j _ => dif_pos j.isLt

end Cert.Common
-- ==== Proof.Ffn.Point.lean ====
/-
  The feed-forward of one block of 512 rows, at an index.
-/
module

public import proofs.«01_k».proof.Proof.Ffn.Out
public import proofs.«01_k».proof.Proof.Ffn.Spec

@[expose] public section

set_option maxRecDepth 16384

noncomputable section

open Idealize.ShloMosaic Idealize.ShloMosaic.TcCoe Idealize.SL.Sem

namespace Cert.Kernel4Ideal.Ffn

open Cert.Kernel4Ideal Cert.Kernel4Ideal.Gen Cert.Common

/-- The normalised block. -/
theorem pay3_apply (x : Vec Ideal S512x1024 .f32) (g : Vec Ideal S1x1024 .f32) (r : Fin 512) (k : Fin 1024) :
    (k0_pay3 x g : S512x1024.Idx → EReal) (ix2 r k) = rmsNorm (fun j => x (ix2 r j)) (fun j => g (ix2 0 j)) k := by
  unfold k0_pay3 rmsNorm
  pointwise

/-- A product of 1024 terms. -/
theorem pay13_apply (h : FVec Ideal S512x1024 .bf16) (w : Vec Ideal S1024x256 .bf16) (r : Fin 512) (l : Fin 256) :
    (k0_pay13 h w : S512x256.Idx → EReal) (ix2 r l) = ∑ k, (h : S512x1024.Idx → EReal) (ix2 r k) * w (ix2 k l) := by
  unfold k0_pay13
  pointwise

/-- No sum yet. -/
theorem pay5_apply (r : Fin 512) (d : Fin 1024) : ((k0_pay5 : FVec Ideal S512x1024 .f32) : S512x1024.Idx → EReal) (ix2 r d) = 0 := by
  unfold k0_pay5
  pointwise

/-- The carried rows of the input. -/
theorem pay4_apply (p : Vec Ideal S1x2x2816 .f32) (a : Fin 2) (j : Fin 2816) :
    (k0_pay4 p : S2x2816.Idx → EReal) (ix2 a j) = p (ix3 0 a j) := by
  unfold k0_pay4
  pointwise

/-- The carried rows as the output has them. -/
theorem pay1_apply (p : Vec Ideal S2x2816 .f32) (b : Fin 1) (a : Fin 2) (j : Fin 2816) :
    (k0_pay1 p : S1x2x2816.Idx → EReal) (ix3 b a j) = p (ix2 a j) := by
  unfold k0_pay1
  pointwise

/-- The last two rows of a block. -/
theorem tail_apply (z : FVec Ideal S512x256 .f32) (a : Fin 2) (l : Fin 256) :
    (tail z : S2x256.Idx → EReal) (ix2 a l) = z (ix2 ⟨510 + a.val, by omega⟩ l) := by
  unfold tail
  pointwise

/-- The chunk's sum added. -/
theorem pay26_apply (acc : FVec Ideal S512x1024 .f32) (u v : FVec Ideal S512x256 .f32) (u2 u1 : Vec Ideal S512x256 .f32)
    (cb c0 c1 c2 : Vec Ideal S1x256 .f32) (wd : Vec Ideal S256x1024 .bf16) (r : Fin 512) (d : Fin 1024) :
    (k0_pay26 acc u v u2 u1 cb c0 c1 c2 wd : S512x1024.Idx → EReal) (ix2 r d)
      = (acc : S512x1024.Idx → EReal) (ix2 r d) + ∑ l : Fin 256,
          act (conv (cb (ix2 0 l)) (c0 (ix2 0 l)) (c1 (ix2 0 l)) (c2 (ix2 0 l)) (u2 (ix2 r l)) (u1 (ix2 r l)) (u (ix2 r l))) (v (ix2 r l))
            * wd (ix2 l d) := by
  unfold k0_pay26 act conv
  pointwise
  rfl

/-- A load of 256 columns. -/
theorem ld_cols {n M : ℕ} {e : EltTy} (x : (⟨2, ![M, 2816]⟩ : Shape).Idx → Elt Ideal e) (r o : ℕ)
    (h : ∀ a : Fin 2, (![r, o] : Fin 2 → ℕ) a + (![n, 256] : Fin 2 → ℕ) a ≤ (![M, 2816] : Fin 2 → ℕ) a) (k : Fin n) (l : Fin 256)
    (hk : r + k.val < M) (hl : o + l.val < 2816) :
    View.ld (Val := Elt Ideal) x (Rect.unit (s := ⟨2, ![M, 2816]⟩) ![r, o] ![n, 256] h) (ix2 k l) = x (ix2 ⟨r + k.val, hk⟩ ⟨o + l.val, hl⟩) := by
  refine congrArg x ?_
  funext a
  apply Fin.ext
  refine (Rect.idx_unit_val (s := ⟨2, ![M, 2816]⟩) _ _ h _ a).trans ?_
  fin_cases a <;> rfl

/-- A load of 256 rows. -/
theorem ld_rows (x : Vec Ideal S2816x1024 .bf16) (o : ℕ)
    (h : ∀ a : Fin 2, (![o, 0] : Fin 2 → ℕ) a + (![256, 1024] : Fin 2 → ℕ) a ≤ (![2816, 1024] : Fin 2 → ℕ) a) (l : Fin 256) (d : Fin 1024)
    (hl : o + l.val < 2816) :
    View.ld (Val := Elt Ideal) x (Rect.unit (s := S2816x1024) ![o, 0] S256x1024.size h) (ix2 l d) = x (ix2 ⟨o + l.val, hl⟩ d) := by
  refine congrArg x ?_
  funext a
  apply Fin.ext
  refine (Rect.idx_unit_val (s := S2816x1024) _ _ h _ a).trans ?_
  fin_cases a
  · rfl
  · exact Nat.zero_add _

/-- The weights a block's buffers hold. -/
def weights (x1 : Vec Ideal S1x1024 .f32) (x2 x3 : Vec Ideal S1024x2816 .bf16) (x4 : Vec Ideal S3x2816 .f32)
    (x5 : Vec Ideal S1x2816 .f32) (x6 : Vec Ideal S2816x1024 .bf16) : FfnWeights :=
  ⟨fun k => x1 (ix2 0 k), fun k j => x2 (ix2 k j), fun k j => x3 (ix2 k j), fun i j => x4 (ix2 i j), fun j => x5 (ix2 0 j), fun j d => x6 (ix2 j d)⟩

/-- The two carried rows. -/
def carry (cr : Vec Ideal S2x2816 .f32) : Fin 2 → Fin 2816 → EReal := fun a j => cr (ix2 a j)

/-- The rows of a block. -/
def blockRows (x0 : Vec Ideal S512x1024 .f32) : Fin 512 → Fin 1024 → EReal := fun r k => x0 (ix2 r k)

/-- A chunk's product is the features of its columns. -/
theorem feature_apply (x0 : Vec Ideal S512x1024 .f32) (x1 : Vec Ideal S1x1024 .f32) (w : Vec Ideal S1024x2816 .bf16) (o : ℕ)
    (ho : o + 256 ≤ 2816) (r : Fin 512) (l : Fin 256) :
    (k0_pay13 (k0_pay3 x0 x1) (View.ld w (Rect.unit (s := S1024x2816) ![0, o] S1024x256.size (inb_cols (by omega) ho))) : S512x256.Idx → EReal) (ix2 r l)
      = lin (blockRows x0 r) (fun k => x1 (ix2 0 k)) (fun k j => w (ix2 k j)) ⟨o + l.val, by omega⟩ := by
  rw [pay13_apply]
  refine Finset.sum_congr rfl fun k _ => ?_
  refine congr (congrArg _ (pay3_apply x0 x1 r k)) ?_
  refine (ld_cols (M := 1024) (n := 1024) (e := .bf16) w 0 o _ k l (by omega) (by omega)).trans ?_
  exact congrArg (fun i => w (ix2 i _)) (Fin.ext (Nat.zero_add _))

/-- A shifted window of a chunk is the history of its columns. -/
theorem window_apply (W : FfnWeights) (s : ℕ) (hs : s < 2) (x0 : Vec Ideal S512x1024 .f32) (cr : Vec Ideal S2x2816 .f32) (o : ℕ) (ho : o + 256 ≤ 2816)
    (u : FVec Ideal S512x256 .f32) (hu : ∀ (r : Fin 512) (l : Fin 256), u (ix2 r l) = lin (blockRows x0 r) W.g W.up ⟨o + l.val, by omega⟩)
    (r : Fin 512) (l : Fin 256) :
    window s hs (View.ld cr (Rect.unit (s := S2x2816) ![0, o] S2x256.size (inb_cols (by omega) ho))) u (ix2 r l)
      = hist W (carry cr) (blockRows x0) (r.val + s) ⟨o + l.val, by omega⟩ := by
  unfold window
  by_cases h : r.val + s < 2
  · refine (dif_pos h).trans ?_
    refine (ld_cols (M := 2) (n := 2) (e := .f32) cr 0 o _ ⟨r.val + s, h⟩ l (by show 0 + (r.val + s) < 2; omega) (by omega)).trans ?_
    refine Eq.trans ?_ (hist_carry W (carry cr) (blockRows x0) ⟨r.val + s, h⟩ ⟨o + l.val, by omega⟩).symm
    exact congrArg (fun i => cr (ix2 i _)) (Fin.ext (Nat.zero_add _))
  · refine (dif_neg h).trans ?_
    refine (hu _ l).trans ?_
    exact (hist_row W (carry cr) (blockRows x0) ⟨r.val + s - 2, by omega⟩ _ (r.val + s) (by show r.val + s = r.val + s - 2 + 2; omega)).symm

/-- A chunk adds its features' terms. -/
theorem step_apply (x0 : Vec Ideal S512x1024 .f32) (x1 : Vec Ideal S1x1024 .f32) (x2 x3 : Vec Ideal S1024x2816 .bf16) (x4 : Vec Ideal S3x2816 .f32)
    (x5 : Vec Ideal S1x2816 .f32) (x6 : Vec Ideal S2816x1024 .bf16) (cr : Vec Ideal S2x2816 .f32) (o : ℕ) (ho : o + 256 ≤ 2816)
    (acc : FVec Ideal S512x1024 .f32) (r : Fin 512) (d : Fin 1024) :
    step (k0_pay3 x0 x1) x2 x3 x4 x5 x6 cr o ho acc (ix2 r d)
      = acc (ix2 r d) + ∑ l : Fin 256, ffnTerm (weights x1 x2 x3 x4 x5 x6) (blockRows x0 r)
          (hist (weights x1 x2 x3 x4 x5 x6) (carry cr) (blockRows x0) r.val) (hist (weights x1 x2 x3 x4 x5 x6) (carry cr) (blockRows x0) (r.val + 1))
          (hist (weights x1 x2 x3 x4 x5 x6) (carry cr) (blockRows x0) (r.val + 2)) d ⟨o + l.val, by omega⟩ := by
  have hu := fun (r : Fin 512) (l : Fin 256) => feature_apply x0 x1 x2 o ho r l
  unfold step
  refine (pay26_apply _ _ _ _ _ _ _ _ _ _ r d).trans ?_
  refine congrArg (_ + ·) (Finset.sum_congr rfl fun l _ => ?_)
  unfold ffnTerm
  have row : ∀ (i M : ℕ) (x : (⟨2, ![M, 2816]⟩ : Shape).Idx → Elt Ideal .f32) (h : i + 1 ≤ M),
      View.ld (Val := Elt Ideal) x (Rect.unit (s := ⟨2, ![M, 2816]⟩) ![i, o] ![1, 256] (inb_cols h ho)) (ix2 (0 : Fin 1) l)
        = x (ix2 ⟨i, h⟩ ⟨o + l.val, by omega⟩) := fun i M x h =>
    ld_cols (M := M) (n := 1) (e := .f32) x i o _ (0 : Fin 1) l h (by omega)
  refine congr (congrArg _ (congr (congrArg act ?_) (feature_apply x0 x1 x3 o ho r l))) (ld_rows x6 o _ l d (by omega))
  refine congr (congr (congr (congr (congr (congr (congrArg conv ?_) ?_) ?_) ?_) ?_) ?_) ?_
  · exact row 0 1 x5 (by omega)
  · exact row 0 3 x4 (by omega)
  · exact row 1 3 x4 (by omega)
  · exact row 2 3 x4 (by omega)
  · exact window_apply (weights x1 x2 x3 x4 x5 x6) 0 (by omega) x0 cr o ho _ hu r l
  · exact window_apply (weights x1 x2 x3 x4 x5 x6) 1 (by omega) x0 cr o ho _ hu r l
  · exact (hu r l).trans (hist_row (weights x1 x2 x3 x4 x5 x6) (carry cr) (blockRows x0) r _ (r.val + 2) rfl).symm

/-- A chunk after a partial sum. -/
theorem step_sum (x0 : Vec Ideal S512x1024 .f32) (x1 : Vec Ideal S1x1024 .f32) (x2 x3 : Vec Ideal S1024x2816 .bf16) (x4 : Vec Ideal S3x2816 .f32)
    (x5 : Vec Ideal S1x2816 .f32) (x6 : Vec Ideal S2816x1024 .bf16) (cr : Vec Ideal S2x2816 .f32) (r : Fin 512) (d : Fin 1024) (f : Fin 2816 → EReal)
    (hf : f = ffnTerm (weights x1 x2 x3 x4 x5 x6) (blockRows x0 r)
      (hist (weights x1 x2 x3 x4 x5 x6) (carry cr) (blockRows x0) r.val) (hist (weights x1 x2 x3 x4 x5 x6) (carry cr) (blockRows x0) (r.val + 1))
      (hist (weights x1 x2 x3 x4 x5 x6) (carry cr) (blockRows x0) (r.val + 2)) d)
    (o : ℕ) (ho : o + 256 ≤ 2816) (acc : FVec Ideal S512x1024 .f32) (h : acc (ix2 r d) = partSum f o) :
    step (k0_pay3 x0 x1) x2 x3 x4 x5 x6 cr o ho acc (ix2 r d) = partSum f (o + 256) := by
  subst hf
  rw [step_apply, h]
  exact partSum_add _ o ho

/-- A block's output at an index. -/
theorem rowsOut_apply (x0 : Vec Ideal S512x1024 .f32) (x1 : Vec Ideal S1x1024 .f32) (x2 x3 : Vec Ideal S1024x2816 .bf16) (x4 : Vec Ideal S3x2816 .f32)
    (x5 : Vec Ideal S1x2816 .f32) (x6 : Vec Ideal S2816x1024 .bf16) (cr : Vec Ideal S2x2816 .f32) (r : Fin 512) (d : Fin 1024) :
    rowsOut x0 x1 x2 x3 x4 x5 x6 cr (ix2 r d)
      = ffnRow (weights x1 x2 x3 x4 x5 x6) (blockRows x0 r)
          (hist (weights x1 x2 x3 x4 x5 x6) (carry cr) (blockRows x0) r.val) (hist (weights x1 x2 x3 x4 x5 x6) (carry cr) (blockRows x0) (r.val + 1))
          (hist (weights x1 x2 x3 x4 x5 x6) (carry cr) (blockRows x0) (r.val + 2)) d := by
  have s := step_sum x0 x1 x2 x3 x4 x5 x6 cr r d _ rfl
  refine congrArg (x0 (ix2 r d) + ·) (Eq.trans ?_ (partSum_all _))
  exact s 2560 _ _ (s 2304 _ _ (s 2048 _ _ (s 1792 _ _ (s 1536 _ _ (s 1280 _ _ (s 1024 _ _ (s 768 _ _ (s 512 _ _ (s 256 _ _
    (s 0 _ _ ((pay5_apply r d).trans (Finset.sum_range_zero _).symm)))))))))))

end Cert.Kernel4Ideal.Ffn
-- ==== Proof.Ffn.Carry.lean ====
/-
  What the feed-forward kernel carries from a block to the next, and hands on at the last: the up-projected features of the
  block's last two rows, stored 256 columns at a time.
-/
module

public import proofs.«01_k».proof.Proof.Ffn.Point

@[expose] public section

set_option maxRecDepth 16384

noncomputable section

open Idealize.ShloMosaic Idealize.ShloMosaic.TcCoe Idealize.SL.Sem

namespace Cert.Kernel4Ideal.Ffn

open Cert.Kernel4Ideal Cert.Kernel4Ideal.Gen Cert.Common

/-- The features of a block's last two rows. -/
def lastRows (x0 : Vec Ideal S512x1024 .f32) (x1 : Vec Ideal S1x1024 .f32) (x2 : Vec Ideal S1024x2816 .bf16) : Vec Ideal S2x2816 .f32 :=
  fun i => lin (blockRows x0 ⟨510 + (i 0).val, by have := (i 0).isLt; change (i 0).val < 2 at this; omega⟩) (fun k => x1 (ix2 0 k)) (fun k j => x2 (ix2 k j)) (i 1)

/-- A chunk's store. -/
def store (x0 : Vec Ideal S512x1024 .f32) (x1 : Vec Ideal S1x1024 .f32) (x2 : Vec Ideal S1024x2816 .bf16) (o : ℕ) (ho : o + 256 ≤ 2816) : View.Piece (Elt Ideal) S2x2816 .f32 :=
  ⟨Rect.unit (s := S2x2816) ![0, o] S2x256.size (inb_cols (by omega) ho),
    tail (k0_pay13 (k0_pay3 x0 x1) (View.ld x2 (Rect.unit (s := S1024x2816) ![0, o] S1024x256.size (inb_cols (by omega) ho))))⟩

/-- The chunks' stores, the last first. -/
def stores (x0 : Vec Ideal S512x1024 .f32) (x1 : Vec Ideal S1x1024 .f32) (x2 : Vec Ideal S1024x2816 .bf16) : List (View.Piece (Elt Ideal) S2x2816 .f32) :=
  [store x0 x1 x2 2560 (by omega), store x0 x1 x2 2304 (by omega), store x0 x1 x2 2048 (by omega), store x0 x1 x2 1792 (by omega), store x0 x1 x2 1536 (by omega), store x0 x1 x2 1280 (by omega), store x0 x1 x2 1024 (by omega), store x0 x1 x2 768 (by omega), store x0 x1 x2 512 (by omega), store x0 x1 x2 256 (by omega), store x0 x1 x2 0 (by omega)]

/-- A chunk's store holds its columns of the last two rows. -/
theorem store_apply (x0 : Vec Ideal S512x1024 .f32) (x1 : Vec Ideal S1x1024 .f32) (x2 : Vec Ideal S1024x2816 .bf16) (o : ℕ) (ho : o + 256 ≤ 2816) (x : S2x256.Idx) :
    (store x0 x1 x2 o ho).2 x = lastRows x0 x1 x2 ((store x0 x1 x2 o ho).1.emb x) := by
  have ex : x = ix2 (x 0) (x 1) := by funext a; fin_cases a <;> rfl
  refine Eq.trans ?_ (congrArg (lastRows x0 x1 x2) (a₁ := ix2 (x 0) ⟨o + (x 1).val, by have := (x 1).isLt; change (x 1).val < 256 at this; omega⟩) ?_)
  · refine (congrArg (store x0 x1 x2 o ho).2 ex).trans ?_
    refine (tail_apply (k0_pay13 (k0_pay3 x0 x1) (View.ld x2 (Rect.unit (s := S1024x2816) ![0, o] S1024x256.size (inb_cols (by omega) ho)))) (x 0) (x 1)).trans ?_
    exact feature_apply x0 x1 x2 o ho _ (x 1)
  · funext a
    apply Fin.ext
    refine Eq.trans ?_ (Rect.idx_unit_val (s := S2x2816) _ _ (inb_cols (by omega) ho) x a).symm
    fin_cases a
    · exact (Nat.zero_add _).symm
    · rfl

/-- The stores together leave the last two rows, whatever the buffer held. -/
theorem canon_stores (x0 : Vec Ideal S512x1024 .f32) (x1 : Vec Ideal S1x1024 .f32) (x2 : Vec Ideal S1024x2816 .bf16) (L : List (View.Piece (Elt Ideal) S2x2816 .f32)) :
    View.canon (stores x0 x1 x2 ++ L) = lastRows x0 x1 x2 := by
  funext y
  refine View.canon_append_of_piecesOf (lastRows x0 x1 x2) L (stores x0 x1 x2) ?_ y ?_
  · exact ⟨store_apply x0 x1 x2 _ _, store_apply x0 x1 x2 _ _, store_apply x0 x1 x2 _ _, store_apply x0 x1 x2 _ _, store_apply x0 x1 x2 _ _, store_apply x0 x1 x2 _ _, store_apply x0 x1 x2 _ _, store_apply x0 x1 x2 _ _, store_apply x0 x1 x2 _ _, store_apply x0 x1 x2 _ _, store_apply x0 x1 x2 _ _, trivial⟩
  · exact View.cover_of_tiledL (stores x0 x1 x2) S2x256.size rfl y

/-- A load of the whole buffer reads them. -/
theorem load_stores {sg : RefSig} (v : View sg .tc .vmem S2x2816 .f32) (x0 : Vec Ideal S512x1024 .f32) (x1 : Vec Ideal S1x1024 .f32) (x2 : Vec Ideal S1024x2816 .bf16) (L : List (View.Piece (Elt Ideal) S2x2816 .f32))
    (h : ∀ a, ![0, 0] a + S2x2816.size a ≤ S2x2816.size a) :
    v.readCov (stores x0 x1 x2 ++ L) (Rect.unit (s := S2x2816) ![0, 0] S2x2816.size h).toLoadRect = lastRows x0 x1 x2 := by
  rw [View.readCov_eq_canon']
  funext y
  refine (congrFun (canon_stores x0 x1 x2 L) _).trans (congrArg (lastRows x0 x1 x2) ?_)
  funext a
  apply Fin.ext
  refine (Rect.idx_unit_val (s := S2x2816) _ _ h y a).trans ?_
  fin_cases a <;> exact Nat.zero_add _

/-- The rows carried from a later block. -/
theorem carry_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x2x2816 .f32) (harg9 : arg9.IsWhole) (arg10 : Memref sig .tc .vmem S512x1024 .f32) (harg10 : arg10.IsWhole) (arg11 : Memref sig .tc .vmem S1x2x2816 .f32) (harg11 : arg11.IsWhole) (arg12 : Memref sig .tc .vmem S520x256 .f32) (harg12 : arg12.IsWhole) (arg13 : Memref sig .tc .vmem S2x2816 .f32) (harg13 : arg13.IsWhole)
    (hc0 : ¬cond0_0 i) (x0 : Vec Ideal S512x1024 .f32) (x1 : Vec Ideal S1x1024 .f32) (x2 : Vec Ideal S1024x2816 .bf16) (x3 : Vec Ideal S1024x2816 .bf16) (x4 : Vec Ideal S3x2816 .f32) (x5 : Vec Ideal S1x2816 .f32) (x6 : Vec Ideal S2816x1024 .bf16) (x7 : Vec Ideal S1x1024 .f32) (x8 : Vec Ideal S1x2x2816 .f32) (xs1 : Vec Ideal S2x2816 .f32) :
    sout0_B_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs1 = lastRows x0 x1 x2 := by
  frame_open
  simp (disch := decide) only [↓ View.readCov_skip, ↓ View.readCov_cons_toLoadRect, ↓ View.readCov_fill]
  frame_out
  simp only [up0, up2, up3, up4, up5, up6, up7, up8, up9, up10, tail0, tail1, tail2, tail3, tail4, tail5, tail6, tail7, tail8, tail9, tail10]
  exact canon_stores x0 x1 x2 []

/-- The rows handed on by a later block. -/
theorem out10_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x2x2816 .f32) (harg9 : arg9.IsWhole) (arg10 : Memref sig .tc .vmem S512x1024 .f32) (harg10 : arg10.IsWhole) (arg11 : Memref sig .tc .vmem S1x2x2816 .f32) (harg11 : arg11.IsWhole) (arg12 : Memref sig .tc .vmem S520x256 .f32) (harg12 : arg12.IsWhole) (arg13 : Memref sig .tc .vmem S2x2816 .f32) (harg13 : arg13.IsWhole)
    (hc0 : ¬cond0_0 i) (x0 : Vec Ideal S512x1024 .f32) (x1 : Vec Ideal S1x1024 .f32) (x2 : Vec Ideal S1024x2816 .bf16) (x3 : Vec Ideal S1024x2816 .bf16) (x4 : Vec Ideal S3x2816 .f32) (x5 : Vec Ideal S1x2816 .f32) (x6 : Vec Ideal S2816x1024 .bf16) (x7 : Vec Ideal S1x1024 .f32) (x8 : Vec Ideal S1x2x2816 .f32) (xs1 : Vec Ideal S2x2816 .f32) :
    out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs1 = k0_pay1 (lastRows x0 x1 x2) := by
  frame_open
  simp (disch := decide) only [↓ View.readCov_skip, ↓ View.readCov_cons_toLoadRect, ↓ View.readCov_fill]
  frame_out
  simp only [up0, up2, up3, up4, up5, up6, up7, up8, up9, up10, tail0, tail1, tail2, tail3, tail4, tail5, tail6, tail7, tail8, tail9, tail10]
  exact congrArg k0_pay1 (load_stores arg13.view x0 x1 x2 [] inb_S2x2816_S2x2816_0_0)

/-- The rows carried from the first block of a group. -/
theorem carry_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x2x2816 .f32) (harg9 : arg9.IsWhole) (arg10 : Memref sig .tc .vmem S512x1024 .f32) (harg10 : arg10.IsWhole) (arg11 : Memref sig .tc .vmem S1x2x2816 .f32) (harg11 : arg11.IsWhole) (arg12 : Memref sig .tc .vmem S520x256 .f32) (harg12 : arg12.IsWhole) (arg13 : Memref sig .tc .vmem S2x2816 .f32) (harg13 : arg13.IsWhole)
    (hc0 : cond0_0 i) (x0 : Vec Ideal S512x1024 .f32) (x1 : Vec Ideal S1x1024 .f32) (x2 : Vec Ideal S1024x2816 .bf16) (x3 : Vec Ideal S1024x2816 .bf16) (x4 : Vec Ideal S3x2816 .f32) (x5 : Vec Ideal S1x2816 .f32) (x6 : Vec Ideal S2816x1024 .bf16) (x7 : Vec Ideal S1x1024 .f32) (x8 : Vec Ideal S1x2x2816 .f32) :
    sout0_A_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = lastRows x0 x1 x2 := by
  frame_open
  simp (disch := decide) only [↓ View.readCov_skip, ↓ View.readCov_cons_toLoadRect, ↓ View.readCov_fill]
  frame_out
  simp only [up0, up2, up3, up4, up5, up6, up7, up8, up9, up10, tail0, tail1, tail2, tail3, tail4, tail5, tail6, tail7, tail8, tail9, tail10]
  exact canon_stores x0 x1 x2 [⟨Rect.unit (s := S2x2816) ![0, 0] S2x2816.size inb_S2x2816_S2x2816_0_0, k0_pay4 x8⟩]

/-- The rows handed on by the first block of a group. -/
theorem out10_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x2x2816 .f32) (harg9 : arg9.IsWhole) (arg10 : Memref sig .tc .vmem S512x1024 .f32) (harg10 : arg10.IsWhole) (arg11 : Memref sig .tc .vmem S1x2x2816 .f32) (harg11 : arg11.IsWhole) (arg12 : Memref sig .tc .vmem S520x256 .f32) (harg12 : arg12.IsWhole) (arg13 : Memref sig .tc .vmem S2x2816 .f32) (harg13 : arg13.IsWhole)
    (hc0 : cond0_0 i) (x0 : Vec Ideal S512x1024 .f32) (x1 : Vec Ideal S1x1024 .f32) (x2 : Vec Ideal S1024x2816 .bf16) (x3 : Vec Ideal S1024x2816 .bf16) (x4 : Vec Ideal S3x2816 .f32) (x5 : Vec Ideal S1x2816 .f32) (x6 : Vec Ideal S2816x1024 .bf16) (x7 : Vec Ideal S1x1024 .f32) (x8 : Vec Ideal S1x2x2816 .f32) :
    out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay1 (lastRows x0 x1 x2) := by
  frame_open
  simp (disch := decide) only [↓ View.readCov_skip, ↓ View.readCov_cons_toLoadRect, ↓ View.readCov_fill]
  frame_out
  simp only [up0, up2, up3, up4, up5, up6, up7, up8, up9, up10, tail0, tail1, tail2, tail3, tail4, tail5, tail6, tail7, tail8, tail9, tail10]
  exact congrArg k0_pay1 (load_stores arg13.view x0 x1 x2 [⟨Rect.unit (s := S2x2816) ![0, 0] S2x2816.size inb_S2x2816_S2x2816_0_0, k0_pay4 x8⟩] inb_S2x2816_S2x2816_0_0)

end Cert.Kernel4Ideal.Ffn
-- ==== Proof.Ffn.Array.lean ====
/-
  The feed-forward's two result arrays: each grid point writes one block of 512 rows, four points to a sequence, and the last
  of the four hands on the sequence's last two rows of features.
-/
module

public import proofs.«01_k».proof.Proof.Ffn.Carry

@[expose] public section

set_option maxRecDepth 16384

noncomputable section

open Idealize.ShloMosaic Idealize.ShloMosaic.TcCoe Idealize.SL.Sem

namespace Cert.Kernel4Ideal.Ffn

open Cert.Kernel4Ideal Cert.Kernel4Ideal.Gen Cert.Common

variable (m : (ℓ : Loc nD τ sig) → Buf (Elt Ideal) ℓ) (c : Dev nD)

/-- The rows of the call's input. -/
def X (n : Fin 32768) (k : Fin 1024) : EReal := (m ((c.tc : Thread nD τ).loc main_arg0) : S32768x1024.Idx → EReal) (ix2 n k)

/-- The weights. -/
def W : FfnWeights :=
  ⟨fun k => (m ((c.tc : Thread nD τ).loc main_arg1) : S1x1024.Idx → EReal) (ix2 0 k),
    fun k j => (m ((c.tc : Thread nD τ).loc main_arg2) : S1024x2816.Idx → EReal) (ix2 k j),
    fun k j => (m ((c.tc : Thread nD τ).loc main_arg3) : S1024x2816.Idx → EReal) (ix2 k j),
    fun i j => (m ((c.tc : Thread nD τ).loc main_arg4) : S3x2816.Idx → EReal) (ix2 i j),
    fun j => (m ((c.tc : Thread nD τ).loc main_arg5) : S1x2816.Idx → EReal) (ix2 0 j),
    fun j d => (m ((c.tc : Thread nD τ).loc main_arg6) : S2816x1024.Idx → EReal) (ix2 j d)⟩

/-- The rows carried into a sequence. -/
def P (b : Fin 16) (a : Fin 2) (j : Fin 2816) : EReal := (m ((c.tc : Thread nD τ).loc main_arg8) : S16x2x2816.Idx → EReal) (ix3 b a j)

/-- The features of a sequence's rows, the carried ones first. -/
def H (b : Fin 16) (i : ℕ) (j : Fin 2816) : EReal :=
  hist (W m c) (P m c b) (fun r : Fin 2048 => X m c ⟨b.val * 2048 + r.val, by omega⟩) i j

/-- Row `n` after the feed-forward. -/
def Y (n : Fin 32768) (d : Fin 1024) : EReal :=
  ffnRow (W m c) (X m c n) (H m c ⟨n.val / 2048, by omega⟩ (n.val % 2048)) (H m c ⟨n.val / 2048, by omega⟩ (n.val % 2048 + 1))
    (H m c ⟨n.val / 2048, by omega⟩ (n.val % 2048 + 2)) d

/-- Where the windows of the weights stand. -/
theorem weight_places : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

/-- Where the windows of the rows stand. -/
theorem row_places : ∀ t : Fin cfg0.N, win0_0.index t = ![t.val, 0] ∧ win0_8.index t = ![t.val / 4, 0, 0]
    ∧ win0_9.index t = ![t.val, 0] ∧ win0_10.index t = ![t.val / 4, 0, 0] :=
  (by decide +kernel : ∀ t : Fin grid0.N, _)

/-- A point's block holds its rows. -/
theorem rows_block (t : Fin cfg0.N) (ht : t.val < 64) (r : Fin 512) :
    blockRows (iblk m c 0 t) r = X m c ⟨512 * t.val + r.val, by omega⟩ := by
  obtain ⟨e, -⟩ := row_places t
  funext k
  unfold blockRows X
  blk_ext [iblk, V, e]

/-- A point's buffers hold the weights. -/
theorem weights_block (t : Fin cfg0.N) :
    weights (iblk m c 1 t) (iblk m c 2 t) (iblk m c 3 t) (iblk m c 4 t) (iblk m c 5 t) (iblk m c 6 t) = W m c := by
  obtain ⟨e1, e2, e3, e4, e5, e6⟩ := weight_places t
  unfold weights W
  refine congr (congr (congr (congr (congr (congrArg FfnWeights.mk ?_) ?_) ?_) ?_) ?_) ?_
  · funext k; blk_ext [iblk, V, e1]
  · funext k j; blk_ext [iblk, V, e2]
  · funext k j; blk_ext [iblk, V, e3]
  · funext k j; blk_ext [iblk, V, e4]
  · funext k; blk_ext [iblk, V, e5]
  · funext k j; blk_ext [iblk, V, e6]

/-- The carried rows of a point's sequence. -/
theorem prev_block (t : Fin cfg0.N) (ht : t.val < 64) (a : Fin 2) (j : Fin 2816) :
    (iblk m c 8 t : S1x2x2816.Idx → EReal) (ix3 0 a j) = P m c ⟨t.val / 4, by omega⟩ a j := by
  obtain ⟨-, e, -⟩ := row_places t
  unfold P
  blk_ext [iblk, V, e]

/-- The carried rows a point starts from. -/
def carryIn (t : Fin cfg0.N) : Vec Ideal S2x2816 .f32 :=
  if t.val % 4 = 0 then k0_pay4 (iblk m c 8 t) else (outsAt0 m c (t.val - 1) (Nat.lt_of_le_of_lt (Nat.sub_le _ _) t.isLt)).2.2

/-- What a point leaves. -/
theorem point_eq (t : Fin cfg0.N) :
    outsAt0 m c t.val t.isLt = (rowsOut (iblk m c 0 t) (iblk m c 1 t) (iblk m c 2 t) (iblk m c 3 t) (iblk m c 4 t) (iblk m c 5 t) (iblk m c 6 t) (carryIn m c t),
      k0_pay1 (lastRows (iblk m c 0 t) (iblk m c 1 t) (iblk m c 2 t)), lastRows (iblk m c 0 t) (iblk m c 1 t) (iblk m c 2 t)) := by
  unfold carryIn
  by_cases h : t.val % 4 = 0
  · rw [outsAt0_A m c t h, out9_A, out10_A, carry_A, if_pos h]
  · rw [outsAt0_B m c t h, out9_B, out10_B, carry_B, if_neg h]

/-- The features of a block's last two rows, under the weights its buffers hold. -/
theorem lastRows_apply (x0 : Vec Ideal S512x1024 .f32) (x1 : Vec Ideal S1x1024 .f32) (x2 x3 : Vec Ideal S1024x2816 .bf16) (x4 : Vec Ideal S3x2816 .f32)
    (x5 : Vec Ideal S1x2816 .f32) (x6 : Vec Ideal S2816x1024 .bf16) (a : Fin 2) (j : Fin 2816) :
    lastRows x0 x1 x2 (ix2 a j)
      = lin (blockRows x0 ⟨510 + a.val, by omega⟩) (weights x1 x2 x3 x4 x5 x6).g (weights x1 x2 x3 x4 x5 x6).up j := rfl

/-- The features of a point's last two rows. -/
theorem lastRows_point (t : Fin cfg0.N) (ht : t.val < 64) (a : Fin 2) (j : Fin 2816) :
    lastRows (iblk m c 0 t) (iblk m c 1 t) (iblk m c 2 t) (ix2 a j)
      = lin (X m c ⟨512 * t.val + (510 + a.val), by omega⟩) (W m c).g (W m c).up j := by
  refine (lastRows_apply _ _ _ (iblk m c 3 t) (iblk m c 4 t) (iblk m c 5 t) (iblk m c 6 t) a j).trans ?_
  rw [weights_block, rows_block m c t ht]

/-- The carried rows are the sequence's features just before the block. -/
theorem carryIn_eq (t : Fin cfg0.N) (ht : t.val < 64) (a : Fin 2) (j : Fin 2816) :
    carry (carryIn m c t) a j = H m c ⟨t.val / 4, by omega⟩ (512 * (t.val % 4) + a.val) j := by
  by_cases h : t.val % 4 = 0
  · have e : carryIn m c t = k0_pay4 (iblk m c 8 t) := if_pos h
    refine (congrFun e (ix2 a j)).trans ((pay4_apply _ a j).trans ((prev_block m c t ht a j).trans ?_))
    rw [h]
    refine Eq.trans ?_ (congrArg (fun i => H m c _ i j) (show a.val = 512 * 0 + a.val by omega))
    exact (hist_carry _ _ _ a j).symm
  · have e : carryIn m c t = lastRows (iblk m c 0 ⟨t.val - 1, Nat.lt_of_le_of_lt (Nat.sub_le _ _) t.isLt⟩) (iblk m c 1 ⟨t.val - 1, Nat.lt_of_le_of_lt (Nat.sub_le _ _) t.isLt⟩)
        (iblk m c 2 ⟨t.val - 1, Nat.lt_of_le_of_lt (Nat.sub_le _ _) t.isLt⟩) :=
      (if_neg h).trans (congrArg (fun q => q.2.2) (point_eq m c ⟨t.val - 1, Nat.lt_of_le_of_lt (Nat.sub_le _ _) t.isLt⟩))
    refine (congrFun e (ix2 a j)).trans ?_
    refine (lastRows_point m c ⟨t.val - 1, Nat.lt_of_le_of_lt (Nat.sub_le _ _) t.isLt⟩ (show t.val - 1 < 64 by omega) a j).trans ?_
    refine Eq.trans ?_ (hist_row _ _ _ ⟨512 * (t.val % 4) + a.val - 2, by omega⟩ j _
      (show 512 * (t.val % 4) + a.val = 512 * (t.val % 4) + a.val - 2 + 2 by omega)).symm
    refine congrArg (fun n => lin (X m c n) _ _ j) (Fin.ext ?_)
    show 512 * (t.val - 1) + (510 + a.val) = t.val / 4 * 2048 + (512 * (t.val % 4) + a.val - 2)
    omega

/-- A block's history is its sequence's. -/
theorem hist_point (t : Fin cfg0.N) (ht : t.val < 64) (i : ℕ) (hi : i < 514) :
    hist (W m c) (carry (carryIn m c t)) (blockRows (iblk m c 0 t)) i = H m c ⟨t.val / 4, by omega⟩ (512 * (t.val % 4) + i) := by
  refine hist_block (W m c) _ _ (P m c ⟨t.val / 4, by omega⟩) _ (512 * (t.val % 4)) (by omega) (fun r => ?_) (carryIn_eq m c t ht) i hi
  rw [rows_block m c t ht]
  refine congrArg (X m c) (Fin.ext ?_)
  show 512 * t.val + r.val = t.val / 4 * 2048 + (512 * (t.val % 4) + r.val)
  omega

/-- A point's output rows. -/
theorem rows_point (t : Fin cfg0.N) (ht : t.val < 64) (r : Fin 512) (d : Fin 1024) :
    (outsAt0 m c t.val t.isLt).1 (ix2 r d) = Y m c ⟨512 * t.val + r.val, by omega⟩ d := by
  rw [point_eq]
  refine (rowsOut_apply _ _ _ _ _ _ _ _ r d).trans ?_
  rw [weights_block, rows_block m c t ht r, hist_point m c t ht _ (by omega), hist_point m c t ht _ (by omega), hist_point m c t ht _ (by omega)]
  unfold Y
  have hb : (512 * t.val + r.val) / 2048 = t.val / 4 := by omega
  have hr : (512 * t.val + r.val) % 2048 = 512 * (t.val % 4) + r.val := by omega
  simp only [hb, hr]
  rfl

/-- What a sequence's last point hands on. -/
theorem carry_point (t : Fin cfg0.N) (ht : t.val < 64) (h3 : t.val % 4 = 3) (b : Fin 1) (a : Fin 2) (j : Fin 2816) :
    (outsAt0 m c t.val t.isLt).2.1 (ix3 b a j) = H m c ⟨t.val / 4, by omega⟩ (2048 + a.val) j := by
  rw [point_eq]
  refine (pay1_apply (lastRows (iblk m c 0 t) (iblk m c 1 t) (iblk m c 2 t)) b a j).trans ?_
  rw [lastRows_point m c t ht]
  refine Eq.trans ?_ (hist_row _ _ _ ⟨2046 + a.val, by omega⟩ j (2048 + a.val) (show 2048 + a.val = 2046 + a.val + 2 by omega)).symm
  refine congrArg (fun n => lin (X m c n) _ _ j) (Fin.ext ?_)
  show 512 * t.val + (510 + a.val) = t.val / 4 * 2048 + (2046 + a.val)
  omega

/-- The rows after the run. -/
theorem rows_array : ((dats m 0 c).arrAt 9 cfg0.N : S32768x1024.Idx → EReal) = fun i => Y m c (i 0) (i 1) := by
  refine (dats m 0 c).arrAt_eq_of_covers 9 _ (by decide +kernel) fun t hf y => ?_
  obtain ⟨-, -, e, -⟩ := row_places t
  have ht : t.val < 64 := N_0 ▸ t.isLt
  have key := rows_point m c t ht (y 0) (y 1)
  refine (congrFun (after0_9 m c t) _).trans (Eq.trans ?_ (key.trans ?_))
  · refine congrArg (outsAt0 m c t.val t.isLt).1 ?_
    funext a; fin_cases a <;> rfl
  · refine congr (congrArg (Y m c) ?_) ?_
    all_goals
      apply Fin.ext
      blk_simp [e]
      try (dsimp only; omega)

/-- The rows handed on after the run. -/
theorem carry_array : ((dats m 0 c).arrAt 10 cfg0.N : S16x2x2816.Idx → EReal) = fun i => H m c (i 0) (2048 + (i 1).val) (i 2) := by
  refine (dats m 0 c).arrAt_eq_of_covers 10 _ (by decide +kernel) fun t hf y => ?_
  obtain ⟨-, -, -, e⟩ := row_places t
  have ht : t.val < 64 := N_0 ▸ t.isLt
  have key := carry_point m c t ht ((flush0_10 t).mp hf) (y 0) (y 1) (y 2)
  refine (congrFun (after0_10 m c t) _).trans (Eq.trans ?_ (key.trans ?_))
  · refine congrArg (outsAt0 m c t.val t.isLt).2.1 ?_
    funext a; fin_cases a <;> rfl
  · refine congr (congr (congrArg (H m c) ?_) ?_) ?_
    · apply Fin.ext
      blk_simp [e]
      try (dsimp only; omega)
    · refine congrArg (2048 + ·) ?_
      blk_simp [e]
      try (dsimp only; omega)
    · apply Fin.ext
      blk_simp [e]
      try (dsimp only; omega)

end Cert.Kernel4Ideal.Ffn
-- ==== Proof.Ffn.Ref.lean ====
/-
  What the feed-forward's reference computes at an index.
-/
module

public import proofs.«01_k».proof.Proof.Gen.Reference4Ideal.Run
public import proofs.«01_k».proof.Proof.Ffn.Spec
public import Idealize.ShloMosaic.PureOps.Ideal.Laws

@[expose] public section

set_option maxRecDepth 16384

noncomputable section

open Idealize.ShloMosaic Idealize.ShloMosaic.TcCoe Idealize.SL.Sem

namespace Cert.Reference4Ideal.Ffn

open Cert.Reference4Ideal Cert.Reference4Ideal.Gen Cert.Common

/-- The normalised rows. -/
def rows (x : FVec Ideal S32768x1024 .f32) (g : FVec Ideal S1x1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 g)

/-- The rows' features, by sequence. -/
def features (y : FVec Ideal S32768x1024 .f32) (w : FVec Ideal S1024x2816 .bf16) : FVec Ideal S16x2048x2816 .f32 :=
  shapeCast _ (Host.dotGeneral dot_S32768x1024_S1024x2816_S32768x2816_1_0_0_1_n_n none y (extf .f32 w bitsLt_bf16_f32)) shapeCasts_S32768x2816_S16x2048x2816

/-- The carried rows before the features. -/
def history (p : FVec Ideal S16x2x2816 .f32) (u : FVec Ideal S16x2048x2816 .f32) : FVec Ideal S16x2050x2816 .f32 :=
  concatenate S16x2050x2816 1 [⟨S16x2x2816, p⟩, ⟨S16x2048x2816, u⟩] concatenates_S16x2x2816_S16x2048x2816_S16x2050x2816_d1

/-- A tap's weights along the rows. -/
def tap (w : FVec Ideal S1x2816 .f32) : FVec Ideal S16x2048x2816 .f32 :=
  broadcastInDim S16x2048x2816 ![0, 1, 2] bcast_S1x1x2816_S16x2048x2816_0_1_2 (broadcastInDim S1x1x2816 ![2] bcast_S2816_S1x1x2816_2 (shapeCast _ w shapeCasts_S1x2816_S2816))

/-- The convolution. -/
def convolved (e : FVec Ideal S16x2050x2816 .f32) (cw : FVec Ideal S3x2816 .f32) (cb : FVec Ideal S1x2816 .f32) : FVec Ideal S16x2048x2816 .f32 :=
  addf (addf (addf (broadcastInDim S16x2048x2816 ![0, 1, 2] bcast_S1x1x2816_S16x2048x2816_0_1_2 (broadcastInDim S1x1x2816 ![1, 2] bcast_S1x2816_S1x1x2816_1_2 cb)) (mulf (tap (extractStridedSlice S1x2816 ![0, 0] cw slices_S3x2816_S1x2816_0_0)) (extractStridedSlice S16x2048x2816 ![0, 0, 0] e slices_S16x2050x2816_S16x2048x2816_0_0_0))) (mulf (tap (extractStridedSlice S1x2816 ![1, 0] cw slices_S3x2816_S1x2816_1_0)) (extractStridedSlice S16x2048x2816 ![0, 1, 0] e slices_S16x2050x2816_S16x2048x2816_0_1_0))) (mulf (tap (extractStridedSlice S1x2816 ![2, 0] cw slices_S3x2816_S1x2816_2_0)) (extractStridedSlice S16x2048x2816 ![0, 2, 0] e slices_S16x2050x2816_S16x2048x2816_0_2_0))

/-- The GELU of the convolution times the value features. -/
def gated (z v : FVec Ideal S16x2048x2816 .f32) : FVec Ideal S16x2048x2816 .f32 :=
  mulf (mulf (mulf (broadcastInDim S16x2048x2816 ![] bcast_S_S16x2048x2816 (constant S_ .f32 0x3F000000#32)) z) (Host.erfc (mulf (Host.negf z) (broadcastInDim S16x2048x2816 ![] bcast_S_S16x2048x2816 (constant S_ .f32 0x3F3504F3#32))))) v

/-- The rows after the feed-forward. -/
def result (x : FVec Ideal S32768x1024 .f32) (h : FVec Ideal S16x2048x2816 .f32) (wd : FVec Ideal S2816x1024 .bf16) : FVec Ideal S32768x1024 .f32 :=
  addf x (Host.dotGeneral dot_S32768x2816_S2816x1024_S32768x1024_1_0_0_1_n_n none (shapeCast _ h shapeCasts_S16x2048x2816_S32768x2816) (extf .f32 wd bitsLt_bf16_f32))

/-- The carried rows of the next call. -/
def carried (e : FVec Ideal S16x2050x2816 .f32) : FVec Ideal S16x2x2816 .f32 :=
  extractStridedSlice S16x2x2816 ![0, 2048, 0] e slices_S16x2050x2816_S16x2x2816_0_2048_0

/-- The normalised rows at an index. -/
theorem rows_apply (x : FVec Ideal S32768x1024 .f32) (g : FVec Ideal S1x1024 .f32) (n : Fin 32768) (k : Fin 1024) :
    rows x g (ix2 n k) = rmsNorm (fun j => x (ix2 n j)) (fun j => g (ix2 0 j)) k := by
  unfold rows rmsNorm
  pointwise

/-- The features at an index. -/
theorem features_apply (y : FVec Ideal S32768x1024 .f32) (w : FVec Ideal S1024x2816 .bf16) (b : Fin 16) (t : Fin 2048) (j : Fin 2816) :
    features y w (ix3 b t j) = ∑ k : Fin 1024, y (ix2 ⟨b.val * 2048 + t.val, by omega⟩ k) * w (ix2 k j) := by
  unfold features
  pointwise

/-- The history's first two rows. -/
theorem history_carry (p : FVec Ideal S16x2x2816 .f32) (u : FVec Ideal S16x2048x2816 .f32) (b : Fin 16) (i : Fin 2050) (j : Fin 2816) (h : i.val < 2) :
    history p u (ix3 b i j) = p (ix3 b ⟨i.val, h⟩ j) := by
  unfold history
  pointwise
  exact dif_pos h

/-- The history's other rows. -/
theorem history_row (p : FVec Ideal S16x2x2816 .f32) (u : FVec Ideal S16x2048x2816 .f32) (b : Fin 16) (i : Fin 2050) (j : Fin 2816) (h : ¬ i.val < 2) :
    history p u (ix3 b i j) = u (ix3 b ⟨i.val - 2, by omega⟩ j) := by
  unfold history
  pointwise
  exact dif_neg h

/-- A tap's weight at an index. -/
theorem tap_apply (w : FVec Ideal S1x2816 .f32) (b : Fin 16) (t : Fin 2048) (j : Fin 2816) : tap w (ix3 b t j) = w (ix2 0 j) := by
  unfold tap
  pointwise

/-- The convolution at an index. -/
theorem convolved_apply (e : FVec Ideal S16x2050x2816 .f32) (cw : FVec Ideal S3x2816 .f32) (cb : FVec Ideal S1x2816 .f32) (b : Fin 16) (t : Fin 2048) (j : Fin 2816) :
    convolved e cw cb (ix3 b t j) = conv (cb (ix2 0 j)) (cw (ix2 0 j)) (cw (ix2 1 j)) (cw (ix2 2 j))
      (e (ix3 b ⟨t.val, by omega⟩ j)) (e (ix3 b ⟨1 + t.val, by omega⟩ j)) (e (ix3 b ⟨2 + t.val, by omega⟩ j)) := by
  unfold convolved conv tap
  pointwise

/-- The gated features at an index. -/
theorem gated_apply (z v : FVec Ideal S16x2048x2816 .f32) (b : Fin 16) (t : Fin 2048) (j : Fin 2816) :
    gated z v (ix3 b t j) = act (z (ix3 b t j)) (v (ix3 b t j)) := by
  have e : ∀ w : EReal, Ideal.erfc (-w * Ideal.ofBits .f32 0x3F3504F3#32)
      = Ideal.ofBits .f32 0x3F800000#32 + Ideal.erf (w * Ideal.ofBits .f32 0x3F3504F3#32) := fun w => by
    rw [neg_mul, Ideal.erfc_neg, Ideal.ofBits_one_f32]
  unfold act
  rw [← e]
  unfold gated
  pointwise

/-- The result at an index. -/
theorem result_apply (x : FVec Ideal S32768x1024 .f32) (h : FVec Ideal S16x2048x2816 .f32) (wd : FVec Ideal S2816x1024 .bf16) (n : Fin 32768) (d : Fin 1024) :
    result x h wd (ix2 n d) = x (ix2 n d) + ∑ j : Fin 2816, h (ix3 ⟨n.val / 2048, by omega⟩ ⟨n.val % 2048, by omega⟩ j) * wd (ix2 j d) := by
  unfold result
  pointwise

/-- The carried rows at an index. -/
theorem carried_apply (e : FVec Ideal S16x2050x2816 .f32) (b : Fin 16) (a : Fin 2) (j : Fin 2816) :
    carried e (ix3 b a j) = e (ix3 b ⟨2048 + a.val, by omega⟩ j) := by
  unfold carried
  pointwise

end Cert.Reference4Ideal.Ffn
-- ==== Proof.Ffn.Claims.lean ====
/-
  The claims about the feed-forward: the frames, and the kernel's two results against the reference's.
-/
module

public import proofs.«01_k».proof.Defs
public import proofs.«01_k».proof.Proof.Gen.Kernel4.Frame
public import proofs.«01_k».proof.Proof.Ffn.Array
public import proofs.«01_k».proof.Proof.Ffn.Ref

@[expose] public section

set_option maxRecDepth 16384

noncomputable section

open Idealize.ShloMosaic Idealize.ShloMosaic.TcCoe Idealize.SL.Sem

namespace Cert.Proof.Ffn

open Cert.Common Cert.Kernel4Ideal.Ffn Cert.Reference4Ideal.Ffn

/-- The kernel runs, and leaves its arguments. -/
theorem frame_k : Cert.quiescent_Kernel4 := fun m ρ _ => Cert.Kernel4.Gen.frame m ρ
/-- So does its idealization. -/
theorem frame_ki : Cert.quiescent_Kernel4Ideal := fun m ρ _ => Cert.Kernel4Ideal.Gen.frame m ρ
/-- The reference declares no semaphore; its run keeps the arguments. -/
theorem frame_r : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- Nothing is rewritten. -/
theorem preserves : Cert.preserves_Kernel4_Kernel4Ideal := trivial

variable (m : (ℓ : Loc Cert.Kernel4Ideal.nD Cert.Kernel4Ideal.τ Cert.Kernel4Ideal.sig) → Buf (Elt Ideal) ℓ) (c : Dev Cert.Kernel4Ideal.nD)
  (x : FVec Ideal Cert.Kernel4Ideal.S32768x1024 .f32) (g : FVec Ideal Cert.Kernel4Ideal.S1x1024 .f32)
  (wu wv : FVec Ideal Cert.Kernel4Ideal.S1024x2816 .bf16) (cw : FVec Ideal Cert.Kernel4Ideal.S3x2816 .f32)
  (cb : FVec Ideal Cert.Kernel4Ideal.S1x2816 .f32) (wd : FVec Ideal Cert.Kernel4Ideal.S2816x1024 .bf16) (p : FVec Ideal Cert.Kernel4Ideal.S16x2x2816 .f32)
  (hx : m ((c.tc : Thread Cert.Kernel4Ideal.nD Cert.Kernel4Ideal.τ).loc Cert.Kernel4Ideal.main_arg0) = x)
  (hg : m ((c.tc : Thread Cert.Kernel4Ideal.nD Cert.Kernel4Ideal.τ).loc Cert.Kernel4Ideal.main_arg1) = g)
  (hu : m ((c.tc : Thread Cert.Kernel4Ideal.nD Cert.Kernel4Ideal.τ).loc Cert.Kernel4Ideal.main_arg2) = wu)
  (hv : m ((c.tc : Thread Cert.Kernel4Ideal.nD Cert.Kernel4Ideal.τ).loc Cert.Kernel4Ideal.main_arg3) = wv)
  (hw : m ((c.tc : Thread Cert.Kernel4Ideal.nD Cert.Kernel4Ideal.τ).loc Cert.Kernel4Ideal.main_arg4) = cw)
  (hb : m ((c.tc : Thread Cert.Kernel4Ideal.nD Cert.Kernel4Ideal.τ).loc Cert.Kernel4Ideal.main_arg5) = cb)
  (hd : m ((c.tc : Thread Cert.Kernel4Ideal.nD Cert.Kernel4Ideal.τ).loc Cert.Kernel4Ideal.main_arg6) = wd)
  (hp : m ((c.tc : Thread Cert.Kernel4Ideal.nD Cert.Kernel4Ideal.τ).loc Cert.Kernel4Ideal.main_arg8) = p)

include hx hg hu hp in
/-- The reference's history is the sequences' features, the carried rows first. -/
theorem history_eq (b : Fin 16) (i : Fin 2050) (j : Fin 2816) :
    history p (features (rows x g) wu) (ix3 b i j) = H m c b i.val j := by
  subst hx hg hu hp
  by_cases h : i.val < 2
  · exact (history_carry _ _ b i j h).trans (hist_carry (W m c) (P m c b) _ ⟨i.val, h⟩ j).symm
  · refine (history_row _ _ b i j h).trans ((features_apply _ _ b _ j).trans (Eq.trans ?_ (hist_row _ _ _ ⟨i.val - 2, by omega⟩ j i.val
      (show i.val = i.val - 2 + 2 by omega)).symm))
    exact Finset.sum_congr rfl fun k _ => congrArg (· * _) (rows_apply _ _ _ k)

include hx hg hv in
/-- The reference's value features. -/
theorem values_eq (b : Fin 16) (t : Fin 2048) (j : Fin 2816) :
    features (rows x g) wv (ix3 b t j) = lin (X m c ⟨b.val * 2048 + t.val, by omega⟩) (W m c).g (W m c).val j := by
  subst hx hg hv
  exact (features_apply _ _ b t j).trans (Finset.sum_congr rfl fun k _ => congrArg (· * _) (rows_apply _ _ _ k))

include hx hg hu hv hw hb hd hp in
/-- The rows are the reference's. -/
theorem result_eq :
    (result x (gated (convolved (history p (features (rows x g) wu)) cw cb) (features (rows x g) wv)) wd : Cert.Kernel4Ideal.S32768x1024.Idx → EReal)
      = (Cert.Kernel4Ideal.Gen.dats m 0 c).arrAt 9 Cert.Kernel4Ideal.cfg0.N := by
  refine Eq.trans (funext fun i => ?_) (rows_array m c).symm
  have hi : i = ix2 (i 0) (i 1) := by funext a; fin_cases a <;> rfl
  rw [hi]
  have hh := history_eq m c x g wu p hx hg hu hp
  have hvv := values_eq m c x g wv hx hg hv
  generalize features (rows x g) wv = v at hvv ⊢
  generalize history p (features (rows x g) wu) = e at hh ⊢
  subst hw hb hd
  refine (result_apply _ _ _ (i 0) (i 1)).trans ?_
  refine congr (congrArg (fun a b : EReal => a + b) (congrFun hx.symm _)) (Finset.sum_congr rfl fun j _ => congrArg (· * _) ?_)
  refine (gated_apply _ _ _ _ j).trans ?_
  refine congr (congrArg act ((convolved_apply _ _ _ _ _ j).trans ?_)) ((hvv _ _ j).trans ?_)
  · rw [hh, hh, hh]
    refine congr (congrArg (conv _ _ _ _ _) ?_) ?_
    · exact congrArg (fun q => H m c _ q j) (Nat.add_comm _ _)
    · exact congrArg (fun q => H m c _ q j) (Nat.add_comm _ _)
  · refine congrArg (fun n => lin (X m c n) _ _ j) (Fin.ext ?_)
    exact Nat.div_add_mod' _ _

include hx hg hu hp in
/-- The rows handed on are the reference's. -/
theorem carried_eq :
    (carried (history p (features (rows x g) wu)) : Cert.Kernel4Ideal.S16x2x2816.Idx → EReal)
      = (Cert.Kernel4Ideal.Gen.dats m 0 c).arrAt 10 Cert.Kernel4Ideal.cfg0.N := by
  refine Eq.trans (funext fun i => ?_) (carry_array m c).symm
  have hi : i = ix3 (i 0) (i 1) (i 2) := by funext a; fin_cases a <;> rfl
  rw [hi]
  exact (carried_apply _ (i 0) (i 1) (i 2)).trans (history_eq m c x g wu p hx hg hu hp _ _ _)

/-- THE VALUE: the kernel's two results are the reference's. -/
theorem algebraic : Cert.algebraic_Kernel4Ideal_Reference4Ideal := by
  intro m ρ m' ρ' _ hagree
  refine ⟨fun c => (Cert.Kernel4Ideal.Gen.dats m 0 c).arrAt 9 Cert.Kernel4Ideal.cfg0.N,
    fun c => (Cert.Kernel4Ideal.Gen.dats m 0 c).arrAt 10 Cert.Kernel4Ideal.cfg0.N,
    Cert.Kernel4Ideal.Value.run_blocks (F := Ideal) m ρ, ?_⟩
  refine (θ_run Cert.Reference4Ideal.defs _ _).mono (fun _ h c => ?_) (Cert.Reference4Ideal.Value.run (F := Ideal) m' ρ')
  obtain ⟨h0, h1, h2⟩ := h c
  obtain ⟨a0, a1, a2, a3, a4, a5, a6, a7, a8⟩ := hagree c
  exact ⟨h0.trans (result_eq m c _ _ _ _ _ _ _ _ a0.symm a1.symm a2.symm a3.symm a4.symm a5.symm a6.symm a8.symm),
    h1.trans (carried_eq m c _ _ _ _ a0.symm a1.symm a2.symm a8.symm), h2⟩

end Cert.Proof.Ffn
-- ==== Proof.FfnLast.Point.lean ====
/-
  The feed-forward of the last layer, at a grid point: it leaves what the feed-forward of the other layers leaves, its rows
  normalised. The two calls are the same up to that norm, arrays and buffers included.
-/
module

public import proofs.«01_k».proof.Proof.Gen.Kernel7Ideal.Value
public import proofs.«01_k».proof.Proof.Ffn.Array

@[expose] public section

set_option maxRecDepth 16384

noncomputable section

open Idealize.ShloMosaic Idealize.ShloMosaic.TcCoe Idealize.SL.Sem

namespace Cert.Kernel7Ideal.Ffn

open Cert.Kernel7Ideal Cert.Kernel7Ideal.Gen Cert.Kernel4Ideal.Ffn Cert.Common

/-- A block's rows normalised. -/
def normed (z : FVec Ideal S512x1024 .f32) (g : Vec Ideal S1x1024 .f32) : FVec Ideal S512x1024 .f32 :=
  mulf (mulf z (broadcastTo S512x1024 (rsqrt (addf (divf (shapeCast S512x1 (multiReduction .add [1] S512 (mulf z z) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024)) (broadcastTo S512x1024 g broadcasts_S1x1024_S512x1024)

/-- The values that the two calls compute on the way are the same. -/
theorem values :
    k0_pay1 (F := Ideal) = Cert.Kernel4Ideal.Gen.k0_pay3 (F := Ideal) ∧ k0_pay2 (F := Ideal) = Cert.Kernel4Ideal.Gen.k0_pay4 (F := Ideal)
      ∧ k0_pay3 (F := Ideal) = Cert.Kernel4Ideal.Gen.k0_pay5 (F := Ideal) ∧ k0_pay4 (F := Ideal) = Cert.Kernel4Ideal.Gen.k0_pay6 (F := Ideal)
      ∧ k0_pay5 (F := Ideal) = Cert.Kernel4Ideal.Gen.k0_pay7 (F := Ideal) ∧ k0_pay6 (F := Ideal) = Cert.Kernel4Ideal.Gen.k0_pay8 (F := Ideal)
      ∧ k0_pay7 (F := Ideal) = Cert.Kernel4Ideal.Gen.k0_pay9 (F := Ideal) ∧ k0_pay8 (F := Ideal) = Cert.Kernel4Ideal.Gen.k0_pay10 (F := Ideal)
      ∧ k0_pay9 (F := Ideal) = Cert.Kernel4Ideal.Gen.k0_pay11 (F := Ideal) ∧ k0_pay10 (F := Ideal) = Cert.Kernel4Ideal.Gen.k0_pay12 (F := Ideal)
      ∧ k0_pay11 (F := Ideal) = Cert.Kernel4Ideal.Gen.k0_pay13 (F := Ideal) ∧ k0_pay12 (F := Ideal) = Cert.Kernel4Ideal.Gen.k0_pay14 (F := Ideal)
      ∧ k0_pay13 (F := Ideal) = Cert.Kernel4Ideal.Gen.k0_pay15 (F := Ideal) ∧ k0_pay14 (F := Ideal) = Cert.Kernel4Ideal.Gen.k0_pay16 (F := Ideal)
      ∧ k0_pay15 (F := Ideal) = Cert.Kernel4Ideal.Gen.k0_pay17 (F := Ideal) ∧ k0_pay16 (F := Ideal) = Cert.Kernel4Ideal.Gen.k0_pay18 (F := Ideal)
      ∧ k0_pay17 (F := Ideal) = Cert.Kernel4Ideal.Gen.k0_pay19 (F := Ideal) ∧ k0_pay18 (F := Ideal) = Cert.Kernel4Ideal.Gen.k0_pay20 (F := Ideal)
      ∧ k0_pay19 (F := Ideal) = Cert.Kernel4Ideal.Gen.k0_pay21 (F := Ideal) ∧ k0_pay20 (F := Ideal) = Cert.Kernel4Ideal.Gen.k0_pay22 (F := Ideal)
      ∧ k0_pay21 (F := Ideal) = Cert.Kernel4Ideal.Gen.k0_pay23 (F := Ideal) ∧ k0_pay22 (F := Ideal) = Cert.Kernel4Ideal.Gen.k0_pay24 (F := Ideal)
      ∧ k0_pay23 (F := Ideal) = Cert.Kernel4Ideal.Gen.k0_pay25 (F := Ideal) ∧ k0_pay24 (F := Ideal) = Cert.Kernel4Ideal.Gen.k0_pay26 (F := Ideal)
      ∧ k0_pay25 (F := Ideal) = Cert.Kernel4Ideal.Gen.k0_pay27 (F := Ideal) ∧ k0_pay26 (F := Ideal) = Cert.Kernel4Ideal.Gen.k0_pay28 (F := Ideal)
      ∧ k0_pay27 (F := Ideal) = Cert.Kernel4Ideal.Gen.k0_pay29 (F := Ideal) ∧ k0_pay28 (F := Ideal) = Cert.Kernel4Ideal.Gen.k0_pay30 (F := Ideal)
      ∧ k0_pay29 (F := Ideal) = Cert.Kernel4Ideal.Gen.k0_pay31 (F := Ideal) ∧ k0_pay30 (F := Ideal) = Cert.Kernel4Ideal.Gen.k0_pay32 (F := Ideal)
      ∧ k0_pay31 (F := Ideal) = Cert.Kernel4Ideal.Gen.k0_pay33 (F := Ideal) ∧ k0_pay32 (F := Ideal) = Cert.Kernel4Ideal.Gen.k0_pay34 (F := Ideal)
      ∧ k0_pay33 (F := Ideal) = Cert.Kernel4Ideal.Gen.k0_pay35 (F := Ideal) ∧ k0_pay34 (F := Ideal) = Cert.Kernel4Ideal.Gen.k0_pay36 (F := Ideal)
      ∧ k0_pay35 (F := Ideal) = Cert.Kernel4Ideal.Gen.k0_pay37 (F := Ideal) ∧ k0_pay36 (F := Ideal) = Cert.Kernel4Ideal.Gen.k0_pay38 (F := Ideal)
      ∧ k0_pay37 (F := Ideal) = Cert.Kernel4Ideal.Gen.k0_pay39 (F := Ideal) ∧ k0_pay38 (F := Ideal) = Cert.Kernel4Ideal.Gen.k0_pay40 (F := Ideal)
      ∧ k0_pay39 (F := Ideal) = Cert.Kernel4Ideal.Gen.k0_pay41 (F := Ideal) ∧ k0_pay40 (F := Ideal) = Cert.Kernel4Ideal.Gen.k0_pay42 (F := Ideal)
      ∧ k0_pay41 (F := Ideal) = Cert.Kernel4Ideal.Gen.k0_pay43 (F := Ideal) ∧ k0_pay42 (F := Ideal) = Cert.Kernel4Ideal.Gen.k0_pay44 (F := Ideal)
      ∧ k0_pay43 (F := Ideal) = Cert.Kernel4Ideal.Gen.k0_pay45 (F := Ideal) ∧ k0_pay44 (F := Ideal) = Cert.Kernel4Ideal.Gen.k0_pay46 (F := Ideal)
      ∧ k0_pay45 (F := Ideal) = Cert.Kernel4Ideal.Gen.k0_pay47 (F := Ideal) ∧ k0_pay46 (F := Ideal) = Cert.Kernel4Ideal.Gen.k0_pay48 (F := Ideal)
      ∧ k0_pay47 (F := Ideal) = Cert.Kernel4Ideal.Gen.k0_pay49 (F := Ideal) ∧ k0_pay48 (F := Ideal) = Cert.Kernel4Ideal.Gen.k0_pay50 (F := Ideal)
      ∧ k0_pay49 (F := Ideal) = Cert.Kernel4Ideal.Gen.k0_pay51 (F := Ideal) ∧ k0_pay50 (F := Ideal) = Cert.Kernel4Ideal.Gen.k0_pay52 (F := Ideal)
      ∧ k0_pay51 (F := Ideal) = Cert.Kernel4Ideal.Gen.k0_pay53 (F := Ideal) ∧ k0_pay52 (F := Ideal) = Cert.Kernel4Ideal.Gen.k0_pay54 (F := Ideal)
      ∧ k0_pay53 (F := Ideal) = Cert.Kernel4Ideal.Gen.k0_pay55 (F := Ideal) ∧ k0_pay54 (F := Ideal) = Cert.Kernel4Ideal.Gen.k0_pay56 (F := Ideal)
      ∧ k0_pay55 (F := Ideal) = Cert.Kernel4Ideal.Gen.k0_pay57 (F := Ideal) ∧ k0_pay56 (F := Ideal) = Cert.Kernel4Ideal.Gen.k0_pay58 (F := Ideal)
      ∧ k0_pay57 (F := Ideal) = Cert.Kernel4Ideal.Gen.k0_pay59 (F := Ideal) ∧ k0_pay58 (F := Ideal) = Cert.Kernel4Ideal.Gen.k0_pay60 (F := Ideal)
      ∧ k0_pay59 (F := Ideal) = Cert.Kernel4Ideal.Gen.k0_pay61 (F := Ideal) ∧ k0_pay60 (F := Ideal) = Cert.Kernel4Ideal.Gen.k0_pay62 (F := Ideal)
      ∧ k0_pay61 (F := Ideal) = Cert.Kernel4Ideal.Gen.k0_pay63 (F := Ideal) ∧ k0_pay62 (F := Ideal) = Cert.Kernel4Ideal.Gen.k0_pay64 (F := Ideal)
      ∧ k0_pay63 (F := Ideal) = Cert.Kernel4Ideal.Gen.k0_pay65 (F := Ideal) ∧ k0_pay64 (F := Ideal) = Cert.Kernel4Ideal.Gen.k0_pay66 (F := Ideal)
      ∧ k0_pay65 (F := Ideal) = Cert.Kernel4Ideal.Gen.k0_pay67 (F := Ideal) ∧ k0_pay66 (F := Ideal) = Cert.Kernel4Ideal.Gen.k0_pay68 (F := Ideal)
      ∧ k0_pay67 (F := Ideal) = Cert.Kernel4Ideal.Gen.k0_pay69 (F := Ideal) ∧ k0_pay68 (F := Ideal) = Cert.Kernel4Ideal.Gen.k0_pay70 (F := Ideal)
      ∧ k0_pay69 (F := Ideal) = Cert.Kernel4Ideal.Gen.k0_pay71 (F := Ideal) ∧ k0_pay70 (F := Ideal) = Cert.Kernel4Ideal.Gen.k0_pay72 (F := Ideal)
      ∧ k0_pay71 (F := Ideal) = Cert.Kernel4Ideal.Gen.k0_pay73 (F := Ideal) ∧ k0_pay72 (F := Ideal) = Cert.Kernel4Ideal.Gen.k0_pay74 (F := Ideal)
      ∧ k0_pay73 (F := Ideal) = Cert.Kernel4Ideal.Gen.k0_pay75 (F := Ideal) ∧ k0_pay74 (F := Ideal) = Cert.Kernel4Ideal.Gen.k0_pay76 (F := Ideal)
      ∧ k0_pay75 (F := Ideal) = Cert.Kernel4Ideal.Gen.k0_pay77 (F := Ideal) ∧ k0_pay76 (F := Ideal) = Cert.Kernel4Ideal.Gen.k0_pay78 (F := Ideal)
      ∧ k0_pay77 (F := Ideal) = Cert.Kernel4Ideal.Gen.k0_pay1 (F := Ideal) :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The last of them is the other call's, normalised. -/
theorem values_last (x acc : FVec Ideal S512x1024 .f32) (v a b : FVec Ideal S512x256 .f32) (wd : Vec Ideal S256x1024 .bf16) (g : Vec Ideal S1x1024 .f32) :
    k0_pay78 x acc v a b wd g = normed (Cert.Kernel4Ideal.Gen.k0_pay2 x acc v a b wd) g := rfl

section

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x2x2816 .f32) (harg9 : arg9.IsWhole) (arg10 : Memref sig .tc .vmem S512x1024 .f32) (harg10 : arg10.IsWhole) (arg11 : Memref sig .tc .vmem S1x2x2816 .f32) (harg11 : arg11.IsWhole) (arg12 : Memref sig .tc .vmem S520x256 .f32) (harg12 : arg12.IsWhole) (arg13 : Memref sig .tc .vmem S2x2816 .f32) (harg13 : arg13.IsWhole)
  (x0 : Vec Ideal S512x1024 .f32) (x1 : Vec Ideal S1x1024 .f32) (x2 : Vec Ideal S1024x2816 .bf16) (x3 : Vec Ideal S1024x2816 .bf16) (x4 : Vec Ideal S3x2816 .f32) (x5 : Vec Ideal S1x2816 .f32) (x6 : Vec Ideal S2816x1024 .bf16) (x7 : Vec Ideal S1x1024 .f32) (x8 : Vec Ideal S1x2x2816 .f32) (xs1 : Vec Ideal S2x2816 .f32)

/-- The rows carried from a later block. -/
theorem carry_B (hc0 : ¬cond0_0 i) :
    sout0_B_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs1
      = lastRows x0 x1 x2 := by
  frame_open
  simp (disch := decide) only [↓ View.readCov_skip, ↓ View.readCov_cons_toLoadRect, ↓ View.readCov_fill]
  frame_out
  simp only [values, up0, up2, up3, up4, up5, up6, up7, up8, up9, up10, tail0, tail1, tail2, tail3, tail4, tail5, tail6, tail7, tail8, tail9, tail10]
  exact canon_stores x0 x1 x2 []

/-- The rows carried from the first block of a group. -/
theorem carry_A (hc0 : cond0_0 i) :
    sout0_A_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8
      = lastRows x0 x1 x2 := by
  frame_open
  simp (disch := decide) only [↓ View.readCov_skip, ↓ View.readCov_cons_toLoadRect, ↓ View.readCov_fill]
  frame_out
  simp only [values, up0, up2, up3, up4, up5, up6, up7, up8, up9, up10, tail0, tail1, tail2, tail3, tail4, tail5, tail6, tail7, tail8, tail9, tail10]
  exact canon_stores x0 x1 x2 [⟨Rect.unit (s := S2x2816) ![0, 0] S2x2816.size inb_S2x2816_S2x2816_0_0, Cert.Kernel4Ideal.Gen.k0_pay4 x8⟩]

/-- The rows handed on by a later block. -/
theorem out10_B (hc0 : ¬cond0_0 i) :
    out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs1
      = Cert.Kernel4Ideal.Gen.k0_pay1 (lastRows x0 x1 x2) := by
  frame_open
  simp (disch := decide) only [↓ View.readCov_skip, ↓ View.readCov_cons_toLoadRect, ↓ View.readCov_fill]
  frame_out
  simp only [values, up0, up2, up3, up4, up5, up6, up7, up8, up9, up10, tail0, tail1, tail2, tail3, tail4, tail5, tail6, tail7, tail8, tail9, tail10]
  exact congrArg Cert.Kernel4Ideal.Gen.k0_pay1 (load_stores arg13.view x0 x1 x2 [] inb_S2x2816_S2x2816_0_0)

/-- The rows handed on by the first block of a group. -/
theorem out10_A (hc0 : cond0_0 i) :
    out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8
      = Cert.Kernel4Ideal.Gen.k0_pay1 (lastRows x0 x1 x2) := by
  frame_open
  simp (disch := decide) only [↓ View.readCov_skip, ↓ View.readCov_cons_toLoadRect, ↓ View.readCov_fill]
  frame_out
  simp only [values, up0, up2, up3, up4, up5, up6, up7, up8, up9, up10, tail0, tail1, tail2, tail3, tail4, tail5, tail6, tail7, tail8, tail9, tail10]
  exact congrArg Cert.Kernel4Ideal.Gen.k0_pay1 (load_stores arg13.view x0 x1 x2 [⟨Rect.unit (s := S2x2816) ![0, 0] S2x2816.size inb_S2x2816_S2x2816_0_0, Cert.Kernel4Ideal.Gen.k0_pay4 x8⟩] inb_S2x2816_S2x2816_0_0)

/-- The rows of a later block. -/
theorem out9_B (hc0 : ¬cond0_0 i) :
    out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs1
      = normed (rowsOut x0 x1 x2 x3 x4 x5 x6 xs1) x7 := by
  frame_open
  simp (disch := decide) only [↓ View.readCov_skip, ↓ View.readCov_cons_toLoadRect, ↓ View.readCov_fill]
  frame_out
  simp only [values, values_last, ↓ readCov_two, ↓ readCov_one, up0, up2, up3, up4, up5, up6, up7, up8, up9, up10, val0, val1, val2, val3, val4, val5, val6, val7, val8, val9, val10, carry0, carry1, carry2, carry3, carry4, carry5, carry6, carry7, carry8, carry9, carry10, rows0, rows1, rows2, rows3, rows4, rows5, rows6, rows7, rows8, rows9, rows10, sum0, sum1, sum3, sum4, sum5, sum6, sum7, sum8, sum9, sum10]
  rfl

/-- The rows of a group's first block. -/
theorem out9_A (hc0 : cond0_0 i) :
    out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8
      = normed (rowsOut x0 x1 x2 x3 x4 x5 x6 (Cert.Kernel4Ideal.Gen.k0_pay4 x8)) x7 := by
  frame_open
  simp (disch := decide) only [↓ View.readCov_skip, ↓ View.readCov_cons_toLoadRect, ↓ View.readCov_fill]
  frame_out
  simp only [values, values_last, ↓ readCov_two, ↓ readCov_one, up0, up2, up3, up4, up5, up6, up7, up8, up9, up10, val0, val1, val2, val3, val4, val5, val6, val7, val8, val9, val10, carry0, carry1, carry2, carry3, carry4, carry5, carry6, carry7, carry8, carry9, carry10, rows0, rows1, rows2, rows3, rows4, rows5, rows6, rows7, rows8, rows9, rows10, sum0, sum1, sum3, sum4, sum5, sum6, sum7, sum8, sum9, sum10]
  rfl

end

end Cert.Kernel7Ideal.Ffn
-- ==== Proof.FfnLast.Array.lean ====
/-
  The last layer's feed-forward: its two result arrays, from those of the other layers' call on the same arguments.
-/
module

public import proofs.«01_k».proof.Proof.FfnLast.Point

@[expose] public section

set_option maxRecDepth 16384

noncomputable section

open Idealize.ShloMosaic Idealize.ShloMosaic.TcCoe Idealize.SL.Sem

namespace Cert.Kernel7Ideal.Ffn

open Cert.Kernel7Ideal Cert.Kernel7Ideal.Gen Cert.Kernel4Ideal.Ffn Cert.Common

variable (m : (ℓ : Loc nD τ sig) → Buf (Elt Ideal) ℓ) (c : Dev nD)

/-- The same memory for the other layers' call, which has the same arrays and buffers. -/
def other : (ℓ : Loc Cert.Kernel4Ideal.nD Cert.Kernel4Ideal.τ Cert.Kernel4Ideal.sig) → Buf (Elt Ideal) ℓ := m

/-- The gains of the final norm. -/
def G (d : Fin 1024) : EReal := (m ((c.tc : Thread nD τ).loc main_arg7) : S1x1024.Idx → EReal) (ix2 0 d)

/-- The normalised block at an index. -/
theorem normed_apply (z : FVec Ideal S512x1024 .f32) (g : Vec Ideal S1x1024 .f32) (r : Fin 512) (d : Fin 1024) :
    (normed z g : S512x1024.Idx → EReal) (ix2 r d) = rmsNorm (fun j => z (ix2 r j)) (fun j => g (ix2 0 j)) d := by
  unfold normed rmsNorm
  pointwise

/-- Where the windows that are read here stand. -/
theorem places : ∀ t : Fin cfg0.N, win0_7.index t = ![0, 0] ∧ win0_9.index t = ![t.val, 0] ∧ win0_10.index t = ![t.val / 4, 0, 0] :=
  (by decide +kernel : ∀ t : Fin grid0.N, _)

/-- A point's buffer holds the final gains. -/
theorem gains_block (t : Fin cfg0.N) (d : Fin 1024) : (iblk m c 7 t : S1x1024.Idx → EReal) (ix2 0 d) = G m c d := by
  obtain ⟨e, -⟩ := places t
  unfold G
  blk_ext [iblk, V, e]

/-- A point carries on what the other call's point carries on. -/
theorem carried_point (t : Fin cfg0.N) :
    (outsAt0 m c t.val t.isLt).2.2 = (Cert.Kernel4Ideal.Gen.outsAt0 (F := Ideal) (other m) c t.val t.isLt).2.2 := by
  rw [Cert.Kernel4Ideal.Ffn.point_eq (other m) c t]
  by_cases h : t.val % 4 = 0
  · rw [outsAt0_A m c t h, carry_A]
    rfl
  · rw [outsAt0_B m c t h, carry_B]
    rfl

/-- What a point leaves. -/
theorem point_eq (t : Fin cfg0.N) :
    outsAt0 m c t.val t.isLt = (normed (Cert.Kernel4Ideal.Gen.outsAt0 (F := Ideal) (other m) c t.val t.isLt).1 (iblk m c 7 t),
      (Cert.Kernel4Ideal.Gen.outsAt0 (F := Ideal) (other m) c t.val t.isLt).2.1, (Cert.Kernel4Ideal.Gen.outsAt0 (F := Ideal) (other m) c t.val t.isLt).2.2) := by
  rw [Cert.Kernel4Ideal.Ffn.point_eq (other m) c t]
  unfold carryIn
  by_cases h : t.val % 4 = 0
  · rw [outsAt0_A m c t h, out9_A, out10_A, carry_A, if_pos h]
    rfl
  · rw [outsAt0_B m c t h, out9_B, out10_B, carry_B, if_neg h, carried_point m c ⟨t.val - 1, Nat.lt_of_le_of_lt (Nat.sub_le _ _) t.isLt⟩]
    rfl

/-- A point's output rows. -/
theorem rows_point (t : Fin cfg0.N) (ht : t.val < 64) (r : Fin 512) (d : Fin 1024) :
    (outsAt0 m c t.val t.isLt).1 (ix2 r d) = rmsNorm (Y (other m) c ⟨512 * t.val + r.val, by omega⟩) (G m c) d := by
  rw [point_eq]
  refine (normed_apply _ _ r d).trans ?_
  exact congrArg₂ (fun x g => rmsNorm x g d) (funext fun j => Cert.Kernel4Ideal.Ffn.rows_point (other m) c t ht r j) (funext fun j => gains_block m c t j)

/-- The rows after the run. -/
theorem rows_array : ((dats m 0 c).arrAt 9 cfg0.N : S32768x1024.Idx → EReal) = fun i => rmsNorm (Y (other m) c (i 0)) (G m c) (i 1) := by
  refine (dats m 0 c).arrAt_eq_of_covers 9 _ (by decide +kernel) fun t hf y => ?_
  obtain ⟨-, e, -⟩ := places t
  have ht : t.val < 64 := N_0 ▸ t.isLt
  have key := rows_point m c t ht (y 0) (y 1)
  refine (congrFun (after0_9 m c t) _).trans (Eq.trans ?_ (key.trans ?_))
  · refine congrArg (outsAt0 m c t.val t.isLt).1 ?_
    funext a; fin_cases a <;> rfl
  · refine congrArg₂ (fun n d => rmsNorm (Y (other m) c n) (G m c) d) ?_ ?_
    all_goals
      apply Fin.ext
      blk_simp [e]
      try (dsimp only; omega)

/-- The rows handed on after the run. -/
theorem carry_array : ((dats m 0 c).arrAt 10 cfg0.N : S16x2x2816.Idx → EReal) = fun i => H (other m) c (i 0) (2048 + (i 1).val) (i 2) := by
  refine (dats m 0 c).arrAt_eq_of_covers 10 _ (by decide +kernel) fun t hf y => ?_
  obtain ⟨-, -, e⟩ := places t
  have ht : t.val < 64 := N_0 ▸ t.isLt
  have key := carry_point (other m) c t ht ((flush0_10 t).mp hf) (y 0) (y 1) (y 2)
  refine (congrFun (after0_10 m c t) _).trans (Eq.trans ?_ (key.trans ?_))
  · rw [point_eq]
    refine congrArg (Cert.Kernel4Ideal.Gen.outsAt0 (F := Ideal) (other m) c t.val t.isLt).2.1 ?_
    funext a; fin_cases a <;> rfl
  · refine congr (congr (congrArg (H (other m) c) ?_) ?_) ?_
    · apply Fin.ext
      blk_simp [e]
      try (dsimp only; omega)
    · refine congrArg (2048 + ·) ?_
      blk_simp [e]
      try (dsimp only; omega)
    · apply Fin.ext
      blk_simp [e]
      try (dsimp only; omega)

end Cert.Kernel7Ideal.Ffn
-- ==== Proof.FfnLast.Claims.lean ====
/-
  The claims about the last layer's feed-forward: the frames, and the kernel's two results against the reference's.
-/
module

public import proofs.«01_k».proof.Defs
public import proofs.«01_k».proof.Proof.Gen.Kernel7.Frame
public import proofs.«01_k».proof.Proof.Gen.Reference7Ideal.Run
public import proofs.«01_k».proof.Proof.FfnLast.Array
public import proofs.«01_k».proof.Proof.Ffn.Claims

@[expose] public section

set_option maxRecDepth 16384

noncomputable section

open Idealize.ShloMosaic Idealize.ShloMosaic.TcCoe Idealize.SL.Sem

namespace Cert.Proof.FfnLast

open Cert.Common Cert.Kernel7Ideal.Ffn Cert.Reference4Ideal.Ffn

/-- The kernel runs, and leaves its arguments. -/
theorem frame_k : Cert.quiescent_Kernel7 := fun m ρ _ => Cert.Kernel7.Gen.frame m ρ
/-- So does its idealization. -/
theorem frame_ki : Cert.quiescent_Kernel7Ideal := fun m ρ _ => Cert.Kernel7Ideal.Gen.frame m ρ
/-- The reference declares no semaphore; its run keeps the arguments. -/
theorem frame_r : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- Nothing is rewritten. -/
theorem preserves : Cert.preserves_Kernel7_Kernel7Ideal := trivial

variable (m : (ℓ : Loc Cert.Kernel7Ideal.nD Cert.Kernel7Ideal.τ Cert.Kernel7Ideal.sig) → Buf (Elt Ideal) ℓ) (c : Dev Cert.Kernel7Ideal.nD)
  (z : FVec Ideal Cert.Kernel7Ideal.S32768x1024 .f32) (g : FVec Ideal Cert.Kernel7Ideal.S1x1024 .f32) (p : Cert.Kernel7Ideal.S16x2x2816.Idx → EReal)

/-- Rows that are the other call's, normalised, are this call's. -/
theorem result_eq (hz : (z : Cert.Kernel7Ideal.S32768x1024.Idx → EReal) = (Cert.Kernel4Ideal.Gen.dats (F := Ideal) (other m) 0 c).arrAt 9 Cert.Kernel4Ideal.cfg0.N)
    (hg : m ((c.tc : Thread Cert.Kernel7Ideal.nD Cert.Kernel7Ideal.τ).loc Cert.Kernel7Ideal.main_arg7) = g) :
    (rows z g : Cert.Kernel7Ideal.S32768x1024.Idx → EReal) = (Cert.Kernel7Ideal.Gen.dats m 0 c).arrAt 9 Cert.Kernel7Ideal.cfg0.N := by
  subst hg
  refine Eq.trans (funext fun i => ?_) (rows_array m c).symm
  have hi : i = ix2 (i 0) (i 1) := by funext a; fin_cases a <;> rfl
  rw [hi]
  refine (rows_apply _ _ _ _).trans (congrArg (fun x => rmsNorm x _ (i 1)) (funext fun j => ?_))
  exact congrFun (hz.trans (Cert.Kernel4Ideal.Ffn.rows_array (other m) c)) (ix2 (i 0) j)

/-- The rows handed on by the other call are this call's. -/
theorem carried_eq (hp : p = (Cert.Kernel4Ideal.Gen.dats (F := Ideal) (other m) 0 c).arrAt 10 Cert.Kernel4Ideal.cfg0.N) :
    p = (Cert.Kernel7Ideal.Gen.dats m 0 c).arrAt 10 Cert.Kernel7Ideal.cfg0.N :=
  (hp.trans (Cert.Kernel4Ideal.Ffn.carry_array (other m) c)).trans (carry_array m c).symm

/-- THE VALUE: the kernel's two results are the reference's. -/
theorem algebraic : Cert.algebraic_Kernel7Ideal_Reference7Ideal := by
  intro m ρ m' ρ' _ hagree
  refine ⟨fun c => (Cert.Kernel7Ideal.Gen.dats m 0 c).arrAt 9 Cert.Kernel7Ideal.cfg0.N,
    fun c => (Cert.Kernel7Ideal.Gen.dats m 0 c).arrAt 10 Cert.Kernel7Ideal.cfg0.N,
    Cert.Kernel7Ideal.Value.run_blocks (F := Ideal) m ρ, ?_⟩
  refine (θ_run Cert.Reference7Ideal.defs _ _).mono (fun _ h c => ?_) (Cert.Reference7Ideal.Value.run (F := Ideal) m' ρ')
  obtain ⟨h0, h1, h2⟩ := h c
  obtain ⟨a0, a1, a2, a3, a4, a5, a6, a7, a8⟩ := hagree c
  exact ⟨h0.trans (result_eq m c _ _ (Ffn.result_eq (other m) c _ _ _ _ _ _ _ _ a0.symm a1.symm a2.symm a3.symm a4.symm a5.symm a6.symm a8.symm) a7.symm),
    h1.trans (carried_eq m c _ (Ffn.carried_eq (other m) c _ _ _ _ a0.symm a1.symm a2.symm a8.symm)), h2⟩

end Cert.Proof.FfnLast
-- ==== Proof.Sb.Stick.lean ====
/-
  Stick-breaking attention of one query over the reals, summed from the query's own position downwards: what is carried from
  one block of keys to the block before it.
-/
module

public import proofs.«01_k».proof.Proof.Mla.Online
public import Idealize.ShloMosaic.Lib.IdealHost

@[expose] public section

noncomputable section

open Idealize.ShloMosaic

namespace Cert.Sb

/-- The logarithm of the logistic function. -/
def take (r : ℝ) : ℝ := min r 0 - Real.log (1 + Real.exp (-|r|))

/-- The logarithm of one minus the logistic function. -/
def stay (r : ℝ) : ℝ := take r - r

/-- The kernel's formula for the logarithm of the logistic function, at a real. -/
theorem take_ereal (r : ℝ) :
    min (r : EReal) 0 - Ideal.log (1 + Ideal.exp (0 - max (r : EReal) (-(r : EReal)))) = (take r : EReal) := by
  have hm : max (r : EReal) (-(r : EReal)) = ((|r| : ℝ) : EReal) := by
    rw [← EReal.coe_neg, ← EReal.coe_strictMono.monotone.map_max]; rfl
  have hn : min (r : EReal) 0 = ((min r 0 : ℝ) : EReal) := by
    rw [← EReal.coe_zero, ← EReal.coe_strictMono.monotone.map_min]
  have hp : ¬ (1 + Real.exp (-|r|) ≤ 0) := not_le.2 (by positivity)
  rw [hm, hn, zero_sub, ← EReal.coe_neg, Ideal.exp_coe, ← EReal.coe_one, ← EReal.coe_add,
    Ideal.log_coe, if_neg hp, ← EReal.coe_sub, take]

/-- The reference's formula for the logarithm of the logistic function of `-r`, at a real. -/
theorem stay_ereal (r : ℝ) :
    -(max (r : EReal) 0 + Ideal.log1p (Ideal.exp (-(max (r : EReal) (-(r : EReal)))))) = (stay r : EReal) := by
  have hm : max (r : EReal) (-(r : EReal)) = ((|r| : ℝ) : EReal) := by
    rw [← EReal.coe_neg, ← EReal.coe_strictMono.monotone.map_max]; rfl
  have hn : max (r : EReal) 0 = ((max r 0 : ℝ) : EReal) := by
    rw [← EReal.coe_zero, ← EReal.coe_strictMono.monotone.map_max]
  have hp : ¬ (1 + Real.exp (-|r|) ≤ 0) := not_le.2 (by positivity)
  rw [hm, hn, ← EReal.coe_neg, Ideal.exp_coe, Ideal.log1p, ← EReal.coe_one, ← EReal.coe_add, Ideal.log_coe, if_neg hp, ← EReal.coe_add,
    ← EReal.coe_neg, stay, take]
  refine congrArg (fun x : ℝ => (x : EReal)) ?_
  have h := min_add_max r 0
  linarith

/-- `stay (-r)` is `take r`. -/
theorem stay_neg (r : ℝ) : stay (-r) = take r := by
  unfold stay take
  have h : min (-r) 0 + r = min r 0 := by
    rcases le_total r 0 with h | h
    · rw [min_eq_right (by linarith), min_eq_left h]; linarith
    · rw [min_eq_left (by linarith), min_eq_right h]; linarith
  rw [abs_neg]
  linarith

/-- A sum from inside a block to `p` is the sum from the block's end to `p` and the block's own terms below `p`. -/
theorem sum_block {M : Type*} [AddCommMonoid M] (o p a : ℕ) (ha : a ≤ 256) (f : ℕ → M) :
    ∑ t ∈ Finset.Ico (o + a) p, f t
      = ∑ t ∈ Finset.Ico (o + 256) p, f t + ∑ j : Fin 256, if a ≤ j.val ∧ o + j.val < p then f (o + j.val) else 0 := by
  rw [← Finset.sum_filter, ← Finset.sum_image (f := f) (g := fun j : Fin 256 => o + j.val)
    (fun x _ y _ h => Fin.ext (by dsimp only at h; omega)), ← Finset.sum_union]
  · refine Finset.sum_congr (Finset.ext fun t => ?_) fun _ _ => rfl
    simp only [Finset.mem_union, Finset.mem_Ico, Finset.mem_image, Finset.mem_filter, Finset.mem_univ, true_and]
    constructor
    · rintro ⟨h1, h2⟩
      by_cases h : o + 256 ≤ t
      · exact Or.inl ⟨h, h2⟩
      · exact Or.inr ⟨⟨t - o, by omega⟩, ⟨by dsimp only; omega, by dsimp only; omega⟩, by dsimp only; omega⟩
    · rintro (⟨h1, h2⟩ | ⟨j, ⟨h1, h2⟩, rfl⟩)
      · exact ⟨by omega, h2⟩
      · exact ⟨by omega, h2⟩
  · refine Finset.disjoint_left.2 fun t h1 h2 => ?_
    simp only [Finset.mem_Ico, Finset.mem_image, Finset.mem_filter, Finset.mem_univ, true_and] at h1 h2
    obtain ⟨j, -, rfl⟩ := h2
    have := j.isLt
    omega

/-- The sum carried down to key `o`. -/
def carried (z : ℕ → ℝ) (p o : ℕ) : ℝ := ∑ t ∈ Finset.Ico o p, stay (z t)

/-- The weight of key `t`. -/
def wt (z : ℕ → ℝ) (p t : ℕ) : ℝ := Real.exp (take (z t) + carried z p (t + 1))

/-- The values summed down to key `o`. -/
def mixed (z : ℕ → ℝ) (v : ℕ → EReal) (p o : ℕ) : EReal := ∑ t ∈ Finset.Ico o p, (wt z p t : EReal) * v t

/-- The logit of head `h` of group `g` of a query and key `t`: a product over 64 columns, over eight. -/
def dotLogit (Q : Fin 512 → ℝ) (K : Fin 128 → ℕ → ℝ) (g : Fin 2) (h : Fin 4) (t : ℕ) : ℝ :=
  (∑ a : Fin 64, K ⟨g.val * 64 + a.val, by omega⟩ t * Q ⟨g.val * 256 + h.val * 64 + a.val, by omega⟩) * (1 / 8)

/-- A block's own terms, and zero where the query does not see the key. -/
def own (z : ℕ → ℝ) (p o : ℕ) (j : Fin 256) : ℝ := if o + j.val < p then stay (z (o + j.val)) else 0

/-- The block's terms after key `j`, and what is carried into the block, are what is carried to the key after `j`. -/
theorem carried_after (z : ℕ → ℝ) (p o : ℕ) (j : Fin 256) :
    (∑ j' : Fin 256, if j.val < j'.val then own z p o j' else 0) + carried z p (o + 256) = carried z p (o + j.val + 1) := by
  unfold carried own
  rw [add_assoc, sum_block o p (j.val + 1) (by omega), add_comm]
  refine congrArg (_ + ·) (Finset.sum_congr rfl fun j' _ => ?_)
  rw [← ite_and]
  exact if_congr (by omega) rfl rfl

/-- What is carried out of the block. -/
theorem carried_block (z : ℕ → ℝ) (p o : ℕ) :
    carried z p (o + 256) + (∑ j' : Fin 256, if 0 < j'.val then own z p o j' else 0) + own z p o 0 = carried z p o := by
  have h := carried_after z p o 0
  simp only [Fin.val_zero, Nat.add_zero] at h
  rw [add_comm (carried _ _ _), show (∑ j' : Fin 256, if 0 < j'.val then own z p o j' else 0) + carried z p (o + 256) = _ from h]
  unfold carried own
  by_cases hp : o < p
  · simp only [Fin.val_zero, Nat.add_zero]
    rw [if_pos hp, Finset.sum_eq_sum_Ico_succ_bot hp, add_comm]
  · simp only [Fin.val_zero, Nat.add_zero]
    rw [if_neg hp, Finset.Ico_eq_empty (by omega), Finset.Ico_eq_empty (by omega), Finset.sum_empty, add_zero]

/-- The values mixed out of the block. -/
theorem mixed_block (z : ℕ → ℝ) (v : ℕ → EReal) (p o : ℕ) :
    mixed z v p (o + 256) + ∑ j : Fin 256, (if o + j.val < p then (wt z p (o + j.val) : EReal) else 0) * v (o + j.val)
      = mixed z v p o := by
  unfold mixed
  refine Eq.symm ((sum_block o p 0 (by omega) _).trans ?_)
  refine congrArg (fun e : EReal => _ + e) (Finset.sum_congr rfl fun j _ => ?_)
  by_cases h : o + j.val < p
  · rw [if_pos ⟨Nat.zero_le _, h⟩, if_pos h]
  · rw [if_neg (fun e => h e.2), if_neg h, zero_mul]

/-- The word of an eighth. -/
theorem eighth : (Ideal.ofBits .f32 0x3E000000#32 : EReal) = ((1 / 8 : ℝ) : EReal) := by
  simp [Ideal.ofBits, Ideal.ieee]
  refine (EReal.coe_mul _ _).symm.trans (congrArg _ ?_)
  norm_num

end Cert.Sb
-- ==== Proof.Sb.Pass.lean ====
/-
  One pass of the stick-breaking attention kernel over one block of 256 keys: the payloads it computes, named once for both
  groups of heads and for the masked and the unmasked blocks, and what each holds at an index over the extended reals.
-/
module

public import proofs.«01_k».proof.Proof.Gen.Kernel5Ideal.Frame
public import proofs.«01_k».proof.Proof.Sb.Stick
public import Idealize.ShloMosaic.Lib.Pipeline.Value
public import Idealize.ShloMosaic.Lib.Tactic
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Kernel5Ideal.Sb

open Cert.Kernel5Ideal Cert.Kernel5Ideal.Gen Cert.Sb Cert.Mla

section Defs
variable {F : FTy → Type} [FloatOps F]

/-- The logits of 1024 query rows against 256 keys. -/
def logit (q : FVec F S1024x64 .bf16) (k : Vec F S1x64x256 .f32) : FVec F S1024x256 .f32 :=
  matmul dot_S1024x64_S64x256_S1024x256_1_0_0_1_n_n none q
    (truncf .bf16 (shapeCast S64x256 k shapeCasts_S1x64x256_S64x256) bitsLt_bf16_f32) (constant S1024x256 .f32 0x00000000#32)

/-- The logarithm of the logistic function of each logit. -/
def logTake (z : FVec F S1024x256 .f32) : FVec F S1024x256 .f32 :=
  subf (minimumf z (broadcast S1024x256 (Scalar.ofBits .f32 0x00000000#32)))
    (log (addf (broadcast S1024x256 (Scalar.ofBits .f32 0x3F800000#32))
      (exp (subf (broadcast S1024x256 (Scalar.ofBits .f32 0x00000000#32)) (absf z)))))

/-- The logarithm of what the logistic function leaves. -/
def logStay (z : FVec F S1024x256 .f32) : FVec F S1024x256 .f32 := subf (logTake z) z

/-- An array with the keys a query does not see set to zero. -/
def hide (vis : IVec S1x256x256 1) (s : FVec F S1024x256 .f32) : FVec F S1024x256 .f32 :=
  shapeCast S1024x256
    (select (broadcastTo S4x256x256 (shapeCast S1x256x256 vis shapeCasts_S1x256x256_S1x256x256) broadcasts_S1x256x256_S4x256x256)
      (shapeCast S4x256x256 s shapeCasts_S1024x256_S4x256x256)
      (broadcast S4x256x256 (Scalar.ofBits .f32 0x00000000#32)))
    shapeCasts_S4x256x256_S1024x256

/-- Each key's sum over the block's later keys, as a product with a strict triangle of ones: the rounded array's and the
rounding's remainder's. -/
def suffix (tri : FVec F S256x256 .bf16) (l : FVec F S1024x256 .f32) : FVec F S1024x256 .f32 :=
  addf (matmul dot_S1024x256_S256x256_S1024x256_1_0_0_1_n_n none (truncf .bf16 l bitsLt_bf16_f32) tri (constant S1024x256 .f32 0x00000000#32))
    (matmul dot_S1024x256_S256x256_S1024x256_1_0_0_1_n_n none
      (truncf .bf16 (subf l (extf .f32 (truncf .bf16 l bitsLt_bf16_f32) bitsLt_bf16_f32)) bitsLt_bf16_f32) tri
      (constant S1024x256 .f32 0x00000000#32))

/-- The carried sum without its leading axis. -/
def flatC (c : Vec F S1x1024x1 .f32) : FVec F S1024x1 .f32 := shapeCast S1024x1 c shapeCasts_S1x1024x1_S1024x1

/-- The weights of the block's keys. -/
def weight (t l : FVec F S1024x256 .f32) (c : Vec F S1x1024x1 .f32) : FVec F S1024x256 .f32 :=
  exp (addf (addf t l) (broadcastTo S1024x256 (flatC c) broadcasts_S1024x1_S1024x256))

/-- The accumulator after the block. -/
def passA (a : FVec F S1024x256 .f32) (v : Vec F S1x64x256 .f32) (p : Vec F S1x1024x64 .f32) : FVec F S1x1024x64 .f32 :=
  shapeCast S1x1024x64
    (addf (shapeCast S1024x64 p shapeCasts_S1x1024x64_S1024x64)
      (matmul dot_S1024x256_S64x256_S1024x64_1_1_0_0_n_n none (truncf .bf16 a bitsLt_bf16_f32)
        (truncf .bf16 (shapeCast S64x256 v shapeCasts_S1x64x256_S64x256) bitsLt_bf16_f32) (constant S1024x64 .f32 0x00000000#32)))
    shapeCasts_S1024x64_S1x1024x64

/-- The carried sum after the block. -/
def passC (s l : FVec F S1024x256 .f32) (c : Vec F S1x1024x1 .f32) : FVec F S1x1024x1 .f32 :=
  shapeCast S1x1024x1
    (addf (addf (flatC c) (extractStridedSlice S1024x1 ![0, 0] s slices_S1024x256_o0_0_S1024x1))
      (extractStridedSlice S1024x1 ![0, 0] l slices_S1024x256_o0_0_S1024x1))
    shapeCasts_S1024x1_S1x1024x1

/-- What an unmasked block stores in the accumulator. -/
def openA (q : FVec F S1024x64 .bf16) (k v : Vec F S1x64x256 .f32) (c : Vec F S1x1024x1 .f32) (p : Vec F S1x1024x64 .f32) :=
  passA (weight (logTake (logit q k)) (suffix k0_pay37 (logStay (logit q k))) c) v p

/-- What an unmasked block stores in the carried sum. -/
def openC (q : FVec F S1024x64 .bf16) (k : Vec F S1x64x256 .f32) (c : Vec F S1x1024x1 .f32) :=
  passC (suffix k0_pay37 (logStay (logit q k))) (logStay (logit q k)) c

/-- What the masked block stores in the accumulator. -/
def lastA (vis : IVec S1x256x256 1) (q : FVec F S1024x64 .bf16) (k v : Vec F S1x64x256 .f32) (c : Vec F S1x1024x1 .f32)
    (p : Vec F S1x1024x64 .f32) :=
  passA (hide vis (weight (logTake (logit q k)) (suffix k0_pay37 (hide vis (logStay (logit q k)))) c)) v p

/-- What the masked block stores in the carried sum. -/
def lastC (vis : IVec S1x256x256 1) (q : FVec F S1024x64 .bf16) (k : Vec F S1x64x256 .f32) (c : Vec F S1x1024x1 .f32) :=
  passC (suffix k0_pay37 (hide vis (logStay (logit q k)))) (hide vis (logStay (logit q k))) c

end Defs

/-- A logit is the product of a query row and a key column. -/
theorem logit_apply (q : FVec Ideal S1024x64 .bf16) (k : Vec Ideal S1x64x256 .f32) (x : Fin 1024) (j : Fin 256) :
    logit q k (ix2 x j) = ∑ a : Fin 64, q (ix2 x a) * k (ix3 0 a j) := by
  unfold logit
  pointwise

/-- The log of the logistic function at an index. -/
theorem logTake_apply (z : FVec Ideal S1024x256 .f32) (x : Fin 1024) (j : Fin 256) (r : ℝ) (h : z (ix2 x j) = (r : EReal)) :
    logTake z (ix2 x j) = (take r : EReal) := by
  unfold logTake
  pointwise
  rw [h]
  exact take_ereal r

/-- The log of the rest at an index. -/
theorem logStay_apply (z : FVec Ideal S1024x256 .f32) (x : Fin 1024) (j : Fin 256) (r : ℝ) (h : z (ix2 x j) = (r : EReal)) :
    logStay z (ix2 x j) = (stay r : EReal) := by
  show logTake z (ix2 x j) - z (ix2 x j) = _
  rw [logTake_apply z x j r h, h, stay, EReal.coe_sub]

/-- A masked array is the array where the query sees the key, and zero elsewhere. -/
theorem hide_apply (vis : IVec S1x256x256 1) (s : FVec Ideal S1024x256 .f32) (x : Fin 1024) (j : Fin 256) :
    hide vis s (ix2 x j) = if vis (ix3 0 ⟨x.val % 256, by omega⟩ j) = 1#1 then s (ix2 x j) else 0 := by
  unfold hide
  pointwise
  rfl

/-- The words of zero and one, as reals. -/
theorem sitofp_zero : (FloatOps.sitofp (F := Ideal) .f32 (BitVec.setWidth 32 0#1) : EReal) = 0 := by
  simp [FloatOps.sitofp]
theorem sitofp_one : (FloatOps.sitofp (F := Ideal) .f32 (BitVec.setWidth 32 1#1) : EReal) = 1 := by
  simp [FloatOps.sitofp]

/-- The strict triangle of ones. -/
theorem tri_apply (j' j : Fin 256) : (k0_pay37 : FVec Ideal S256x256 .bf16) (ix2 j' j) = if j.val < j'.val then 1 else 0 := by
  have h : ∀ j' j : Fin 256, IntOp.cmpi .sgt (BitVec.ofNat 32 j'.val) (BitVec.ofNat 32 j.val) = if j.val < j'.val then 1#1 else 0#1 := by
    intro j' j
    rw [WordCmp.cmpi_sgt_ofNat (by omega) (by omega)]
    by_cases e : j.val < j'.val <;> simp [e]
  unfold k0_pay37
  pointwise
  rw [h]
  split_ifs
  · exact sitofp_one
  · exact sitofp_zero

/-- A real array's sums over the block's later keys. -/
theorem suffix_apply (l : FVec Ideal S1024x256 .f32) (x : Fin 1024) (f : Fin 256 → ℝ) (h : ∀ j, l (ix2 x j) = (f j : EReal)) (j : Fin 256) :
    suffix k0_pay37 l (ix2 x j) = ((∑ j' : Fin 256, if j.val < j'.val then f j' else 0 : ℝ) : EReal) := by
  unfold suffix
  generalize ht : (k0_pay37 : FVec Ideal S256x256 .bf16) = tri
  pointwise
  subst ht
  simp only [h, tri_apply, ← EReal.coe_sub, sub_self, EReal.coe_zero, zero_mul, Finset.sum_const_zero, add_zero, coe_sum]
  refine Finset.sum_congr rfl fun j' _ => ?_
  split_ifs
  · rw [mul_one]
  · rw [mul_zero, EReal.coe_zero]

/-- The carried sum's row. -/
theorem flatC_apply (c : Vec Ideal S1x1024x1 .f32) (x : Fin 1024) : flatC c (ix2 x 0) = c (ix3 0 x 0) := by
  unfold flatC
  pointwise

/-- A weight at an index. -/
theorem weight_apply (t l : FVec Ideal S1024x256 .f32) (c : Vec Ideal S1x1024x1 .f32) (x : Fin 1024) (j : Fin 256) :
    weight t l c (ix2 x j) = Ideal.exp (t (ix2 x j) + l (ix2 x j) + c (ix3 0 x 0)) := by
  unfold weight
  rw [← flatC_apply c]
  generalize flatC c = c'
  pointwise

/-- The new accumulator at an index. -/
theorem passA_apply (a : FVec Ideal S1024x256 .f32) (v : Vec Ideal S1x64x256 .f32) (p : Vec Ideal S1x1024x64 .f32) (x : Fin 1024) (d : Fin 64) :
    passA a v p (ix3 0 x d) = p (ix3 0 x d) + ∑ j : Fin 256, a (ix2 x j) * v (ix3 0 d j) := by
  unfold passA
  pointwise

/-- The new carried sum at an index. -/
theorem passC_apply (s l : FVec Ideal S1024x256 .f32) (c : Vec Ideal S1x1024x1 .f32) (x : Fin 1024) :
    passC s l c (ix3 0 x 0) = c (ix3 0 x 0) + s (ix2 x 0) + l (ix2 x 0) := by
  unfold passC
  rw [← flatC_apply c]
  generalize flatC c = c'
  pointwise

end Cert.Kernel5Ideal.Sb
-- ==== Proof.Sb.Trip.lean ====
/-
  One unmasked block of keys: what a trip of the stick-breaking kernel's loop stores into the carried sums and the accumulator.
-/
module

public import proofs.«01_k».proof.Proof.Sb.Pass

@[expose] public section

set_option maxRecDepth 16384

noncomputable section

open Idealize.ShloMosaic Idealize.ShloMosaic.TcCoe Idealize.SL.Sem

namespace Cert.Kernel5Ideal.Sb

open Cert.Kernel5Ideal Cert.Kernel5Ideal.Gen

section
variable {F : FTy → Type} [FloatOps F]

/-- 64 rows of 256 of the sequence's keys and values, as the kernel reads them. -/
def rowsK (a3 : Memref sig .tc .vmem S1x256x2048 .f32) (X : BufTy.Contents (Elt F) a3.view.ty) (o : Fin 3 → ℕ)
    (h : ∀ a, o a + S1x64x256.size a ≤ S1x256x2048.size a) : Vec F S1x64x256 .f32 :=
  View.readAt (Elt F) a3.view (Rect.unit (s := S1x256x2048) o S1x64x256.size h).toLoadRect X

/-- A group's carried sums. -/
def rowsC (a5 : Memref sig .tc .vmem S2x1024x1 .f32) (f : BufTy.Contents (Elt F) a5.view.ty) (o : Fin 3 → ℕ)
    (h : ∀ a, o a + S1x1024x1.size a ≤ S2x1024x1.size a) : Vec F S1x1024x1 .f32 :=
  View.readAt (Elt F) a5.view (Rect.unit (s := S2x1024x1) o S1x1024x1.size h).toLoadRect f

/-- A group's accumulator. -/
def rowsA (a6 : Memref sig .tc .vmem S2x1024x64 .f32) (f : BufTy.Contents (Elt F) a6.view.ty) (o : Fin 3 → ℕ)
    (h : ∀ a, o a + S1x1024x64.size a ≤ S2x1024x64.size a) : Vec F S1x1024x64 .f32 :=
  View.readAt (Elt F) a6.view (Rect.unit (s := S2x1024x64) o S1x1024x64.size h).toLoadRect f

/-- The two groups' pieces of the carried sums, last first. -/
def twoC (p0 p1 : FVec F S1x1024x1 .f32) : List (View.Piece (Elt F) S2x1024x1 .f32) :=
  [⟨Rect.unit (s := S2x1024x1) ![1, 0, 0] S1x1024x1.size inb_S2x1024x1_S1x1024x1_1_0_0, p1⟩,
   ⟨Rect.unit (s := S2x1024x1) ![0, 0, 0] S1x1024x1.size inb_S2x1024x1_S1x1024x1_0_0_0, p0⟩]

/-- The two groups' pieces of the accumulator, last first. -/
def twoA (p0 p1 : FVec F S1x1024x64 .f32) : List (View.Piece (Elt F) S2x1024x64 .f32) :=
  [⟨Rect.unit (s := S2x1024x64) ![1, 0, 0] S1x1024x64.size inb_S2x1024x64_S1x1024x64_1_0_0, p1⟩,
   ⟨Rect.unit (s := S2x1024x64) ![0, 0, 0] S1x1024x64.size inb_S2x1024x64_S1x1024x64_0_0_0, p0⟩]

variable (𝒱 : Variants) (c : Dev nD) (bd : Option 𝒱.V) (i : grid0.Coords) (arg2 : Memref sig .tc .vmem S256x512 .f32) (harg2 : arg2.IsWhole) (arg3 : Memref sig .tc .vmem S1x256x2048 .f32) (harg3 : arg3.IsWhole) (arg4 : Memref sig .tc .vmem S256x512 .bf16) (harg4 : arg4.IsWhole) (arg5 : Memref sig .tc .vmem S2x1024x1 .f32) (harg5 : arg5.IsWhole) (arg6 : Memref sig .tc .vmem S2x1024x64 .f32) (harg6 : arg6.IsWhole)

/-- A trip's stores are the two groups' pieces, each from its own rows of what the trip finds. -/
theorem tripL_eq (v9 v16 : FVec F S1024x64 .bf16) (v50 : BitVec 32) (v131 : FVec F S64x256 .bf16) (v149 v156 : FVec F S1024x256 .f32)
    (v158 : FVec F S1024x1 .f32) (v168 : FVec F S1024x256 .f32) (X : BufTy.Contents (Elt F) arg3.view.ty) (k : Fin (k0_t1_loop i).trips)
    (f5 : BufTy.Contents (Elt F) arg5.view.ty) (f6 : BufTy.Contents (Elt F) arg6.view.ty) :
    tripL_k0_t1 (F := F) 𝒱 c bd i arg2 harg2 arg3 harg3 arg4 harg4 arg5 harg5 arg6 harg6 v9 v16 k0_pay37 v50 v131 v149 v156 v158 v168 X k f5 f6
    = (let k0 := rowsK arg3 X (k0_off5 i k) (k0_off5_inb i k)
       let k1 := rowsK arg3 X (k0_off7 i k) (k0_off7_inb i k)
       let c0 := rowsC arg5 f5 ![0, 0, 0] inb_S2x1024x1_S1x1024x1_0_0_0
       let c1 := rowsC arg5 f5 ![1, 0, 0] inb_S2x1024x1_S1x1024x1_1_0_0
       (twoC (openC v9 k0 c0) (openC v16 k1 c1),
        twoA (openA v9 k0 (rowsK arg3 X (k0_off6 i k) (k0_off6_inb i k)) c0 (rowsA arg6 f6 ![0, 0, 0] inb_S2x1024x64_S1x1024x64_0_0_0))
          (openA v16 k1 (rowsK arg3 X (k0_off8 i k) (k0_off8_inb i k)) c1 (rowsA arg6 f6 ![1, 0, 0] inb_S2x1024x64_S1x1024x64_1_0_0)))) := by
  unfold tripL_k0_t1 trip_k0_t1
  dsimp only
  rfl

end

end Cert.Kernel5Ideal.Sb
-- ==== Proof.Sb.Words.lean ====
/-
  The integers the stick-breaking kernel computes from the grid point, in closed form: how many unmasked blocks of keys there
  are, where each block starts, and which keys of the last block a query sees.
-/
module

public import proofs.«01_k».proof.Proof.Sb.Trip

@[expose] public section

set_option maxRecDepth 16384

noncomputable section

open Idealize.ShloMosaic Idealize.ShloMosaic.TcCoe Idealize.SL.Sem

namespace Cert.Kernel5Ideal.Sb

open Cert.Kernel5Ideal Cert.Kernel5Ideal.Gen

/-- The position of the block's last query, as the kernel computes it. -/
def lastPos (i : grid0.Coords) : BitVec 32 :=
  Scalar.subi (Scalar.addi (Scalar.muli (BitVec.ofNat 32 (i 1).val) 256#32) 256#32) 1#32

/-- The number of unmasked blocks of keys, as the kernel computes it: the floor of that position over 256. -/
def blocks (i : grid0.Coords) : BitVec 32 :=
  let d : BitVec 32 := Scalar.divsi (lastPos i) 256#32
  let a : BitVec 32 := Scalar.subi (Scalar.extui (Scalar.cmpi .sgt (lastPos i) 0#32)) (Scalar.extui (Scalar.cmpi .slt (lastPos i) 0#32))
  let b : BitVec 32 := Scalar.subi (Scalar.extui (Scalar.cmpi .sgt 256#32 0#32)) (Scalar.extui (Scalar.cmpi .slt 256#32 0#32))
  Scalar.select (Scalar.andi (Scalar.cmpi .ne a b) (Scalar.cmpi .ne (Scalar.remsi (lastPos i) 256#32) 0#32)) (Scalar.subi d 1#32) d

/-- It is the query block's number. -/
theorem blocks_eq : ∀ i : grid0.Coords, blocks i = BitVec.ofNat 32 (i 1).val := by decide +kernel

/-- The loop over unmasked blocks makes that many trips. -/
theorem trips_eq : ∀ i : grid0.Coords, (k0_t1_loop i).trips = (i 1).val := by decide +kernel

/-- The loop over the remainder makes none. -/
theorem trips2_eq : ∀ i : grid0.Coords, (k0_t2_loop i).trips = 0 := by decide +kernel

/-- Where the masked block's keys and values start, for both groups. -/
theorem off_last : ∀ i : grid0.Coords, ∀ a, k0_off1 i a = (![0, 0, 256 * (i 1).val] : Fin 3 → ℕ) a
    ∧ k0_off2 i a = (![0, 128, 256 * (i 1).val] : Fin 3 → ℕ) a ∧ k0_off3 i a = (![0, 64, 256 * (i 1).val] : Fin 3 → ℕ) a
    ∧ k0_off4 i a = (![0, 192, 256 * (i 1).val] : Fin 3 → ℕ) a := by decide +kernel

/-- Where trip `k`'s keys and values start: the blocks from the last unmasked one down. -/
theorem off_open : ∀ (i : grid0.Coords) (k : Fin (k0_t1_loop i).trips), ∀ a,
    k0_off5 i k a = (![0, 0, 256 * ((i 1).val - 1 - k.val)] : Fin 3 → ℕ) a
    ∧ k0_off6 i k a = (![0, 128, 256 * ((i 1).val - 1 - k.val)] : Fin 3 → ℕ) a
    ∧ k0_off7 i k a = (![0, 64, 256 * ((i 1).val - 1 - k.val)] : Fin 3 → ℕ) a
    ∧ k0_off8 i k a = (![0, 192, 256 * ((i 1).val - 1 - k.val)] : Fin 3 → ℕ) a := by decide +kernel

/-- Which keys of the last block each query of the block sees, as the kernel computes it. -/
def seen (i : grid0.Coords) : IVec S1x256x256 1 :=
  k0_pay38 (BitVec.ofNat 32 (i 1).val) (lastPos i) 256#32 (Scalar.divsi (lastPos i) 256#32)
    (Scalar.extui (Scalar.cmpi .sgt (lastPos i) 0#32)) (Scalar.extui (Scalar.cmpi .slt (lastPos i) 0#32))

/-- A query sees the keys before its own position. -/
theorem seen_iff (i : grid0.Coords) (x : Fin 256) (j : Fin 256) :
    seen i (ix3 0 x j) = 1#1 ↔ j.val < x.val := by
  have h1 : (i 1).val < 8 := (i 1).isLt
  have e : seen i (ix3 0 x j) = IntOp.cmpi .slt (IntOp.addi (Scalar.muli (blocks i) 256#32) (BitVec.ofNat 32 j.val))
      (IntOp.addi (Scalar.muli (BitVec.ofNat 32 (i 1).val) 256#32) (BitVec.ofNat 32 x.val)) := by
    unfold seen k0_pay38
    dsimp only
    pointwise
    rfl
  rw [e, blocks_eq]
  generalize (i 1).val = n at h1 ⊢
  have e1 : ∀ y : ℕ, IntOp.addi (Scalar.muli (BitVec.ofNat 32 n) 256#32) (BitVec.ofNat 32 y) = BitVec.ofNat 32 (n * 256 + y) := by
    intro y
    rw [BitVec.ofNat_add, BitVec.ofNat_mul]; rfl
  rw [e1, e1, WordCmp.cmpi_slt_ofNat_eq_one_iff (by omega) (by omega)]
  omega

end Cert.Kernel5Ideal.Sb
-- ==== Proof.Sb.Run.lean ====
/-
  The stick-breaking kernel's body at one grid point as the masked block, the unmasked blocks' trips, and the copy out.
-/
module

public import proofs.«01_k».proof.Proof.Sb.Words

@[expose] public section

set_option maxRecDepth 16384

noncomputable section

open Idealize.ShloMosaic Idealize.ShloMosaic.TcCoe Idealize.SL.Sem

namespace Cert.Kernel5Ideal.Sb

open Cert.Kernel5Ideal Cert.Kernel5Ideal.Gen

section
variable {F : FTy → Type} [FloatOps F]
variable (c : Dev nD) (i : grid0.Coords) (arg2 : Memref sig .tc .vmem S256x512 .f32) (harg2 : arg2.IsWhole) (arg3 : Memref sig .tc .vmem S1x256x2048 .f32) (harg3 : arg3.IsWhole) (arg4 : Memref sig .tc .vmem S256x512 .bf16) (harg4 : arg4.IsWhole) (arg5 : Memref sig .tc .vmem S2x1024x1 .f32) (harg5 : arg5.IsWhole) (arg6 : Memref sig .tc .vmem S2x1024x64 .f32) (harg6 : arg6.IsWhole)
  (x0 : Vec F S256x512 .f32) (x1 : Vec F S1x256x2048 .f32)

/-- The queries as the body loads them. -/
def loadQ : Vec F S256x512 .f32 :=
  View.readAt (Elt F) arg2.view (Rect.unit (s := S256x512) ![0, 0] S256x512.size inb_S256x512_S256x512_0_0).toLoadRect (harg2.unread x0)

/-- What the body first stores into the carried sums. -/
def start5 : List (View.Piece (Elt F) S2x1024x1 .f32) := [⟨Rect.unit (s := S2x1024x1) ![0, 0, 0] S2x1024x1.size inb_S2x1024x1_S2x1024x1_0_0_0, k0_pay35⟩]

/-- What the body first stores into the accumulator. -/
def start6 : List (View.Piece (Elt F) S2x1024x64 .f32) := [⟨Rect.unit (s := S2x1024x64) ![0, 0, 0] S2x1024x64.size inb_S2x1024x64_S2x1024x64_0_0_0, k0_pay36⟩]

/-- The two groups' queries. -/
def queries0 : FVec F S1024x64 .bf16 := k0_pay33 (loadQ arg2 harg2 x0)
def queries1 : FVec F S1024x64 .bf16 := k0_pay34 (loadQ arg2 harg2 x0)

/-- The first group's carried sums and accumulator as the body finds them. -/
def first5 : Vec F S1x1024x1 .f32 := rowsC arg5 (arg5.view.writes (Elt F) arg5.view.junk start5) ![0, 0, 0] inb_S2x1024x1_S1x1024x1_0_0_0
def first6 : Vec F S1x1024x64 .f32 := rowsA arg6 (arg6.view.writes (Elt F) arg6.view.junk start6) ![0, 0, 0] inb_S2x1024x64_S1x1024x64_0_0_0

/-- What the masked block leaves of them. -/
def left5 : FVec F S1x1024x1 .f32 :=
  lastC (seen i) (queries0 arg2 harg2 x0) (rowsK arg3 (harg3.unread x1) (k0_off1 i) (k0_off1_inb i)) (first5 arg5)
def left6 : FVec F S1x1024x64 .f32 :=
  lastA (seen i) (queries0 arg2 harg2 x0) (rowsK arg3 (harg3.unread x1) (k0_off1 i) (k0_off1_inb i))
    (rowsK arg3 (harg3.unread x1) (k0_off2 i) (k0_off2_inb i)) (first5 arg5) (first6 arg6)

/-- The second group's carried sums and accumulator as the body finds them. -/
def second5 : Vec F S1x1024x1 .f32 := rowsC arg5 (arg5.view.writes (Elt F) arg5.view.junk
  (⟨Rect.unit (s := S2x1024x1) ![0, 0, 0] S1x1024x1.size inb_S2x1024x1_S1x1024x1_0_0_0, left5 i arg2 harg2 arg3 harg3 arg5 x0 x1⟩ :: start5))
  ![1, 0, 0] inb_S2x1024x1_S1x1024x1_1_0_0
def second6 : Vec F S1x1024x64 .f32 := rowsA arg6 (arg6.view.writes (Elt F) arg6.view.junk
  (⟨Rect.unit (s := S2x1024x64) ![0, 0, 0] S1x1024x64.size inb_S2x1024x64_S1x1024x64_0_0_0, left6 i arg2 harg2 arg3 harg3 arg5 arg6 x0 x1⟩ :: start6))
  ![1, 0, 0] inb_S2x1024x64_S1x1024x64_1_0_0

/-- The masked block's stores over the first ones. -/
def masked5 : List (View.Piece (Elt F) S2x1024x1 .f32) :=
  twoC (left5 i arg2 harg2 arg3 harg3 arg5 x0 x1)
    (lastC (seen i) (queries1 arg2 harg2 x0) (rowsK arg3 (harg3.unread x1) (k0_off3 i) (k0_off3_inb i))
      (second5 i arg2 harg2 arg3 harg3 arg5 x0 x1)) ++ start5
def masked6 : List (View.Piece (Elt F) S2x1024x64 .f32) :=
  twoA (left6 i arg2 harg2 arg3 harg3 arg5 arg6 x0 x1)
    (lastA (seen i) (queries1 arg2 harg2 x0) (rowsK arg3 (harg3.unread x1) (k0_off3 i) (k0_off3_inb i))
      (rowsK arg3 (harg3.unread x1) (k0_off4 i) (k0_off4_inb i)) (second5 i arg2 harg2 arg3 harg3 arg5 x0 x1)
      (second6 i arg2 harg2 arg3 harg3 arg5 arg6 x0 x1)) ++ start6

/-- What the two buffers hold before the loop. -/
def enter5 : BufTy.Contents (Elt F) arg5.view.ty :=
  arg5.view.writes (Elt F) arg5.view.junk (masked5 i arg2 harg2 arg3 harg3 arg5 x0 x1)
def enter6 : BufTy.Contents (Elt F) arg6.view.ty :=
  arg6.view.writes (Elt F) arg6.view.junk (masked6 i arg2 harg2 arg3 harg3 arg5 arg6 x0 x1)

/-- The stores of the trips before `k`. -/
def trips (k : ℕ) : List (View.Piece (Elt F) S2x1024x1 .f32) × List (View.Piece (Elt F) S2x1024x64 .f32) :=
  let k1 := rowsK arg3 (harg3.unread x1) (k0_off3 i) (k0_off3_inb i)
  let q1 := queries1 arg2 harg2 x0
  let c1 := second5 i arg2 harg2 arg3 harg3 arg5 x0 x1
  pb_k0_t1 Variants.none c none i arg2 harg2 arg3 harg3 arg4 harg4 arg5 harg5 arg6 harg6 (queries0 arg2 harg2 x0) q1
    k0_pay37 (blocks i) (k0_pay48 (rowsK arg3 (harg3.unread x1) (k0_off4 i) (k0_off4_inb i))) (k0_pay51 q1 (seen i) k1)
    (k0_pay52 q1 k0_pay37 (seen i) k1) (k0_pay53 c1) (k0_pay54 q1 k0_pay37 (seen i) k1 c1) (harg3.unread x1)
    (enter5 i arg2 harg2 arg3 harg3 arg5 x0 x1) (enter6 i arg2 harg2 arg3 harg3 arg5 arg6 x0 x1) k

/-- A loop of no trips stores nothing. -/
theorem second_nil (v9 v16 v30 v50 v131 v149 v156 v158 v168 v188) (X : BufTy.Contents (Elt F) arg3.view.ty) (G5 : BufTy.Contents (Elt F) arg5.view.ty)
    (G6 : BufTy.Contents (Elt F) arg6.view.ty) :
    pb_k0_t2 (F := F) Variants.none c none i arg2 harg2 arg3 harg3 arg4 harg4 arg5 harg5 arg6 harg6 v9 v16 v30 v50 v131 v149 v156 v158 v168 v188
      X G5 G6 (k0_t2_loop i).trips = ([], []) := by
  rw [trips2_eq]
  rfl

/-- One head's 256 rows of the accumulator. -/
def rowsH (a6 : Memref sig .tc .vmem S2x1024x64 .f32) (f : BufTy.Contents (Elt F) a6.view.ty) (o : Fin 3 → ℕ)
    (h : ∀ a, o a + S1x256x64.size a ≤ S2x1024x64.size a) : Vec F S1x256x64 .f32 :=
  View.readAt (Elt F) a6.view (Rect.unit (s := S2x1024x64) o S1x256x64.size h).toLoadRect f

/-- The eight heads' rows of the accumulator, side by side. -/
def collect (f : BufTy.Contents (Elt F) arg6.view.ty) : FVec F S256x512 .bf16 :=
  k0_pay1 (k0_pay63 (rowsH arg6 f ![0, 0, 0] inb_S2x1024x64_S1x256x64_0_0_0)) (k0_pay64 (rowsH arg6 f ![0, 256, 0] inb_S2x1024x64_S1x256x64_0_256_0))
    (k0_pay65 (rowsH arg6 f ![0, 512, 0] inb_S2x1024x64_S1x256x64_0_512_0)) (k0_pay66 (rowsH arg6 f ![0, 768, 0] inb_S2x1024x64_S1x256x64_0_768_0))
    (rowsH arg6 f ![1, 0, 0] inb_S2x1024x64_S1x256x64_1_0_0) (rowsH arg6 f ![1, 256, 0] inb_S2x1024x64_S1x256x64_1_256_0)
    (rowsH arg6 f ![1, 512, 0] inb_S2x1024x64_S1x256x64_1_512_0) (rowsH arg6 f ![1, 768, 0] inb_S2x1024x64_S1x256x64_1_768_0)

set_option maxHeartbeats 4000000 in
/-- THE BODY'S ONE STORE into the output's block: the accumulator the trips leave. -/
theorem run_eq : (kernelRun0_A c i arg2 harg2 arg3 harg3 arg4 harg4 arg5 harg5 arg6 harg6 x0 x1).1
    = [⟨Rect.unit (s := S256x512) ![0, 0] S256x512.size inb_S256x512_S256x512_0_0,
        collect arg6 (arg6.view.writes (Elt F) (arg6.view.junk)
          ((trips c i arg2 harg2 arg3 harg3 arg4 harg4 arg5 harg5 arg6 harg6 x0 x1 (k0_t1_loop i).trips).2
            ++ (masked6 i arg2 harg2 arg3 harg3 arg5 arg6 x0 x1)))⟩] := by
  have e := second_nil (F := F) c i arg2 harg2 arg3 harg3 arg4 harg4 arg5 harg5 arg6 harg6
  unfold kernelRun0_A
  sl_unfold_words
  simp only [e]
  rfl

end

end Cert.Kernel5Ideal.Sb
-- ==== Proof.Sb.State.lean ====
/-
  What the carried sums and the accumulator hold, row by row, and how one block of keys changes them.
-/
module

public import proofs.«01_k».proof.Proof.Sb.Trip
public import Idealize.ShloMosaic.Lib.WritesUnit

@[expose] public section

set_option maxRecDepth 16384

noncomputable section

open Idealize.ShloMosaic Idealize.ShloMosaic.TcCoe Idealize.SL.Sem

namespace Cert.Kernel5Ideal.Sb

open Cert.Kernel5Ideal Cert.Kernel5Ideal.Gen Cert.Sb Cert.Mla

/-- The query of a row within its block. -/
abbrev col (ρ : Fin 1024) : Fin 256 := ⟨ρ.val % 256, by omega⟩

/-- A key's row of the keys and values. -/
abbrev keyRow (a : Fin 128) : Fin 256 := ⟨a.val, by omega⟩

/-- A value's row. -/
abbrev valueRow (a : Fin 128) : Fin 256 := ⟨128 + a.val, by omega⟩

/-- The group of a result's column. -/
abbrev groupOf (r : Fin 512) : Fin 2 := ⟨r.val / 256, by omega⟩

/-- The head within its group. -/
abbrev headOf (r : Fin 512) : Fin 4 := ⟨r.val / 64 % 4, by omega⟩

/-- The value a result's column is of. -/
abbrev valueOf (r : Fin 512) : Fin 128 := ⟨r.val / 256 * 64 + r.val % 64, by omega⟩

section Step
variable (z : ℕ → ℝ) (p o : ℕ) (ρ : Fin 1024) (c : Vec Ideal S1x1024x1 .f32)
  (hc : c (ix3 0 ρ 0) = (carried z p (o + 256) : EReal)) (L : FVec Ideal S1024x256 .f32)
  (hL : ∀ j, L (ix2 ρ j) = (own z p o j : EReal))

include hc hL in
/-- The carried sum after a block. -/
theorem stepC : passC (suffix k0_pay37 L) L c (ix3 0 ρ 0) = (carried z p o : EReal) := by
  rw [passC_apply, hc, suffix_apply L ρ _ hL, hL, ← EReal.coe_add, ← EReal.coe_add, ← carried_block z p o]
  rfl

include hc hL in
/-- A block's weights. -/
theorem stepW (t : FVec Ideal S1024x256 .f32) (ht : ∀ j, t (ix2 ρ j) = (take (z (o + j.val)) : EReal)) (j : Fin 256) :
    weight t (suffix k0_pay37 L) c (ix2 ρ j) = (wt z p (o + j.val) : EReal) := by
  rw [weight_apply, ht, suffix_apply L ρ _ hL, hc, ← EReal.coe_add, ← EReal.coe_add, add_assoc, carried_after]
  rfl

/-- The accumulator after a block. -/
theorem stepA (v : ℕ → EReal) (d : Fin 64) (A : FVec Ideal S1024x256 .f32) (vv : Vec Ideal S1x64x256 .f32) (a : Vec Ideal S1x1024x64 .f32)
    (hA : ∀ j, A (ix2 ρ j) = if o + j.val < p then (wt z p (o + j.val) : EReal) else 0)
    (hv : ∀ j, vv (ix3 0 d j) = v (o + j.val)) (ha : a (ix3 0 ρ d) = mixed z v p (o + 256)) :
    passA A vv a (ix3 0 ρ d) = mixed z v p o := by
  rw [passA_apply, ha, ← mixed_block z v p o]
  refine congrArg (fun e : EReal => _ + e) (Finset.sum_congr rfl fun j _ => ?_)
  rw [hA, hv]

end Step

section Block
variable (z : ℕ → ℝ) (p o : ℕ) (ρ : Fin 1024) (c : Vec Ideal S1x1024x1 .f32)
  (hc : c (ix3 0 ρ 0) = (carried z p (o + 256) : EReal)) (q : FVec Ideal S1024x64 .bf16) (k : Vec Ideal S1x64x256 .f32)
  (hz : ∀ j, logit q k (ix2 ρ j) = (z (o + j.val) : EReal))

include hc hz in
/-- An unmasked block's carried sum. -/
theorem openC_eq (hp : o + 256 ≤ p) : openC q k c (ix3 0 ρ 0) = (carried z p o : EReal) :=
  stepC z p o ρ c hc _ fun j => by
    rw [logStay_apply _ _ _ _ (hz j), own, if_pos (by omega)]

include hc hz in
/-- An unmasked block's accumulator. -/
theorem openA_eq (hp : o + 256 ≤ p) (v : ℕ → EReal) (d : Fin 64) (vv : Vec Ideal S1x64x256 .f32) (a : Vec Ideal S1x1024x64 .f32)
    (hv : ∀ j, vv (ix3 0 d j) = v (o + j.val)) (ha : a (ix3 0 ρ d) = mixed z v p (o + 256)) :
    openA q k vv c a (ix3 0 ρ d) = mixed z v p o :=
  stepA z p o ρ v d _ vv a (fun j => by
    rw [if_pos (by omega)]
    exact stepW z p o ρ c hc _ (fun j => by rw [logStay_apply _ _ _ _ (hz j), own, if_pos (by omega)]) _
      (fun j => logTake_apply _ _ _ _ (hz j)) j) hv ha

variable (vis : IVec S1x256x256 1) (hvis : ∀ j, vis (ix3 0 (col ρ) j) = 1#1 ↔ o + j.val < p)

include hz hvis in
/-- The masked block's own terms. -/
theorem hide_own (j : Fin 256) : hide vis (logStay (logit q k)) (ix2 ρ j) = (own z p o j : EReal) := by
  rw [hide_apply, own, logStay_apply _ _ _ _ (hz j)]
  by_cases h : o + j.val < p
  · rw [if_pos ((hvis j).2 h), if_pos h]
  · rw [if_neg (fun e => h ((hvis j).1 e)), if_neg h, EReal.coe_zero]

include hc hz hvis in
/-- The masked block's carried sum. -/
theorem lastC_eq : lastC vis q k c (ix3 0 ρ 0) = (carried z p o : EReal) :=
  stepC z p o ρ c hc _ (hide_own z p o ρ q k hz vis hvis)

include hc hz hvis in
/-- The masked block's accumulator. -/
theorem lastA_eq (v : ℕ → EReal) (d : Fin 64) (vv : Vec Ideal S1x64x256 .f32) (a : Vec Ideal S1x1024x64 .f32)
    (hv : ∀ j, vv (ix3 0 d j) = v (o + j.val)) (ha : a (ix3 0 ρ d) = mixed z v p (o + 256)) :
    lastA vis q k vv c a (ix3 0 ρ d) = mixed z v p o :=
  stepA z p o ρ v d _ vv a (fun j => by
    rw [hide_apply, stepW z p o ρ c hc _ (hide_own z p o ρ q k hz vis hvis) _ (fun j => logTake_apply _ _ _ _ (hz j)) j]
    exact if_congr (hvis j) rfl rfl) hv ha

end Block

section Pieces
variable {F : FTy → Type} [FloatOps F]

/-- A group's piece read where it lies. -/
theorem read_group_mem {n : ℕ} (v : View sig .tc .vmem ⟨3, ![2, 1024, n]⟩ .f32) (f : v.ty.Contents (Elt F)) (g : Fin 2)
    (h : ∀ a, (![g.val, 0, 0] : Fin 3 → ℕ) a + (![1, 1024, n] : Fin 3 → ℕ) a ≤ (![2, 1024, n] : Fin 3 → ℕ) a)
    (w : (⟨3, ![1, 1024, n]⟩ : Shape).Idx → F .f32) (L : List (View.Piece (Elt F) ⟨3, ![2, 1024, n]⟩ .f32)) (ρ : Fin 1024) (d : Fin n) :
    v.read (Elt F) (v.writes (Elt F) f (⟨Rect.unit (s := ⟨3, ![2, 1024, n]⟩) ![g.val, 0, 0] ![1, 1024, n] h, w⟩ :: L)) (ix3 g ρ d) = w (ix3 0 ρ d) :=
  View.read_writes_cons_unit_of_mem v f h w L (ix3 g ρ d) (ix3 0 ρ d) rfl fun a => by
    fin_cases a
    · rfl
    · show ρ.val = 0 + ρ.val; omega
    · show d.val = 0 + d.val; omega

/-- A group's piece passed over in the other group. -/
theorem read_group_not_mem {n : ℕ} (v : View sig .tc .vmem ⟨3, ![2, 1024, n]⟩ .f32) (f : v.ty.Contents (Elt F)) (g g' : Fin 2) (hg : g' ≠ g)
    (h : ∀ a, (![g.val, 0, 0] : Fin 3 → ℕ) a + (![1, 1024, n] : Fin 3 → ℕ) a ≤ (![2, 1024, n] : Fin 3 → ℕ) a)
    (w : (⟨3, ![1, 1024, n]⟩ : Shape).Idx → F .f32) (L : List (View.Piece (Elt F) ⟨3, ![2, 1024, n]⟩ .f32)) (ρ : Fin 1024) (d : Fin n) :
    v.read (Elt F) (v.writes (Elt F) f (⟨Rect.unit (s := ⟨3, ![2, 1024, n]⟩) ![g.val, 0, 0] ![1, 1024, n] h, w⟩ :: L)) (ix3 g' ρ d)
      = v.read (Elt F) (v.writes (Elt F) f L) (ix3 g' ρ d) :=
  View.read_writes_cons_unit_of_not_mem v f h w L (ix3 g' ρ d) rfl 0 (by
    show g'.val < g.val ∨ g.val + 1 ≤ g'.val
    have : g'.val ≠ g.val := fun e => hg (Fin.ext e)
    omega)

/-- After a block's stores each group's carried sums are its piece's. -/
theorem read_twoC (v : View sig .tc .vmem S2x1024x1 .f32) (f : v.ty.Contents (Elt F)) (P : Fin 2 → FVec F S1x1024x1 .f32) (L) (g : Fin 2) (ρ : Fin 1024) :
    v.read (Elt F) (v.writes (Elt F) f (twoC (P 0) (P 1) ++ L)) (ix3 g ρ 0) = P g (ix3 0 ρ 0) := by
  match g with
  | 1 => exact read_group_mem v f 1 _ (P 1) _ ρ 0
  | 0 => exact (read_group_not_mem v f 1 0 (by decide) _ (P 1) _ ρ 0).trans (read_group_mem v f 0 _ (P 0) _ ρ 0)

/-- After a block's stores each group's accumulator is its piece's. -/
theorem read_twoA (v : View sig .tc .vmem S2x1024x64 .f32) (f : v.ty.Contents (Elt F)) (P : Fin 2 → FVec F S1x1024x64 .f32) (L) (g : Fin 2)
    (ρ : Fin 1024) (d : Fin 64) :
    v.read (Elt F) (v.writes (Elt F) f (twoA (P 0) (P 1) ++ L)) (ix3 g ρ d) = P g (ix3 0 ρ d) := by
  match g with
  | 1 => exact read_group_mem v f 1 _ (P 1) _ ρ d
  | 0 => exact (read_group_not_mem v f 1 0 (by decide) _ (P 1) _ ρ d).trans (read_group_mem v f 0 _ (P 0) _ ρ d)

/-- The loaded carried sums. -/
theorem rowsC_apply (a5 : Memref sig .tc .vmem S2x1024x1 .f32) (f : BufTy.Contents (Elt F) a5.view.ty) (g : Fin 2) (h) (ρ : Fin 1024) :
    rowsC (F := F) a5 f ![g.val, 0, 0] h (ix3 0 ρ 0) = a5.view.read (Elt F) f (ix3 g ρ 0) := by
  unfold rowsC
  rw [View.readAt_apply]
  refine congrArg _ (funext fun a => Fin.ext ?_)
  fin_cases a
  · show g.val + 1 * 0 = g.val; omega
  · show 0 + 1 * ρ.val = ρ.val; omega
  · rfl

/-- The loaded accumulator. -/
theorem rowsA_apply (a6 : Memref sig .tc .vmem S2x1024x64 .f32) (f : BufTy.Contents (Elt F) a6.view.ty) (g : Fin 2) (h) (ρ : Fin 1024) (d : Fin 64) :
    rowsA (F := F) a6 f ![g.val, 0, 0] h (ix3 0 ρ d) = a6.view.read (Elt F) f (ix3 g ρ d) := by
  unfold rowsA
  rw [View.readAt_apply]
  refine congrArg _ (funext fun a => Fin.ext ?_)
  fin_cases a
  · show g.val + 1 * 0 = g.val; omega
  · show 0 + 1 * ρ.val = ρ.val; omega
  · show 0 + 1 * d.val = d.val; omega

/-- The loaded keys or values, by column. -/
theorem rowsK_apply (a3 : Memref sig .tc .vmem S1x256x2048 .f32) (h3 : a3.IsWhole) (x1 : Vec F S1x256x2048 .f32) (o : Fin 3 → ℕ) (h)
    (r off : ℕ) (ho : ∀ a, o a = (![0, r, off] : Fin 3 → ℕ) a) (d : Fin 64) (j : Fin 256) (r' : Fin 256) (t : Fin 2048)
    (er : r'.val = r + d.val) (et : t.val = off + j.val) :
    rowsK (F := F) a3 (h3.unread x1) o h (ix3 0 d j) = x1 (ix3 0 r' t) := by
  unfold rowsK
  rw [View.readAt_apply, h3.read_unread]
  refine congrArg _ (funext fun a => Fin.ext ?_)
  fin_cases a
  · show o 0 + 1 * 0 = 0
    rw [ho]; rfl
  · show o 1 + 1 * d.val = r'.val
    rw [ho, er]; show r + 1 * d.val = _; omega
  · show o 2 + 1 * j.val = t.val
    rw [ho, et]; show off + 1 * j.val = _; omega

end Pieces

/-- Every row's carried sum and accumulator are those of the keys from `o` up to its query's position. -/
def At (v5 : View sig .tc .vmem S2x1024x1 .f32) (v6 : View sig .tc .vmem S2x1024x64 .f32) (f5 : v5.ty.Contents (Elt Ideal))
    (f6 : v6.ty.Contents (Elt Ideal)) (Z : Fin 2 → Fin 1024 → ℕ → ℝ) (V : Fin 2 → Fin 64 → ℕ → EReal) (P : Fin 1024 → ℕ) (o : ℕ) : Prop :=
  (∀ g ρ, v5.read (Elt Ideal) f5 (ix3 g ρ 0) = (carried (Z g ρ) (P ρ) o : EReal))
    ∧ ∀ g ρ d, v6.read (Elt Ideal) f6 (ix3 g ρ d) = mixed (Z g ρ) (V g d) (P ρ) o

end Cert.Kernel5Ideal.Sb
-- ==== Proof.Sb.Point.lean ====
/-
  What one grid point of the stick-breaking kernel leaves in the output's block, over the extended reals: at each query the
  values of the earlier keys, each under the weight the stick leaves it.
-/
module

public import proofs.«01_k».proof.Proof.Sb.Run
public import proofs.«01_k».proof.Proof.Sb.State

@[expose] public section

set_option maxRecDepth 16384

noncomputable section

open Idealize.ShloMosaic Idealize.ShloMosaic.TcCoe Idealize.SL.Sem

namespace Cert.Kernel5Ideal.Sb

open Cert.Kernel5Ideal Cert.Kernel5Ideal.Gen Cert.Sb Cert.Mla

/-- One head's loaded rows of the accumulator. -/
theorem rowsH_apply {F : FTy → Type} [FloatOps F] (a6 : Memref sig .tc .vmem S2x1024x64 .f32) (f : BufTy.Contents (Elt F) a6.view.ty)
    (g o : ℕ) (h) (x : Fin 256) (d : Fin 64) (g' : Fin 2) (ρ : Fin 1024) (d' : Fin 64) (eg : g'.val = g) (eρ : ρ.val = o + x.val)
    (ed : d'.val = d.val) : rowsH (F := F) a6 f ![g, o, 0] h (ix3 0 x d) = a6.view.read (Elt F) f (ix3 g' ρ d') := by
  unfold rowsH
  rw [View.readAt_apply]
  refine congrArg _ (funext fun a => Fin.ext ?_)
  fin_cases a
  · show g + 1 * 0 = g'.val; omega
  · show o + 1 * x.val = ρ.val; omega
  · show 0 + 1 * d.val = d'.val; omega

/-- The stored block at a query and column is the accumulator at the column's group, the head's row and the head's column. -/
theorem collect_apply (a6 : Memref sig .tc .vmem S2x1024x64 .f32) (f : BufTy.Contents (Elt Ideal) a6.view.ty) (x : Fin 256) (r : Fin 512) :
    collect (F := Ideal) a6 f (ix2 x r) = a6.view.read (Elt Ideal) f (ix3 ⟨r.val / 256, by omega⟩ ⟨r.val / 64 % 4 * 256 + x.val, by omega⟩ ⟨r.val % 64, by omega⟩) := by
  have hr := r.isLt
  unfold collect k0_pay1 k0_pay63 k0_pay64 k0_pay65 k0_pay66
  pointwise
  repeat' split
  all_goals
    refine rowsH_apply a6 f _ _ _ _ _ _ _ _ ?_ ?_ ?_
    all_goals (dsimp only; omega)

/-- The loaded queries are the block. -/
theorem loadQ_eq {F : FTy → Type} [FloatOps F] (a2 : Memref sig .tc .vmem S256x512 .f32) (h2 : a2.IsWhole) (x0 : Vec F S256x512 .f32) :
    loadQ a2 h2 x0 = x0 := by
  unfold loadQ
  rw [View.readAt_eq_ld, h2.read_unread, View.ld_unit_zero (funext fun a => by fin_cases a <;> rfl)]

/-- A group's queries at a row: the row's head's columns of the query, over eight. -/
theorem queries0_apply (a2 : Memref sig .tc .vmem S256x512 .f32) (h2 : a2.IsWhole) (x0 : Vec Ideal S256x512 .f32) (ρ : Fin 1024) (a : Fin 64) :
    queries0 a2 h2 x0 (ix2 ρ a) = x0 (ix2 ⟨ρ.val % 256, by omega⟩ ⟨0 * 256 + ρ.val / 256 * 64 + a.val, by omega⟩) * Ideal.ofBits .f32 0x3E000000#32 := by
  have hρ := ρ.isLt
  unfold queries0 k0_pay33 k0_pay32
  rw [loadQ_eq]
  pointwise
  repeat' split
  all_goals
    refine congrArg (fun i => x0 i * _) (congr (congrArg ix2 (Fin.ext ?_)) (Fin.ext ?_))
    all_goals (dsimp only; omega)
theorem queries1_apply (a2 : Memref sig .tc .vmem S256x512 .f32) (h2 : a2.IsWhole) (x0 : Vec Ideal S256x512 .f32) (ρ : Fin 1024) (a : Fin 64) :
    queries1 a2 h2 x0 (ix2 ρ a) = x0 (ix2 ⟨ρ.val % 256, by omega⟩ ⟨1 * 256 + ρ.val / 256 * 64 + a.val, by omega⟩) * Ideal.ofBits .f32 0x3E000000#32 := by
  have hρ := ρ.isLt
  unfold queries1 k0_pay34 k0_pay32
  rw [loadQ_eq]
  pointwise
  repeat' split
  all_goals
    refine congrArg (fun i => x0 i * _) (congr (congrArg ix2 (Fin.ext ?_)) (Fin.ext ?_))
    all_goals (dsimp only; omega)

section Body
variable (c : Dev nD) (i : grid0.Coords) (arg2 : Memref sig .tc .vmem S256x512 .f32) (harg2 : arg2.IsWhole) (arg3 : Memref sig .tc .vmem S1x256x2048 .f32) (harg3 : arg3.IsWhole) (arg4 : Memref sig .tc .vmem S256x512 .bf16) (harg4 : arg4.IsWhole) (arg5 : Memref sig .tc .vmem S2x1024x1 .f32) (harg5 : arg5.IsWhole) (arg6 : Memref sig .tc .vmem S2x1024x64 .f32) (harg6 : arg6.IsWhole)
  (x0 : Vec Ideal S256x512 .f32) (x1 : Vec Ideal S1x256x2048 .f32)
  (Q : Fin 256 → Fin 512 → ℝ) (K : Fin 128 → ℕ → ℝ) (V : Fin 128 → ℕ → EReal)

/-- The logits of a group's row. -/
def rowLogit (g : Fin 2) (ρ : Fin 1024) (t : ℕ) : ℝ := dotLogit (Q ⟨ρ.val % 256, by omega⟩) K g ⟨ρ.val / 256, by omega⟩ t

/-- The values of a group's column. -/
def colValue (g : Fin 2) (d : Fin 64) (t : ℕ) : EReal := V ⟨g.val * 64 + d.val, by omega⟩ t

/-- The position of the query in row `ρ` within its sequence. -/
def pos (ρ : Fin 1024) : ℕ := 256 * (i 1).val + ρ.val % 256

/-- The computed logits, where queries and keys are real. -/
theorem logit_real (hK : ∀ (a : Fin 128) (t : Fin 2048), x1 (ix3 0 ⟨a.val, by omega⟩ t) = (K a t.val : EReal)) (g : Fin 2)
    (q : FVec Ideal S1024x64 .bf16)
    (hq : ∀ ρ a, q (ix2 ρ a) = (Q ⟨ρ.val % 256, by omega⟩ ⟨g.val * 256 + ρ.val / 256 * 64 + a.val, by omega⟩ : EReal) * Ideal.ofBits .f32 0x3E000000#32)
    (o : Fin 3 → ℕ) (h) (off : ℕ) (ho : ∀ a, o a = (![0, g.val * 64, off] : Fin 3 → ℕ) a) (hoff : off + 256 ≤ 2048) (ρ : Fin 1024) (j : Fin 256) :
    logit q (rowsK arg3 (harg3.unread x1) o h) (ix2 ρ j) = (rowLogit Q K g ρ (off + j.val) : EReal) := by
  rw [logit_apply, rowLogit, dotLogit, Finset.sum_mul, coe_sum]
  refine Finset.sum_congr rfl fun a _ => ?_
  rw [rowsK_apply arg3 harg3 x1 o h (g.val * 64) off ho a j ⟨g.val * 64 + a.val, by omega⟩ ⟨off + j.val, by omega⟩ rfl rfl, hq,
    hK ⟨g.val * 64 + a.val, by omega⟩, eighth, ← EReal.coe_mul, ← EReal.coe_mul]
  refine congrArg (fun r : ℝ => (r : EReal)) ?_
  ring

/-- The loaded values. -/
theorem value_eq (hV : ∀ (a : Fin 128) (t : Fin 2048), x1 (ix3 0 ⟨128 + a.val, by omega⟩ t) = V a t.val) (g : Fin 2)
    (o : Fin 3 → ℕ) (h) (off : ℕ) (ho : ∀ a, o a = (![0, 128 + g.val * 64, off] : Fin 3 → ℕ) a) (hoff : off + 256 ≤ 2048) (d : Fin 64) (j : Fin 256) :
    rowsK arg3 (harg3.unread x1) o h (ix3 0 d j) = colValue V g d (off + j.val) := by
  rw [rowsK_apply arg3 harg3 x1 o h (128 + g.val * 64) off ho d j ⟨128 + (g.val * 64 + d.val), by omega⟩ ⟨off + j.val, by omega⟩
    (by dsimp only; omega) rfl]
  exact hV ⟨g.val * 64 + d.val, by omega⟩ ⟨off + j.val, by omega⟩

/-- Nothing is carried into the last block. -/
theorem carried_end (z : ℕ → ℝ) (p o : ℕ) (h : p ≤ o) : carried z p o = 0 := by
  unfold carried; rw [Finset.Ico_eq_empty_of_le h, Finset.sum_empty]
theorem mixed_end (z : ℕ → ℝ) (v : ℕ → EReal) (p o : ℕ) (h : p ≤ o) : mixed z v p o = 0 := by
  unfold mixed; rw [Finset.Ico_eq_empty_of_le h, Finset.sum_empty]

/-- The buffers start at zero. -/
theorem read_start5 (f : BufTy.Contents (Elt Ideal) arg5.view.ty) (y : S2x1024x1.Idx) :
    arg5.view.read (Elt Ideal) (arg5.view.writes (Elt Ideal) f start5) y = 0 := by
  refine (View.read_writes_cons_unit_of_mem arg5.view _ inb_S2x1024x1_S2x1024x1_0_0_0 _ [] y y rfl fun a => by fin_cases a <;> exact (Nat.zero_add _).symm).trans ?_
  unfold k0_pay35
  rw [shapeCast_self]
  exact Ideal.ofBits_zero_f32
theorem read_start6 (f : BufTy.Contents (Elt Ideal) arg6.view.ty) (y : S2x1024x64.Idx) :
    arg6.view.read (Elt Ideal) (arg6.view.writes (Elt Ideal) f start6) y = 0 := by
  refine (View.read_writes_cons_unit_of_mem arg6.view _ inb_S2x1024x64_S2x1024x64_0_0_0 _ [] y y rfl fun a => by fin_cases a <;> exact (Nat.zero_add _).symm).trans ?_
  unfold k0_pay36
  rw [shapeCast_self]
  exact Ideal.ofBits_zero_f32

end Body

end Cert.Kernel5Ideal.Sb
-- ==== Proof.Sb.Block.lean ====
/-
  The stick-breaking kernel's block at one grid point: the masked block of keys, then the unmasked ones from the last down.
-/
module

public import proofs.«01_k».proof.Proof.Sb.Point

@[expose] public section

set_option maxRecDepth 16384

noncomputable section

open Idealize.ShloMosaic Idealize.ShloMosaic.TcCoe Idealize.SL.Sem

namespace Cert.Kernel5Ideal.Sb

open Cert.Kernel5Ideal Cert.Kernel5Ideal.Gen Cert.Sb Cert.Mla

variable (c : Dev nD) (i : grid0.Coords) (arg2 : Memref sig .tc .vmem S256x512 .f32) (harg2 : arg2.IsWhole) (arg3 : Memref sig .tc .vmem S1x256x2048 .f32) (harg3 : arg3.IsWhole) (arg4 : Memref sig .tc .vmem S256x512 .bf16) (harg4 : arg4.IsWhole) (arg5 : Memref sig .tc .vmem S2x1024x1 .f32) (harg5 : arg5.IsWhole) (arg6 : Memref sig .tc .vmem S2x1024x64 .f32) (harg6 : arg6.IsWhole)
  (x0 : Vec Ideal S256x512 .f32) (x1 : Vec Ideal S1x256x2048 .f32)
  (Q : Fin 256 → Fin 512 → ℝ) (K : Fin 128 → ℕ → ℝ) (V : Fin 128 → ℕ → EReal)
  (hQ : ∀ x r, x0 (ix2 x r) = (Q x r : EReal)) (hK : ∀ (a : Fin 128) (t : Fin 2048), x1 (ix3 0 (keyRow a) t) = (K a t.val : EReal))
  (hV : ∀ (a : Fin 128) (t : Fin 2048), x1 (ix3 0 (valueRow a) t) = V a t.val)

include hQ in
/-- The first group's queries, where the queries are real. -/
theorem queries0_real (ρ : Fin 1024) (a : Fin 64) : queries0 arg2 harg2 x0 (ix2 ρ a)
    = (Q ⟨ρ.val % 256, by omega⟩ ⟨(0 : Fin 2).val * 256 + ρ.val / 256 * 64 + a.val, by have : (0 : Fin 2).val = 0 := rfl; omega⟩ : EReal) * Ideal.ofBits .f32 0x3E000000#32 := by
  rw [queries0_apply, hQ]
  rfl

include hQ in
/-- The second group's. -/
theorem queries1_real (ρ : Fin 1024) (a : Fin 64) : queries1 arg2 harg2 x0 (ix2 ρ a)
    = (Q ⟨ρ.val % 256, by omega⟩ ⟨(1 : Fin 2).val * 256 + ρ.val / 256 * 64 + a.val, by have : (1 : Fin 2).val = 1 := rfl; omega⟩ : EReal) * Ideal.ofBits .f32 0x3E000000#32 := by
  rw [queries1_apply, hQ]
  rfl

/-- The keys of the masked block a query sees are those before its position. -/
theorem seen_pos (ρ : Fin 1024) (j : Fin 256) :
    seen i (ix3 0 (col ρ) j) = 1#1 ↔ 256 * (i 1).val + j.val < pos i ρ := by
  rw [seen_iff]
  unfold pos
  dsimp only
  omega

include hQ hK hV in
/-- THE MASKED BLOCK leaves every row at the keys from the query block's start. -/
theorem masked_at : At arg5.view arg6.view (enter5 i arg2 harg2 arg3 harg3 arg5 x0 x1) (enter6 i arg2 harg2 arg3 harg3 arg5 arg6 x0 x1)
    (rowLogit Q K) (colValue V) (pos i) (256 * (i 1).val) := by
  have hi : (i 1).val < 8 := (i 1).isLt
  have hp : ∀ ρ, pos i ρ ≤ 256 * (i 1).val + 256 := fun ρ => by unfold pos; omega
  have z0 := fun ρ j => logit_real arg3 harg3 x1 Q K hK 0 _ (queries0_real arg2 harg2 x0 Q hQ) (k0_off1 i) (k0_off1_inb i) _
    (fun a => (off_last i a).1) (by omega) ρ j
  have z1 := fun ρ j => logit_real arg3 harg3 x1 Q K hK 1 _ (queries1_real arg2 harg2 x0 Q hQ) (k0_off3 i) (k0_off3_inb i) _
    (fun a => (off_last i a).2.2.1) (by omega) ρ j
  have c0 : ∀ ρ, first5 (F := Ideal) arg5 (ix3 0 ρ 0) = (carried (rowLogit Q K 0 ρ) (pos i ρ) (256 * (i 1).val + 256) : EReal) := fun ρ => by
    rw [carried_end _ _ _ (hp ρ), EReal.coe_zero]
    exact (rowsC_apply arg5 _ 0 _ ρ).trans (read_start5 arg5 _ _)
  have c1 : ∀ ρ, second5 i arg2 harg2 arg3 harg3 arg5 x0 x1 (ix3 0 ρ 0)
      = (carried (rowLogit Q K 1 ρ) (pos i ρ) (256 * (i 1).val + 256) : EReal) := fun ρ => by
    rw [carried_end _ _ _ (hp ρ), EReal.coe_zero]
    exact ((rowsC_apply arg5 _ 1 _ ρ).trans (read_group_not_mem arg5.view _ 0 1 (by decide) _ _ _ ρ 0)).trans (read_start5 arg5 _ _)
  refine ⟨fun g ρ => ?_, fun g ρ d => ?_⟩
  · refine (read_twoC arg5.view _ ![_, _] start5 g ρ).trans ?_
    match g with
    | 0 => exact lastC_eq _ _ _ ρ _ (c0 ρ) _ _ (z0 ρ) _ (seen_pos i ρ)
    | 1 => exact lastC_eq _ _ _ ρ _ (c1 ρ) _ _ (z1 ρ) _ (seen_pos i ρ)
  · refine (read_twoA arg6.view _ ![_, _] start6 g ρ d).trans ?_
    match g with
    | 0 =>
      refine lastA_eq _ _ _ ρ _ (c0 ρ) _ _ (z0 ρ) _ (seen_pos i ρ) _ d _ _
        (fun j => value_eq arg3 harg3 x1 V hV 0 (k0_off2 i) (k0_off2_inb i) _ (fun a => (off_last i a).2.1) (by omega) d j) ?_
      rw [mixed_end _ _ _ _ (hp ρ)]
      exact (rowsA_apply arg6 _ 0 _ ρ d).trans (read_start6 arg6 _ _)
    | 1 =>
      refine lastA_eq _ _ _ ρ _ (c1 ρ) _ _ (z1 ρ) _ (seen_pos i ρ) _ d _ _
        (fun j => value_eq arg3 harg3 x1 V hV 1 (k0_off4 i) (k0_off4_inb i) _ (fun a => (off_last i a).2.2.2) (by omega) d j) ?_
      rw [mixed_end _ _ _ _ (hp ρ)]
      exact ((rowsA_apply arg6 _ 1 _ ρ d).trans (read_group_not_mem arg6.view _ 0 1 (by decide) _ _ _ ρ d)).trans (read_start6 arg6 _ _)

/-- No trip, no store. -/
theorem trips_zero : trips c i arg2 harg2 arg3 harg3 arg4 harg4 arg5 harg5 arg6 harg6 x0 x1 0 = ([], []) := by
  unfold trips
  rfl

/-- Where nothing is stored, the rows stay as they are. -/
theorem at_rest (v5 : View sig .tc .vmem S2x1024x1 .f32) (v6 : View sig .tc .vmem S2x1024x64 .f32) (f5 : v5.ty.Contents (Elt Ideal))
    (f6 : v6.ty.Contents (Elt Ideal)) (Z : Fin 2 → Fin 1024 → ℕ → ℝ) (U : Fin 2 → Fin 64 → ℕ → EReal) (P : Fin 1024 → ℕ) (o : ℕ)
    (L : List (View.Piece (Elt Ideal) S2x1024x1 .f32) × List (View.Piece (Elt Ideal) S2x1024x64 .f32)) (hL : L = ([], []))
    (h : At v5 v6 f5 f6 Z U P o) : At v5 v6 (v5.writes (Elt Ideal) f5 L.1) (v6.writes (Elt Ideal) f6 L.2) Z U P o := by
  subst hL
  exact h

set_option maxHeartbeats 1000000 in
include hQ hK hV in
/-- THE UNMASKED BLOCKS: before trip `k` every row is at the keys from `k` blocks below the query block's start. -/
theorem trips_at (k : ℕ) (hk : k ≤ (k0_t1_loop i).trips) :
    At arg5.view arg6.view
      (arg5.view.writes (Elt Ideal) (enter5 i arg2 harg2 arg3 harg3 arg5 x0 x1)
        (trips c i arg2 harg2 arg3 harg3 arg4 harg4 arg5 harg5 arg6 harg6 x0 x1 k).1)
      (arg6.view.writes (Elt Ideal) (enter6 i arg2 harg2 arg3 harg3 arg5 arg6 x0 x1)
        (trips c i arg2 harg2 arg3 harg3 arg4 harg4 arg5 harg5 arg6 harg6 x0 x1 k).2)
      (rowLogit Q K) (colValue V) (pos i) (256 * ((i 1).val - k)) := by
  induction k with
  | zero =>
    rw [Nat.sub_zero]
    exact at_rest arg5.view arg6.view _ _ _ _ _ _ _ (trips_zero c i arg2 harg2 arg3 harg3 arg4 harg4 arg5 harg5 arg6 harg6 x0 x1)
      (masked_at i arg2 harg2 arg3 harg3 arg5 arg6 x0 x1 Q K V hQ hK hV)
  | succ k ih =>
    have h := ih (by omega)
    have hlt : k < (k0_t1_loop i).trips := hk
    have ht := trips_eq i
    have hi : (i 1).val < 8 := (i 1).isLt
    have e1 : 256 * ((i 1).val - k) = 256 * ((i 1).val - 1 - k) + 256 := by omega
    have e2 : 256 * ((i 1).val - (k + 1)) = 256 * ((i 1).val - 1 - k) := by omega
    have hp : ∀ ρ, 256 * ((i 1).val - 1 - k) + 256 ≤ pos i ρ := fun ρ => by unfold pos; omega
    rw [e1] at h
    rw [e2]
    unfold trips at h ⊢
    dsimp only at h ⊢
    rw [pb_k0_t1_succ Variants.none c none i arg2 harg2 arg3 harg3 arg4 harg4 arg5 harg5 arg6 harg6 _ _ _ _ _ _ _ _ _ _ _ _ ⟨k, hlt⟩]
    rw [tripL_eq]
    dsimp only
    have z0 := fun ρ j => logit_real arg3 harg3 x1 Q K hK 0 _ (queries0_real arg2 harg2 x0 Q hQ) (k0_off5 i ⟨k, hlt⟩) (k0_off5_inb i ⟨k, hlt⟩) _
      (fun a => (off_open i ⟨k, hlt⟩ a).1) (by dsimp only; omega) ρ j
    have z1 := fun ρ j => logit_real arg3 harg3 x1 Q K hK 1 _ (queries1_real arg2 harg2 x0 Q hQ) (k0_off7 i ⟨k, hlt⟩) (k0_off7_inb i ⟨k, hlt⟩) _
      (fun a => (off_open i ⟨k, hlt⟩ a).2.2.1) (by dsimp only; omega) ρ j
    refine ⟨fun g ρ => ?_, fun g ρ d => ?_⟩
    · refine (read_twoC arg5.view _ ![_, _] _ g ρ).trans ?_
      match g with
      | 0 => exact openC_eq _ _ _ ρ _ ((rowsC_apply arg5 _ 0 _ ρ).trans (h.1 0 ρ)) _ _ (z0 ρ) (hp ρ)
      | 1 => exact openC_eq _ _ _ ρ _ ((rowsC_apply arg5 _ 1 _ ρ).trans (h.1 1 ρ)) _ _ (z1 ρ) (hp ρ)
    · refine (read_twoA arg6.view _ ![_, _] _ g ρ d).trans ?_
      match g with
      | 0 =>
        exact openA_eq _ _ _ ρ _ ((rowsC_apply arg5 _ 0 _ ρ).trans (h.1 0 ρ)) _ _ (z0 ρ) (hp ρ) _ d _ _
          (fun j => value_eq arg3 harg3 x1 V hV 0 (k0_off6 i ⟨k, hlt⟩) (k0_off6_inb i ⟨k, hlt⟩) _ (fun a => (off_open i ⟨k, hlt⟩ a).2.1)
            (by dsimp only; omega) d j) ((rowsA_apply arg6 _ 0 _ ρ d).trans (h.2 0 ρ d))
      | 1 =>
        exact openA_eq _ _ _ ρ _ ((rowsC_apply arg5 _ 1 _ ρ).trans (h.1 1 ρ)) _ _ (z1 ρ) (hp ρ) _ d _ _
          (fun j => value_eq arg3 harg3 x1 V hV 1 (k0_off8 i ⟨k, hlt⟩) (k0_off8_inb i ⟨k, hlt⟩) _ (fun a => (off_open i ⟨k, hlt⟩ a).2.2.2)
            (by dsimp only; omega) d j) ((rowsA_apply arg6 _ 1 _ ρ d).trans (h.2 1 ρ d))

/-- WHAT THE POINT LEAVES: at query `x` and column `r` the earlier keys' values under their weights. -/
theorem out_apply (hQ : ∀ x r, x0 (ix2 x r) = (Q x r : EReal))
    (hK : ∀ (a : Fin 128) (t : Fin 2048), x1 (ix3 0 (keyRow a) t) = (K a t.val : EReal))
    (hV : ∀ (a : Fin 128) (t : Fin 2048), x1 (ix3 0 (valueRow a) t) = V a t.val) (x : Fin 256) (r : Fin 512) :
    out0_A_2 c i arg2 harg2 arg3 harg3 arg4 harg4 arg5 harg5 arg6 harg6 x0 x1 (ix2 x r)
      = mixed (dotLogit (Q x) K (groupOf r) (headOf r)) (V (valueOf r))
          (256 * (i 1).val + x.val) 0 := by
  have h := trips_at c i arg2 harg2 arg3 harg3 arg4 harg4 arg5 harg5 arg6 harg6 x0 x1 Q K V hQ hK hV _ le_rfl
  have hA := h.2 (groupOf r) ⟨r.val / 64 % 4 * 256 + x.val, by omega⟩ ⟨r.val % 64, by omega⟩
  unfold out0_A_2
  rw [run_eq, View.read_writes_junk_eq_canon, View.canon_unit_zero (funext fun a => by fin_cases a <;> rfl), collect_apply, View.writes_append]
  refine hA.trans ?_
  rw [trips_eq, Nat.sub_self, Nat.mul_zero]
  unfold rowLogit pos
  have e1 : (r.val / 64 % 4 * 256 + x.val) / 256 = r.val / 64 % 4 := by omega
  have e2 : (r.val / 64 % 4 * 256 + x.val) % 256 = x.val := by omega
  simp only [e1, e2]
  rfl

end Cert.Kernel5Ideal.Sb
-- ==== Proof.Sb.Array.lean ====
/-
  The stick-breaking kernel's result array: each grid point writes one block of 256 queries, and the blocks tile the array.
-/
module

public import proofs.«01_k».proof.Proof.Gen.Kernel5Ideal.Value
public import proofs.«01_k».proof.Proof.Sb.Block
public import Idealize.ShloMosaic.Lib.Pipeline.ValueKit

@[expose] public section

set_option maxRecDepth 16384

noncomputable section

open Idealize.ShloMosaic Idealize.ShloMosaic.TcCoe Idealize.SL.Sem

namespace Cert.Kernel5Ideal.Sb

open Cert.Kernel5Ideal Cert.Kernel5Ideal.Gen Cert.Sb

variable (m : (ℓ : Loc nD τ sig) → Buf (Elt Ideal) ℓ) (c : Dev nD)
  (Q : Fin 32768 → Fin 512 → ℝ) (K : Fin 16 → Fin 128 → ℕ → ℝ) (U : Fin 16 → Fin 128 → ℕ → EReal)

/-- Where each window stands at a grid point, and the point's place within its sequence. -/
theorem places : ∀ t : Fin cfg0.N, win0_0.index t = ![t.val, 7] ∧ win0_1.index t = ![t.val / 8, 0, 0]
    ∧ win0_2.index t = ![t.val, 0] ∧ (grid0.coords t 1).val = t.val % 8 :=
  (by decide +kernel : ∀ t : Fin grid0.N, _)

/-- The stick-breaking attention at a position and column. -/
def stick (n : Fin 32768) (r : Fin 512) : EReal :=
  mixed (dotLogit (Q n) (K ⟨n.val / 2048, by omega⟩) (groupOf r) (headOf r))
    (U ⟨n.val / 2048, by omega⟩ (valueOf r)) (n.val % 2048) 0

/-- One point's block: 256 positions of one sequence. -/
theorem point_eq
    (hQ : ∀ n (a : Fin 512), (m ((c.tc : Thread nD τ).loc main_arg0) : S32768x4480.Idx → EReal) (ix2 n ⟨3584 + a.val, by omega⟩) = (Q n a : EReal))
    (hK : ∀ b (a : Fin 128) (t : Fin 2048), (m ((c.tc : Thread nD τ).loc main_arg1) : S16x256x2048.Idx → EReal) (ix3 b (keyRow a) t) = (K b a t.val : EReal))
    (hV : ∀ b (a : Fin 128) (t : Fin 2048), (m ((c.tc : Thread nD τ).loc main_arg1) : S16x256x2048.Idx → EReal) (ix3 b (valueRow a) t) = U b a t.val)
    (t : Fin cfg0.N) (ht : t.val < 128) (x : Fin 256) (r : Fin 512) :
    (outsAt0 m c t : S256x512.Idx → EReal) (ix2 x r) = stick Q K U ⟨256 * t.val + x.val, by omega⟩ r := by
  obtain ⟨e0, e1, e2, ec⟩ := places t
  have kq : ∀ (x : Fin 256) (a : Fin 512), (X0_0 m c t : S256x512.Idx → EReal) (ix2 x a) = (Q ⟨256 * t.val + x.val, by omega⟩ a : EReal) := by
    intro x a
    rw [← hQ]
    refine (dif_pos (moved0_0 t (ix2 x a))).trans ?_
    blk_ext [iblk, V, e0]
  have kk : ∀ (a : Fin 128) (s : Fin 2048), (iblk m c 1 t : S1x256x2048.Idx → EReal) (ix3 0 (keyRow a) s)
      = (K ⟨t.val / 8, by omega⟩ a s.val : EReal) := by
    intro a s
    rw [← hK]
    blk_ext [iblk, V, e1]
  have kv : ∀ (a : Fin 128) (s : Fin 2048), (iblk m c 1 t : S1x256x2048.Idx → EReal) (ix3 0 (valueRow a) s)
      = U ⟨t.val / 8, by omega⟩ a s.val := by
    intro a s
    rw [← hV]
    blk_ext [iblk, V, e1]
  unfold outsAt0
  refine (out_apply c _ _ _ _ _ _ _ _ _ _ _ _ _ (fun x a => Q ⟨256 * t.val + x.val, by omega⟩ a)
    (K ⟨t.val / 8, by omega⟩) (U ⟨t.val / 8, by omega⟩) kq kk kv x r).trans ?_
  unfold stick
  have p1 : (256 * t.val + x.val) / 2048 = t.val / 8 := by omega
  have p2 : (256 * t.val + x.val) % 2048 = 256 * (t.val % 8) + x.val := by omega
  simp only [p1, p2]
  rw [← ec]

/-- THE RESULT ARRAY after the run is the stick-breaking attention. -/
theorem array_eq
    (hQ : ∀ n (a : Fin 512), (m ((c.tc : Thread nD τ).loc main_arg0) : S32768x4480.Idx → EReal) (ix2 n ⟨3584 + a.val, by omega⟩) = (Q n a : EReal))
    (hK : ∀ b (a : Fin 128) (t : Fin 2048), (m ((c.tc : Thread nD τ).loc main_arg1) : S16x256x2048.Idx → EReal) (ix3 b (keyRow a) t) = (K b a t.val : EReal))
    (hV : ∀ b (a : Fin 128) (t : Fin 2048), (m ((c.tc : Thread nD τ).loc main_arg1) : S16x256x2048.Idx → EReal) (ix3 b (valueRow a) t) = U b a t.val) :
    ((dats m 0 c).arrAt 2 cfg0.N : S32768x512.Idx → EReal) = fun i => stick Q K U (i 0) (i 1) := by
  refine (dats m 0 c).arrAt_eq_of_covers 2 _ (by decide +kernel) fun t hf y => ?_
  obtain ⟨e0, e1, e2, ec⟩ := places t
  have ht : t.val < 128 := N_0 ▸ t.isLt
  have key := point_eq m c Q K U hQ hK hV t ht (y 0) (y 1)
  refine (congrFun (after0_2 m c t) _).trans (Eq.trans ?_ (key.trans ?_))
  · refine congrArg (outsAt0 m c t) ?_
    funext a; fin_cases a <;> rfl
  · refine congr (congrArg (stick Q K U) ?_) ?_
    all_goals
      apply Fin.ext
      blk_simp [e2]
      try (dsimp only; omega)

end Cert.Kernel5Ideal.Sb
-- ==== Proof.Sb.Ref.lean ====
/-
  What the stick-breaking reference computes at an index.
-/
module

public import proofs.«01_k».proof.Proof.Gen.Reference5Ideal.Run
public import proofs.«01_k».proof.Proof.Sb.Stick
public import Idealize.ShloMosaic.Lib.WordCmp
public import Idealize.ShloMosaic.Lib.Pointwise

@[expose] public section

set_option maxRecDepth 16384

noncomputable section

open Idealize.ShloMosaic Idealize.ShloMosaic.TcCoe Idealize.SL.Sem

namespace Cert.Reference5Ideal.Sb

open Cert.Reference5Ideal Cert.Reference5Ideal.Gen Cert.Reference5Ideal.Value Cert.Sb Cert.Mla

/-- A fold of additions is the sum. -/
theorem foldl_add {α : Type} (l : List α) (f : α → EReal) (a : EReal) :
    l.foldl (fun r n => r + f n) a = a + (l.map f).sum := by
  induction l generalizing a with
  | nil => simp
  | cons b l ih => rw [List.foldl_cons, ih, List.map_cons, List.sum_cons, add_assoc]

/-- The sum from a key to the end of what a query below `p` sees. -/
theorem sum_tail {M : Type} [AddCommMonoid M] (k p : ℕ) (hp : p ≤ 2048) (f : ℕ → M) :
    (∑ y : Fin 2048, if k + y.val < p then f (k + y.val) else 0) = ∑ t ∈ Finset.Ico k p, f t := by
  rw [Fin.sum_univ_eq_sum_range (fun y => if k + y < p then f (k + y) else 0), Finset.sum_Ico_eq_sum_range]
  refine Eq.symm ((Finset.sum_congr rfl fun y hy => ?_).trans (Finset.sum_subset (Finset.range_subset_range.2 (by omega : p - k ≤ 2048)) fun y _ hy => ?_))
  · rw [if_pos (by have := Finset.mem_range.1 hy; omega)]
  · exact if_neg fun h => hy (Finset.mem_range.2 (by omega))

/-- The window's positions: 2048 along the last axis. -/
theorem window_bij : Function.Bijective (fun y : Fin 2048 => (ix5 0 0 0 0 y : (⟨5, ![1, 1, 1, 1, 2048]⟩ : Shape).Idx)) := by
  refine ⟨fun a b h => congrFun h 4, fun w => ⟨w 4, funext fun a => ?_⟩⟩
  fin_cases a
  · exact Subsingleton.elim (α := Fin 1) _ _
  · exact Subsingleton.elim (α := Fin 1) _ _
  · exact Subsingleton.elim (α := Fin 1) _ _
  · exact Subsingleton.elim (α := Fin 1) _ _
  · rfl

/-- The sums over each key and the later ones, of terms that are real and zero from `p` on. -/
theorem window_apply (x : FVec Ideal S16x2x4x2048x2048 .f32) (v : FVec Ideal S_ .f32) (hv : v (Shape.Idx.first h_S_) = 0)
    (b : Fin 16) (g : Fin 2) (h : Fin 4) (q k : Fin 2048) (p : ℕ) (hp : p ≤ 2048) (f : ℕ → ℝ)
    (hx : ∀ y : Fin 2048, x (ix5 b g h q y) = ((if y.val < p then f y.val else 0 : ℝ) : EReal)) :
    Host.reduceWindowAdd ![1, 1, 1, 1, 2048] ![1, 1, 1, 1, 1] ![0, 0, 0, 0, 0] ![0, 0, 0, 0, 2047] x v reduceWindows_S16x2x4x2048x2048_S16x2x4x2048x2048_w1s1p0_0_w1s1p0_0_w1s1p0_0_w1s1p0_0_w2048s1p0_2047 h_S_ (ix5 b g h q k)
      = ((∑ t ∈ Finset.Ico k.val p, f t : ℝ) : EReal) := by
  unfold Host.reduceWindowAdd
  rw [hv]
  show Ideal.hostReduceWindowAdd _ _ _ _ _ _ _ _ = _
  unfold Ideal.hostReduceWindowAdd Host.reduceWindow
  dsimp only
  rw [foldl_add, zero_add, ← Fin.sum_univ_def, ← Equiv.sum_comp (Shape.rowMajor ⟨5, ![1, 1, 1, 1, 2048]⟩),
    ← Function.Bijective.sum_comp window_bij, ← sum_tail k.val p hp f, coe_sum]
  refine Finset.sum_congr rfl fun y _ => ?_
  have hw := fun a => congrArg (fun w : (⟨5, ![1, 1, 1, 1, 2048]⟩ : Shape).Idx => (w a).val)
    (Equiv.symm_apply_apply (Shape.rowMajor ⟨5, ![1, 1, 1, 1, 2048]⟩) (ix5 0 0 0 0 y))
  by_cases hy : k.val + y.val < 2048
  · rw [dif_pos]
    · refine Eq.trans (congrArg x (funext fun a => Fin.ext ?_)) (hx ⟨k.val + y.val, hy⟩)
      fin_cases a
      · exact (congrArg (fun n => b.val * 1 + n - 0) (hw 0)).trans (by show b.val * 1 + 0 - 0 = b.val; omega)
      · exact (congrArg (fun n => g.val * 1 + n - 0) (hw 1)).trans (by show g.val * 1 + 0 - 0 = g.val; omega)
      · exact (congrArg (fun n => h.val * 1 + n - 0) (hw 2)).trans (by show h.val * 1 + 0 - 0 = h.val; omega)
      · exact (congrArg (fun n => q.val * 1 + n - 0) (hw 3)).trans (by show q.val * 1 + 0 - 0 = q.val; omega)
      · exact (congrArg (fun n => k.val * 1 + n - 0) (hw 4)).trans (by show k.val * 1 + y.val - 0 = k.val + y.val; omega)
    · intro a
      refine ⟨?_, ?_⟩
      · fin_cases a <;> exact Nat.zero_le _
      · fin_cases a
        · exact lt_of_eq_of_lt (congrArg (fun n => b.val * 1 + n - 0) (hw 0)) (by show b.val * 1 + 0 - 0 < 16; omega)
        · exact lt_of_eq_of_lt (congrArg (fun n => g.val * 1 + n - 0) (hw 1)) (by show g.val * 1 + 0 - 0 < 2; omega)
        · exact lt_of_eq_of_lt (congrArg (fun n => h.val * 1 + n - 0) (hw 2)) (by show h.val * 1 + 0 - 0 < 4; omega)
        · exact lt_of_eq_of_lt (congrArg (fun n => q.val * 1 + n - 0) (hw 3)) (by show q.val * 1 + 0 - 0 < 2048; omega)
        · exact lt_of_eq_of_lt (congrArg (fun n => k.val * 1 + n - 0) (hw 4)) (by show k.val * 1 + y.val - 0 < 2048; omega)
  · rw [dif_neg, if_neg (by omega), EReal.coe_zero]
    intro hin
    have h4 : k.val * 1 + y.val - 0 < 2048 := lt_of_eq_of_lt (congrArg (fun n => k.val * 1 + n - 0) (hw 4)).symm (hin 4).2
    omega

/-- The logits. -/
def logits (q : FVec Ideal S32768x4480 .f32) (k : FVec Ideal S16x256x2048 .f32) : FVec Ideal S16x2x4x2048x2048 .f32 :=
  mulf (transpose S16x2x4x2048x2048 [0, 1, 4, 3, 2] (Host.dotGeneral dot_S16x2048x2x64_S16x2048x2x4x64_S16x2x2048x2048x4_3_4_1_13_02_02 none (shapeCast _ (extractStridedSlice S16x2048x1x2x64 ![0, 0, 0, 0, 0] (shapeCast _ (transpose S16x2048x256 [0, 2, 1] k transposes_S16x256x2048_S16x2048x256_0_2_1) shapeCasts_S16x2048x256_S16x2048x2x2x64) slices_S16x2048x2x2x64_S16x2048x1x2x64_0_0_0_0_0) shapeCasts_S16x2048x1x2x64_S16x2048x2x64) (shapeCast _ (extractStridedSlice S32768x512 ![0, 3584] q slices_S32768x4480_S32768x512_0_3584) shapeCasts_S32768x512_S16x2048x2x4x64)) transposes_S16x2x2048x2048x4_S16x2x4x2048x2048_0_1_4_3_2) (broadcastInDim S16x2x4x2048x2048 ![] bcast_S_S16x2x4x2048x2048 (constant S_ .f32 0x3E000000#32))

/-- Zeros. -/
def zeros : FVec Ideal S16x2x4x2048x2048 .f32 := broadcastInDim S16x2x4x2048x2048 ![] bcast_S_S16x2x4x2048x2048 (constant S_ .f32 0x00000000#32)

/-- The logarithm of the logistic function of minus `u`. -/
def logSig (u : FVec Ideal S16x2x4x2048x2048 .f32) : FVec Ideal S16x2x4x2048x2048 .f32 :=
  Host.negf (select (cmpf .une (subf u zeros) (subf u zeros)) (addf u zeros)
    (addf (maximumf u zeros) (Host.log1p (Host.exp (Host.negf (Host.absf (subf u zeros)))))))

/-- Which keys a query sees. -/
def before : IVec S16x2x4x2048x2048 1 :=
  broadcastInDim S16x2x4x2048x2048 ![3, 4] bcast_S2048x2048_S16x2x4x2048x2048_3_4 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- An array with the keys a query does not see at zero. -/
def shown (s : FVec Ideal S16x2x4x2048x2048 .f32) : FVec Ideal S16x2x4x2048x2048 .f32 :=
  select before s (broadcastInDim S16x2x4x2048x2048 ![] bcast_S_S16x2x4x2048x2048 (id (constant S_ .f32 0x00000000#32)))

/-- Each key's sum over itself and the later keys, less its own term. -/
def later (s : FVec Ideal S16x2x4x2048x2048 .f32) : FVec Ideal S16x2x4x2048x2048 .f32 :=
  subf (Host.reduceWindowAdd ![1, 1, 1, 1, 2048] ![1, 1, 1, 1, 1] ![0, 0, 0, 0, 0] ![0, 0, 0, 0, 2047] s (broadcastInDim S_ ![] bcast_S_S_ (constant S_ .f32 0x00000000#32)) reduceWindows_S16x2x4x2048x2048_S16x2x4x2048x2048_w1s1p0_0_w1s1p0_0_w1s1p0_0_w1s1p0_0_w2048s1p0_2047 h_S_) s

/-- The values under the weights, in the result's layout. -/
def values (k : FVec Ideal S16x256x2048 .f32) (a : FVec Ideal S16x2x4x2048x2048 .f32) : FVec Ideal S32768x512 .bf16 :=
  truncf .bf16 (shapeCast _ (transpose S16x2048x2x4x64 [0, 4, 1, 3, 2] (Host.dotGeneral dot_S16x2048x2x64_S16x2x4x2048x2048_S16x2x64x4x2048_1_4_3_23_02_01 none (shapeCast _ (extractStridedSlice S16x2048x1x2x64 ![0, 0, 1, 0, 0] (shapeCast _ (transpose S16x2048x256 [0, 2, 1] k transposes_S16x256x2048_S16x2048x256_0_2_1) shapeCasts_S16x2048x256_S16x2048x2x2x64) slices_S16x2048x2x2x64_S16x2048x1x2x64_0_0_1_0_0) shapeCasts_S16x2048x1x2x64_S16x2048x2x64) a) transposes_S16x2x64x4x2048_S16x2048x2x4x64_0_4_1_3_2) shapeCasts_S16x2048x2x4x64_S32768x512) bitsLt_bf16_f32

/-- The reference's composed term is these stages. -/
theorem res_eq (m : (ℓ : Loc nD τ sig) → Buf (Elt Ideal) ℓ) (c : Dev nD) :
    res_main_v30 m c = (let z := logits (m ((c.tc : Thread nD τ).loc main_arg0)) (m ((c.tc : Thread nD τ).loc main_arg1))
      values (m ((c.tc : Thread nD τ).loc main_arg1)) (shown (Host.exp (addf (logSig (Host.negf z)) (later (shown (logSig (Host.negf (Host.negf z))))))))) := rfl

theorem logits_apply (q : FVec Ideal S32768x4480 .f32) (k : FVec Ideal S16x256x2048 .f32) (b : Fin 16) (g : Fin 2) (h : Fin 4) (x y : Fin 2048) :
    logits q k (ix5 b g h x y) = (∑ a : Fin 64, k (ix3 b ⟨g.val * 64 + a.val, by omega⟩ y)
      * q (ix2 ⟨b.val * 2048 + x.val, by omega⟩ ⟨3584 + (g.val * 256 + h.val * 64 + a.val), by omega⟩)) * Ideal.ofBits .f32 0x3E000000#32 := by
  unfold logits
  pointwise

theorem values_apply (k : FVec Ideal S16x256x2048 .f32) (a : FVec Ideal S16x2x4x2048x2048 .f32) (n : Fin 32768) (r : Fin 512) :
    values k a (ix2 n r) = ∑ y : Fin 2048, k (ix3 ⟨n.val / 2048, by omega⟩ ⟨128 + r.val / 256 * 64 + r.val % 64, by omega⟩ y)
      * a (ix5 ⟨n.val / 2048, by omega⟩ ⟨r.val / 256, by omega⟩ ⟨r.val / 64 % 4, by omega⟩ ⟨n.val % 2048, by omega⟩ y) := by
  unfold values
  pointwise

theorem shown_apply (s : FVec Ideal S16x2x4x2048x2048 .f32) (b : Fin 16) (g : Fin 2) (h : Fin 4) (x y : Fin 2048) :
    shown s (ix5 b g h x y) = if y.val < x.val then s (ix5 b g h x y) else 0 := by
  unfold shown before
  pointwise
  rw [show (id (constant S_ .f32 0x00000000#32) : FVec Ideal S_ .f32) ix0 = 0 from Ideal.ofBits_zero_f32]
  unfold Scalar.select
  exact if_congr (WordCmp.cmpi_slt_ofNat_eq_one_iff (by omega) (by omega)) rfl rfl

theorem logSig_apply (u : FVec Ideal S16x2x4x2048x2048 .f32) (i : S16x2x4x2048x2048.Idx) (r : ℝ) (h : u i = (r : EReal)) :
    logSig u i = (stay r : EReal) := by
  have hz : ∀ i, zeros i = 0 := fun _ => Ideal.ofBits_zero_f32
  unfold logSig
  rw [← stay_ereal]
  generalize zeros = z at hz
  pointwise
  rw [hz, h, sub_zero, if_neg (fun e => e rfl)]
  rfl

/-- What a query carries past a key: the sum of what the later keys it sees leave. -/
theorem later_apply (s : FVec Ideal S16x2x4x2048x2048 .f32) (b : Fin 16) (g : Fin 2) (h : Fin 4) (x y : Fin 2048) (hy : y.val < x.val)
    (z : ℕ → ℝ) (hs : ∀ t : Fin 2048, t.val < x.val → s (ix5 b g h x t) = (stay (z t.val) : EReal)) :
    later (shown s) (ix5 b g h x y) = (carried z x.val (y.val + 1) : EReal) := by
  have hx : ∀ t : Fin 2048, shown s (ix5 b g h x t) = ((if t.val < x.val then stay (z t.val) else 0 : ℝ) : EReal) := by
    intro t
    rw [shown_apply]
    split_ifs with ht
    · exact hs t ht
    · rw [EReal.coe_zero]
  unfold later
  have hsub : ∀ (a b : FVec Ideal S16x2x4x2048x2048 .f32) i, subf a b i = (a i - b i : EReal) := fun _ _ _ => rfl
  rw [hsub, window_apply (shown s) _ Ideal.ofBits_zero_f32 b g h x y x.val x.isLt.le (fun t => stay (z t)) hx, hx, if_pos hy, ← EReal.coe_sub]
  refine congrArg (fun r : ℝ => (r : EReal)) ?_
  unfold carried
  rw [Finset.sum_eq_sum_Ico_succ_bot hy]
  ring

/-- WHAT THE REFERENCE HOLDS at a position and column: the values of the earlier keys under their weights. -/
theorem res_apply (m : (ℓ : Loc nD τ sig) → Buf (Elt Ideal) ℓ) (c : Dev nD) (q : FVec Ideal S32768x4480 .f32) (k : FVec Ideal S16x256x2048 .f32)
    (hq : m ((c.tc : Thread nD τ).loc main_arg0) = q) (hk : m ((c.tc : Thread nD τ).loc main_arg1) = k)
    (Q : Fin 32768 → Fin 512 → ℝ) (K : Fin 16 → Fin 128 → ℕ → ℝ) (V : Fin 16 → Fin 128 → ℕ → EReal)
    (hQ : ∀ n a, q (ix2 n ⟨3584 + a.val, by omega⟩) = (Q n a : EReal))
    (hK : ∀ b (a : Fin 128) (t : Fin 2048), k (ix3 b ⟨a.val, by omega⟩ t) = (K b a t.val : EReal))
    (hV : ∀ b (a : Fin 128) (t : Fin 2048), k (ix3 b ⟨128 + a.val, by omega⟩ t) = V b a t.val) (n : Fin 32768) (r : Fin 512) :
    (res_main_v30 m c : S32768x512.Idx → EReal) (ix2 n r)
      = mixed (dotLogit (Q n) (K ⟨n.val / 2048, by omega⟩) ⟨r.val / 256, by omega⟩ ⟨r.val / 64 % 4, by omega⟩) (V ⟨n.val / 2048, by omega⟩ ⟨r.val / 256 * 64 + r.val % 64, by omega⟩) (n.val % 2048) 0 := by
  rw [res_eq, hq, hk]
  dsimp only
  have hz : ∀ y : Fin 2048, logits q k (ix5 ⟨n.val / 2048, by omega⟩ ⟨r.val / 256, by omega⟩ ⟨r.val / 64 % 4, by omega⟩ ⟨n.val % 2048, by omega⟩ y)
      = (dotLogit (Q n) (K ⟨n.val / 2048, by omega⟩) ⟨r.val / 256, by omega⟩ ⟨r.val / 64 % 4, by omega⟩ y.val : EReal) := by
    intro y
    rw [logits_apply, eighth, dotLogit, EReal.coe_mul, coe_sum]
    refine congrArg (· * _) (Finset.sum_congr rfl fun a _ => ?_)
    rw [EReal.coe_mul]
    refine congr (congrArg _ (hK _ ⟨r.val / 256 * 64 + a.val, by omega⟩ y)) (Eq.trans (congrArg q ?_) (hQ n ⟨r.val / 256 * 256 + r.val / 64 % 4 * 64 + a.val, by omega⟩))
    exact congrArg (fun i => ix2 i _) (Fin.ext (by dsimp only; omega))
  generalize logits q k = z at hz ⊢
  rw [values_apply]
  unfold mixed
  refine Eq.trans (α := EReal) (Finset.sum_congr rfl fun y _ => ?_) (sum_tail (M := EReal) 0 (n.val % 2048) (by omega)
    (fun t => (wt (dotLogit (Q n) (K ⟨n.val / 2048, by omega⟩) ⟨r.val / 256, by omega⟩ ⟨r.val / 64 % 4, by omega⟩) (n.val % 2048) t : EReal) * V ⟨n.val / 2048, by omega⟩ ⟨r.val / 256 * 64 + r.val % 64, by omega⟩ t))
  have hv : k (ix3 ⟨n.val / 2048, by omega⟩ ⟨128 + r.val / 256 * 64 + r.val % 64, by omega⟩ y)
      = V ⟨n.val / 2048, by omega⟩ ⟨r.val / 256 * 64 + r.val % 64, by omega⟩ y.val := by
    rw [← hV]
    exact congrArg (fun a => k (ix3 _ a y)) (Fin.ext (by dsimp only; omega))
  rw [hv, shown_apply]
  dsimp only
  rw [Nat.zero_add]
  by_cases hy : y.val < n.val % 2048
  · rw [if_pos hy, if_pos hy, mul_comm]
    refine congrArg (· * _) ?_
    have hneg : ∀ (u : FVec Ideal S16x2x4x2048x2048 .f32) i, Host.negf u i = (-(u i) : EReal) := fun _ _ => rfl
    have hexp : ∀ (u w : FVec Ideal S16x2x4x2048x2048 .f32) i, Host.exp (addf u w) i = (Ideal.exp (u i + w i) : EReal) := fun _ _ _ => rfl
    rw [hexp, logSig_apply _ _ (-(dotLogit (Q n) (K ⟨n.val / 2048, by omega⟩) ⟨r.val / 256, by omega⟩ ⟨r.val / 64 % 4, by omega⟩ y.val)) (by rw [hneg, hz, EReal.coe_neg]), stay_neg,
      later_apply _ _ _ _ _ _ hy (dotLogit (Q n) (K ⟨n.val / 2048, by omega⟩) ⟨r.val / 256, by omega⟩ ⟨r.val / 64 % 4, by omega⟩)
        (fun t _ => logSig_apply _ _ _ (by rw [hneg, hneg, hz, neg_neg])), ← EReal.coe_add]
    rfl
  · rw [if_neg hy, if_neg hy, mul_zero]

end Cert.Reference5Ideal.Sb
-- ==== Proof.Sb.Claims.lean ====
/-
  The claims about the stick-breaking attention: what the precondition gives, the frames, and the kernel's result against the reference's.
-/
module

public import proofs.«01_k».proof.Defs
public import proofs.«01_k».proof.Proof.Gen.Kernel5.Frame
public import proofs.«01_k».proof.Proof.Gen.Pre_sb_inputs
public import proofs.«01_k».proof.Proof.Mla.Claims
public import proofs.«01_k».proof.Proof.Sb.Array
public import proofs.«01_k».proof.Proof.Sb.Ref

@[expose] public section

set_option maxRecDepth 16384

noncomputable section

open Idealize.ShloMosaic Idealize.ShloMosaic.TcCoe Idealize.SL.Sem

namespace Cert.Pre_sb_inputs

/-- WHAT THE PRECONDITION SAYS: the queries' columns and the keys' rows are real. -/
theorem decode [Facts] (q : FVec Ideal S32768x4480 .f32) (k : FVec Ideal S16x256x2048 .f32) (h : fn (F := Ideal) q k = fun _ => 1#1) :
    (∀ n (a : Fin 512), q (ix2 n ⟨3584 + a.val, by omega⟩) = ((q (ix2 n ⟨3584 + a.val, by omega⟩)).toReal : EReal))
      ∧ ∀ b (a : Fin 128) t, k (ix3 b ⟨a.val, by omega⟩ t) = ((k (ix3 b ⟨a.val, by omega⟩ t)).toReal : EReal) := by
  have h := congrFun h ix0
  dsimp only [fn] at h
  obtain ⟨h1, h2⟩ := IntOp.andi_eq_one.1 h
  haveI : Subsingleton S_.Idx := ⟨fun a b => funext fun x => x.elim0⟩
  have g1 := Host.reduce_andi_all _ _ _ _ _ h1
  have g2 := Host.reduce_andi_all _ _ _ _ _ h2
  refine ⟨fun n a => Cert.Pre_mla_inputs.real_of_abs_lt _ ?_, fun b a t => Cert.Pre_mla_inputs.real_of_abs_lt _ ?_⟩
  · rw [← g1 (ix2 n a)]
    pointwise
    rfl
  · rw [← g2 (ix3 b a t)]
    pointwise
    rfl

end Cert.Pre_sb_inputs

namespace Cert.Proof.Sb

open Cert.Sb

/-- The kernel runs, and leaves its arguments. -/
theorem frame_k : Cert.quiescent_Kernel5 := fun m ρ _ => Cert.Kernel5.Gen.frame m ρ
/-- So does its idealization, -/
theorem frame_ki : Cert.quiescent_Kernel5Ideal := fun m ρ _ => Cert.Kernel5Ideal.Gen.frame m ρ
/-- under the precondition too. -/
theorem frame_ki_pre : Cert.quiescent_Kernel5Ideal_pre_sb_inputs := fun m ρ _ => Cert.Kernel5Ideal.Gen.frame m ρ
/-- The reference declares no semaphore; its run keeps the arguments, -/
theorem frame_r : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)
/-- under the precondition too. -/
theorem frame_r_pre : Cert.quiescent_Reference5Ideal_pre_sb_inputs := fun m ρ _ => frame_r m ρ trivial

/-- No operation is rewritten. -/
theorem preserves : Cert.preserves_Kernel5_Kernel5Ideal := trivial

/-- The queries as reals. -/
def queryReal (q : FVec Ideal Cert.Kernel5Ideal.S32768x4480 .f32) (n : Fin 32768) (a : Fin 512) : ℝ :=
  EReal.toReal (q (ix2 n ⟨3584 + a.val, by omega⟩))

/-- The keys as reals, zero from the end of the sequence on. -/
def keyReal (k : FVec Ideal Cert.Kernel5Ideal.S16x256x2048 .f32) (b : Fin 16) (a : Fin 128) (t : ℕ) : ℝ :=
  if ht : t < 2048 then EReal.toReal (k (ix3 b ⟨a.val, by omega⟩ ⟨t, ht⟩)) else 0

/-- The values, zero from the end of the sequence on. -/
def valueAt (k : FVec Ideal Cert.Kernel5Ideal.S16x256x2048 .f32) (b : Fin 16) (a : Fin 128) (t : ℕ) : EReal :=
  if ht : t < 2048 then k (ix3 b ⟨128 + a.val, by omega⟩ ⟨t, ht⟩) else 0

/-- On arguments that meet the precondition the two results are one array. -/
theorem results_eq (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ)
    (c : Dev Cert.Kernel5Ideal.nD) (q : FVec Ideal Cert.Kernel5Ideal.S32768x4480 .f32) (k : FVec Ideal Cert.Kernel5Ideal.S16x256x2048 .f32)
    (hq : m ((c.tc : Thread Cert.Kernel5Ideal.nD Cert.Kernel5Ideal.τ).loc Cert.Kernel5Ideal.main_arg0) = q)
    (hk : m ((c.tc : Thread Cert.Kernel5Ideal.nD Cert.Kernel5Ideal.τ).loc Cert.Kernel5Ideal.main_arg1) = k)
    (hq' : m' ((c.tc : Thread Cert.Reference5Ideal.nD Cert.Reference5Ideal.τ).loc Cert.Reference5Ideal.main_arg0) = q)
    (hk' : m' ((c.tc : Thread Cert.Reference5Ideal.nD Cert.Reference5Ideal.τ).loc Cert.Reference5Ideal.main_arg1) = k)
    (hpre : Cert.Pre_sb_inputs.fn (F := Ideal) q k = fun _ => 1#1) :
    (Cert.Reference5Ideal.Value.res_main_v30 m' c : Cert.Kernel5Ideal.S32768x512.Idx → EReal)
      = (Cert.Kernel5Ideal.Gen.dats m 0 c).arrAt 2 Cert.Kernel5Ideal.cfg0.N := by
  obtain ⟨dq, dk⟩ := Cert.Pre_sb_inputs.decode q k hpre
  have hQ : ∀ n (a : Fin 512), q (ix2 n ⟨3584 + a.val, by omega⟩) = (queryReal q n a : EReal) := dq
  have hK : ∀ b (a : Fin 128) (t : Fin 2048), k (ix3 b ⟨a.val, by omega⟩ t) = (keyReal k b a t.val : EReal) := by
    intro b a t
    unfold keyReal
    rw [dif_pos t.isLt]
    exact dk b a t
  have hV : ∀ b (a : Fin 128) (t : Fin 2048), k (ix3 b ⟨128 + a.val, by omega⟩ t) = valueAt k b a t.val := by
    intro b a t
    unfold valueAt
    rw [dif_pos t.isLt]
  refine Eq.trans (funext fun i => ?_) (Cert.Kernel5Ideal.Sb.array_eq m c (queryReal q) (keyReal k) (valueAt k)
    (by rw [hq]; exact hQ) (by rw [hk]; exact hK) (by rw [hk]; exact hV)).symm
  have hi : i = ix2 (i 0) (i 1) := by funext a; fin_cases a <;> rfl
  rw [hi]
  exact Cert.Reference5Ideal.Sb.res_apply m' c q k hq' hk' (queryReal q) (keyReal k) (valueAt k) hQ hK hV (i 0) (i 1)

/-- THE VALUE: the kernel's attention is the reference's. -/
theorem algebraic : Cert.algebraic_Kernel5Ideal_Reference5Ideal_pre_sb_inputs := by
  intro m ρ m' ρ' hpre hagree
  refine ⟨fun c => (Cert.Kernel5Ideal.Gen.dats m 0 c).arrAt 2 Cert.Kernel5Ideal.cfg0.N,
    Cert.Kernel5Ideal.Value.run_blocks (F := Ideal) m ρ, ?_⟩
  exact (θ_run Cert.Reference5Ideal.defs _ _).mono
    (fun _ h c => ⟨(h c).1.trans (results_eq m m' c _ _ rfl rfl (hagree c).1 (hagree c).2 (hpre c)), (h c).2⟩)
    (Cert.Reference5Ideal.Value.run (F := Ideal) m' ρ')

end Cert.Proof.Sb
-- ==== Proof.Prep.Block.lean ====
/-
  The preparation of the latent attention's queries and keys over one block of 256 positions, at an index.
-/
module

public import proofs.«01_k».proof.Proof.Gen.Kernel6Ideal.Value
public import Idealize.ShloMosaic.Lib.Pipeline.ValueKit

@[expose] public section

set_option maxRecDepth 16384

noncomputable section

open Idealize.ShloMosaic Idealize.ShloMosaic.TcCoe Idealize.SL.Sem

namespace Cert.Prep

/-- Entry `k` of a row of `n` entries, normalised by its mean square (`len` the row's length) and scaled by the gains. -/
def rms {n : ℕ} (len : EReal) (x g : Fin n → EReal) (k : Fin n) : EReal :=
  x k * Ideal.rsqrt (Ideal.div (∑ j, x j * x j) len + Ideal.ofBits .f32 0x358637BD#32) * g k

/-- The attention's scale. -/
def scale : EReal := Ideal.ofBits .f32 0x3DD105EC#32
/-- The length of a query's latent. -/
def len256 : EReal := Ideal.ofBits .f32 0x43800000#32
/-- The length of a key's latent. -/
def len128 : EReal := Ideal.ofBits .f32 0x43000000#32

/-- Column `d` of head `h` among heads of 64 columns. -/
abbrev wide (h : Fin 8) (d : Fin 64) : Fin 1024 := ⟨64 * h.val + d.val, by omega⟩
/-- Column `a` of head `h` among heads of 32 columns. -/
abbrev narrow (h : Fin 8) (a : Fin 32) : Fin 256 := ⟨32 * h.val + a.val, by omega⟩
/-- Column `e` of head `h` among heads of 96 columns. -/
abbrev column (h : Fin 8) (e : Fin 96) : Fin 768 := ⟨96 * h.val + e.val, by omega⟩
/-- A rotary column of a head. -/
abbrev spun (a : Fin 32) : Fin 96 := ⟨64 + a.val, by omega⟩
/-- A frequency's place: the columns carry the frequencies twice. -/
abbrev freq (a : Fin 32) : Fin 16 := ⟨a.val % 16, Nat.mod_lt _ (by decide)⟩
/-- A position within its sequence. -/
abbrev within (n : Fin 32768) : Fin 2048 := ⟨n.val % 2048, Nat.mod_lt _ (by decide)⟩

/-- The rotary turn of 32 entries at a position: entry `a` and its partner 16 further on, by the angle of `a`'s frequency. -/
def turn (co si : Fin 2048 → Fin 16 → EReal) (t : Fin 2048) (f : Fin 32 → EReal) (a : Fin 32) : EReal :=
  if h : a.val < 16 then f a * co t (freq a) - f ⟨a.val + 16, by omega⟩ * si t (freq a)
  else f a * co t (freq a) + f ⟨a.val - 16, by omega⟩ * si t (freq a)

/-- A query's normalised latent. -/
def latent (z : (⟨2, ![32768, 4480]⟩ : Shape).Idx → EReal) (g : (⟨1, ![256]⟩ : Shape).Idx → EReal) (n : Fin 32768) (k : Fin 256) : EReal :=
  rms len256 (fun j => z (ix2 n ⟨4096 + j.val, by omega⟩)) (fun j => g (ix1 j)) k

/-- A query's column of a head. -/
def col (z : (⟨2, ![32768, 4480]⟩ : Shape).Idx → EReal) (g : (⟨1, ![256]⟩ : Shape).Idx → EReal) (w : (⟨2, ![256, 768]⟩ : Shape).Idx → EReal)
    (n : Fin 32768) (h : Fin 8) (e : Fin 96) : EReal :=
  ∑ k, latent z g n k * w (ix2 k (column h e))

/-- A query: its latent part, then its rotary part, both scaled. -/
def query (co si : Fin 2048 → Fin 16 → EReal) (z : (⟨2, ![32768, 4480]⟩ : Shape).Idx → EReal) (g : (⟨1, ![256]⟩ : Shape).Idx → EReal)
    (w : (⟨2, ![256, 768]⟩ : Shape).Idx → EReal) (u : (⟨3, ![128, 8, 64]⟩ : Shape).Idx → EReal)
    (h : Fin 8) (n : Fin 32768) (l : Fin 160) : EReal :=
  if hl : l.val < 128 then (∑ d : Fin 64, col z g w n h ⟨d.val, by omega⟩ * u (ix3 ⟨l.val, hl⟩ h d)) * scale
  else turn co si (within n) (fun a => col z g w n h (spun a)) ⟨l.val - 128, by omega⟩ * scale

/-- A key: its normalised latent, then its rotary part. -/
def key (co si : Fin 2048 → Fin 16 → EReal) (z : (⟨3, ![16, 192, 2048]⟩ : Shape).Idx → EReal) (g : (⟨1, ![128]⟩ : Shape).Idx → EReal)
    (b : Fin 16) (l : Fin 160) (t : Fin 2048) : EReal :=
  if hl : l.val < 128 then rms len128 (fun j : Fin 128 => z (ix3 b ⟨j.val, by omega⟩ t)) (fun j => g (ix1 j)) ⟨l.val, hl⟩
  else turn co si t (fun a => z (ix3 b ⟨128 + a.val, by omega⟩ t)) ⟨l.val - 128, by omega⟩

/-- The keys over a row of ones and seven rows of zeros. -/
def tallKey (co si : Fin 2048 → Fin 16 → EReal) (z : (⟨3, ![16, 192, 2048]⟩ : Shape).Idx → EReal) (g : (⟨1, ![128]⟩ : Shape).Idx → EReal)
    (b : Fin 16) (l : Fin 168) (t : Fin 2048) : EReal :=
  if hl : l.val < 160 then key co si z g b ⟨l.val, hl⟩ t else if l.val = 160 then 1 else 0

end Cert.Prep

namespace Cert.Kernel6Ideal.Prep

open Cert.Kernel6Ideal Cert.Kernel6Ideal.Gen Cert.Prep

/-- The query's columns: the normalised latents under the weights. -/
theorem pay2_apply (x : Vec Ideal S256x256 .f32) (g : Vec Ideal S1x256 .f32) (w : Vec Ideal S256x1024 .bf16)
    (r : Fin 256) (l : Fin 1024) :
    (k0_pay2 x g w : S256x1024.Idx → EReal) (ix2 r l)
      = ∑ k, rms len256 (fun j => x (ix2 r j)) (fun j => g (ix2 0 j)) k * w (ix2 k l) := by
  unfold k0_pay2 rms len256
  pointwise

/-- The rotary columns, turned and scaled. -/
theorem pay3_apply (x : Vec Ideal S256x256 .f32) (g : Vec Ideal S1x256 .f32) (w : Vec Ideal S256x1024 .bf16)
    (co si : Vec Ideal S256x256 .f32) (r : Fin 256) (l : Fin 256) :
    (k0_pay3 x g w co si : S256x256.Idx → EReal) (ix2 r l)
      = ((k0_pay2 x g w : S256x1024.Idx → EReal) (ix2 r ⟨512 + l.val, by omega⟩) * co (ix2 r l)
          + (k0_pay2 x g w : S256x1024.Idx → EReal) (ix2 r ⟨768 + l.val, by omega⟩) * si (ix2 r l)) * scale := by
  unfold k0_pay3 scale
  pointwise

/-- The key's latent over the root of its mean square. -/
theorem pay24_apply (z : Vec Ideal S1x192x256 .f32) (l : Fin 128) (r : Fin 256) :
    (k0_pay24 z : S128x256.Idx → EReal) (ix2 l r)
      = z (ix3 0 ⟨l.val, by omega⟩ r) * Ideal.rsqrt (Ideal.div (∑ j : Fin 128, z (ix3 0 ⟨j.val, by omega⟩ r) * z (ix3 0 ⟨j.val, by omega⟩ r)) len128
          + Ideal.ofBits .f32 0x358637BD#32) := by
  unfold k0_pay24 k0_pay23 len128
  pointwise

/-- The key's latent, normalised. -/
theorem pay25_apply (z : Vec Ideal S1x192x256 .f32) (g : Vec Ideal S128x1 .f32) (l : Fin 128) (r : Fin 256) :
    (k0_pay25 (k0_pay24 z) g : S128x256.Idx → EReal) (ix2 l r)
      = rms len128 (fun j : Fin 128 => z (ix3 0 ⟨j.val, by omega⟩ r)) (fun j => g (ix2 j 0)) l := by
  have key := pay24_apply z l r
  unfold k0_pay25 rms
  pointwise
  exact congrArg (· * _) key

/-- The key's rotary rows, turned. -/
theorem pay26_apply (z : Vec Ideal S1x192x256 .f32) (co si : Vec Ideal S32x256 .f32) (a : Fin 32) (r : Fin 256) :
    (k0_pay26 (k0_pay23 z) co si : S32x256.Idx → EReal) (ix2 a r)
      = z (ix3 0 ⟨128 + a.val, by omega⟩ r) * co (ix2 a r) + z (ix3 0 ⟨160 + a.val, by omega⟩ r) * si (ix2 a r) := by
  unfold k0_pay26 k0_pay23
  pointwise

variable (m : (ℓ : Loc nD τ sig) → Buf (Elt Ideal) ℓ) (c : Dev nD)

/-- The rows of keys after a point. -/
theorem rows_point (t : Fin cfg0.N) (u : Fin 1) (l : Fin 160) (r : Fin 256) :
    ((outsAt0 m c t).2.1 : S1x160x256.Idx → EReal) (ix3 u l r)
      = if h : l.val < 128 then (k0_pay25 (k0_pay24 (iblk m c 3 t)) (iblk m c 8 t) : S128x256.Idx → EReal) (ix2 ⟨l.val, h⟩ r)
        else (k0_pay26 (k0_pay23 (iblk m c 3 t)) (iblk m c 4 t) (iblk m c 5 t) : S32x256.Idx → EReal) (ix2 ⟨l.val - 128, by omega⟩ r) := by
  unfold outsAt0
  frame_out
  refine View.canon_eq_of_allAt _ _ _ (View.cover_of_tiledBy _ ![1, 32, 256] (by sl_kernel_rfl) _) ?_
  repeat' apply View.allAt_cons_unit
  all_goals
    first
    | exact View.allAt_nil _ _
    | skip
  all_goals
    intro x hx
    obtain ⟨v, y, w, rfl⟩ : ∃ v y w, x = ix3 v y w := ⟨x 0, x 1, x 2, by funext a; fin_cases a <;> rfl⟩
    obtain rfl : v = 0 := Subsingleton.elim _ _
    have h1 := hx 1
    have h2 := hx 2
    have b1 := y.isLt
    obtain ⟨l, hl⟩ := l
    obtain ⟨r, hr⟩ := r
    change l = _ + y.val at h1
    change r = _ + w.val at h2
    clear hx
    dsimp only [Matrix.cons_val] at h1 h2 b1
    rcases Nat.lt_or_ge l 128 with hc | hc
  all_goals try (exfalso; omega)
  all_goals
    subst h1 h2
    first
    | rw [dif_pos hc]
    | rw [dif_neg (Nat.not_lt.mpr hc)]
    pointwise [k0_pay27, k0_pay28]

set_option maxHeartbeats 1000000 in
/-- The queries after a point. -/
theorem q_point (t : Fin cfg0.N) (h : Fin 8) (r : Fin 256) (l : Fin 160) :
    ((outsAt0 m c t).1 : S8x256x160.Idx → EReal) (ix3 h r l)
      = if hl : l.val < 128 then
          (∑ d : Fin 64, (k0_pay2 (X0_0 m c t) (iblk m c 6 t) (iblk m c 7 t) : S256x1024.Idx → EReal) (ix2 r (wide h d))
            * (iblk m c 9 t : S8x64x128.Idx → EReal) (ix3 h d ⟨l.val, hl⟩)) * scale
        else (k0_pay3 (X0_0 m c t) (iblk m c 6 t) (iblk m c 7 t) (iblk m c 1 t) (iblk m c 2 t) : S256x256.Idx → EReal)
          (ix2 r (narrow h ⟨l.val - 128, by omega⟩)) := by
  unfold outsAt0
  frame_out
  refine View.canon_eq_of_allAt _ _ _ (View.cover_of_tiledBy _ ![1, 256, 32] (by sl_kernel_rfl) _) ?_
  repeat' apply View.allAt_cons_unit
  all_goals
    first
    | exact View.allAt_nil _ _
    | skip
  all_goals
    intro x hx
    obtain ⟨u, v, w, rfl⟩ : ∃ u v w, x = ix3 u v w := ⟨x 0, x 1, x 2, by funext a; fin_cases a <;> rfl⟩
    obtain rfl : u = 0 := Subsingleton.elim _ _
    have h0 := hx 0
    have h1 := hx 1
    have h2 := hx 2
    have b2 := w.isLt
    obtain ⟨h, hh⟩ := h
    obtain ⟨r, hr⟩ := r
    obtain ⟨l, hl⟩ := l
    change h = _ + (0 : Fin 1).val at h0
    change r = _ + v.val at h1
    change l = _ + w.val at h2
    clear hx
    dsimp only [Matrix.cons_val] at h0 h1 h2 b2
    rcases Nat.lt_or_ge l 128 with hc | hc
  all_goals try (exfalso; omega)
  all_goals
    subst h0 h1 h2
    first
    | rw [dif_pos hc]
    | rw [dif_neg (Nat.not_lt.mpr hc)]
    pointwise [k0_pay4, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, scale]
    simp [wide, narrow]

/-- The rows below the keys: one of ones, seven of zeros. -/
theorem last_rows (y : Fin 8) : Scalar.select (IntOp.cmpi .eq (BitVec.ofNat 32 y.val) 0#32) (1 : EReal) 0
    = if 160 + y.val = 160 then 1 else 0 := by
  fin_cases y <;> simp [Scalar.select, IntOp.cmpi]

/-- The keys after a point. -/
theorem kt_point (t : Fin cfg0.N) (u : Fin 1) (l : Fin 168) (r : Fin 256) :
    ((outsAt0 m c t).2.2 : S1x168x256.Idx → EReal) (ix3 u l r)
      = if h : l.val < 128 then (k0_pay25 (k0_pay24 (iblk m c 3 t)) (iblk m c 8 t) : S128x256.Idx → EReal) (ix2 ⟨l.val, h⟩ r)
        else if h' : l.val < 160 then
          (k0_pay26 (k0_pay23 (iblk m c 3 t)) (iblk m c 4 t) (iblk m c 5 t) : S32x256.Idx → EReal) (ix2 ⟨l.val - 128, by omega⟩ r)
        else if l.val = 160 then 1 else 0 := by
  unfold outsAt0
  frame_out
  refine View.canon_eq_of_allAt _ _ _ (View.cover_of_tiledBy _ ![1, 8, 256] (by sl_kernel_rfl) _) ?_
  repeat' apply View.allAt_cons_unit
  all_goals
    first
    | exact View.allAt_nil _ _
    | skip
  all_goals
    intro x hx
    obtain ⟨v, y, w, rfl⟩ : ∃ v y w, x = ix3 v y w := ⟨x 0, x 1, x 2, by funext a; fin_cases a <;> rfl⟩
    obtain rfl : v = 0 := Subsingleton.elim _ _
    have h1 := hx 1
    have h2 := hx 2
    have b1 := y.isLt
    obtain ⟨l, hl⟩ := l
    obtain ⟨r, hr⟩ := r
    change l = _ + y.val at h1
    change r = _ + w.val at h2
    clear hx
    dsimp only [Matrix.cons_val] at h1 h2 b1
    rcases Nat.lt_or_ge l 128 with hc | hc
    on_goal 2 => rcases Nat.lt_or_ge l 160 with hc' | hc'
  all_goals try (exfalso; omega)
  all_goals
    subst h1 h2
    first
    | rw [dif_pos hc]
    | rw [dif_neg (Nat.not_lt.mpr hc), dif_pos hc']
    | rw [dif_neg (Nat.not_lt.mpr hc), dif_neg (Nat.not_lt.mpr hc')]
    pointwise [k0_pay29, k0_pay30, k0_pay31, k0_pay1]
  exact last_rows y

end Cert.Kernel6Ideal.Prep
-- ==== Proof.Prep.Host.lean ====
/-
  The arrays the host prepares before the call, at an index: the rotary tables, the gains, and the weights laid out by
  column and by head.
-/
module

public import proofs.«01_k».proof.Proof.Prep.Block
public import Idealize.ShloMosaic.Lib.Pipeline.ValueKit

@[expose] public section

set_option maxRecDepth 16384

noncomputable section

open Idealize.ShloMosaic Idealize.ShloMosaic.TcCoe Idealize.SL.Sem

namespace Cert.Kernel6Ideal.Prep

open Cert.Kernel6Ideal Cert.Kernel6Ideal.Gen Cert.Prep

/-- The rotary angles: a position times a frequency. -/
def angles : FVec Ideal S2048x16 .f32 :=
  mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- The cosine of the angle of position `t` and frequency `f`. -/
def cosAt (t : Fin 2048) (f : Fin 16) : EReal := (Host.cos angles : S2048x16.Idx → EReal) (ix2 t f)
/-- The sine of the angle of position `t` and frequency `f`. -/
def sinAt (t : Fin 2048) (f : Fin 16) : EReal := (Host.sin angles : S2048x16.Idx → EReal) (ix2 t f)

/-- Two copies of a table side by side. -/
theorem twice_apply (x : FVec Ideal S2048x16 .f32) (t : Fin 2048) (a : Fin 32) :
    (concatenate S2048x32 1 [⟨S2048x16, x⟩, ⟨S2048x16, x⟩] concatenates_S2048x16_S2048x16_S2048x32_d1 : S2048x32.Idx → EReal) (ix2 t a)
      = x (ix2 t (freq a)) := by
  pointwise
  split
  · exact congrArg (fun f => x (ix2 t f)) (Fin.ext (Nat.mod_eq_of_lt (by assumption)).symm)
  · exact congrArg (fun f => x (ix2 t f)) (Fin.ext (by show a.val - 16 = a.val % 16; omega))

/-- A table of 32 columns repeated for the eight heads. -/
theorem spread_apply (z : FVec Ideal S2048x32 .f32) (t : Fin 2048) (l : Fin 256) :
    (shapeCast S2048x256 (broadcastInDim S1x2048x8x32 ![0, 1, 2, 3] bcast_S1x2048x1x32_S1x2048x8x32_0_1_2_3
        (shapeCast S1x2048x1x32 z shapeCasts_S2048x32_S1x2048x1x32)) shapeCasts_S1x2048x8x32_S2048x256 : S2048x256.Idx → EReal) (ix2 t l)
      = z (ix2 t ⟨l.val % 32, Nat.mod_lt _ (by decide)⟩) := by
  pointwise

/-- A table turned to rows. -/
theorem turn_apply (z : FVec Ideal S2048x32 .f32) (a : Fin 32) (t : Fin 2048) :
    (transpose S32x2048 [1, 0] z transposes_S2048x32_S32x2048_1_0 : S32x2048.Idx → EReal) (ix2 a t) = z (ix2 t a) := by
  pointwise

/-- The three groups of the query's columns beside each other. -/
def cat3 (x : FVec Ideal S256x512 .f32) (y z : FVec Ideal S256x256 .f32) : FVec Ideal S256x1024 .f32 :=
  concatenate S256x1024 1 [⟨S256x512, x⟩, ⟨S256x256, y⟩, ⟨S256x256, z⟩] concatenates_S256x512_S256x256_S256x256_S256x1024_d1

/-- Two groups of a head's columns beside each other. -/
def cat2 (x y : FVec Ideal S256x8x16 .f32) : FVec Ideal S256x8x32 .f32 :=
  concatenate S256x8x32 2 [⟨S256x8x16, x⟩, ⟨S256x8x16, y⟩] concatenates_S256x8x16_S256x8x16_S256x8x32_d2

variable (m : (ℓ : Loc nD τ sig) → Buf (Elt Ideal) ℓ) (c : Dev nD)

/-- The cosines, repeated for every head. -/
theorem cos_wide (t : Fin 2048) (l : Fin 256) :
    (V m c main_v19 : S2048x256.Idx → EReal) (ix2 t l) = cosAt t (freq ⟨l.val % 32, Nat.mod_lt _ (by decide)⟩) := by
  unfold_abbrev_sides
  after_results_simp
  exact (spread_apply _ t l).trans (twice_apply (Host.cos angles) t _)

/-- The sines, repeated for every head. -/
theorem sin_wide (t : Fin 2048) (l : Fin 256) :
    (V m c main_v22 : S2048x256.Idx → EReal) (ix2 t l) = sinAt t (freq ⟨l.val % 32, Nat.mod_lt _ (by decide)⟩) := by
  unfold_abbrev_sides
  after_results_simp
  exact (spread_apply _ t l).trans (twice_apply (Host.sin angles) t _)

/-- The cosines, a row a frequency. -/
theorem cos_tall (a : Fin 32) (t : Fin 2048) : (V m c main_v23 : S32x2048.Idx → EReal) (ix2 a t) = cosAt t (freq a) := by
  unfold_abbrev_sides
  after_results_simp
  exact (turn_apply _ a t).trans (twice_apply (Host.cos angles) t a)

/-- The sines, a row a frequency. -/
theorem sin_tall (a : Fin 32) (t : Fin 2048) : (V m c main_v24 : S32x2048.Idx → EReal) (ix2 a t) = sinAt t (freq a) := by
  unfold_abbrev_sides
  after_results_simp
  exact (turn_apply _ a t).trans (twice_apply (Host.sin angles) t a)

/-- The weights by head and column. -/
def heads (w : FVec Ideal S256x768 .f32) : FVec Ideal S256x8x96 .f32 := shapeCast S256x8x96 w shapeCasts_S256x768_S256x8x96

/-- The weights of the rotary columns. -/
def rotary (w : FVec Ideal S256x768 .f32) : FVec Ideal S256x8x32 .f32 :=
  extractStridedSlice S256x8x32 ![0, 0, 64] (heads w) slices_S256x8x96_S256x8x32_0_0_64

/-- The weights of the query's columns: the latent's columns, the rotary ones, and the rotary ones turned by a quarter. -/
theorem w_eq : (V m c main_v36 : S256x1024.Idx → EReal) =
      truncf .bf16 (cat3
        (shapeCast S256x512 (extractStridedSlice S256x8x64 ![0, 0, 0] (heads (m ((c.tc : Thread nD τ).loc main_arg3)))
          slices_S256x8x96_S256x8x64_0_0_0) shapeCasts_S256x8x64_S256x512)
        (shapeCast S256x256 (rotary (m ((c.tc : Thread nD τ).loc main_arg3))) shapeCasts_S256x8x32_S256x256)
        (shapeCast S256x256 (cat2
          (Host.negf (extractStridedSlice S256x8x16 ![0, 0, 16] (rotary (m ((c.tc : Thread nD τ).loc main_arg3))) slices_S256x8x32_S256x8x16_0_0_16))
          (extractStridedSlice S256x8x16 ![0, 0, 0] (rotary (m ((c.tc : Thread nD τ).loc main_arg3))) slices_S256x8x32_S256x8x16_0_0_0))
          shapeCasts_S256x8x32_S256x256)) bitsLt_bf16_f32 := by
  unfold_abbrev_sides
  after_results_simp
  dsimp only [Matrix.cons_val]
  change (truncf .bf16 (cat3 _ _ _) _ : S256x1024.Idx → EReal) = _
  after_results_simp
  change (truncf .bf16 (cat3 _ _ (shapeCast _ (cat2 _ _) _)) _ : S256x1024.Idx → EReal) = _
  after_results_simp
  rfl

/-- A weight of the query's columns. -/
def W (j : Fin 256) (l : Fin 768) : EReal := (m ((c.tc : Thread nD τ).loc main_arg3) : S256x768.Idx → EReal) (ix2 j l)

/-- The latent's columns. -/
theorem w_latent (j : Fin 256) (h : Fin 8) (d : Fin 64) : (V m c main_v36 : S256x1024.Idx → EReal) (ix2 j (wide h d)) =
      W m c j (column h ⟨d.val, by omega⟩) := by
  rw [w_eq]
  pointwise [cat3, heads]
  rw [dif_pos (by omega)]
  exact congrArg (W m c j) (Fin.ext (by dsimp only; omega))

/-- The rotary columns. -/
theorem w_first (j : Fin 256) (h : Fin 8) (a : Fin 32) :
    (V m c main_v36 : S256x1024.Idx → EReal) (ix2 j ⟨512 + (narrow h a).val, by omega⟩) =
      W m c j (column h (spun a)) := by
  rw [w_eq]
  pointwise [cat3, rotary, heads]
  rw [dif_pos (by omega)]
  exact congrArg (W m c j) (Fin.ext (by dsimp only; omega))

/-- The rotary columns turned by a quarter. -/
theorem w_second (j : Fin 256) (h : Fin 8) (a : Fin 32) :
    (V m c main_v36 : S256x1024.Idx → EReal) (ix2 j ⟨768 + (narrow h a).val, by omega⟩) =
      if ha : a.val < 16 then -W m c j (column h (spun ⟨a.val + 16, by omega⟩))
      else W m c j (column h (spun ⟨a.val - 16, by omega⟩)) := by
  rw [w_eq]
  pointwise [cat3, cat2, rotary, heads]
  split
  · exfalso
    omega
  split
  · exfalso
    omega
  split
  · rename_i hj hk ha
    have ha : a.val < 16 := by omega
    have e : (⟨(768 + (32 * h.val + a.val) - 512 - 256) / 32 * 96 + (64 + (16 + (768 + (32 * h.val + a.val) - 512 - 256) % 32)), by omega⟩ : Fin 768)
        = column h (spun ⟨a.val + 16, by omega⟩) := Fin.ext (by dsimp only; omega)
    refine (congrArg (fun l => -W m c j l) e).trans ?_
    rw [dif_pos ha]
  · rename_i hj hk ha
    have ha : ¬a.val < 16 := by omega
    have e : (⟨(768 + (32 * h.val + a.val) - 512 - 256) / 32 * 96 + (64 + ((768 + (32 * h.val + a.val) - 512 - 256) % 32 - 16)), by omega⟩ : Fin 768)
        = column h (spun ⟨a.val - 16, by omega⟩) := Fin.ext (by dsimp only; omega)
    refine (congrArg (W m c j) e).trans ?_
    rw [dif_neg ha]

/-- The weights by head. -/
theorem u_apply (h : Fin 8) (d : Fin 64) (l : Fin 128) : (V m c main_v38 : S8x64x128.Idx → EReal) (ix3 h d l) =
      (m ((c.tc : Thread nD τ).loc main_arg5) : S128x8x64.Idx → EReal) (ix3 l h d) := by
  unfold_abbrev_sides
  after_results_simp
  pointwise

/-- The query's gains. -/
theorem gq_apply (j : Fin 256) : (V m c main_v39 : S1x256.Idx → EReal) (ix2 0 j) =
      (m ((c.tc : Thread nD τ).loc main_arg2) : S256.Idx → EReal) (ix1 j) := by
  unfold_abbrev_sides
  after_results_simp
  pointwise

/-- The key's gains. -/
theorem gkv_apply (l : Fin 128) : (V m c main_v40 : S128x1.Idx → EReal) (ix2 l 0) =
      (m ((c.tc : Thread nD τ).loc main_arg4) : S128.Idx → EReal) (ix1 l) := by
  unfold_abbrev_sides
  after_results_simp
  pointwise

end Cert.Kernel6Ideal.Prep
-- ==== Proof.Prep.Array.lean ====
/-
  The three result arrays of the latent attention's preparation: each grid point writes one block of 256 positions of each,
  and the blocks tile the arrays.
-/
module

public import proofs.«01_k».proof.Proof.Prep.Host

@[expose] public section

set_option maxRecDepth 16384

noncomputable section

open Idealize.ShloMosaic Idealize.ShloMosaic.TcCoe Idealize.SL.Sem

namespace Cert.Kernel6Ideal.Prep

open Cert.Kernel6Ideal Cert.Kernel6Ideal.Gen Cert.Prep

variable (m : (ℓ : Loc nD τ sig) → Buf (Elt Ideal) ℓ) (c : Dev nD)

/-- The token-major columns. -/
def Zt : S32768x4480.Idx → EReal := m ((c.tc : Thread nD τ).loc main_arg0)
/-- The cache's rows. -/
def Zm : S16x192x2048.Idx → EReal := m ((c.tc : Thread nD τ).loc main_arg1)
/-- The query's gains. -/
def Gq : S256.Idx → EReal := m ((c.tc : Thread nD τ).loc main_arg2)
/-- The query's weights. -/
def Wq : S256x768.Idx → EReal := m ((c.tc : Thread nD τ).loc main_arg3)
/-- The key's gains. -/
def Gk : S128.Idx → EReal := m ((c.tc : Thread nD τ).loc main_arg4)
/-- The weights of the query's latent part. -/
def Wk : S128x8x64.Idx → EReal := m ((c.tc : Thread nD τ).loc main_arg5)

/-- Where the windows that move stand at a grid point. -/
theorem places : ∀ t : Fin cfg0.N, win0_0.index t = ![t.val, 16] ∧ win0_1.index t = ![t.val % 8, 0] ∧ win0_2.index t = ![t.val % 8, 0]
    ∧ win0_3.index t = ![t.val / 8, 0, t.val % 8] ∧ win0_4.index t = ![0, t.val % 8] ∧ win0_5.index t = ![0, t.val % 8] :=
  (by decide +kernel : ∀ t : Fin grid0.N, _)

/-- Where the windows that stay stand. -/
theorem fixed_places : ∀ t : Fin cfg0.N, win0_6.index t = ![0, 0] ∧ win0_7.index t = ![0, 0] ∧ win0_8.index t = ![0, 0]
    ∧ win0_9.index t = ![0, 0, 0] :=
  (by decide +kernel : ∀ t : Fin grid0.N, _)

/-- Where the result windows stand at a grid point. -/
theorem out_places : ∀ t : Fin cfg0.N, win0_10.index t = ![0, t.val, 0] ∧ win0_11.index t = ![t.val / 8, 0, t.val % 8]
    ∧ win0_12.index t = ![t.val / 8, 0, t.val % 8] :=
  (by decide +kernel : ∀ t : Fin grid0.N, _)

/-- Row `r` of point `t`'s block among all the rows. -/
abbrev at_row (t : ℕ) (ht : t < 128) (r : Fin 256) : Fin 32768 := ⟨256 * t + r.val, by omega⟩
/-- Row `r` of point `t`'s block within its sequence. -/
abbrev at_pos (t : ℕ) (r : Fin 256) : Fin 2048 := ⟨256 * (t % 8) + r.val, by omega⟩
/-- The sequence of point `t`. -/
abbrev at_seq (t : ℕ) (ht : t < 128) : Fin 16 := ⟨t / 8, by omega⟩

/-- The queries' latents at a point. -/
theorem z_block (t : Fin cfg0.N) (ht : t.val < 128) (r : Fin 256) (j : Fin 256) :
    (X0_0 m c t : S256x256.Idx → EReal) (ix2 r j) = Zt m c (ix2 (at_row t.val ht r) ⟨4096 + j.val, by omega⟩) := by
  obtain ⟨e, -⟩ := places t
  unfold Zt
  refine (dif_pos (moved0_0 t (ix2 r j))).trans ?_
  blk_ext [iblk, V, e]

/-- The wide cosines at a point. -/
theorem co_block (t : Fin cfg0.N) (r l : Fin 256) : (iblk m c 1 t : S256x256.Idx → EReal) (ix2 r l)
    = cosAt (at_pos t.val r) (freq ⟨l.val % 32, Nat.mod_lt _ (by decide)⟩) := by
  obtain ⟨-, e, -⟩ := places t
  rw [← cos_wide m c]
  blk_ext [iblk, e]

/-- The wide sines at a point. -/
theorem si_block (t : Fin cfg0.N) (r l : Fin 256) : (iblk m c 2 t : S256x256.Idx → EReal) (ix2 r l)
    = sinAt (at_pos t.val r) (freq ⟨l.val % 32, Nat.mod_lt _ (by decide)⟩) := by
  obtain ⟨-, -, e, -⟩ := places t
  rw [← sin_wide m c]
  blk_ext [iblk, e]

/-- The cache's rows at a point. -/
theorem k_block (t : Fin cfg0.N) (ht : t.val < 128) (l : Fin 192) (r : Fin 256) : (iblk m c 3 t : S1x192x256.Idx → EReal) (ix3 0 l r)
    = Zm m c (ix3 (at_seq t.val ht) l (at_pos t.val r)) := by
  obtain ⟨-, -, -, e, -⟩ := places t
  unfold Zm
  blk_ext [iblk, V, e]

/-- The tall cosines at a point. -/
theorem cot_block (t : Fin cfg0.N) (a : Fin 32) (r : Fin 256) : (iblk m c 4 t : S32x256.Idx → EReal) (ix2 a r)
    = cosAt (at_pos t.val r) (freq a) := by
  obtain ⟨-, -, -, -, e, -⟩ := places t
  rw [← cos_tall m c]
  blk_ext [iblk, e]

/-- The tall sines at a point. -/
theorem sit_block (t : Fin cfg0.N) (a : Fin 32) (r : Fin 256) : (iblk m c 5 t : S32x256.Idx → EReal) (ix2 a r)
    = sinAt (at_pos t.val r) (freq a) := by
  obtain ⟨-, -, -, -, -, e⟩ := places t
  rw [← sin_tall m c]
  blk_ext [iblk, e]

/-- The query's gains at a point. -/
theorem gq_block (t : Fin cfg0.N) (j : Fin 256) : (iblk m c 6 t : S1x256.Idx → EReal) (ix2 0 j) = Gq m c (ix1 j) := by
  obtain ⟨e, -⟩ := fixed_places t
  refine Eq.trans ?_ (gq_apply m c j)
  blk_ext [iblk, e]

/-- The query's weights at a point are the prepared ones. -/
theorem w_block (t : Fin cfg0.N) (j : Fin 256) (l : Fin 1024) : (iblk m c 7 t : S256x1024.Idx → EReal) (ix2 j l)
    = (V m c main_v36 : S256x1024.Idx → EReal) (ix2 j l) := by
  obtain ⟨-, e, -⟩ := fixed_places t
  blk_ext [iblk, e]

/-- The key's gains at a point. -/
theorem gk_block (t : Fin cfg0.N) (l : Fin 128) : (iblk m c 8 t : S128x1.Idx → EReal) (ix2 l 0) = Gk m c (ix1 l) := by
  obtain ⟨-, -, e, -⟩ := fixed_places t
  refine Eq.trans ?_ (gkv_apply m c l)
  blk_ext [iblk, e]

/-- The weights of the query's latent part at a point. -/
theorem u_block (t : Fin cfg0.N) (h : Fin 8) (d : Fin 64) (l : Fin 128) : (iblk m c 9 t : S8x64x128.Idx → EReal) (ix3 h d l)
    = Wk m c (ix3 l h d) := by
  obtain ⟨-, -, -, e⟩ := fixed_places t
  refine Eq.trans ?_ (u_apply m c h d l)
  blk_ext [iblk, e]

/-- The query's columns at a point: the normalised latents under the prepared weights. -/
theorem pay2_block (t : Fin cfg0.N) (ht : t.val < 128) (r : Fin 256) (l : Fin 1024) :
    (k0_pay2 (X0_0 m c t) (iblk m c 6 t) (iblk m c 7 t) : S256x1024.Idx → EReal) (ix2 r l)
      = ∑ k, latent (Zt m c) (Gq m c) (at_row t.val ht r) k * (V m c main_v36 : S256x1024.Idx → EReal) (ix2 k l) := by
  rw [pay2_apply]
  simp only [z_block m c t ht, gq_block m c t, w_block m c t]
  rfl

/-- The latent columns of a head. -/
theorem wide_block (t : Fin cfg0.N) (ht : t.val < 128) (r : Fin 256) (h : Fin 8) (d : Fin 64) :
    (k0_pay2 (X0_0 m c t) (iblk m c 6 t) (iblk m c 7 t) : S256x1024.Idx → EReal) (ix2 r (wide h d))
      = col (Zt m c) (Gq m c) (Wq m c) (at_row t.val ht r) h ⟨d.val, by omega⟩ := by
  rw [pay2_block m c t ht]
  exact Finset.sum_congr rfl fun k _ => congrArg (_ * ·) (w_latent m c k h d)

/-- The rotary columns of a head. -/
theorem first_block (t : Fin cfg0.N) (ht : t.val < 128) (r : Fin 256) (h : Fin 8) (a : Fin 32) :
    (k0_pay2 (X0_0 m c t) (iblk m c 6 t) (iblk m c 7 t) : S256x1024.Idx → EReal) (ix2 r ⟨512 + (narrow h a).val, by omega⟩)
      = col (Zt m c) (Gq m c) (Wq m c) (at_row t.val ht r) h (spun a) := by
  rw [pay2_block m c t ht]
  exact Finset.sum_congr rfl fun k _ => congrArg (_ * ·) (w_first m c k h a)

/-- The rotary columns of a head, turned by a quarter: real summands leave the sum as the sign leaves the weights. -/
theorem second_block (hn : ∀ n h (a : Fin 16), ∑ k, latent (Zt m c) (Gq m c) n k * -W m c k (column h (spun ⟨a.val + 16, by omega⟩))
      = -col (Zt m c) (Gq m c) (Wq m c) n h (spun ⟨a.val + 16, by omega⟩))
    (t : Fin cfg0.N) (ht : t.val < 128) (r : Fin 256) (h : Fin 8) (a : Fin 32) :
    (k0_pay2 (X0_0 m c t) (iblk m c 6 t) (iblk m c 7 t) : S256x1024.Idx → EReal) (ix2 r ⟨768 + (narrow h a).val, by omega⟩)
      = if ha : a.val < 16 then -col (Zt m c) (Gq m c) (Wq m c) (at_row t.val ht r) h (spun ⟨a.val + 16, by omega⟩)
        else col (Zt m c) (Gq m c) (Wq m c) (at_row t.val ht r) h (spun ⟨a.val - 16, by omega⟩) := by
  rw [pay2_block m c t ht]
  simp only [w_second m c]
  split
  · rename_i ha
    exact hn _ h ⟨a.val, ha⟩
  · rfl

/-- A head's columns carry the frequencies of its first. -/
theorem freq_narrow (h : Fin 8) (a : Fin 32) : freq ⟨(narrow h a).val % 32, Nat.mod_lt _ (by decide)⟩ = freq a :=
  Fin.ext (by dsimp only; omega)

/-- A point's place within its sequence. -/
theorem within_row (t : ℕ) (ht : t < 128) (r : Fin 256) : within (at_row t ht r) = at_pos t r := Fin.ext (by dsimp only; omega)

/-- The queries of one point. -/
theorem q_block (hn : ∀ n h (a : Fin 16), ∑ k, latent (Zt m c) (Gq m c) n k * -W m c k (column h (spun ⟨a.val + 16, by omega⟩))
      = -col (Zt m c) (Gq m c) (Wq m c) n h (spun ⟨a.val + 16, by omega⟩))
    (t : Fin cfg0.N) (ht : t.val < 128) (h : Fin 8) (r : Fin 256) (l : Fin 160) :
    ((outsAt0 m c t).1 : S8x256x160.Idx → EReal) (ix3 h r l)
      = query cosAt sinAt (Zt m c) (Gq m c) (Wq m c) (Wk m c) h (at_row t.val ht r) l := by
  rw [q_point]
  unfold query
  split
  · simp only [wide_block m c t ht, u_block m c t]
  · rw [pay3_apply, first_block m c t ht, second_block m c hn t ht, co_block m c t, si_block m c t, freq_narrow, ← within_row t.val ht]
    unfold turn
    refine congrArg (· * scale) ?_
    split
    · rw [EReal.neg_mul, ← sub_eq_add_neg]
    · rfl

/-- The keys of one point. -/
theorem key_block
    (h1 : ∀ b (a : Fin 16) t, Zm m c (ix3 b ⟨160 + a.val, by omega⟩ t) = -Zm m c (ix3 b ⟨144 + a.val, by omega⟩ t))
    (h2 : ∀ b (a : Fin 16) t, Zm m c (ix3 b ⟨176 + a.val, by omega⟩ t) = Zm m c (ix3 b ⟨128 + a.val, by omega⟩ t))
    (t : Fin cfg0.N) (ht : t.val < 128) (a : Fin 32) (r : Fin 256) :
    (k0_pay26 (k0_pay23 (iblk m c 3 t)) (iblk m c 4 t) (iblk m c 5 t) : S32x256.Idx → EReal) (ix2 a r)
      = turn cosAt sinAt (at_pos t.val r) (fun a => Zm m c (ix3 (at_seq t.val ht) ⟨128 + a.val, by omega⟩ (at_pos t.val r))) a := by
  rw [pay26_apply, k_block m c t ht, k_block m c t ht, cot_block m c t, sit_block m c t]
  unfold turn
  split
  · rename_i ha
    have e : (⟨144 + a.val, by omega⟩ : Fin 192) = ⟨128 + (a.val + 16), by omega⟩ := Fin.ext (by dsimp only; omega)
    rw [h1 _ ⟨a.val, ha⟩, EReal.neg_mul, ← sub_eq_add_neg, e]
  · rename_i ha
    have e : (⟨160 + a.val, by omega⟩ : Fin 192) = ⟨176 + (a.val - 16), by omega⟩ := Fin.ext (by dsimp only; omega)
    rw [e, h2 _ ⟨a.val - 16, by omega⟩]

/-- The key's latent at one point. -/
theorem keyLatent_block (t : Fin cfg0.N) (ht : t.val < 128) (l : Fin 128) (r : Fin 256) :
    (k0_pay25 (k0_pay24 (iblk m c 3 t)) (iblk m c 8 t) : S128x256.Idx → EReal) (ix2 l r)
      = rms len128 (fun j : Fin 128 => Zm m c (ix3 (at_seq t.val ht) ⟨j.val, by omega⟩ (at_pos t.val r))) (fun j => Gk m c (ix1 j)) l := by
  rw [pay25_apply]
  simp only [k_block m c t ht, gk_block m c t]

/-- The rows of keys of one point. -/
theorem rows_block
    (h1 : ∀ b (a : Fin 16) t, Zm m c (ix3 b ⟨160 + a.val, by omega⟩ t) = -Zm m c (ix3 b ⟨144 + a.val, by omega⟩ t))
    (h2 : ∀ b (a : Fin 16) t, Zm m c (ix3 b ⟨176 + a.val, by omega⟩ t) = Zm m c (ix3 b ⟨128 + a.val, by omega⟩ t))
    (t : Fin cfg0.N) (ht : t.val < 128) (u : Fin 1) (l : Fin 160) (r : Fin 256) :
    ((outsAt0 m c t).2.1 : S1x160x256.Idx → EReal) (ix3 u l r)
      = key cosAt sinAt (Zm m c) (Gk m c) (at_seq t.val ht) l (at_pos t.val r) := by
  rw [rows_point]
  simp only [keyLatent_block m c t ht, key_block m c h1 h2 t ht]
  rfl

/-- The keys over their last rows at one point. -/
theorem kt_block
    (h1 : ∀ b (a : Fin 16) t, Zm m c (ix3 b ⟨160 + a.val, by omega⟩ t) = -Zm m c (ix3 b ⟨144 + a.val, by omega⟩ t))
    (h2 : ∀ b (a : Fin 16) t, Zm m c (ix3 b ⟨176 + a.val, by omega⟩ t) = Zm m c (ix3 b ⟨128 + a.val, by omega⟩ t))
    (t : Fin cfg0.N) (ht : t.val < 128) (u : Fin 1) (l : Fin 168) (r : Fin 256) :
    ((outsAt0 m c t).2.2 : S1x168x256.Idx → EReal) (ix3 u l r)
      = tallKey cosAt sinAt (Zm m c) (Gk m c) (at_seq t.val ht) l (at_pos t.val r) := by
  rw [kt_point]
  simp only [keyLatent_block m c t ht, key_block m c h1 h2 t ht]
  unfold tallKey key
  by_cases ha : l.val < 128
  · rw [dif_pos ha, dif_pos (by omega), dif_pos ha]
  · by_cases hb : l.val < 160
    · rw [dif_neg ha, dif_pos hb, dif_pos hb, dif_neg ha]
    · rw [dif_neg ha, dif_neg hb, dif_neg hb]

/-- The queries after the run. -/
theorem q_array (hn : ∀ n h (a : Fin 16), ∑ k, latent (Zt m c) (Gq m c) n k * -W m c k (column h (spun ⟨a.val + 16, by omega⟩))
      = -col (Zt m c) (Gq m c) (Wq m c) n h (spun ⟨a.val + 16, by omega⟩)) :
    ((dats m 0 c).arrAt 10 cfg0.N : S8x32768x160.Idx → EReal)
      = fun i => query cosAt sinAt (Zt m c) (Gq m c) (Wq m c) (Wk m c) (i 0) (i 1) (i 2) := by
  refine (dats m 0 c).arrAt_eq_of_covers 10 _ (by decide +kernel) fun t hf y => ?_
  obtain ⟨e, -⟩ := out_places t
  have ht : t.val < 128 := N_0 ▸ t.isLt
  have key := q_block m c hn t ht (y 0) (y 1) (y 2)
  refine (congrFun (after0_10 m c t) _).trans (Eq.trans ?_ (key.trans ?_))
  · refine congrArg (outsAt0 m c t).1 ?_
    funext a; fin_cases a <;> rfl
  · refine congr (congr (congrArg (query cosAt sinAt (Zt m c) (Gq m c) (Wq m c) (Wk m c)) ?_) ?_) ?_
    all_goals
      apply Fin.ext
      blk_simp [e]
      try (dsimp only; omega)

/-- The rows of keys after the run. -/
theorem rows_array
    (h1 : ∀ b (a : Fin 16) t, Zm m c (ix3 b ⟨160 + a.val, by omega⟩ t) = -Zm m c (ix3 b ⟨144 + a.val, by omega⟩ t))
    (h2 : ∀ b (a : Fin 16) t, Zm m c (ix3 b ⟨176 + a.val, by omega⟩ t) = Zm m c (ix3 b ⟨128 + a.val, by omega⟩ t)) :
    ((dats m 0 c).arrAt 11 cfg0.N : S16x160x2048.Idx → EReal)
      = fun i => key cosAt sinAt (Zm m c) (Gk m c) (i 0) (i 1) (i 2) := by
  refine (dats m 0 c).arrAt_eq_of_covers 11 _ (by decide +kernel) fun t hf y => ?_
  obtain ⟨-, e, -⟩ := out_places t
  have ht : t.val < 128 := N_0 ▸ t.isLt
  have point := rows_block m c h1 h2 t ht (y 0) (y 1) (y 2)
  refine (congrFun (after0_11 m c t) _).trans (Eq.trans ?_ (point.trans ?_))
  · refine congrArg (outsAt0 m c t).2.1 ?_
    funext a; fin_cases a <;> rfl
  · refine congr (congr (congrArg (key cosAt sinAt (Zm m c) (Gk m c)) ?_) ?_) ?_
    all_goals
      apply Fin.ext
      blk_simp [e]
      try (dsimp only; omega)

/-- The keys over their last rows after the run. -/
theorem kt_array
    (h1 : ∀ b (a : Fin 16) t, Zm m c (ix3 b ⟨160 + a.val, by omega⟩ t) = -Zm m c (ix3 b ⟨144 + a.val, by omega⟩ t))
    (h2 : ∀ b (a : Fin 16) t, Zm m c (ix3 b ⟨176 + a.val, by omega⟩ t) = Zm m c (ix3 b ⟨128 + a.val, by omega⟩ t)) :
    ((dats m 0 c).arrAt 12 cfg0.N : S16x168x2048.Idx → EReal)
      = fun i => tallKey cosAt sinAt (Zm m c) (Gk m c) (i 0) (i 1) (i 2) := by
  refine (dats m 0 c).arrAt_eq_of_covers 12 _ (by decide +kernel) fun t hf y => ?_
  obtain ⟨-, -, e⟩ := out_places t
  have ht : t.val < 128 := N_0 ▸ t.isLt
  have point := kt_block m c h1 h2 t ht (y 0) (y 1) (y 2)
  refine (congrFun (after0_12 m c t) _).trans (Eq.trans ?_ (point.trans ?_))
  · refine congrArg (outsAt0 m c t).2.2 ?_
    funext a; fin_cases a <;> rfl
  · refine congr (congr (congrArg (tallKey cosAt sinAt (Zm m c) (Gk m c)) ?_) ?_) ?_
    all_goals
      apply Fin.ext
      blk_simp [e]
      try (dsimp only; omega)

end Cert.Kernel6Ideal.Prep
-- ==== Proof.Prep.Ref.lean ====
/-
  What the reference of the latent attention's preparation computes at an index.
-/
module

public import proofs.«01_k».proof.Proof.Gen.Reference6Ideal.Run
public import proofs.«01_k».proof.Proof.Prep.Host

@[expose] public section

set_option maxRecDepth 16384

noncomputable section

open Idealize.ShloMosaic Idealize.ShloMosaic.TcCoe Idealize.SL.Sem

namespace Cert.Reference6Ideal.Prep

open Cert.Reference6Ideal Cert.Reference6Ideal.Gen Cert.Prep
open Cert.Kernel6Ideal.Prep (angles cosAt sinAt)

/-- The queries' latents, normalised. -/
def latents (z : FVec Ideal S32768x4480 .f32) (g : FVec Ideal S256 .f32) : FVec Ideal S32768x256 .f32 :=
  mulf (mulf (extractStridedSlice S32768x256 ![0, 4096] z slices_S32768x4480_S32768x256_0_4096) (broadcastInDim S32768x256 ![0, 1] bcast_S32768x1_S32768x256_0_1 (Host.rsqrt (addf (Host.divf (broadcastInDim S32768x1 ![0] bcast_S32768_S32768x1_0 (Host.reduceAdd (mulf (extractStridedSlice S32768x256 ![0, 4096] z slices_S32768x4480_S32768x256_0_4096) (extractStridedSlice S32768x256 ![0, 4096] z slices_S32768x4480_S32768x256_0_4096)) (constant S_ .f32 0x00000000#32) reducesTo_S32768x256_S32768_d1 h_S_)) (broadcastInDim S32768x1 ![] bcast_S_S32768x1 (constant S_ .f32 0x43800000#32))) (broadcastInDim S32768x1 ![] bcast_S_S32768x1 (constant S_ .f32 0x358637BD#32)))))) (broadcastInDim S32768x256 ![0, 1] bcast_S1x256_S32768x256_0_1 (broadcastInDim S1x256 ![1] bcast_S256_S1x256_1 g))

/-- The queries' columns by sequence and head. -/
def cols (y : FVec Ideal S32768x256 .f32) (w : FVec Ideal S256x768 .f32) : FVec Ideal S16x2048x8x96 .f32 :=
  shapeCast _ (Host.dotGeneral dot_S32768x256_S256x768_S32768x768_1_0_0_1_n_n none y w) shapeCasts_S32768x768_S16x2048x8x96

/-- The queries' latent part. -/
def latentPart (q : FVec Ideal S16x2048x8x96 .f32) (u : FVec Ideal S128x8x64 .f32) : FVec Ideal S16x2048x8x128 .f32 :=
  mulf (transpose S16x2048x8x128 [2, 3, 0, 1] (Host.dotGeneral dot_S128x8x64_S16x2048x8x64_S8x128x16x2048_2_3_0_01_1_2 none u (extractStridedSlice S16x2048x8x64 ![0, 0, 0, 0] q slices_S16x2048x8x96_S16x2048x8x64_0_0_0_0)) transposes_S8x128x16x2048_S16x2048x8x128_2_3_0_1) (broadcastInDim S16x2048x8x128 ![] bcast_S_S16x2048x8x128 (constant S_ .f32 0x3DD105EC#32))

/-- A table of the angles for every sequence and head. -/
def overHeads (x : FVec Ideal S2048x16 .f32) : FVec Ideal S16x2048x8x16 .f32 :=
  broadcastInDim S16x2048x8x16 ![0, 1, 2, 3] bcast_S1x2048x1x16_S16x2048x8x16_0_1_2_3 (broadcastInDim S1x2048x1x16 ![1, 2, 3] bcast_S2048x1x16_S1x2048x1x16_1_2_3 (broadcastInDim S2048x1x16 ![0, 2] bcast_S2048x16_S2048x1x16_0_2 x))

/-- The queries' rotary part. -/
def rotaryPart (q : FVec Ideal S16x2048x8x96 .f32) : FVec Ideal S16x2048x8x32 .f32 :=
  mulf (concatenate S16x2048x8x32 3 [⟨S16x2048x8x16, (subf (mulf (extractStridedSlice S16x2048x8x16 ![0, 0, 0, 64] q slices_S16x2048x8x96_S16x2048x8x16_0_0_0_64) (overHeads (Host.cos angles))) (mulf (extractStridedSlice S16x2048x8x16 ![0, 0, 0, 80] q slices_S16x2048x8x96_S16x2048x8x16_0_0_0_80) (overHeads (Host.sin angles))))⟩, ⟨S16x2048x8x16, (addf (mulf (extractStridedSlice S16x2048x8x16 ![0, 0, 0, 80] q slices_S16x2048x8x96_S16x2048x8x16_0_0_0_80) (overHeads (Host.cos angles))) (mulf (extractStridedSlice S16x2048x8x16 ![0, 0, 0, 64] q slices_S16x2048x8x96_S16x2048x8x16_0_0_0_64) (overHeads (Host.sin angles))))⟩] concatenates_S16x2048x8x16_S16x2048x8x16_S16x2048x8x32_d3) (broadcastInDim S16x2048x8x32 ![] bcast_S_S16x2048x8x32 (constant S_ .f32 0x3DD105EC#32))

/-- The queries' two parts together, by head. -/
def queries (a : FVec Ideal S16x2048x8x128 .f32) (b : FVec Ideal S16x2048x8x32 .f32) : FVec Ideal S8x32768x160 .bf16 :=
  truncf .bf16 (transpose S8x32768x160 [1, 0, 2] (shapeCast _ (concatenate S16x2048x8x160 3 [⟨S16x2048x8x128, a⟩, ⟨S16x2048x8x32, b⟩] concatenates_S16x2048x8x128_S16x2048x8x32_S16x2048x8x160_d3) shapeCasts_S16x2048x8x160_S32768x8x160) transposes_S32768x8x160_S8x32768x160_1_0_2) bitsLt_bf16_f32

/-- The latents at an index. -/
theorem latents_apply (z : FVec Ideal S32768x4480 .f32) (g : FVec Ideal S256 .f32) (n : Fin 32768) (k : Fin 256) :
    latents z g (ix2 n k) = latent z g n k := by
  unfold latents latent rms len256
  pointwise

/-- The columns at an index. -/
theorem cols_apply (z : FVec Ideal S32768x4480 .f32) (g : FVec Ideal S256 .f32) (w : FVec Ideal S256x768 .f32)
    (b : Fin 16) (t : Fin 2048) (h : Fin 8) (e : Fin 96) :
    cols (latents z g) w (ix4 b t h e) = col z g w ⟨b.val * 2048 + t.val, by omega⟩ h e := by
  unfold cols col
  simp only [← latents_apply]
  pointwise
  exact Finset.sum_congr rfl fun k _ => congrArg (fun l => latents z g (ix2 _ k) * w (ix2 k l)) (Fin.ext (by dsimp only; omega))

/-- The latent part at an index. -/
theorem latentPart_apply (q : FVec Ideal S16x2048x8x96 .f32) (u : FVec Ideal S128x8x64 .f32)
    (b : Fin 16) (t : Fin 2048) (h : Fin 8) (l : Fin 128) :
    latentPart q u (ix4 b t h l) = (∑ d : Fin 64, q (ix4 b t h ⟨d.val, by omega⟩) * u (ix3 l h d)) * scale := by
  unfold latentPart scale
  pointwise
  exact congrArg (· * _) (Finset.sum_congr rfl fun d _ => mul_comm _ _)

/-- The rotary part at an index. -/
theorem rotaryPart_apply (q : FVec Ideal S16x2048x8x96 .f32) (b : Fin 16) (t : Fin 2048) (h : Fin 8) (a : Fin 32) :
    rotaryPart q (ix4 b t h a) = turn cosAt sinAt t (fun a => q (ix4 b t h (spun a))) a * scale := by
  unfold rotaryPart scale turn
  pointwise [overHeads]
  refine congrArg (· * _) ?_
  split
  · rename_i ha
    have e1 : (⟨80 + a.val, by omega⟩ : Fin 96) = spun ⟨a.val + 16, by omega⟩ := Fin.ext (by dsimp only; omega)
    have e2 : (⟨a.val, ha⟩ : Fin 16) = freq a := Fin.ext (by dsimp only; omega)
    exact congrArg₂ (fun (u : Fin 96) (f : Fin 16) => q (ix4 b t h (spun a)) * cosAt t f - q (ix4 b t h u) * sinAt t f) e1 e2
  · rename_i ha
    have e1 : (⟨80 + (a.val - 16), by omega⟩ : Fin 96) = spun a := Fin.ext (by dsimp only; omega)
    have e2 : (⟨a.val - 16, by omega⟩ : Fin 16) = freq a := Fin.ext (by dsimp only; omega)
    exact congrArg₂ (fun (u : Fin 96) (f : Fin 16) => q (ix4 b t h u) * cosAt t f + q (ix4 b t h (spun ⟨a.val - 16, by omega⟩)) * sinAt t f) e1 e2

/-- The queries at an index. -/
theorem queries_apply (x : FVec Ideal S16x2048x8x128 .f32) (y : FVec Ideal S16x2048x8x32 .f32)
    (h : Fin 8) (n : Fin 32768) (l : Fin 160) :
    queries x y (ix3 h n l) = if hl : l.val < 128 then x (ix4 ⟨n.val / 2048, by omega⟩ (within n) h ⟨l.val, hl⟩)
      else y (ix4 ⟨n.val / 2048, by omega⟩ (within n) h ⟨l.val - 128, by omega⟩) := by
  unfold queries
  pointwise

/-- A table of the angles for every sequence. -/
def overRows (x : FVec Ideal S2048x16 .f32) : FVec Ideal S16x2048x16 .f32 :=
  broadcastInDim S16x2048x16 ![0, 1, 2] bcast_S1x2048x16_S16x2048x16_0_1_2 (broadcastInDim S1x2048x16 ![1, 2] bcast_S2048x16_S1x2048x16_1_2 x)

/-- The keys' rows before their preparation, by position. -/
def before (z : FVec Ideal S16x192x2048 .f32) : FVec Ideal S16x2048x160 .f32 :=
  transpose S16x2048x160 [0, 2, 1] (extractStridedSlice S16x160x2048 ![0, 0, 0] z slices_S16x192x2048_S16x160x2048_0_0_0) transposes_S16x160x2048_S16x2048x160_0_2_1

/-- The keys' latents, normalised. -/
def keyLatents (y : FVec Ideal S16x2048x160 .f32) (g : FVec Ideal S128 .f32) : FVec Ideal S16x2048x128 .f32 :=
  mulf (mulf (extractStridedSlice S16x2048x128 ![0, 0, 0] y slices_S16x2048x160_S16x2048x128_0_0_0) (broadcastInDim S16x2048x128 ![0, 1, 2] bcast_S16x2048x1_S16x2048x128_0_1_2 (Host.rsqrt (addf (Host.divf (broadcastInDim S16x2048x1 ![0, 1] bcast_S16x2048_S16x2048x1_0_1 (Host.reduceAdd (mulf (extractStridedSlice S16x2048x128 ![0, 0, 0] y slices_S16x2048x160_S16x2048x128_0_0_0) (extractStridedSlice S16x2048x128 ![0, 0, 0] y slices_S16x2048x160_S16x2048x128_0_0_0)) (constant S_ .f32 0x00000000#32) reducesTo_S16x2048x128_S16x2048_d2 h_S_)) (broadcastInDim S16x2048x1 ![] bcast_S_S16x2048x1 (constant S_ .f32 0x43000000#32))) (broadcastInDim S16x2048x1 ![] bcast_S_S16x2048x1 (constant S_ .f32 0x358637BD#32)))))) (broadcastInDim S16x2048x128 ![0, 1, 2] bcast_S1x1x128_S16x2048x128_0_1_2 (broadcastInDim S1x1x128 ![2] bcast_S128_S1x1x128_2 g))

/-- The keys. -/
def keys (y : FVec Ideal S16x2048x160 .f32) (g : FVec Ideal S128 .f32) : FVec Ideal S16x160x2048 .f32 :=
  transpose S16x160x2048 [0, 2, 1] (concatenate S16x2048x160 2 [⟨S16x2048x128, keyLatents y g⟩,
    ⟨S16x2048x16, subf (mulf (extractStridedSlice S16x2048x16 ![0, 0, 128] y slices_S16x2048x160_S16x2048x16_0_0_128) (overRows (Host.cos angles))) (mulf (extractStridedSlice S16x2048x16 ![0, 0, 144] y slices_S16x2048x160_S16x2048x16_0_0_144) (overRows (Host.sin angles)))⟩,
    ⟨S16x2048x16, addf (mulf (extractStridedSlice S16x2048x16 ![0, 0, 144] y slices_S16x2048x160_S16x2048x16_0_0_144) (overRows (Host.cos angles))) (mulf (extractStridedSlice S16x2048x16 ![0, 0, 128] y slices_S16x2048x160_S16x2048x16_0_0_128) (overRows (Host.sin angles)))⟩]
    concatenates_S16x2048x128_S16x2048x16_S16x2048x16_S16x2048x160_d2) transposes_S16x2048x160_S16x160x2048_0_2_1

/-- The keys over a row of ones and seven rows of zeros. -/
def tall (k : FVec Ideal S16x160x2048 .f32) : FVec Ideal S16x168x2048 .bf16 :=
  truncf .bf16 (concatenate S16x168x2048 1 [⟨S16x160x2048, k⟩, ⟨S16x8x2048, (concatenate S16x8x2048 1 [⟨S16x1x2048, (broadcastInDim S16x1x2048 ![] bcast_S_S16x1x2048 (constant S_ .f32 0x3F800000#32))⟩, ⟨S16x7x2048, (broadcastInDim S16x7x2048 ![] bcast_S_S16x7x2048 (constant S_ .f32 0x00000000#32))⟩] concatenates_S16x1x2048_S16x7x2048_S16x8x2048_d1)⟩] concatenates_S16x160x2048_S16x8x2048_S16x168x2048_d1) bitsLt_bf16_f32

/-- The keys' latents at an index. -/
theorem keyLatents_apply (z : FVec Ideal S16x192x2048 .f32) (g : FVec Ideal S128 .f32) (b : Fin 16) (t : Fin 2048) (l : Fin 128) :
    keyLatents (before z) g (ix3 b t l) = rms len128 (fun j : Fin 128 => z (ix3 b ⟨j.val, by omega⟩ t)) (fun j => g (ix1 j)) l := by
  unfold keyLatents rms len128
  pointwise [before]

/-- The keys before their preparation at an index. -/
theorem before_apply (z : FVec Ideal S16x192x2048 .f32) (b : Fin 16) (t : Fin 2048) (l : Fin 160) :
    before z (ix3 b t l) = z (ix3 b ⟨l.val, by omega⟩ t) := by
  unfold before
  pointwise

/-- The keys at an index, of their rows by position. -/
theorem keys_open (y : FVec Ideal S16x2048x160 .f32) (g : FVec Ideal S128 .f32) (b : Fin 16) (l : Fin 160) (t : Fin 2048) :
    keys y g (ix3 b l t) = if hl : l.val < 128 then keyLatents y g (ix3 b t ⟨l.val, hl⟩)
      else turn cosAt sinAt t (fun a => y (ix3 b t ⟨128 + a.val, by omega⟩)) ⟨l.val - 128, by omega⟩ := by
  unfold keys turn
  pointwise [overRows]
  split
  · rfl
  split
  · rename_i hl ha
    have e1 : (⟨144 + (l.val - 128), by omega⟩ : Fin 160) = ⟨128 + (l.val - 128 + 16), by omega⟩ := Fin.ext (by dsimp only; omega)
    have e2 : (⟨l.val - 128, ha⟩ : Fin 16) = freq ⟨l.val - 128, by omega⟩ := Fin.ext (by dsimp only; omega)
    exact congrArg₂ (fun (u : Fin 160) (f : Fin 16) => y (ix3 b t ⟨128 + (l.val - 128), by omega⟩) * cosAt t f - y (ix3 b t u) * sinAt t f) e1 e2
  · rename_i hl ha
    have e1 : (⟨144 + (l.val - 128 - 16), by omega⟩ : Fin 160) = ⟨128 + (l.val - 128), by omega⟩ := Fin.ext (by dsimp only; omega)
    have e2 : (⟨l.val - 128 - 16, by omega⟩ : Fin 16) = freq ⟨l.val - 128, by omega⟩ := Fin.ext (by dsimp only; omega)
    exact congrArg₂ (fun (u : Fin 160) (f : Fin 16) => y (ix3 b t u) * cosAt t f + y (ix3 b t ⟨128 + (l.val - 128 - 16), by omega⟩) * sinAt t f) e1 e2

/-- The keys at an index. -/
theorem keys_apply (z : FVec Ideal S16x192x2048 .f32) (g : FVec Ideal S128 .f32) (b : Fin 16) (l : Fin 160) (t : Fin 2048) :
    keys (before z) g (ix3 b l t) = key cosAt sinAt z g b l t := by
  rw [keys_open]
  simp only [keyLatents_apply, before_apply]
  rfl

/-- The keys over their last rows at an index. -/
theorem tall_apply (k : FVec Ideal S16x160x2048 .f32) (b : Fin 16) (l : Fin 168) (t : Fin 2048) :
    tall k (ix3 b l t) = if hl : l.val < 160 then k (ix3 b ⟨l.val, hl⟩ t) else if l.val = 160 then 1 else 0 := by
  unfold tall
  pointwise
  by_cases hl : l.val < 160
  · rw [dif_pos hl, dif_pos hl]
  · rw [dif_neg hl, dif_neg hl]
    by_cases h : l.val = 160
    · rw [dif_pos (by omega), if_pos h]
    · rw [dif_neg (by omega), if_neg h]

variable (m : (ℓ : Loc nD τ sig) → Buf (Elt Ideal) ℓ) (c : Dev nD)

/-- The queries the reference returns. -/
theorem out0_eq : Value.res_main_v60 m c = queries (latentPart (cols (latents (m ((c.tc : Thread nD τ).loc main_arg0)) (m ((c.tc : Thread nD τ).loc main_arg2)))
      (m ((c.tc : Thread nD τ).loc main_arg3))) (m ((c.tc : Thread nD τ).loc main_arg5)))
    (rotaryPart (cols (latents (m ((c.tc : Thread nD τ).loc main_arg0)) (m ((c.tc : Thread nD τ).loc main_arg2))) (m ((c.tc : Thread nD τ).loc main_arg3)))) := rfl

/-- The keys the reference returns. -/
theorem out1_eq : Value.res_main_v94 m c = keys (before (m ((c.tc : Thread nD τ).loc main_arg1))) (m ((c.tc : Thread nD τ).loc main_arg4)) := rfl

/-- The keys over their last rows, as the reference returns them. -/
theorem out2_eq : Value.res_main_v99 m c = tall (keys (before (m ((c.tc : Thread nD τ).loc main_arg1))) (m ((c.tc : Thread nD τ).loc main_arg4))) := rfl

/-- The queries returned, at an index. -/
theorem out0_apply (h : Fin 8) (n : Fin 32768) (l : Fin 160) :
    (Value.res_main_v60 m c : S8x32768x160.Idx → EReal) (ix3 h n l)
      = query cosAt sinAt (m ((c.tc : Thread nD τ).loc main_arg0)) (m ((c.tc : Thread nD τ).loc main_arg2)) (m ((c.tc : Thread nD τ).loc main_arg3))
          (m ((c.tc : Thread nD τ).loc main_arg5)) h n l := by
  have e : (⟨n.val / 2048 * 2048 + (within n).val, by dsimp only; omega⟩ : Fin 32768) = n := Fin.ext (by dsimp only; omega)
  rw [out0_eq, queries_apply]
  simp only [latentPart_apply, rotaryPart_apply, cols_apply, e]
  rfl

/-- The keys returned, at an index. -/
theorem out1_apply (b : Fin 16) (l : Fin 160) (t : Fin 2048) :
    (Value.res_main_v94 m c : S16x160x2048.Idx → EReal) (ix3 b l t)
      = key cosAt sinAt (m ((c.tc : Thread nD τ).loc main_arg1)) (m ((c.tc : Thread nD τ).loc main_arg4)) b l t := by
  rw [out1_eq]
  exact keys_apply _ _ b l t

/-- The keys over their last rows, at an index. -/
theorem out2_apply (b : Fin 16) (l : Fin 168) (t : Fin 2048) :
    (Value.res_main_v99 m c : S16x168x2048.Idx → EReal) (ix3 b l t)
      = tallKey cosAt sinAt (m ((c.tc : Thread nD τ).loc main_arg1)) (m ((c.tc : Thread nD τ).loc main_arg4)) b l t := by
  rw [out2_eq, tall_apply]
  simp only [keys_apply]
  rfl

end Cert.Reference6Ideal.Prep
-- ==== Proof.Prep.Claims.lean ====
/-
  The claims about the latent attention's preparation: what the precondition gives, the frames, and the kernel's three
  results against the reference's.
-/
module

public import proofs.«01_k».proof.Defs
public import proofs.«01_k».proof.Proof.Gen.Kernel6.Frame
public import proofs.«01_k».proof.Proof.Gen.Pre_prep_inputs
public import proofs.«01_k».proof.Proof.Mla.Claims
public import proofs.«01_k».proof.Proof.Prep.Array
public import proofs.«01_k».proof.Proof.Prep.Ref

@[expose] public section

set_option maxRecDepth 16384

noncomputable section

open Idealize.ShloMosaic Idealize.ShloMosaic.TcCoe Idealize.SL.Sem

namespace Cert.Prep

/-- The length of a query's latent is 256. -/
theorem len256_eq : len256 = ((256 : ℝ) : EReal) := by
  unfold len256
  simp [Ideal.ofBits, Ideal.ieee]
  refine (EReal.coe_mul _ _).symm.trans (congrArg _ ?_)
  norm_num

/-- What is added to the mean square is a positive real. -/
theorem eps_pos : ∃ e : ℝ, 0 < e ∧ (Ideal.ofBits .f32 0x358637BD#32 : EReal) = (e : EReal) := by
  refine ⟨8796093 / 8796093022208, by norm_num, ?_⟩
  simp [Ideal.ofBits, Ideal.ieee]
  refine (EReal.coe_mul _ _).symm.trans (congrArg _ ?_)
  norm_num

/-- A latent of real entries and real gains is real once normalised: its mean square and the constant make a positive real. -/
theorem rms_real (x g : Fin 256 → ℝ) (k : Fin 256) :
    ∃ r : ℝ, rms len256 (fun j => (x j : EReal)) (fun j => (g j : EReal)) k = (r : EReal) := by
  obtain ⟨e, he, hb⟩ := eps_pos
  have hs : ∑ j, (x j : EReal) * (x j : EReal) = ((∑ j, x j * x j : ℝ) : EReal) := by
    rw [Cert.Mla.coe_sum]
    simp only [EReal.coe_mul]
  have hp : 0 < (∑ j, x j * x j) * (1 / 256) + e :=
    add_pos_of_nonneg_of_pos (mul_nonneg (Finset.sum_nonneg fun j _ => mul_self_nonneg _) (by norm_num)) he
  unfold rms
  rw [hs, len256_eq, hb, Ideal.div_coe (by norm_num), ← EReal.coe_mul, ← EReal.coe_add, Ideal.rsqrt_coe, if_neg (not_lt.mpr hp.le), if_neg hp.ne']
  dsimp only
  rw [← EReal.coe_mul, ← EReal.coe_mul]
  exact ⟨_, rfl⟩

/-- A sum of reals under negated weights is the negated sum. -/
theorem sum_neg {ι : Type*} [Fintype ι] (f w : ι → EReal) (hf : ∀ k, ∃ r : ℝ, f k = (r : EReal)) (hw : ∀ k, w k = ((w k).toReal : EReal)) :
    ∑ k, f k * -w k = -∑ k, f k * w k := by
  choose r hr using hf
  have h1 : ∀ k, f k * -w k = ((-(r k * (w k).toReal) : ℝ) : EReal) := fun k => by
    rw [hr k, hw k, EReal.toReal_coe, ← EReal.coe_neg, ← EReal.coe_mul, mul_neg]
  have h2 : ∀ k, f k * w k = ((r k * (w k).toReal : ℝ) : EReal) := fun k => by
    rw [hr k, hw k, EReal.toReal_coe, ← EReal.coe_mul]
  rw [Finset.sum_congr rfl fun k _ => h1 k, Finset.sum_congr rfl fun k _ => h2 k, ← Cert.Mla.coe_sum, ← Cert.Mla.coe_sum, ← EReal.coe_neg,
    Finset.sum_neg_distrib]

end Cert.Prep

namespace Cert.Pre_prep_inputs

open Cert.Prep

/-- WHAT THE PRECONDITION SAYS: the queries' latents, their gains and the second rotary weights are real, and the cache's
    last rows are its rotary rows turned by a quarter. -/
theorem decode [Facts] (z : FVec Ideal S32768x4480 .f32) (k : FVec Ideal S16x192x2048 .f32) (g : FVec Ideal S256 .f32)
    (w : FVec Ideal S256x768 .f32) (g' : FVec Ideal S128 .f32) (u : FVec Ideal S128x8x64 .f32)
    (h : fn (F := Ideal) z k g w g' u = fun _ => 1#1) :
    (∀ n (j : Fin 256), z (ix2 n ⟨4096 + j.val, by omega⟩) = ((z (ix2 n ⟨4096 + j.val, by omega⟩)).toReal : EReal))
      ∧ (∀ j : Fin 256, g (ix1 j) = ((g (ix1 j)).toReal : EReal))
      ∧ (∀ (j : Fin 256) (h : Fin 8) (a : Fin 16), w (ix2 j (column h (spun ⟨a.val + 16, by omega⟩)))
          = ((w (ix2 j (column h (spun ⟨a.val + 16, by omega⟩)))).toReal : EReal))
      ∧ (∀ b (a : Fin 16) t, k (ix3 b ⟨160 + a.val, by omega⟩ t) = -(k (ix3 b ⟨144 + a.val, by omega⟩ t) : EReal))
      ∧ ∀ b (a : Fin 16) t, k (ix3 b ⟨176 + a.val, by omega⟩ t) = k (ix3 b ⟨128 + a.val, by omega⟩ t) := by
  have h := congrFun h ix0
  dsimp only [fn, fn_part1] at h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  haveI : Subsingleton S_.Idx := ⟨fun a b => funext fun x => x.elim0⟩
  have g1 := Host.reduce_andi_all _ _ _ _ _ h1
  have g2 := Host.reduce_andi_all _ _ _ _ _ h2
  have g3 := Host.reduce_andi_all _ _ _ _ _ h3
  have g4 := Host.reduce_andi_all _ _ _ _ _ h4
  have g5 := Host.reduce_andi_all _ _ _ _ _ h5
  refine ⟨fun n j => Cert.Pre_mla_inputs.real_of_abs_lt _ ?_, fun j => Cert.Pre_mla_inputs.real_of_abs_lt _ ?_,
    fun j h a => Cert.Pre_mla_inputs.real_of_abs_lt _ ?_, fun b a t => (Ideal.cmp_oeq_eq_one _ _).1 ?_,
    fun b a t => (Ideal.cmp_oeq_eq_one _ _).1 ?_⟩
  · rw [← g1 (ix2 n j)]
    pointwise
    rfl
  · rw [← g2 (ix1 j)]
    pointwise
    rfl
  · have e : (⟨h.val * 96 + (80 + a.val), by omega⟩ : Fin 768) = column h (spun ⟨a.val + 16, by omega⟩) := Fin.ext (by dsimp only; omega)
    rw [← e, ← g3 (ix3 j h a)]
    pointwise
    rfl
  · change Ideal.cmp .oeq _ _ = 1#1
    rw [← g4 (ix3 b a t)]
    pointwise
  · change Ideal.cmp .oeq _ _ = 1#1
    rw [← g5 (ix3 b a t)]
    pointwise

end Cert.Pre_prep_inputs

namespace Cert.Proof.Prep

open Cert.Prep Cert.Kernel6Ideal.Prep Cert.Reference6Ideal.Prep

/-- The kernel runs, and leaves its arguments. -/
theorem frame_k : Cert.quiescent_Kernel6 := fun m ρ _ => Cert.Kernel6.Gen.frame m ρ
/-- So does its idealization, -/
theorem frame_ki : Cert.quiescent_Kernel6Ideal := fun m ρ _ => Cert.Kernel6Ideal.Gen.frame m ρ
/-- under the precondition too. -/
theorem frame_ki_pre : Cert.quiescent_Kernel6Ideal_pre_prep_inputs := fun m ρ _ => Cert.Kernel6Ideal.Gen.frame m ρ
/-- The reference declares no semaphore; its run keeps the arguments, -/
theorem frame_r : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)
/-- under the precondition too. -/
theorem frame_r_pre : Cert.quiescent_Reference6Ideal_pre_prep_inputs := fun m ρ _ => frame_r m ρ trivial

/-- No operation is rewritten. -/
theorem preserves : Cert.preserves_Kernel6_Kernel6Ideal := trivial

/-- Under the precondition the queries' second rotary columns change sign with their weights. -/
theorem columns_neg (z : FVec Ideal Cert.Kernel6Ideal.S32768x4480 .f32) (g : FVec Ideal Cert.Kernel6Ideal.S256 .f32)
    (w : FVec Ideal Cert.Kernel6Ideal.S256x768 .f32)
    (hz : ∀ n (j : Fin 256), z (ix2 n ⟨4096 + j.val, by omega⟩) = ((z (ix2 n ⟨4096 + j.val, by omega⟩)).toReal : EReal))
    (hg : ∀ j : Fin 256, g (ix1 j) = ((g (ix1 j)).toReal : EReal))
    (hw : ∀ (j : Fin 256) (h : Fin 8) (a : Fin 16), w (ix2 j (column h (spun ⟨a.val + 16, by omega⟩)))
          = ((w (ix2 j (column h (spun ⟨a.val + 16, by omega⟩)))).toReal : EReal))
    (n : Fin 32768) (h : Fin 8) (a : Fin 16) :
    ∑ k, latent z g n k * -(w (ix2 k (column h (spun ⟨a.val + 16, by omega⟩))) : EReal) = -col z g w n h (spun ⟨a.val + 16, by omega⟩) := by
  refine sum_neg _ (fun k => (w (ix2 k (column h (spun ⟨a.val + 16, by omega⟩))) : EReal)) (fun k => ?_) (fun k => hw k h a)
  obtain ⟨r, hr⟩ := rms_real (fun j => EReal.toReal (z (ix2 n ⟨4096 + j.val, by omega⟩))) (fun j => EReal.toReal (g (ix1 j))) k
  refine ⟨r, Eq.trans ?_ hr⟩
  unfold latent
  exact congrArg₂ (fun p q => rms len256 p q k) (funext fun j => hz n j) (funext fun j => hg j)

variable (m : (ℓ : Loc Cert.Kernel6Ideal.nD Cert.Kernel6Ideal.τ Cert.Kernel6Ideal.sig) → Buf (Elt Ideal) ℓ)
  (m' : (ℓ : Loc Cert.Reference6Ideal.nD Cert.Reference6Ideal.τ Cert.Reference6Ideal.sig) → Buf (Elt Ideal) ℓ) (c : Dev Cert.Kernel6Ideal.nD)

/-- The queries are the reference's. -/
theorem queries_eq
    (hpre : Cert.Pre_prep_inputs.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) = fun _ => 1#1)
    (a0 : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0))
    (a2 : m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2))
    (a3 : m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3))
    (a5 : m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) :
    (Cert.Reference6Ideal.Value.res_main_v60 m' c : Cert.Kernel6Ideal.S8x32768x160.Idx → EReal) = (Cert.Kernel6Ideal.Gen.dats m 0 c).arrAt 10 Cert.Kernel6Ideal.cfg0.N := by
  obtain ⟨hz, hg, hw, -⟩ := Cert.Pre_prep_inputs.decode _ _ _ _ _ _ hpre
  refine Eq.trans (funext fun i => ?_) (q_array m c (columns_neg _ _ _ hz hg hw)).symm
  have hi : i = ix3 (i 0) (i 1) (i 2) := by funext a; fin_cases a <;> rfl
  rw [hi]
  refine (out0_apply m' c (i 0) (i 1) (i 2)).trans ?_
  rw [a0, a2, a3, a5]
  rfl

/-- The rows of keys are the reference's. -/
theorem rows_eq
    (hpre : Cert.Pre_prep_inputs.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) = fun _ => 1#1)
    (a1 : m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1))
    (a4 : m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) :
    (Cert.Reference6Ideal.Value.res_main_v94 m' c : Cert.Kernel6Ideal.S16x160x2048.Idx → EReal) = (Cert.Kernel6Ideal.Gen.dats m 0 c).arrAt 11 Cert.Kernel6Ideal.cfg0.N := by
  obtain ⟨-, -, -, h1, h2⟩ := Cert.Pre_prep_inputs.decode _ _ _ _ _ _ hpre
  refine Eq.trans (funext fun i => ?_) (rows_array m c h1 h2).symm
  have hi : i = ix3 (i 0) (i 1) (i 2) := by funext a; fin_cases a <;> rfl
  rw [hi]
  refine (out1_apply m' c (i 0) (i 1) (i 2)).trans ?_
  rw [a1, a4]
  rfl

/-- The keys over their last rows are the reference's. -/
theorem keys_eq
    (hpre : Cert.Pre_prep_inputs.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) = fun _ => 1#1)
    (a1 : m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1))
    (a4 : m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) :
    (Cert.Reference6Ideal.Value.res_main_v99 m' c : Cert.Kernel6Ideal.S16x168x2048.Idx → EReal) = (Cert.Kernel6Ideal.Gen.dats m 0 c).arrAt 12 Cert.Kernel6Ideal.cfg0.N := by
  obtain ⟨-, -, -, h1, h2⟩ := Cert.Pre_prep_inputs.decode _ _ _ _ _ _ hpre
  refine Eq.trans (funext fun i => ?_) (kt_array m c h1 h2).symm
  have hi : i = ix3 (i 0) (i 1) (i 2) := by funext a; fin_cases a <;> rfl
  rw [hi]
  refine (out2_apply m' c (i 0) (i 1) (i 2)).trans ?_
  rw [a1, a4]
  rfl

/-- THE VALUE: the kernel's queries, rows and keys are the reference's. -/
theorem algebraic : Cert.algebraic_Kernel6Ideal_Reference6Ideal_pre_prep_inputs := by
  intro m ρ m' ρ' hpre hagree
  refine ⟨fun c => (Cert.Kernel6Ideal.Gen.dats m 0 c).arrAt 10 Cert.Kernel6Ideal.cfg0.N, fun c => (Cert.Kernel6Ideal.Gen.dats m 0 c).arrAt 11 Cert.Kernel6Ideal.cfg0.N,
    fun c => (Cert.Kernel6Ideal.Gen.dats m 0 c).arrAt 12 Cert.Kernel6Ideal.cfg0.N, Cert.Kernel6Ideal.Value.run_blocks (F := Ideal) m ρ, ?_⟩
  refine (θ_run Cert.Reference6Ideal.defs _ _).mono (fun _ h c => ?_) (Cert.Reference6Ideal.Value.run (F := Ideal) m' ρ')
  obtain ⟨h0, h1, h2, h3⟩ := h c
  obtain ⟨a0, a1, a2, a3, a4, a5⟩ := hagree c
  exact ⟨h0.trans (queries_eq m m' c (hpre c) a0 a2 a3 a5), h1.trans (rows_eq m m' c (hpre c) a1 a4),
    h2.trans (keys_eq m m' c (hpre c) a1 a4), h3⟩

end Cert.Proof.Prep
-- ==== Proof.lean ====
/-
  The claims, together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_mla_inputs
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel6
public import proofs.«01_k».proof.Proof.Gen.Kernel5.Frame
public import proofs.«01_k».proof.Proof.Gen.Kernel6.Frame
public import proofs.«01_k».proof.Proof.Gen.Kernel5Ideal
public import proofs.«01_k».proof.Proof.Gen.Kernel6Ideal
public import proofs.«01_k».proof.Proof.Gen.Kernel5Ideal.Value
public import proofs.«01_k».proof.Proof.Gen.Kernel6Ideal.Value
public import proofs.«01_k».proof.Proof.Gen.Reference5Ideal
public import proofs.«01_k».proof.Proof.Gen.Reference6Ideal
public import proofs.«01_k».proof.Proof.Gen.Reference5Ideal.Run
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Pre_sb_inputs
public import proofs.«01_k».proof.Proof.Gen.Pre_prep_inputs
public import proofs.«01_k».proof.Proof.Mla.Claims
public import proofs.«01_k».proof.Proof.InProj.Claims
public import proofs.«01_k».proof.Proof.Merge.Claims
public import proofs.«01_k».proof.Proof.Ffn.Claims
public import proofs.«01_k».proof.Proof.FfnLast.Claims
public import proofs.«01_k».proof.Proof.Sb.Claims
public import proofs.«01_k».proof.Proof.Prep.Claims

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_mla_inputs.Gen.facts, Cert.Pre_sb_inputs.Gen.facts, Cert.Pre_prep_inputs.Gen.facts,
    Mla.frame_k, Mla.frame_ki, Mla.frame_ki_pre, Mla.frame_r, Mla.frame_r_pre,
    InProj.frame_k, InProj.frame_ki, InProj.frame_r,
    Merge.frame_k, Merge.frame_ki, Merge.frame_r,
    Ffn.frame_k, Ffn.frame_ki, Ffn.frame_r,
    Sb.frame_k, Sb.frame_ki, Sb.frame_ki_pre, Sb.frame_r, Sb.frame_r_pre,
    Prep.frame_k, Prep.frame_ki, Prep.frame_ki_pre, Prep.frame_r, Prep.frame_r_pre,
    FfnLast.frame_k, FfnLast.frame_ki, FfnLast.frame_r,
    Mla.preserves, Mla.algebraic, InProj.preserves, InProj.algebraic, Merge.preserves, Merge.algebraic, Ffn.preserves, Ffn.algebraic,
    Sb.preserves, Sb.algebraic, Prep.preserves, Prep.algebraic, FfnLast.preserves, FfnLast.algebraic⟩

end Cert.Proof

end
